-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mem [hPre_finite_mem : Cert.Pre_finite_mem.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mem.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_mem.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mem [hPre_finite_mem : Cert.Pre_finite_mem.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mem.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_mem.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_dpooled [hPre_finite_dpooled : Cert.Pre_finite_dpooled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_dpooled.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_dpooled [hPre_finite_dpooled : Cert.Pre_finite_dpooled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_dpooled.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_down_dx [hPre_finite_down_dx : Cert.Pre_finite_down_dx.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_down_dx.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_down_dx.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_down_dx.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_down_dx [hPre_finite_down_dx : Cert.Pre_finite_down_dx.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_down_dx.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_down_dx.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_down_dx.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_kv_proj_dx [hPre_finite_kv_proj_dx : Cert.Pre_finite_kv_proj_dx.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_kv_proj_dx.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).1 = (fun _ => 1#1)
    ∧ (Cert.Pre_finite_kv_proj_dx.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_kv_proj_dx [hPre_finite_kv_proj_dx : Cert.Pre_finite_kv_proj_dx.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_kv_proj_dx.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).1 = (fun _ => 1#1)
    ∧ (Cert.Pre_finite_kv_proj_dx.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Kernel39Ideal_finite_pooled [hPre_finite_pooled : Cert.Pre_finite_pooled.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_finite_pooled.fn (F := Ideal) (m ((c.tc : Thread Cert.Kernel39Ideal.nD Cert.Kernel39Ideal.τ).loc Cert.Kernel39Ideal.main_arg0))) = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_finite_pooled [hPre_finite_pooled : Cert.Pre_finite_pooled.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_finite_pooled.fn (F := Ideal) (m ((c.tc : Thread Cert.Reference39Ideal.nD Cert.Reference39Ideal.τ).loc Cert.Reference39Ideal.main_arg0))) = (fun _ => 1#1)

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Kernel41Ideal_finite_mem_a [hPre_finite_mem_a : Cert.Pre_finite_mem_a.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_finite_mem_a.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2))).1 = (fun _ => 1#1)
    ∧ (Cert.Pre_finite_mem_a.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2))).2 = (fun _ => 1#1)

def Pre_Reference41Ideal (m : (ℓ : Loc Cert.Reference41Ideal.nD Cert.Reference41Ideal.τ Cert.Reference41Ideal.sig) → Buf (Elt Ideal) ℓ) : Prop :=
  True

def Pre_Reference41Ideal_finite_mem_a [hPre_finite_mem_a : Cert.Pre_finite_mem_a.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_finite_mem_a.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2))).1 = (fun _ => 1#1)
    ∧ (Cert.Pre_finite_mem_a.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2))).2 = (fun _ => 1#1)

def Pre_Kernel42 [hPre_pair_square : Cert.Pre_pair_square.Facts] (m : (ℓ : Loc Cert.Kernel42.nD Cert.Kernel42.τ Cert.Kernel42.sig) → Buf (Elt Bits) ℓ) : Prop :=
  ∀ c : Dev Cert.Kernel42.nD,
    (Cert.Pre_pair_square.fn (F := Bits) (m ((c.tc : Thread Cert.Kernel42.nD Cert.Kernel42.τ).loc Cert.Kernel42.main_arg0)) (m ((c.tc : Thread Cert.Kernel42.nD Cert.Kernel42.τ).loc Cert.Kernel42.main_arg1)) (m ((c.tc : Thread Cert.Kernel42.nD Cert.Kernel42.τ).loc Cert.Kernel42.main_arg2))) = (fun _ => 1#1)

def Pre_Kernel42Ideal [hPre_pair_square : Cert.Pre_pair_square.Facts] (m : (ℓ : Loc Cert.Kernel42Ideal.nD Cert.Kernel42Ideal.τ Cert.Kernel42Ideal.sig) → Buf (Elt Ideal) ℓ) : Prop :=
  ∀ c : Dev Cert.Kernel42Ideal.nD,
    (Cert.Pre_pair_square.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2))) = (fun _ => 1#1)

def Pre_Reference42Ideal (m : (ℓ : Loc Cert.Reference42Ideal.nD Cert.Reference42Ideal.τ Cert.Reference42Ideal.sig) → Buf (Elt Ideal) ℓ) : Prop :=
  True

def Pre_Reference42Ideal_pair_square [hPre_pair_square : Cert.Pre_pair_square.Facts] (m : (ℓ : Loc Cert.Reference42Ideal.nD Cert.Reference42Ideal.τ Cert.Reference42Ideal.sig) → Buf (Elt Ideal) ℓ) : Prop :=
  ∀ c : Dev Cert.Reference42Ideal.nD,
    (Cert.Pre_pair_square.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_mem [hKernelIdeal : Cert.KernelIdeal.Facts] [hPre_finite_mem : Cert.Pre_finite_mem.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mem m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_mem [hReferenceIdeal : Cert.ReferenceIdeal.Facts] [hPre_finite_mem : Cert.Pre_finite_mem.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mem m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite_dpooled [hKernel2Ideal : Cert.Kernel2Ideal.Facts] [hPre_finite_dpooled : Cert.Pre_finite_dpooled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_dpooled m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite_dpooled [hReference2Ideal : Cert.Reference2Ideal.Facts] [hPre_finite_dpooled : Cert.Pre_finite_dpooled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_dpooled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_down_dx [hKernel3Ideal : Cert.Kernel3Ideal.Facts] [hPre_finite_down_dx : Cert.Pre_finite_down_dx.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_down_dx m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_down_dx [hReference3Ideal : Cert.Reference3Ideal.Facts] [hPre_finite_down_dx : Cert.Pre_finite_down_dx.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_down_dx m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Kernel18Ideal_pre_finite_kv_proj_dx [hKernel18Ideal : Cert.Kernel18Ideal.Facts] [hPre_finite_kv_proj_dx : Cert.Pre_finite_kv_proj_dx.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_kv_proj_dx m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_finite_kv_proj_dx [hReference18Ideal : Cert.Reference18Ideal.Facts] [hPre_finite_kv_proj_dx : Cert.Pre_finite_kv_proj_dx.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_kv_proj_dx m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Kernel39Ideal_pre_finite_pooled [hKernel39Ideal : Cert.Kernel39Ideal.Facts] [hPre_finite_pooled : Cert.Pre_finite_pooled.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal_finite_pooled m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Reference39Ideal_pre_finite_pooled [hReference39Ideal : Cert.Reference39Ideal.Facts] [hPre_finite_pooled : Cert.Pre_finite_pooled.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_finite_pooled m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Kernel41Ideal_pre_finite_mem_a [hKernel41Ideal : Cert.Kernel41Ideal.Facts] [hPre_finite_mem_a : Cert.Pre_finite_mem_a.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal_finite_mem_a m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Reference41Ideal_pre_finite_mem_a [hReference41Ideal : Cert.Reference41Ideal.Facts] [hPre_finite_mem_a : Cert.Pre_finite_mem_a.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal_finite_mem_a m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] [hPre_pair_square : Cert.Pre_pair_square.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] [hPre_pair_square : Cert.Pre_pair_square.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Reference42Ideal_pre_pair_square [hReference42Ideal : Cert.Reference42Ideal.Facts] [hPre_pair_square : Cert.Pre_pair_square.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal_pair_square m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def preserves_Kernel_KernelIdeal : Prop :=
  True

def algebraic_KernelIdeal_ReferenceIdeal_pre_finite_mem [hKernelIdeal : Cert.KernelIdeal.Facts] [hReferenceIdeal : Cert.ReferenceIdeal.Facts] [hPre_finite_mem : Cert.Pre_finite_mem.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mem m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_dpooled [hKernel2Ideal : Cert.Kernel2Ideal.Facts] [hReference2Ideal : Cert.Reference2Ideal.Facts] [hPre_finite_dpooled : Cert.Pre_finite_dpooled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_dpooled m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal_pre_finite_down_dx [hKernel3Ideal : Cert.Kernel3Ideal.Facts] [hReference3Ideal : Cert.Reference3Ideal.Facts] [hPre_finite_down_dx : Cert.Pre_finite_down_dx.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_down_dx m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite_kv_proj_dx [hKernel18Ideal : Cert.Kernel18Ideal.Facts] [hReference18Ideal : Cert.Reference18Ideal.Facts] [hPre_finite_kv_proj_dx : Cert.Pre_finite_kv_proj_dx.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_kv_proj_dx m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v73) = v0 c
          ∧ r.2.mem ((c.tc : Thread Cert.Reference18Ideal.nD Cert.Reference18Ideal.τ).loc Cert.Reference18Ideal.main_v74) = v1 c
          ∧ r.2.mem ((c.tc : Thread Cert.Reference18Ideal.nD Cert.Reference18Ideal.τ).loc Cert.Reference18Ideal.main_v55) = v2 c
          ∧ r.2.mem ((c.tc : Thread Cert.Reference18Ideal.nD Cert.Reference18Ideal.τ).loc Cert.Reference18Ideal.main_v35) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v14)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v14) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v14)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v14) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v11) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v14) = v0 c
          ∧ r.2.mem ((c.tc : Thread Cert.Reference29Ideal.nD Cert.Reference29Ideal.τ).loc Cert.Reference29Ideal.main_v11) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v25) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v14) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v12) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v48) = v0 c
          ∧ r.2.mem ((c.tc : Thread Cert.Reference38Ideal.nD Cert.Reference38Ideal.τ).loc Cert.Reference38Ideal.main_v49) = v1 c
          ∧ r.2.mem ((c.tc : Thread Cert.Reference38Ideal.nD Cert.Reference38Ideal.τ).loc Cert.Reference38Ideal.main_v32) = v2 c
          ∧ r.2.mem ((c.tc : Thread Cert.Reference38Ideal.nD Cert.Reference38Ideal.τ).loc Cert.Reference38Ideal.main_v50) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal_pre_finite_pooled [hKernel39Ideal : Cert.Kernel39Ideal.Facts] [hReference39Ideal : Cert.Reference39Ideal.Facts] [hPre_finite_pooled : Cert.Pre_finite_pooled.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal_finite_pooled m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v57) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v24) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal_pre_finite_mem_a [hKernel41Ideal : Cert.Kernel41Ideal.Facts] [hReference41Ideal : Cert.Reference41Ideal.Facts] [hPre_finite_mem_a : Cert.Pre_finite_mem_a.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal_finite_mem_a m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v69) = v0 c
          ∧ r.2.mem ((c.tc : Thread Cert.Reference41Ideal.nD Cert.Reference41Ideal.τ).loc Cert.Reference41Ideal.main_v70) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] [hPre_pair_square : Cert.Pre_pair_square.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v12) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hPre_finite_mem : Cert.Pre_finite_mem.Facts) (hPre_finite_dpooled : Cert.Pre_finite_dpooled.Facts) (hPre_finite_down_dx : Cert.Pre_finite_down_dx.Facts) (hPre_finite_kv_proj_dx : Cert.Pre_finite_kv_proj_dx.Facts) (hPre_finite_pooled : Cert.Pre_finite_pooled.Facts) (hPre_finite_mem_a : Cert.Pre_finite_mem_a.Facts) (hPre_pair_square : Cert.Pre_pair_square.Facts),
    quiescent_Kernel (hKernel := hKernel)
    ∧ quiescent_KernelIdeal (hKernelIdeal := hKernelIdeal)
    ∧ quiescent_KernelIdeal_pre_finite_mem (hKernelIdeal := hKernelIdeal) (hPre_finite_mem := hPre_finite_mem)
    ∧ quiescent_ReferenceIdeal (hReferenceIdeal := hReferenceIdeal)
    ∧ quiescent_ReferenceIdeal_pre_finite_mem (hReferenceIdeal := hReferenceIdeal) (hPre_finite_mem := hPre_finite_mem)
    ∧ quiescent_Kernel2 (hKernel2 := hKernel2)
    ∧ quiescent_Kernel2Ideal (hKernel2Ideal := hKernel2Ideal)
    ∧ quiescent_Kernel2Ideal_pre_finite_dpooled (hKernel2Ideal := hKernel2Ideal) (hPre_finite_dpooled := hPre_finite_dpooled)
    ∧ quiescent_Reference2Ideal (hReference2Ideal := hReference2Ideal)
    ∧ quiescent_Reference2Ideal_pre_finite_dpooled (hReference2Ideal := hReference2Ideal) (hPre_finite_dpooled := hPre_finite_dpooled)
    ∧ quiescent_Kernel3 (hKernel3 := hKernel3)
    ∧ quiescent_Kernel3Ideal (hKernel3Ideal := hKernel3Ideal)
    ∧ quiescent_Kernel3Ideal_pre_finite_down_dx (hKernel3Ideal := hKernel3Ideal) (hPre_finite_down_dx := hPre_finite_down_dx)
    ∧ quiescent_Reference3Ideal (hReference3Ideal := hReference3Ideal)
    ∧ quiescent_Reference3Ideal_pre_finite_down_dx (hReference3Ideal := hReference3Ideal) (hPre_finite_down_dx := hPre_finite_down_dx)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_kv_proj_dx (hKernel18Ideal := hKernel18Ideal) (hPre_finite_kv_proj_dx := hPre_finite_kv_proj_dx)
    ∧ quiescent_Reference18Ideal (hReference18Ideal := hReference18Ideal)
    ∧ quiescent_Reference18Ideal_pre_finite_kv_proj_dx (hReference18Ideal := hReference18Ideal) (hPre_finite_kv_proj_dx := hPre_finite_kv_proj_dx)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Kernel39Ideal_pre_finite_pooled (hKernel39Ideal := hKernel39Ideal) (hPre_finite_pooled := hPre_finite_pooled)
    ∧ quiescent_Reference39Ideal (hReference39Ideal := hReference39Ideal)
    ∧ quiescent_Reference39Ideal_pre_finite_pooled (hReference39Ideal := hReference39Ideal) (hPre_finite_pooled := hPre_finite_pooled)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Kernel41Ideal_pre_finite_mem_a (hKernel41Ideal := hKernel41Ideal) (hPre_finite_mem_a := hPre_finite_mem_a)
    ∧ quiescent_Reference41Ideal (hReference41Ideal := hReference41Ideal)
    ∧ quiescent_Reference41Ideal_pre_finite_mem_a (hReference41Ideal := hReference41Ideal) (hPre_finite_mem_a := hPre_finite_mem_a)
    ∧ quiescent_Kernel42 (hKernel42 := hKernel42) (hPre_pair_square := hPre_pair_square)
    ∧ quiescent_Kernel42Ideal (hKernel42Ideal := hKernel42Ideal) (hPre_pair_square := hPre_pair_square)
    ∧ quiescent_Reference42Ideal (hReference42Ideal := hReference42Ideal)
    ∧ quiescent_Reference42Ideal_pre_pair_square (hReference42Ideal := hReference42Ideal) (hPre_pair_square := hPre_pair_square)
    ∧ preserves_Kernel_KernelIdeal
    ∧ algebraic_KernelIdeal_ReferenceIdeal_pre_finite_mem (hKernelIdeal := hKernelIdeal) (hReferenceIdeal := hReferenceIdeal) (hPre_finite_mem := hPre_finite_mem)
    ∧ preserves_Kernel2_Kernel2Ideal
    ∧ algebraic_Kernel2Ideal_Reference2Ideal_pre_finite_dpooled (hKernel2Ideal := hKernel2Ideal) (hReference2Ideal := hReference2Ideal) (hPre_finite_dpooled := hPre_finite_dpooled)
    ∧ preserves_Kernel3_Kernel3Ideal
    ∧ algebraic_Kernel3Ideal_Reference3Ideal_pre_finite_down_dx (hKernel3Ideal := hKernel3Ideal) (hReference3Ideal := hReference3Ideal) (hPre_finite_down_dx := hPre_finite_down_dx)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_kv_proj_dx (hKernel18Ideal := hKernel18Ideal) (hReference18Ideal := hReference18Ideal) (hPre_finite_kv_proj_dx := hPre_finite_kv_proj_dx)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal_pre_finite_pooled (hKernel39Ideal := hKernel39Ideal) (hReference39Ideal := hReference39Ideal) (hPre_finite_pooled := hPre_finite_pooled)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal_pre_finite_mem_a (hKernel41Ideal := hKernel41Ideal) (hReference41Ideal := hReference41Ideal) (hPre_finite_mem_a := hPre_finite_mem_a)
    ∧ preserves_Kernel42_Kernel42Ideal
    ∧ algebraic_Kernel42Ideal_Reference42Ideal (hKernel42Ideal := hKernel42Ideal) (hReference42Ideal := hReference42Ideal) (hPre_pair_square := hPre_pair_square)
-- ==== Pre_finite_down_dx.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Pre_finite_dpooled.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x768 .f32) : IVec S4096x768 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  main_v2
-- ==== Pre_finite_kv_proj_dx.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x1536 .bf16) (main_arg1 : FVec F S1024x1536 .bf16) (main_arg2 : FVec F S4096x1024 .f32) (main_arg3 : FVec F S1x1024 .f32) (main_arg4 : FVec F S4096x1024 .f32) (main_arg5 : FVec F S1x1024 .f32) (main_arg6 : FVec F S4096x1024 .f32) : IVec S1x1024 1 × IVec S4096x1024 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S4096x1024 .f32 := Host.absf main_arg6
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_mem.lean ====
abbrev S4096x1024 : Shape := ⟨2, ![4096, 1024]⟩
abbrev S256x512 : Shape := ⟨2, ![256, 512]⟩
abbrev S4096x256 : Shape := ⟨2, ![4096, 256]⟩
abbrev S_ : Shape := ⟨0, ![]⟩
abbrev S256x256 : Shape := ⟨2, ![256, 256]⟩

class Facts : Prop where
  slices_S4096x1024_S4096x256_0_768 : S4096x1024.Slices ![0, 768] S4096x256
  bitsLt_bf16_f32 : FTy.bits .bf16 < FTy.bits .f32
  bcast_S_S4096x256 : S_.BroadcastsInDim S4096x256 (![] : Fin 0 → Fin S4096x256.rank)
  slices_S256x512_S256x256_0_0 : S256x512.Slices ![0, 0] S256x256
  bcast_S_S256x256 : S_.BroadcastsInDim S256x256 (![] : Fin 0 → Fin S256x256.rank)

variable [Facts]

def fn {F : FTy → Type} [FloatOps F] (main_arg0 : FVec F S4096x1024 .bf16) (main_arg1 : FVec F S256x512 .bf16) (main_arg2 : FVec F S4096x1024 .bf16) : IVec S4096x256 1 × IVec S256x256 1 :=
  let main_v0 : FVec F S4096x256 .bf16 := (extractStridedSlice S4096x256 ![0, 768] · slices_S4096x1024_S4096x256_0_768) main_arg0
  let main_v1 : FVec F S4096x256 .f32 := (extf .f32 · bitsLt_bf16_f32) main_v0
  let main_v2 : FVec F S4096x256 .f32 := Host.absf main_v1
  let main_cst : FVec F S_ .f32 := constant S_ .f32 0x7F800000#32
  let main_v3 : FVec F S4096x256 .f32 := broadcastInDim S4096x256 ![] bcast_S_S4096x256 main_cst
  let main_v4 : IVec S4096x256 1 := cmpf .olt main_v2 main_v3
  let main_v5 : FVec F S256x256 .bf16 := (extractStridedSlice S256x256 ![0, 0] · slices_S256x512_S256x256_0_0) main_arg1
  let main_v6 : FVec F S256x256 .f32 := (extf .f32 · bitsLt_bf16_f32) main_v5
  let main_v7 : FVec F S256x256 .f32 := Host.absf main_v6
  let main_cst_0 : FVec F S_ .f32 := constant S_ .f32 0x7F800000#32
  let main_v8 : FVec F S256x256 .f32 := broadcastInDim S256x256 ![] bcast_S_S256x256 main_cst_0
  let main_v9 : IVec S256x256 1 := cmpf .olt main_v7 main_v8
  (main_v4, main_v9)
-- ==== Pre_finite_mem_a.lean ====
abbrev S4096x1024 : Shape := ⟨2, ![4096, 1024]⟩
abbrev S256x512 : Shape := ⟨2, ![256, 512]⟩
abbrev S4096x256 : Shape := ⟨2, ![4096, 256]⟩
abbrev S_ : Shape := ⟨0, ![]⟩
abbrev S256x256 : Shape := ⟨2, ![256, 256]⟩

class Facts : Prop where
  slices_S4096x1024_S4096x256_0_768 : S4096x1024.Slices ![0, 768] S4096x256
  bcast_S_S4096x256 : S_.BroadcastsInDim S4096x256 (![] : Fin 0 → Fin S4096x256.rank)
  slices_S256x512_S256x256_0_0 : S256x512.Slices ![0, 0] S256x256
  bitsLt_bf16_f32 : FTy.bits .bf16 < FTy.bits .f32
  bcast_S_S256x256 : S_.BroadcastsInDim S256x256 (![] : Fin 0 → Fin S256x256.rank)

variable [Facts]

def fn {F : FTy → Type} [FloatOps F] (main_arg0 : FVec F S4096x1024 .f32) (main_arg1 : FVec F S256x512 .bf16) (main_arg2 : FVec F S4096x1024 .bf16) : IVec S4096x256 1 × IVec S256x256 1 :=
  let main_v0 : FVec F S4096x256 .f32 := (extractStridedSlice S4096x256 ![0, 768] · slices_S4096x1024_S4096x256_0_768) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_v4 : FVec F S256x256 .bf16 := (extractStridedSlice S256x256 ![0, 0] · slices_S256x512_S256x256_0_0) main_arg1
  let main_v5 : FVec F S256x256 .f32 := (extf .f32 · bitsLt_bf16_f32) main_v4
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  (main_v3, main_v8)
-- ==== Pre_finite_pooled.lean ====
abbrev S4096x1024 : Shape := ⟨2, ![4096, 1024]⟩
abbrev S4096x768 : Shape := ⟨2, ![4096, 768]⟩
abbrev S_ : Shape := ⟨0, ![]⟩

class Facts : Prop where
  slices_S4096x1024_S4096x768_0_0 : S4096x1024.Slices ![0, 0] S4096x768
  bcast_S_S4096x768 : S_.BroadcastsInDim S4096x768 (![] : Fin 0 → Fin S4096x768.rank)

variable [Facts]

def fn {F : FTy → Type} [FloatOps F] (main_arg0 : FVec F S4096x1024 .f32) : IVec S4096x768 1 :=
  let main_v0 : FVec F S4096x768 .f32 := (extractStridedSlice S4096x768 ![0, 0] · slices_S4096x1024_S4096x768_0_0) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  main_v3
-- ==== Pre_pair_square.lean ====
abbrev S2 : Shape := ⟨1, ![2]⟩
abbrev S4x2x128x1024 : Shape := ⟨4, ![4, 2, 128, 1024]⟩
abbrev S4x128x1024 : Shape := ⟨3, ![4, 128, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S4x2x128x1024 .bf16) (main_arg2 : FVec F S4x128x1024 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  main_v6
-- ==== Kernel.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x1024, .bf16⟩
  | .hbm, ⟨3, _⟩ => ⟨S4096x256, .bf16⟩
  | .hbm, ⟨4, _⟩ => ⟨S256x512, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x512 : Shape := ⟨2, ![256, 512]⟩
abbrev S4096x256 : Shape := ⟨2, ![4096, 256]⟩
abbrev S256x256 : Shape := ⟨2, ![256, 256]⟩
abbrev S4096x4x64 : Shape := ⟨3, ![4096, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x1024, .bf16⟩
  | .hbm, ⟨3, _⟩ => ⟨S256x512, .f32⟩
  | .hbm, ⟨4, _⟩ => ⟨S4096x256, .bf16⟩
  | .hbm, ⟨5, _⟩ => ⟨S4096x256, .f32⟩
  | .hbm, ⟨6, _⟩ => ⟨S256x256, .f32⟩
  | .hbm, ⟨7, _⟩ => ⟨S256x256, .f32⟩
  | .hbm, ⟨8, _⟩ => ⟨S4096x4x64, .f32⟩
  | .hbm, ⟨9, _⟩ => ⟨S256x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S256x4x64, .f32⟩
  | .hbm, ⟨53, _⟩ => ⟨S4x64x4096, .f32⟩
  | .hbm, ⟨54, _⟩ => ⟨S4096x4x64, .f32⟩
  | .hbm, ⟨55, _⟩ => ⟨S4096x256, .f32⟩
  | .hbm, ⟨56, _⟩ => ⟨S4096x256, .bf16⟩
  | .hbm, ⟨57, _⟩ => ⟨S4096x256, .f32⟩
  | .hbm, ⟨58, _⟩ => ⟨S4096x4x64, .f32⟩
  | .hbm, ⟨59, _⟩ => ⟨S4x64x4096, .f32⟩
  | .hbm, ⟨60, _⟩ => ⟨S4x4096x256, .f32⟩
  | .hbm, ⟨61, _⟩ => ⟨S4x64x256, .f32⟩
  | .hbm, ⟨62, _⟩ => ⟨S256x4x64, .f32⟩
  | .hbm, ⟨63, _⟩ => ⟨S256x256, .f32⟩
  | .hbm, ⟨64, _⟩ => ⟨S4x4096x256, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x1, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096x256, .f32⟩
  | .hbm, ⟨80, _⟩ => ⟨S4x4096x256, .f32⟩
  | .hbm, ⟨81, _⟩ => ⟨S4x256x64, .f32⟩
  | .hbm, ⟨82, _⟩ => ⟨S256x4x64, .f32⟩
  | .hbm, ⟨83, _⟩ => ⟨S4x4096x64, .f32⟩
  | .hbm, ⟨84, _⟩ => ⟨S4096x4x64, .f32⟩
  | .hbm, ⟨85, _⟩ => ⟨S256x256, .f32⟩
  | .hbm, ⟨86, _⟩ => ⟨S4096x256, .f32⟩
  | .hbm, ⟨87, _⟩ => ⟨S4096x256, .bf16⟩
  | .hbm, ⟨88, _⟩ => ⟨S256x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel2.lean ====
abbrev S4096x768 : Shape := ⟨2, ![4096, 768]⟩
abbrev S512x768 : Shape := ⟨2, ![512, 768]⟩
abbrev S16x768 : Shape := ⟨2, ![16, 768]⟩
abbrev S528x768 : Shape := ⟨2, ![528, 768]⟩

abbrev nBuf : Space → Nat
  | .hbm => 2
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S16x768, .f32⟩
  | .local _ .vmem, ⟨3, _⟩ => ⟨S16x768, .f32⟩
  | .local _ .vmem, ⟨4, _⟩ => ⟨S512x768, .bf16⟩
  | .local _ .vmem, ⟨5, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x768 : Shape := ⟨2, ![4096, 768]⟩
abbrev S_ : Shape := ⟨0, ![]⟩
abbrev S4096 : Shape := ⟨1, ![4096]⟩
abbrev S4096x192 : Shape := ⟨2, ![4096, 192]⟩
abbrev S2x192 : Shape := ⟨2, ![2, 192]⟩
abbrev S4094x192 : Shape := ⟨2, ![4094, 192]⟩
abbrev S4096x1 : Shape := ⟨2, ![4096, 1]⟩
abbrev S4x192 : Shape := ⟨2, ![4, 192]⟩
abbrev S4092x192 : Shape := ⟨2, ![4092, 192]⟩
abbrev S8x192 : Shape := ⟨2, ![8, 192]⟩
abbrev S4088x192 : Shape := ⟨2, ![4088, 192]⟩
abbrev S16x192 : Shape := ⟨2, ![16, 192]⟩
abbrev S4080x192 : Shape := ⟨2, ![4080, 192]⟩

abbrev nBuf : Space → Nat
  | .hbm => 135
  | .vmem => 0
  | .smem => 0
  | _ => 0

abbrev hbmTy0_0 (i : Nat) : BufTy := match i % 128 with
  | 0 => ⟨S4096x768, .f32⟩
  | 1 => ⟨S_, .f32⟩
  | 2 => ⟨S4096x768, .f32⟩
  | 3 => ⟨S_, .f32⟩
  | 4 => ⟨S_, .f32⟩
  | 5 => ⟨S4096x768, .f32⟩
  | 6 => ⟨S4096, .i32⟩
  | 7 => ⟨S4096x192, .f32⟩
  | 8 => ⟨S_, .f32⟩
  | 9 => ⟨S2x192, .f32⟩
  | 10 => ⟨S4094x192, .f32⟩
  | 11 => ⟨S4096x192, .f32⟩
  | 12 => ⟨S_, .f32⟩
  | 13 => ⟨S2x192, .f32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S4096, .f32⟩
  | 21 => ⟨S4096x1, .f32⟩
  | 22 => ⟨S4096x192, .f32⟩
  | 23 => ⟨S4096x192, .f32⟩
  | 24 => ⟨S4096x192, .f32⟩
  | 25 => ⟨S4096x192, .f32⟩
  | 26 => ⟨S_, .f32⟩
  | 27 => ⟨S4x192, .f32⟩
  | 28 => ⟨S4092x192, .f32⟩
  | 29 => ⟨S4096x192, .f32⟩
  | 30 => ⟨S_, .f32⟩
  | 31 => ⟨S4x192, .f32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .f32⟩
  | 39 => ⟨S4096x1, .f32⟩
  | 40 => ⟨S4096x192, .f32⟩
  | 41 => ⟨S4096x192, .f32⟩
  | 42 => ⟨S4096x192, .f32⟩
  | 43 => ⟨S4096x192, .f32⟩
  | 44 => ⟨S_, .f32⟩
  | 45 => ⟨S8x192, .f32⟩
  | 46 => ⟨S4088x192, .f32⟩
  | 47 => ⟨S4096x192, .f32⟩
  | 48 => ⟨S_, .f32⟩
  | 49 => ⟨S8x192, .f32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .f32⟩
  | 57 => ⟨S4096x1, .f32⟩
  | 58 => ⟨S4096x192, .f32⟩
  | 59 => ⟨S4096x192, .f32⟩
  | 60 => ⟨S4096x192, .f32⟩
  | 61 => ⟨S4096x192, .f32⟩
  | 62 => ⟨S_, .f32⟩
  | 63 => ⟨S16x192, .f32⟩
  | 64 => ⟨S4080x192, .f32⟩
  | 65 => ⟨S4096x192, .f32⟩
  | 66 => ⟨S_, .f32⟩
  | 67 => ⟨S16x192, .f32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .f32⟩
  | 75 => ⟨S4096x1, .f32⟩
  | 76 => ⟨S4096x192, .f32⟩
  | 77 => ⟨S4096x192, .f32⟩
  | 78 => ⟨S4096x192, .f32⟩
  | 79 => ⟨S4096x768, .f32⟩
  | 80 => ⟨S4096x768, .f32⟩
  | 81 => ⟨S4096x768, .f32⟩
  | 82 => ⟨S4096x768, .f32⟩
  | 83 => ⟨S4096x192, .f32⟩
  | 84 => ⟨S4096x192, .f32⟩
  | 85 => ⟨S4096x192, .f32⟩
  | 86 => ⟨S4096x192, .f32⟩
  | 87 => ⟨S4096x192, .f32⟩
  | 88 => ⟨S4096x192, .f32⟩
  | 89 => ⟨S4096x192, .f32⟩
  | 90 => ⟨S16x192, .f32⟩
  | 91 => ⟨S4080x192, .f32⟩
  | 92 => ⟨S_, .f32⟩
  | 93 => ⟨S4096x192, .f32⟩
  | 94 => ⟨S4096x192, .f32⟩
  | 95 => ⟨S_, .f32⟩
  | 96 => ⟨S4096x768, .f32⟩
  | 97 => ⟨S4096x192, .f32⟩
  | 98 => ⟨S4096x192, .f32⟩
  | 99 => ⟨S4096x192, .f32⟩
  | 100 => ⟨S8x192, .f32⟩
  | 101 => ⟨S4088x192, .f32⟩
  | 102 => ⟨S_, .f32⟩
  | 103 => ⟨S4096x192, .f32⟩
  | 104 => ⟨S4096x192, .f32⟩
  | 105 => ⟨S_, .f32⟩
  | 106 => ⟨S4096x768, .f32⟩
  | 107 => ⟨S4096x768, .f32⟩
  | 108 => ⟨S4096x192, .f32⟩
  | 109 => ⟨S4096x192, .f32⟩
  | 110 => ⟨S4096x192, .f32⟩
  | 111 => ⟨S4x192, .f32⟩
  | 112 => ⟨S4092x192, .f32⟩
  | 113 => ⟨S_, .f32⟩
  | 114 => ⟨S4096x192, .f32⟩
  | 115 => ⟨S4096x192, .f32⟩
  | 116 => ⟨S_, .f32⟩
  | 117 => ⟨S4096x768, .f32⟩
  | 118 => ⟨S4096x768, .f32⟩
  | 119 => ⟨S4096x192, .f32⟩
  | 120 => ⟨S4096x192, .f32⟩
  | 121 => ⟨S4096x192, .f32⟩
  | 122 => ⟨S2x192, .f32⟩
  | 123 => ⟨S4094x192, .f32⟩
  | 124 => ⟨S_, .f32⟩
  | 125 => ⟨S4096x192, .f32⟩
  | 126 => ⟨S4096x192, .f32⟩
  | 127 => ⟨S_, .f32⟩
  | _ => ⟨S4096x768, .f32⟩

abbrev hbmTy0_1 (i : Nat) : BufTy := match i % 128 with
  | 0 => ⟨S4096x768, .f32⟩
  | 1 => ⟨S4096x768, .f32⟩
  | 2 => ⟨S_, .f32⟩
  | 3 => ⟨S_, .f32⟩
  | 4 => ⟨S4096x768, .f32⟩
  | 5 => ⟨S4096x768, .f32⟩
  | 6 => ⟨S4096x768, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_c_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_21 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_call1_call0_cst : Ref sig .tc := ⟨.hbm, 130, rfl⟩
abbrev main_call1_call0_v0 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x5632 : Shape := ⟨2, ![1024, 5632]⟩
abbrev S4096x2816 : Shape := ⟨2, ![4096, 2816]⟩
abbrev S1024x256 : Shape := ⟨2, ![1024, 256]⟩
abbrev S4096x256 : Shape := ⟨2, ![4096, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S4096x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel13.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x1024 : Shape := ⟨2, ![4096, 1024]⟩
abbrev S4096x2816 : Shape := ⟨2, ![4096, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1536 : Shape := ⟨2, ![1024, 1536]⟩
abbrev S4096x1536 : Shape := ⟨2, ![4096, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S1024x1536, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference18Ideal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1536, .f32⟩
  | .hbm, ⟨27, _⟩ => ⟨S4096x1536, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1536, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel19.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S1024x384 : Shape := ⟨2, ![1024, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S152x1024 : Shape := ⟨2, ![152, 1024]⟩

abbrev nBuf : Space → Nat
  | .hbm => 7
  | .vmem => 7
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S152x1024, .f32⟩
  | .hbm, ⟨5, _⟩ => ⟨S152x1024, .f32⟩
  | .hbm, ⟨6, _⟩ => ⟨S152x1024, .f32⟩
  | .local _ .vmem, ⟨0, _⟩ => ⟨S152x1024, .f32⟩
  | .local _ .vmem, ⟨1, _⟩ => ⟨S152x1024, .f32⟩
  | .local _ .vmem, ⟨2, _⟩ => ⟨S152x1024, .f32⟩
  | .local _ .vmem, ⟨3, _⟩ => ⟨S152x1024, .f32⟩
  | .local _ .vmem, ⟨4, _⟩ => ⟨S152x1024, .f32⟩
  | .local _ .vmem, ⟨5, _⟩ => ⟨S152x1024, .f32⟩
  | .local _ .vmem, ⟨6, _⟩ => ⟨S152x1024, .f32⟩
  | _, _ => ⟨S152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S152x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S152x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S152x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S152x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S152x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S152x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S152x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S152x1024 : Shape := ⟨2, ![152, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S_, .f32⟩
  | .hbm, ⟨5, _⟩ => ⟨S152x1024, .f32⟩
  | .hbm, ⟨6, _⟩ => ⟨S152x1024, .f32⟩
  | .hbm, ⟨7, _⟩ => ⟨S_, .f32⟩
  | .hbm, ⟨8, _⟩ => ⟨S152x1024, .f32⟩
  | .hbm, ⟨9, _⟩ => ⟨S152x1024, .f32⟩
  | .hbm, ⟨10, _⟩ => ⟨S152x1024, .f32⟩
  | .hbm, ⟨11, _⟩ => ⟨S_, .f32⟩
  | .hbm, ⟨12, _⟩ => ⟨S152x1024, .f32⟩
  | .hbm, ⟨13, _⟩ => ⟨S152x1024, .f32⟩
  | .hbm, ⟨14, _⟩ => ⟨S152x1024, .f32⟩
  | .hbm, ⟨15, _⟩ => ⟨S_, .f32⟩
  | .hbm, ⟨16, _⟩ => ⟨S152x1024, .f32⟩
  | .hbm, ⟨17, _⟩ => ⟨S152x1024, .f32⟩
  | .hbm, ⟨18, _⟩ => ⟨S152x1024, .f32⟩
  | .hbm, ⟨19, _⟩ => ⟨S_, .f32⟩
  | .hbm, ⟨20, _⟩ => ⟨S152x1024, .f32⟩
  | .hbm, ⟨21, _⟩ => ⟨S152x1024, .f32⟩
  | .hbm, ⟨22, _⟩ => ⟨S_, .f32⟩
  | .hbm, ⟨23, _⟩ => ⟨S152x1024, .f32⟩
  | .hbm, ⟨24, _⟩ => ⟨S152x1024, .f32⟩
  | .hbm, ⟨25, _⟩ => ⟨S152x1024, .f32⟩
  | .hbm, ⟨26, _⟩ => ⟨S_, .f32⟩
  | .hbm, ⟨27, _⟩ => ⟨S152x1024, .f32⟩
  | .hbm, ⟨28, _⟩ => ⟨S152x1024, .f32⟩
  | .hbm, ⟨29, _⟩ => ⟨S152x1024, .f32⟩
  | .hbm, ⟨30, _⟩ => ⟨S_, .f32⟩
  | .hbm, ⟨31, _⟩ => ⟨S152x1024, .f32⟩
  | .hbm, ⟨32, _⟩ => ⟨S152x1024, .f32⟩
  | .hbm, ⟨33, _⟩ => ⟨S152x1024, .f32⟩
  | .hbm, ⟨34, _⟩ => ⟨S_, .f32⟩
  | .hbm, ⟨35, _⟩ => ⟨S152x1024, .f32⟩
  | .hbm, ⟨36, _⟩ => ⟨S152x1024, .f32⟩
  | _, _ => ⟨S152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4096x768 : Shape := ⟨2, ![4096, 768]⟩
abbrev S4x192x192 : Shape := ⟨3, ![4, 192, 192]⟩
abbrev S_ : Shape := ⟨0, ![]⟩
abbrev S192x192 : Shape := ⟨2, ![192, 192]⟩
abbrev S1x192x192 : Shape := ⟨3, ![1, 192, 192]⟩
abbrev S192x768 : Shape := ⟨2, ![192, 768]⟩
abbrev S768x768 : Shape := ⟨2, ![768, 768]⟩
abbrev S512x768 : Shape := ⟨2, ![512, 768]⟩

abbrev nBuf : Space → Nat
  | .hbm => 18
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S4x192x192, .bf16⟩
  | .hbm, ⟨2, _⟩ => ⟨S_, .bf16⟩
  | .hbm, ⟨3, _⟩ => ⟨S192x192, .bf16⟩
  | .hbm, ⟨4, _⟩ => ⟨S1x192x192, .bf16⟩
  | .hbm, ⟨5, _⟩ => ⟨S192x192, .bf16⟩
  | .hbm, ⟨6, _⟩ => ⟨S192x768, .bf16⟩
  | .hbm, ⟨7, _⟩ => ⟨S1x192x192, .bf16⟩
  | .hbm, ⟨8, _⟩ => ⟨S192x192, .bf16⟩
  | .hbm, ⟨9, _⟩ => ⟨S192x768, .bf16⟩
  | .hbm, ⟨10, _⟩ => ⟨S1x192x192, .bf16⟩
  | .hbm, ⟨11, _⟩ => ⟨S192x192, .bf16⟩
  | .hbm, ⟨12, _⟩ => ⟨S192x768, .bf16⟩
  | .hbm, ⟨13, _⟩ => ⟨S1x192x192, .bf16⟩
  | .hbm, ⟨14, _⟩ => ⟨S192x192, .bf16⟩
  | .hbm, ⟨15, _⟩ => ⟨S192x768, .bf16⟩
  | .hbm, ⟨16, _⟩ => ⟨S768x768, .bf16⟩
  | .hbm, ⟨17, _⟩ => ⟨S4096x768, .bf16⟩
  | .local _ .vmem, ⟨0, _⟩ => ⟨S512x768, .bf16⟩
  | .local _ .vmem, ⟨1, _⟩ => ⟨S512x768, .bf16⟩
  | .local _ .vmem, ⟨2, _⟩ => ⟨S768x768, .bf16⟩
  | .local _ .vmem, ⟨3, _⟩ => ⟨S512x768, .bf16⟩
  | .local _ .vmem, ⟨4, _⟩ => ⟨S512x768, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4096x768 : Shape := ⟨2, ![4096, 768]⟩
abbrev S4x192x192 : Shape := ⟨3, ![4, 192, 192]⟩
abbrev S4096x4x192 : Shape := ⟨3, ![4096, 4, 192]⟩
abbrev S4x192x4096 : Shape := ⟨3, ![4, 192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4x192x192, .bf16⟩
  | .hbm, ⟨2, _⟩ => ⟨S4096x768, .f32⟩
  | .hbm, ⟨3, _⟩ => ⟨S4x192x192, .f32⟩
  | .hbm, ⟨4, _⟩ => ⟨S4096x4x192, .f32⟩
  | .hbm, ⟨5, _⟩ => ⟨S4x192x4096, .f32⟩
  | .hbm, ⟨6, _⟩ => ⟨S4096x4x192, .f32⟩
  | .hbm, ⟨7, _⟩ => ⟨S4096x768, .f32⟩
  | .hbm, ⟨8, _⟩ => ⟨S4096x768, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel26.lean ====
abbrev S4096x768 : Shape := ⟨2, ![4096, 768]⟩
abbrev S4x192x192 : Shape := ⟨3, ![4, 192, 192]⟩
abbrev S_ : Shape := ⟨0, ![]⟩
abbrev S192x192 : Shape := ⟨2, ![192, 192]⟩
abbrev S1x192x192 : Shape := ⟨3, ![1, 192, 192]⟩
abbrev S192x768 : Shape := ⟨2, ![192, 768]⟩
abbrev S768x768 : Shape := ⟨2, ![768, 768]⟩
abbrev S512x768 : Shape := ⟨2, ![512, 768]⟩

abbrev nBuf : Space → Nat
  | .hbm => 18
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S4x192x192, .bf16⟩
  | .hbm, ⟨2, _⟩ => ⟨S_, .bf16⟩
  | .hbm, ⟨3, _⟩ => ⟨S192x192, .bf16⟩
  | .hbm, ⟨4, _⟩ => ⟨S1x192x192, .bf16⟩
  | .hbm, ⟨5, _⟩ => ⟨S192x192, .bf16⟩
  | .hbm, ⟨6, _⟩ => ⟨S192x768, .bf16⟩
  | .hbm, ⟨7, _⟩ => ⟨S1x192x192, .bf16⟩
  | .hbm, ⟨8, _⟩ => ⟨S192x192, .bf16⟩
  | .hbm, ⟨9, _⟩ => ⟨S192x768, .bf16⟩
  | .hbm, ⟨10, _⟩ => ⟨S1x192x192, .bf16⟩
  | .hbm, ⟨11, _⟩ => ⟨S192x192, .bf16⟩
  | .hbm, ⟨12, _⟩ => ⟨S192x768, .bf16⟩
  | .hbm, ⟨13, _⟩ => ⟨S1x192x192, .bf16⟩
  | .hbm, ⟨14, _⟩ => ⟨S192x192, .bf16⟩
  | .hbm, ⟨15, _⟩ => ⟨S192x768, .bf16⟩
  | .hbm, ⟨16, _⟩ => ⟨S768x768, .bf16⟩
  | .hbm, ⟨17, _⟩ => ⟨S4096x768, .f32⟩
  | .local _ .vmem, ⟨0, _⟩ => ⟨S512x768, .bf16⟩
  | .local _ .vmem, ⟨1, _⟩ => ⟨S512x768, .bf16⟩
  | .local _ .vmem, ⟨2, _⟩ => ⟨S768x768, .bf16⟩
  | .local _ .vmem, ⟨3, _⟩ => ⟨S512x768, .f32⟩
  | .local _ .vmem, ⟨4, _⟩ => ⟨S512x768, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4096x768 : Shape := ⟨2, ![4096, 768]⟩
abbrev S4x192x192 : Shape := ⟨3, ![4, 192, 192]⟩
abbrev S_ : Shape := ⟨0, ![]⟩
abbrev S4096x4x192 : Shape := ⟨3, ![4096, 4, 192]⟩
abbrev S4x192x4096 : Shape := ⟨3, ![4, 192, 4096]⟩
abbrev S4x4096x192 : Shape := ⟨3, ![4, 4096, 192]⟩

abbrev nBuf : Space → Nat
  | .hbm => 15
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4x192x192, .bf16⟩
  | .hbm, ⟨2, _⟩ => ⟨S_, .f32⟩
  | .hbm, ⟨3, _⟩ => ⟨S4096x768, .f32⟩
  | .hbm, ⟨4, _⟩ => ⟨S4x192x192, .f32⟩
  | .hbm, ⟨5, _⟩ => ⟨S4096x4x192, .f32⟩
  | .hbm, ⟨6, _⟩ => ⟨S4x192x4096, .f32⟩
  | .hbm, ⟨7, _⟩ => ⟨S4096x4x192, .f32⟩
  | .hbm, ⟨8, _⟩ => ⟨S4096x768, .f32⟩
  | .hbm, ⟨9, _⟩ => ⟨S4096x768, .f32⟩
  | .hbm, ⟨10, _⟩ => ⟨S4096x4x192, .f32⟩
  | .hbm, ⟨11, _⟩ => ⟨S4x192x4096, .f32⟩
  | .hbm, ⟨12, _⟩ => ⟨S4x4096x192, .f32⟩
  | .hbm, ⟨13, _⟩ => ⟨S4096x4x192, .f32⟩
  | .hbm, ⟨14, _⟩ => ⟨S4096x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel27.lean ====
abbrev S4096x768 : Shape := ⟨2, ![4096, 768]⟩
abbrev S768x768 : Shape := ⟨2, ![768, 768]⟩

abbrev nBuf : Space → Nat
  | .hbm => 3
  | .vmem => 3
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S768x768, .f32⟩
  | .local _ .vmem, ⟨0, _⟩ => ⟨S4096x768, .bf16⟩
  | .local _ .vmem, ⟨1, _⟩ => ⟨S4096x768, .bf16⟩
  | .local _ .vmem, ⟨2, _⟩ => ⟨S768x768, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference27Ideal.lean ====
abbrev S4096x768 : Shape := ⟨2, ![4096, 768]⟩
abbrev S_ : Shape := ⟨0, ![]⟩
abbrev S768x768 : Shape := ⟨2, ![768, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S_, .f32⟩
  | .hbm, ⟨3, _⟩ => ⟨S768x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S768x768, .f32⟩
  | .hbm, ⟨8, _⟩ => ⟨S768x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S512x768 : Shape := ⟨2, ![512, 768]⟩
abbrev S512x256 : Shape := ⟨2, ![512, 256]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1x768, .f32⟩
  | .hbm, ⟨3, _⟩ => ⟨S4096x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1x768, .f32⟩
  | .local _ .vmem, ⟨5, _⟩ => ⟨S512x1024, .bf16⟩
  | .local _ .vmem, ⟨6, _⟩ => ⟨S512x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1x768, .f32⟩
  | .hbm, ⟨3, _⟩ => ⟨S4096x768, .f32⟩
  | .hbm, ⟨4, _⟩ => ⟨S4096x256, .f32⟩
  | .hbm, ⟨5, _⟩ => ⟨S4096x768, .f32⟩
  | .hbm, ⟨6, _⟩ => ⟨S4096x768, .f32⟩
  | .hbm, ⟨7, _⟩ => ⟨S4096x1024, .f32⟩
  | .hbm, ⟨8, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S4096x1024 : Shape := ⟨2, ![4096, 1024]⟩
abbrev S4096x768 : Shape := ⟨2, ![4096, 768]⟩
abbrev S1x768 : Shape := ⟨2, ![1, 768]⟩
abbrev S512x768 : Shape := ⟨2, ![512, 768]⟩
abbrev S768 : Shape := ⟨1, ![768]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1x768, .f32⟩
  | .hbm, ⟨3, _⟩ => ⟨S4096x768, .bf16⟩
  | .hbm, ⟨4, _⟩ => ⟨S1x768, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S1x768, .f32⟩
  | .local _ .vmem, ⟨5, _⟩ => ⟨S512x768, .bf16⟩
  | .local _ .vmem, ⟨6, _⟩ => ⟨S512x768, .bf16⟩
  | .local _ .vmem, ⟨7, _⟩ => ⟨S1x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference29Ideal.lean ====
abbrev S4096x1024 : Shape := ⟨2, ![4096, 1024]⟩
abbrev S4096x768 : Shape := ⟨2, ![4096, 768]⟩
abbrev S1x768 : Shape := ⟨2, ![1, 768]⟩
abbrev S_ : Shape := ⟨0, ![]⟩
abbrev S4096x256 : Shape := ⟨2, ![4096, 256]⟩
abbrev S768 : Shape := ⟨1, ![768]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1x768, .f32⟩
  | .hbm, ⟨3, _⟩ => ⟨S4096x768, .f32⟩
  | .hbm, ⟨4, _⟩ => ⟨S_, .f32⟩
  | .hbm, ⟨5, _⟩ => ⟨S4096x256, .f32⟩
  | .hbm, ⟨6, _⟩ => ⟨S4096x768, .f32⟩
  | .hbm, ⟨7, _⟩ => ⟨S4096x768, .f32⟩
  | .hbm, ⟨8, _⟩ => ⟨S4096x1024, .f32⟩
  | .hbm, ⟨9, _⟩ => ⟨S_, .f32⟩
  | .hbm, ⟨10, _⟩ => ⟨S4096x256, .f32⟩
  | .hbm, ⟨11, _⟩ => ⟨S4096x1024, .f32⟩
  | .hbm, ⟨12, _⟩ => ⟨S4096x768, .f32⟩
  | .hbm, ⟨13, _⟩ => ⟨S4096x256, .f32⟩
  | .hbm, ⟨14, _⟩ => ⟨S4096x768, .f32⟩
  | .hbm, ⟨15, _⟩ => ⟨S_, .f32⟩
  | .hbm, ⟨16, _⟩ => ⟨S768, .f32⟩
  | .hbm, ⟨17, _⟩ => ⟨S1x768, .f32⟩
  | .hbm, ⟨18, _⟩ => ⟨S4096x768, .f32⟩
  | .hbm, ⟨19, _⟩ => ⟨S4096x768, .f32⟩
  | .hbm, ⟨20, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel30.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S4096x1024 : Shape := ⟨2, ![4096, 1024]⟩
abbrev S256x512 : Shape := ⟨2, ![256, 512]⟩
abbrev S4096x256 : Shape := ⟨2, ![4096, 256]⟩
abbrev S256x256 : Shape := ⟨2, ![256, 256]⟩
abbrev S4096x4x64 : Shape := ⟨3, ![4096, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x512, .bf16⟩
  | .hbm, ⟨2, _⟩ => ⟨S256x512, .f32⟩
  | .hbm, ⟨3, _⟩ => ⟨S4096x256, .bf16⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S4096x4x64, .f32⟩
  | .hbm, ⟨8, _⟩ => ⟨S256x4x64, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S256x4x64, .f32⟩
  | .hbm, ⟨28, _⟩ => ⟨S4x64x4096, .f32⟩
  | .hbm, ⟨29, _⟩ => ⟨S4096x4x64, .f32⟩
  | .hbm, ⟨30, _⟩ => ⟨S4096x256, .f32⟩
  | .hbm, ⟨31, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel31.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference31Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | .hbm, ⟨5, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S256x1024 : Shape := ⟨2, ![256, 1024]⟩
abbrev S256x512 : Shape := ⟨2, ![256, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S1024x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S512x512, .bf16⟩
  | .local _ .vmem, ⟨4, _⟩ => ⟨S512x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S256x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel33.lean ====
abbrev S256x512 : Shape := ⟨2, ![256, 512]⟩
abbrev S1024x512 : Shape := ⟨2, ![1024, 512]⟩
abbrev S256x1024 : Shape := ⟨2, ![256, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .local _ .vmem, ⟨0, _⟩ => ⟨S256x512, .bf16⟩
  | .local _ .vmem, ⟨1, _⟩ => ⟨S512x512, .bf16⟩
  | .local _ .vmem, ⟨2, _⟩ => ⟨S512x512, .bf16⟩
  | .local _ .vmem, ⟨3, _⟩ => ⟨S256x512, .f32⟩
  | .local _ .vmem, ⟨4, _⟩ => ⟨S256x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S_, .f32⟩
  | .hbm, ⟨3, _⟩ => ⟨S256x1024, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S256x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel34.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference34Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel35.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel35Ideal.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel36.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference36Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel38.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference38Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel39.lean ====
abbrev S4096x1024 : Shape := ⟨2, ![4096, 1024]⟩
abbrev S4096x768 : Shape := ⟨2, ![4096, 768]⟩
abbrev S512x768 : Shape := ⟨2, ![512, 768]⟩
abbrev S16x768 : Shape := ⟨2, ![16, 768]⟩
abbrev S528x768 : Shape := ⟨2, ![528, 768]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S16x768, .f32⟩
  | .local _ .vmem, ⟨3, _⟩ => ⟨S16x768, .f32⟩
  | .local _ .vmem, ⟨4, _⟩ => ⟨S512x768, .bf16⟩
  | .local _ .vmem, ⟨5, _⟩ => ⟨S512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference39Ideal.lean ====
abbrev S4096x1024 : Shape := ⟨2, ![4096, 1024]⟩
abbrev S4096x768 : Shape := ⟨2, ![4096, 768]⟩
abbrev S_ : Shape := ⟨0, ![]⟩
abbrev S4096 : Shape := ⟨1, ![4096]⟩
abbrev S4096x192 : Shape := ⟨2, ![4096, 192]⟩
abbrev S2x192 : Shape := ⟨2, ![2, 192]⟩
abbrev S4094x192 : Shape := ⟨2, ![4094, 192]⟩
abbrev S4096x1 : Shape := ⟨2, ![4096, 1]⟩
abbrev S4x192 : Shape := ⟨2, ![4, 192]⟩
abbrev S4092x192 : Shape := ⟨2, ![4092, 192]⟩
abbrev S8x192 : Shape := ⟨2, ![8, 192]⟩
abbrev S4088x192 : Shape := ⟨2, ![4088, 192]⟩
abbrev S16x192 : Shape := ⟨2, ![16, 192]⟩
abbrev S4080x192 : Shape := ⟨2, ![4080, 192]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S_, .f32⟩
  | .hbm, ⟨3, _⟩ => ⟨S_, .f32⟩
  | .hbm, ⟨4, _⟩ => ⟨S4096x768, .f32⟩
  | .hbm, ⟨5, _⟩ => ⟨S4096, .i32⟩
  | .hbm, ⟨6, _⟩ => ⟨S4096x192, .f32⟩
  | .hbm, ⟨7, _⟩ => ⟨S_, .f32⟩
  | .hbm, ⟨8, _⟩ => ⟨S2x192, .f32⟩
  | .hbm, ⟨9, _⟩ => ⟨S4094x192, .f32⟩
  | .hbm, ⟨10, _⟩ => ⟨S4096x192, .f32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S4096x192, .f32⟩
  | .hbm, ⟨20, _⟩ => ⟨S4096x192, .f32⟩
  | .hbm, ⟨21, _⟩ => ⟨S4096x192, .f32⟩
  | .hbm, ⟨22, _⟩ => ⟨S4096x192, .f32⟩
  | .hbm, ⟨23, _⟩ => ⟨S_, .f32⟩
  | .hbm, ⟨24, _⟩ => ⟨S4x192, .f32⟩
  | .hbm, ⟨25, _⟩ => ⟨S4092x192, .f32⟩
  | .hbm, ⟨26, _⟩ => ⟨S4096x192, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S4096x192, .f32⟩
  | .hbm, ⟨36, _⟩ => ⟨S4096x192, .f32⟩
  | .hbm, ⟨37, _⟩ => ⟨S4096x192, .f32⟩
  | .hbm, ⟨38, _⟩ => ⟨S4096x192, .f32⟩
  | .hbm, ⟨39, _⟩ => ⟨S_, .f32⟩
  | .hbm, ⟨40, _⟩ => ⟨S8x192, .f32⟩
  | .hbm, ⟨41, _⟩ => ⟨S4088x192, .f32⟩
  | .hbm, ⟨42, _⟩ => ⟨S4096x192, .f32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .f32⟩
  | .hbm, ⟨50, _⟩ => ⟨S4096x1, .f32⟩
  | .hbm, ⟨51, _⟩ => ⟨S4096x192, .f32⟩
  | .hbm, ⟨52, _⟩ => ⟨S4096x192, .f32⟩
  | .hbm, ⟨53, _⟩ => ⟨S4096x192, .f32⟩
  | .hbm, ⟨54, _⟩ => ⟨S4096x192, .f32⟩
  | .hbm, ⟨55, _⟩ => ⟨S_, .f32⟩
  | .hbm, ⟨56, _⟩ => ⟨S16x192, .f32⟩
  | .hbm, ⟨57, _⟩ => ⟨S4080x192, .f32⟩
  | .hbm, ⟨58, _⟩ => ⟨S4096x192, .f32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .f32⟩
  | .hbm, ⟨66, _⟩ => ⟨S4096x1, .f32⟩
  | .hbm, ⟨67, _⟩ => ⟨S4096x192, .f32⟩
  | .hbm, ⟨68, _⟩ => ⟨S4096x192, .f32⟩
  | .hbm, ⟨69, _⟩ => ⟨S4096x192, .f32⟩
  | .hbm, ⟨70, _⟩ => ⟨S4096x768, .f32⟩
  | .hbm, ⟨71, _⟩ => ⟨S4096x768, .f32⟩
  | .hbm, ⟨72, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel40.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference40Ideal.lean ====
abbrev S4096x1024 : Shape := ⟨2, ![4096, 1024]⟩
abbrev S256x512 : Shape := ⟨2, ![256, 512]⟩
abbrev S4096x256 : Shape := ⟨2, ![4096, 256]⟩
abbrev S256x256 : Shape := ⟨2, ![256, 256]⟩
abbrev S4096x4x64 : Shape := ⟨3, ![4096, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S256x512, .f32⟩
  | .hbm, ⟨3, _⟩ => ⟨S4096x256, .f32⟩
  | .hbm, ⟨4, _⟩ => ⟨S256x256, .f32⟩
  | .hbm, ⟨5, _⟩ => ⟨S256x256, .f32⟩
  | .hbm, ⟨6, _⟩ => ⟨S4096x4x64, .f32⟩
  | .hbm, ⟨7, _⟩ => ⟨S256x4x64, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S256x4x64, .f32⟩
  | .hbm, ⟨27, _⟩ => ⟨S4x64x4096, .f32⟩
  | .hbm, ⟨28, _⟩ => ⟨S4096x4x64, .f32⟩
  | .hbm, ⟨29, _⟩ => ⟨S4096x256, .f32⟩
  | .hbm, ⟨30, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel41.lean ====
abbrev S4096x1024 : Shape := ⟨2, ![4096, 1024]⟩
abbrev S256x512 : Shape := ⟨2, ![256, 512]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x1024, .bf16⟩
  | .hbm, ⟨3, _⟩ => ⟨S4096x256, .bf16⟩
  | .hbm, ⟨4, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference41Ideal.lean ====
abbrev S4096x1024 : Shape := ⟨2, ![4096, 1024]⟩
abbrev S256x512 : Shape := ⟨2, ![256, 512]⟩
abbrev S4096x256 : Shape := ⟨2, ![4096, 256]⟩
abbrev S256x256 : Shape := ⟨2, ![256, 256]⟩
abbrev S4096x4x64 : Shape := ⟨3, ![4096, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x512, .bf16⟩
  | .hbm, ⟨2, _⟩ => ⟨S4096x1024, .bf16⟩
  | .hbm, ⟨3, _⟩ => ⟨S256x512, .f32⟩
  | .hbm, ⟨4, _⟩ => ⟨S4096x256, .f32⟩
  | .hbm, ⟨5, _⟩ => ⟨S256x256, .f32⟩
  | .hbm, ⟨6, _⟩ => ⟨S256x256, .f32⟩
  | .hbm, ⟨7, _⟩ => ⟨S4096x4x64, .f32⟩
  | .hbm, ⟨8, _⟩ => ⟨S256x4x64, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S256x4x64, .f32⟩
  | .hbm, ⟨52, _⟩ => ⟨S4x64x4096, .f32⟩
  | .hbm, ⟨53, _⟩ => ⟨S4096x4x64, .f32⟩
  | .hbm, ⟨54, _⟩ => ⟨S4096x256, .f32⟩
  | .hbm, ⟨55, _⟩ => ⟨S4096x256, .bf16⟩
  | .hbm, ⟨56, _⟩ => ⟨S4096x256, .f32⟩
  | .hbm, ⟨57, _⟩ => ⟨S4096x4x64, .f32⟩
  | .hbm, ⟨58, _⟩ => ⟨S4x64x4096, .f32⟩
  | .hbm, ⟨59, _⟩ => ⟨S4x4096x256, .f32⟩
  | .hbm, ⟨60, _⟩ => ⟨S4x64x256, .f32⟩
  | .hbm, ⟨61, _⟩ => ⟨S256x4x64, .f32⟩
  | .hbm, ⟨62, _⟩ => ⟨S256x256, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x64, .f32⟩
  | .hbm, ⟨81, _⟩ => ⟨S256x4x64, .f32⟩
  | .hbm, ⟨82, _⟩ => ⟨S4x4096x64, .f32⟩
  | .hbm, ⟨83, _⟩ => ⟨S4096x4x64, .f32⟩
  | .hbm, ⟨84, _⟩ => ⟨S256x256, .f32⟩
  | .hbm, ⟨85, _⟩ => ⟨S4096x256, .f32⟩
  | .hbm, ⟨86, _⟩ => ⟨S4096x256, .bf16⟩
  | .hbm, ⟨87, _⟩ => ⟨S256x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel42.lean ====
abbrev S2 : Shape := ⟨1, ![2]⟩
abbrev S4x2x128x1024 : Shape := ⟨4, ![4, 2, 128, 1024]⟩
abbrev S4x128x1024 : Shape := ⟨3, ![4, 128, 1024]⟩
abbrev S1x1x128x1024 : Shape := ⟨4, ![1, 1, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x128x1024, .bf16⟩
  | .hbm, ⟨1, _⟩ => ⟨S4x128x1024, .bf16⟩
  | .hbm, ⟨2, _⟩ => ⟨S4x128x1024, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .smem, ⟨0, _⟩ => ⟨S2, .i32⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference42Ideal.lean ====
abbrev S2 : Shape := ⟨1, ![2]⟩
abbrev S4x2x128x1024 : Shape := ⟨4, ![4, 2, 128, 1024]⟩
abbrev S4x128x1024 : Shape := ⟨3, ![4, 128, 1024]⟩
abbrev S1 : Shape := ⟨1, ![1]⟩
abbrev S_ : Shape := ⟨0, ![]⟩
abbrev S4x1x128x1024 : Shape := ⟨4, ![4, 1, 128, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x128x1024, .bf16⟩
  | .hbm, ⟨2, _⟩ => ⟨S4x128x1024, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x128x1024, .bf16⟩
  | .hbm, ⟨8, _⟩ => ⟨S4x128x1024, .bf16⟩
  | .hbm, ⟨9, _⟩ => ⟨S4x128x1024, .f32⟩
  | .hbm, ⟨10, _⟩ => ⟨S4x1x128x1024, .bf16⟩
  | .hbm, ⟨11, _⟩ => ⟨S4x128x1024, .bf16⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S4x128x1024, .f32⟩
  | .hbm, ⟨16, _⟩ => ⟨S4x128x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Math.lean ====
/- Extended-real algebra that the value claims share: sums scaled by a real, sums with an infinite square in them, and
   the row-wise identities of the gradients. No program is mentioned here. -/
module

public import Idealize.ShloMosaic.PureOps.Ideal
public import Mathlib.Algebra.Order.BigOperators.Group.Finset
public import Mathlib.Tactic.Linarith
public import Mathlib.Tactic.Positivity
public import Mathlib.Tactic.Ring

@[expose] public section

noncomputable section

namespace Cert.Math

open Idealize.ShloMosaic

/-- A finite extended real is a real. -/
theorem exists_coe_of_abs_lt {x : EReal} (h : max x (-x) < ⊤) : ∃ r : ℝ, x = (r : EReal) := by
  induction x using EReal.rec with
  | bot => simp at h
  | top => simp at h
  | coe r => exact ⟨r, rfl⟩

/-- The same of the comparison a program makes. -/
theorem exists_coe_of_cmp {x : EReal}
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  refine exists_coe_of_abs_lt ?_
  by_contra hn
  simp [Ideal.cmp, hn] at h

/-- A finite sum of reals is a real. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes through a sum of extended reals. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih,
      EReal.left_distrib_of_nonneg_of_ne_top (by exact_mod_cast ha) (EReal.coe_ne_top a)]

/-- A nonnegative real factor goes through a difference of extended reals. -/
theorem coe_mul_sub {a : ℝ} (ha : 0 ≤ a) (x y : EReal) : (a : EReal) * (x - y) = (a : EReal) * x - (a : EReal) * y := by
  rw [sub_eq_add_neg, EReal.left_distrib_of_nonneg_of_ne_top (by exact_mod_cast ha) (EReal.coe_ne_top a), mul_neg,
    ← sub_eq_add_neg]

/-- Two equal real multiples of one extended real add up. -/
theorem mul_coe_add_self (T : EReal) (k : ℝ) : T * (k : EReal) + T * (k : EReal) = T * ((2 * k : ℝ) : EReal) := by
  induction T using EReal.rec with
  | coe r => norm_cast; ring_nf
  | top =>
    rcases lt_trichotomy k 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- A square is nonnegative. -/
theorem mul_self_nonneg (x : EReal) : 0 ≤ x * x := by
  induction x using EReal.rec with
  | coe r => exact_mod_cast _root_.mul_self_nonneg r
  | top => simp
  | bot => simp

/-- A sum of squares with an infinite entry is infinite. -/
theorem sum_sq_eq_top {ι : Type*} [Fintype ι] (x : ι → EReal) (i : ι) (hi : x i = ⊤ ∨ x i = ⊥) : ∑ j, x j * x j = ⊤ := by
  classical
  have h1 : x i * x i = ⊤ := by rcases hi with h | h <;> simp [h]
  have h2 : x i * x i ≤ ∑ j, x j * x j :=
    Finset.single_le_sum (f := fun j => x j * x j) (fun j _ => mul_self_nonneg (x j)) (Finset.mem_univ i)
  exact top_le_iff.mp (h1 ▸ h2)

/-- Either every entry is a real or some entry is infinite. -/
theorem all_coe_or {ι : Type*} (x : ι → EReal) : (∃ r : ι → ℝ, ∀ i, x i = (r i : EReal)) ∨ ∃ i, x i = ⊤ ∨ x i = ⊥ := by
  classical
  by_cases h : ∃ i, x i = ⊤ ∨ x i = ⊥
  · exact .inr h
  · push Not at h
    refine .inl ⟨fun i => (x i).toReal, fun i => (EReal.coe_toReal (h i).1 (h i).2).symm⟩

/-! ## The gradient of a root-mean-square norm, one row -/

/-- THE ROW OF THE NORM'S GRADIENT. `x` is the row, `d` the gradient before the norm's scale, both of `n` entries; the
    kernel's form on the left, the derivative's form on the right. Nothing is assumed finite: of an infinite entry of
    `x` the reciprocal root is zero and both sides are. -/
theorem rms_row {ι : Type*} [Fintype ι] (x d : ι → EReal) (n e : ℝ) (hn : 0 < n) (he : 0 < e) (i : ι) (s v : EReal)
    (hv : v = Ideal.div (∑ j, x j * x j) (n : EReal) + (e : EReal)) (hs : s = Ideal.rsqrt v) :
    s * (d i - x i * s * Ideal.div (∑ j, d j * (x j * s)) (n : EReal))
      = d i * s
        + x i * Ideal.div ((∑ j, x j * d j) * (((-(1 / 2) : ℝ) : EReal) * Ideal.div s v)) (n : EReal)
        + Ideal.div ((∑ j, x j * d j) * (((-(1 / 2) : ℝ) : EReal) * Ideal.div s v)) (n : EReal) * x i := by
  rcases all_coe_or x with ⟨r, hr⟩ | ⟨k, hk⟩
  · obtain rfl : x = fun j => (r j : EReal) := funext hr
    have hsum : (∑ j, (r j : EReal) * (r j : EReal)) = ((∑ j, r j * r j : ℝ) : EReal) := by
      rw [← sum_coe]; simp
    have hq : 0 ≤ ∑ j, r j * r j := Finset.sum_nonneg fun j _ => _root_.mul_self_nonneg (r j)
    obtain ⟨w, hw, rfl⟩ : ∃ w : ℝ, 0 < w ∧ v = (w : EReal) := by
      refine ⟨(∑ j, r j * r j) * (1 / n) + e, by positivity, ?_⟩
      rw [hv, hsum, Ideal.div_coe hn.ne', ← EReal.coe_mul, ← EReal.coe_add]
    obtain ⟨a, ha, rfl, haw⟩ : ∃ a : ℝ, 0 < a ∧ s = (a : EReal) ∧ a * a = w⁻¹ := by
      refine ⟨(Real.sqrt w)⁻¹, by positivity, ?_, ?_⟩
      · rw [hs]
        show (if w < 0 then (⊥ : EReal) else if w = 0 then ⊤ else ((Real.sqrt w)⁻¹ : ℝ)) = _
        rw [if_neg hw.not_gt, if_neg hw.ne']
      · rw [← mul_inv, Real.mul_self_sqrt hw.le]
    have hT : (∑ j, d j * ((r j : EReal) * (a : EReal))) = (a : EReal) * ∑ j, (r j : EReal) * d j := by
      rw [coe_mul_sum _ ha.le]
      exact Finset.sum_congr rfl fun j _ => by ac_rfl
    rw [hT]
    generalize (∑ j, (r j : EReal) * d j) = T
    have h1 : Ideal.div (a : EReal) (w : EReal) = ((a * w⁻¹ : ℝ) : EReal) := by
      rw [Ideal.div_coe hw.ne', ← EReal.coe_mul, one_div]
    rw [h1, Ideal.div_coe hn.ne', Ideal.div_coe hn.ne', coe_mul_sub ha.le]
    have e1 : (a : EReal) * ((r i : EReal) * (a : EReal) * ((a : EReal) * T * ((1 / n : ℝ) : EReal)))
        = T * ((a * r i * a * a * (1 / n) : ℝ) : EReal) := by
      push_cast; ac_rfl
    have e2 : (r i : EReal) * (T * (((-(1 / 2) : ℝ) : EReal) * ((a * w⁻¹ : ℝ) : EReal)) * ((1 / n : ℝ) : EReal))
        = T * ((r i * (-(1 / 2)) * (a * w⁻¹) * (1 / n) : ℝ) : EReal) := by
      push_cast; ac_rfl
    have e3 : T * (((-(1 / 2) : ℝ) : EReal) * ((a * w⁻¹ : ℝ) : EReal)) * ((1 / n : ℝ) : EReal) * (r i : EReal)
        = T * ((r i * (-(1 / 2)) * (a * w⁻¹) * (1 / n) : ℝ) : EReal) := by
      push_cast; ac_rfl
    rw [e1, e2, e3, add_assoc, mul_coe_add_self, mul_comm (a : EReal) (d i), sub_eq_add_neg, ← mul_neg, ← EReal.coe_neg]
    congr 3
    rw [← haw]; ring
  · have hvt : v = ⊤ := by
      rw [hv, sum_sq_eq_top x k hk, Ideal.div_coe hn.ne', EReal.top_mul_coe_of_pos (by positivity)]
      rfl
    have hs0 : s = 0 := by rw [hs, hvt]; rfl
    have hd : Ideal.div s v = 0 := by rw [hs0, hvt]; simp [Ideal.div]
    rw [hd, hs0]
    simp only [Ideal.div_coe hn.ne', zero_mul, mul_zero, add_zero]

/-! ## Two gradients that meet in one norm -/

/-- A real factor goes through a sum with a real summand. -/
theorem add_coe_mul_coe (A : EReal) (b y : ℝ) : (A + (b : EReal)) * (y : EReal) = A * (y : EReal) + (b : EReal) * (y : EReal) := by
  induction A using EReal.rec with
  | coe r => norm_cast; ring
  | top =>
    rw [EReal.top_add_coe]
    rcases lt_trichotomy y 0 with h | h | h
    · rw [EReal.top_mul_coe_of_neg h]; rfl
    · simp [h]
    · rw [EReal.top_mul_coe_of_pos h, ← EReal.coe_mul, EReal.top_add_coe]
  | bot =>
    rw [EReal.bot_add]
    rcases lt_trichotomy y 0 with h | h | h
    · rw [EReal.bot_mul_coe_of_neg h, ← EReal.coe_mul, EReal.top_add_coe]
    · simp [h]
    · rw [EReal.bot_mul_coe_of_pos h]; rfl

/-- Of two gradients of which one is finite the kernel's form of the norm's gradient is the sum of the two forms. -/
theorem rms_row_add {ι : Type*} [Fintype ι] (x A : ι → EReal) (b : ι → ℝ) (n e : ℝ) (hn : 0 < n) (he : 0 < e) (i : ι) (s v : EReal)
    (hv : v = Ideal.div (∑ j, x j * x j) (n : EReal) + (e : EReal)) (hs : s = Ideal.rsqrt v) :
    s * ((A i + (b i : EReal)) - x i * s * Ideal.div (∑ j, (A j + (b j : EReal)) * (x j * s)) (n : EReal))
      = s * (A i - x i * s * Ideal.div (∑ j, A j * (x j * s)) (n : EReal))
        + s * ((b i : EReal) - x i * s * Ideal.div (∑ j, (b j : EReal) * (x j * s)) (n : EReal)) := by
  rcases all_coe_or x with ⟨r, hr⟩ | ⟨k, hk⟩
  · obtain rfl : x = fun j => (r j : EReal) := funext hr
    have hsum : (∑ j, (r j : EReal) * (r j : EReal)) = ((∑ j, r j * r j : ℝ) : EReal) := by
      rw [← sum_coe]; simp
    have hq : 0 ≤ ∑ j, r j * r j := Finset.sum_nonneg fun j _ => _root_.mul_self_nonneg (r j)
    obtain ⟨w, hw, rfl⟩ : ∃ w : ℝ, 0 < w ∧ v = (w : EReal) := by
      refine ⟨(∑ j, r j * r j) * (1 / n) + e, by positivity, ?_⟩
      rw [hv, hsum, Ideal.div_coe hn.ne', ← EReal.coe_mul, ← EReal.coe_add]
    obtain ⟨a, rfl⟩ : ∃ a : ℝ, s = (a : EReal) := by
      refine ⟨(Real.sqrt w)⁻¹, ?_⟩
      rw [hs]
      show (if w < 0 then (⊥ : EReal) else if w = 0 then ⊤ else ((Real.sqrt w)⁻¹ : ℝ)) = _
      rw [if_neg hw.not_gt, if_neg hw.ne']
    have hx : ∀ j, (r j : EReal) * (a : EReal) = ((r j * a : ℝ) : EReal) := fun j => (EReal.coe_mul _ _).symm
    have hB : (∑ j, ((b j * (r j * a) : ℝ) : EReal)) = ((∑ j, b j * (r j * a) : ℝ) : EReal) := sum_coe _ _
    simp only [hx, add_coe_mul_coe, Finset.sum_add_distrib, hB, Ideal.div_coe hn.ne', ← EReal.coe_mul]
    generalize (∑ j, A j * ((r j * a : ℝ) : EReal)) * ((1 / n : ℝ) : EReal) = T
    generalize (∑ j, b j * (r j * a)) * (1 / n) = u
    rw [mul_comm ((r i * a : ℝ) : EReal), mul_comm ((r i * a : ℝ) : EReal), add_coe_mul_coe, ← EReal.coe_mul, mul_comm (r i * a) u]
    generalize T * ((r i * a : ℝ) : EReal) = U
    generalize u * (r i * a) = z
    have e1 : A i + (b i : EReal) - (U + (z : EReal)) = (A i - U) + ((b i - z : ℝ) : EReal) := by
      rw [sub_eq_add_neg, EReal.neg_add (.inr (EReal.coe_ne_top z)) (.inr (EReal.coe_ne_bot z)), EReal.coe_sub,
        sub_eq_add_neg, sub_eq_add_neg, sub_eq_add_neg, add_add_add_comm]
    rw [e1, mul_comm (a : EReal), add_coe_mul_coe, mul_comm _ (a : EReal), mul_comm _ (a : EReal), EReal.coe_sub]
  · have hvt : v = ⊤ := by
      rw [hv, sum_sq_eq_top x k hk, Ideal.div_coe hn.ne', EReal.top_mul_coe_of_pos (by positivity)]
      rfl
    have hs0 : s = 0 := by rw [hs, hvt]; rfl
    rw [hs0]
    simp only [zero_mul, add_zero]

/-! ## Constants -/

theorem ofBits_1024 : Ideal.ofBits .f32 0x44800000#32 = ((1024 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The small constant of the norm is a positive real. -/
theorem ofBits_eps : ∃ e : ℝ, 0 < e ∧ Ideal.ofBits .f32 0x358637BD#32 = (e : EReal) := by
  refine ⟨8796093 / 8796093022208, by norm_num, ?_⟩
  simp [Ideal.ofBits, Ideal.ieee]; rw [← EReal.coe_mul]; norm_num

/-! ## A sum taken block by block -/

/-- The next block of a sum over the first numbers. -/
theorem sum_range_block (f : ℕ → EReal) (b n : ℕ) :
    ∑ k ∈ Finset.range ((n + 1) * b), f k = ∑ k ∈ Finset.range (n * b), f k + ∑ r : Fin b, f (n * b + r.val) := by
  rw [Nat.succ_mul, Finset.sum_range_add, Finset.sum_range (fun x => f (n * b + x))]

end Cert.Math

end
-- ==== Proof.Val1a.lean ====
/- The value of the gradient of the memory attention: eight blocks of 512 rows for the gradient of the queries, and one block of
   keys and values summed up over them. Four heads of 64 columns lie in two pairs of 128 lanes; a head is cut out of its pair by a mask. -/
module

public import proofs.«01_k».proof.Defs
public import proofs.«01_k».proof.Proof.Gen.KernelIdeal.Value
public import proofs.«01_k».proof.Proof.Math
public import Idealize.ShloMosaic.Lib.Pointwise
public import Idealize.ShloMosaic.Lib.Pipeline.ReadBack

@[expose] public section

noncomputable section

namespace Cert.MemBwd

open Cert.KernelIdeal Cert.KernelIdeal.Gen Idealize.ShloMosaic Idealize.ShloMosaic.TcCoe Idealize.SL.Sem
open Idealize.ShloMosaic.Pipeline (Dat Window)

variable (m : (ℓ : Loc nD τ sig) → Buf (Elt Ideal) ℓ)

/-! ## One row of one head -/

/-- Lane `d` of half `b` of a pair of heads. -/
def lane (b : Fin 2) (d : Fin 64) : Fin 128 := ⟨64 * b.val + d.val, by omega⟩

/-- The softmax of a row of scores. -/
def prob (L : Fin 256 → EReal) (j : Fin 256) : EReal :=
  Ideal.div (Ideal.exp (L j - Finset.fold max ⊥ L Finset.univ))
    (∑ x, Ideal.exp (L x - Finset.fold max ⊥ L Finset.univ))

/-- The gradient of the scores' products, given that of the probabilities. -/
def dscore (L P : Fin 256 → EReal) (j : Fin 256) : EReal :=
  prob L j * (P j - ∑ x, P x * prob L x) * ((1 / 8 : ℝ) : EReal)

/-- The scores of row `r` of head `b` of a pair. -/
def lgt (q : Vec Ideal S512x128 .bf16) (k : Vec Ideal S256x128 .bf16) (b : Fin 2) (r : Fin 512) (j : Fin 256) : EReal :=
  (∑ d : Fin 64, (q (ix2 r (lane b d)) : EReal) * (k (ix2 j (lane b d)) : EReal)) * ((1 / 8 : ℝ) : EReal)

/-- The gradient of the probabilities of row `r` of head `b` of a pair. -/
def dpt (q : Vec Ideal S512x128 .bf16) (k : Vec Ideal S256x128 .bf16) (b : Fin 2) (r : Fin 512) (j : Fin 256) : EReal :=
  ∑ d : Fin 64, (q (ix2 r (lane b d)) : EReal) * (k (ix2 j (lane b d)) : EReal)

theorem ofBits_eighth : Ideal.ofBits .f32 0x3E000000#32 = ((1 / 8 : ℝ) : EReal) := by
  simp [Ideal.ofBits, Ideal.ieee]; rw [← EReal.coe_mul]; norm_num

theorem ofBits_bot : Ideal.ofBits .f32 0xFF800000#32 = ⊥ := by simp [Ideal.ofBits, Ideal.ieee]

theorem lt_lane (l : Fin 128) : IntOp.cmpi CmpIPredicate.slt (BitVec.ofNat 32 l.val) 64#32 = if l.val < 64 then 1#1 else 0#1 := by
  revert l; decide +kernel

theorem ge_lane (l : Fin 128) : IntOp.cmpi CmpIPredicate.sge (BitVec.ofNat 32 l.val) 64#32 = if l.val < 64 then 0#1 else 1#1 := by
  revert l; decide +kernel

theorem lt_lane0 (d : Fin 64) : IntOp.cmpi CmpIPredicate.slt (BitVec.ofNat 32 (lane 0 d).val) 64#32 = 1#1 := by
  rw [lt_lane, if_pos (by simp [lane])]

theorem lt_lane1 (d : Fin 64) : IntOp.cmpi CmpIPredicate.slt (BitVec.ofNat 32 (lane 1 d).val) 64#32 = 0#1 := by
  rw [lt_lane, if_neg (by simp [lane])]

theorem ge_lane0 (d : Fin 64) : IntOp.cmpi CmpIPredicate.sge (BitVec.ofNat 32 (lane 0 d).val) 64#32 = 0#1 := by
  rw [ge_lane, if_pos (by simp [lane])]

theorem ge_lane1 (d : Fin 64) : IntOp.cmpi CmpIPredicate.sge (BitVec.ofNat 32 (lane 1 d).val) 64#32 = 1#1 := by
  rw [ge_lane, if_neg (by simp [lane])]

theorem select_one {α : Type} (x y : α) : Scalar.select 1#1 x y = x := rfl

theorem select_zero {α : Type} (x y : α) : Scalar.select 0#1 x y = y := rfl

theorem sum_lanes (f : Fin 128 → EReal) : ∑ x, f x = (∑ d, f (lane 0 d)) + ∑ d, f (lane 1 d) := by
  rw [show (∑ x, f x) = ∑ x : Fin (64 + 64), f x from rfl, Fin.sum_univ_add]
  refine congrArg₂ _ (Finset.sum_congr rfl fun d _ => congrArg f (Fin.ext ?_)) (Finset.sum_congr rfl fun d _ => congrArg f (Fin.ext ?_))
  · simp [lane]
  · simp [lane, Nat.add_comm]

theorem sum_lo (f : Fin 128 → EReal) :
    ∑ x : Fin 128, Scalar.select (IntOp.cmpi CmpIPredicate.slt (BitVec.ofNat 32 x.val) 64#32) (f x) 0 = ∑ d, f (lane 0 d) := by
  rw [sum_lanes]
  simp only [lt_lane0, lt_lane1, select_one, select_zero, Finset.sum_const_zero, add_zero]

theorem sum_hi (f : Fin 128 → EReal) :
    ∑ x : Fin 128, Scalar.select (IntOp.cmpi CmpIPredicate.sge (BitVec.ofNat 32 x.val) 64#32) (f x) 0 = ∑ d, f (lane 1 d) := by
  rw [sum_lanes]
  simp only [ge_lane0, ge_lane1, select_one, select_zero, Finset.sum_const_zero, zero_add]

variable (q d : Vec Ideal S512x128 .bf16) (k v : Vec Ideal S256x128 .bf16) (r : Fin 512) (j : Fin 256)

theorem pay13_apply : k0_pay13 (k0_pay11 q k) (k0_pay12 q k) (ix2 r j) = prob (lgt q k 0 r) j := by
  pointwise [k0_pay13, k0_pay12, k0_pay11, k0_pay9, k0_pay2]
  simp only [sum_lo, ofBits_eighth, ofBits_bot]
  rfl

theorem pay20_apply : k0_pay20 k0_pay3 q k (ix2 r j) = prob (lgt q k 1 r) j := by
  pointwise [k0_pay20, k0_pay18, k0_pay3]
  simp only [sum_hi, ofBits_eighth, ofBits_bot]
  rfl

theorem pay32_apply : k0_pay32 k0_pay2 q k (ix2 r j) = prob (lgt q k 0 r) j := by
  pointwise [k0_pay32, k0_pay30, k0_pay2]
  simp only [sum_lo, ofBits_eighth, ofBits_bot]
  rfl

theorem pay40_apply : k0_pay40 (k0_pay39 k0_pay3 q k) (FloatOps.ofBits .f32 0x3E000000#32) (ix2 r j) = prob (lgt q k 1 r) j := by
  pointwise [k0_pay40, k0_pay39, k0_pay37, k0_pay3]
  simp only [sum_hi, ofBits_eighth, ofBits_bot]
  rfl

theorem pay14_apply : k0_pay14 v (k0_pay10 d) (k0_pay11 q k) (k0_pay12 q k) (ix2 r j) = dscore (lgt q k 0 r) (dpt d v 0 r) j := by
  have h := fun x => pay13_apply q k r x
  generalize k0_pay11 q k = v31 at h ⊢
  generalize k0_pay12 q k = v34 at h ⊢
  pointwise [k0_pay14, k0_pay10, k0_pay2]
  simp only [sum_lo, h, ofBits_eighth]
  rfl

theorem pay23_apply : k0_pay23 (k0_pay21 k0_pay3 q d k v) k0_pay22 (ix2 r j) = dscore (lgt q k 1 r) (dpt d v 1 r) j := by
  have h := fun x => pay20_apply q k r x
  unfold k0_pay21 k0_pay22
  generalize k0_pay20 k0_pay3 q k = v31 at h ⊢
  pointwise [k0_pay23, k0_pay19, k0_pay3]
  simp only [sum_hi, h, ofBits_eighth]
  rfl

theorem pay33_apply : k0_pay33 k0_pay2 q d k v (ix2 r j) = dscore (lgt q k 0 r) (dpt d v 0 r) j := by
  have h := fun x => pay32_apply q k r x
  unfold k0_pay33
  generalize k0_pay32 k0_pay2 q k = v31 at h ⊢
  pointwise [k0_pay31, k0_pay2]
  simp only [sum_lo, h, ofBits_eighth]
  rfl

theorem pay41_apply : k0_pay41 v (k0_pay38 k0_pay3 d) (k0_pay39 k0_pay3 q k) (FloatOps.ofBits .f32 0x3E000000#32) (ix2 r j)
    = dscore (lgt q k 1 r) (dpt d v 1 r) j := by
  have h := fun x => pay40_apply q k r x
  unfold k0_pay41
  generalize k0_pay40 (k0_pay39 k0_pay3 q k) (FloatOps.ofBits .f32 0x3E000000#32) = v31 at h ⊢
  pointwise [k0_pay38, k0_pay3]
  simp only [sum_hi, h, ofBits_eighth]
  rfl

/-! What a point writes for a pair of heads: the gradient of the queries … -/

theorem dq_pair0 (b : Fin 2) (e : Fin 64) :
    k0_pay24 k k0_pay5 (k0_pay15 k v k0_pay4 k0_pay6 (k0_pay10 d) (k0_pay11 q k) (k0_pay12 q k)) (k0_pay21 k0_pay3 q d k v)
        k0_pay22 (ix2 r (lane b e))
      = ∑ x, dscore (lgt q k b r) (dpt d v b r) x * k (ix2 x (lane b e)) := by
  have h0 := fun x => pay14_apply q d k v r x
  have h1 := fun x => pay23_apply q d k v r x
  unfold k0_pay24 k0_pay15
  generalize k0_pay14 v (k0_pay10 d) (k0_pay11 q k) (k0_pay12 q k) = s0 at h0 ⊢
  generalize k0_pay23 (k0_pay21 k0_pay3 q d k v) k0_pay22 = s1 at h1 ⊢
  pointwise [k0_pay4, k0_pay5, k0_pay6]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

theorem dq_pair1 (b : Fin 2) (e : Fin 64) :
    k0_pay42 k v k0_pay28 (k0_pay34 k0_pay2 q d k v k0_pay27 k0_pay29) (k0_pay38 k0_pay3 d) (k0_pay39 k0_pay3 q k)
        (FloatOps.ofBits .f32 0x3E000000#32) (ix2 r (lane b e))
      = ∑ x, dscore (lgt q k b r) (dpt d v b r) x * k (ix2 x (lane b e)) := by
  have h0 := fun x => pay33_apply q d k v r x
  have h1 := fun x => pay41_apply q d k v r x
  unfold k0_pay42 k0_pay34
  generalize k0_pay33 k0_pay2 q d k v = s0 at h0 ⊢
  generalize k0_pay41 v (k0_pay38 k0_pay3 d) (k0_pay39 k0_pay3 q k) (FloatOps.ofBits .f32 0x3E000000#32) = s1 at h1 ⊢
  pointwise [k0_pay27, k0_pay28, k0_pay29]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

/-! … of the keys … -/

theorem dk_pair0 (old : Vec Ideal S256x128 .f32) (b : Fin 2) (e : Fin 64) :
    k0_pay25 (k0_pay16 v k0_pay7 (k0_pay9 q) (k0_pay10 d) (k0_pay11 q k) (k0_pay12 q k)) (k0_pay18 k0_pay3 q)
        (k0_pay21 k0_pay3 q d k v) k0_pay22 old (ix2 j (lane b e))
      = old (ix2 j (lane b e)) + ∑ x, dscore (lgt q k b x) (dpt d v b x) j * q (ix2 x (lane b e)) := by
  have h0 := fun r => pay14_apply q d k v r j
  have h1 := fun r => pay23_apply q d k v r j
  unfold k0_pay25 k0_pay16
  generalize k0_pay14 v (k0_pay10 d) (k0_pay11 q k) (k0_pay12 q k) = s0 at h0 ⊢
  generalize k0_pay23 (k0_pay21 k0_pay3 q d k v) k0_pay22 = s1 at h1 ⊢
  pointwise [k0_pay9, k0_pay18, k0_pay7, k0_pay2, k0_pay3]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

theorem dk_pair1 (old : Vec Ideal S256x128 .f32) (b : Fin 2) (e : Fin 64) :
    k0_pay43 v (k0_pay35 k0_pay2 q d k v (FloatOps.ofBits .f32 0#32)) (k0_pay37 k0_pay3 q) (k0_pay38 k0_pay3 d) (k0_pay39 k0_pay3 q k)
        (FloatOps.ofBits .f32 0x3E000000#32) old (ix2 j (lane b e))
      = old (ix2 j (lane b e)) + ∑ x, dscore (lgt q k b x) (dpt d v b x) j * q (ix2 x (lane b e)) := by
  have h0 := fun r => pay33_apply q d k v r j
  have h1 := fun r => pay41_apply q d k v r j
  unfold k0_pay43 k0_pay35
  generalize k0_pay33 k0_pay2 q d k v = s0 at h0 ⊢
  generalize k0_pay41 v (k0_pay38 k0_pay3 d) (k0_pay39 k0_pay3 q k) (FloatOps.ofBits .f32 0x3E000000#32) = s1 at h1 ⊢
  pointwise [k0_pay30, k0_pay37, k0_pay2, k0_pay3]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

/-! … and of the values. -/

theorem dv_pair0 (old : Vec Ideal S256x128 .f32) (b : Fin 2) (e : Fin 64) :
    k0_pay26 (k0_pay17 k0_pay8 (k0_pay10 d) (k0_pay11 q k) (k0_pay12 q k)) (k0_pay19 k0_pay3 d) (k0_pay20 k0_pay3 q k) old
        (ix2 j (lane b e))
      = old (ix2 j (lane b e)) + ∑ x, prob (lgt q k b x) j * d (ix2 x (lane b e)) := by
  have h0 := fun r => pay13_apply q k r j
  have h1 := fun r => pay20_apply q k r j
  unfold k0_pay26 k0_pay17
  generalize k0_pay13 (k0_pay11 q k) (k0_pay12 q k) = s0 at h0 ⊢
  generalize k0_pay20 k0_pay3 q k = s1 at h1 ⊢
  pointwise [k0_pay10, k0_pay19, k0_pay8, k0_pay2, k0_pay3]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

theorem dv_pair1 (old : Vec Ideal S256x128 .f32) (b : Fin 2) (e : Fin 64) :
    k0_pay44 (k0_pay36 k0_pay2 q d k) (k0_pay38 k0_pay3 d) (k0_pay39 k0_pay3 q k) (FloatOps.ofBits .f32 0x3E000000#32) old
        (ix2 j (lane b e))
      = old (ix2 j (lane b e)) + ∑ x, prob (lgt q k b x) j * d (ix2 x (lane b e)) := by
  have h0 := fun r => pay32_apply q k r j
  have h1 := fun r => pay40_apply q k r j
  unfold k0_pay44 k0_pay36
  generalize k0_pay32 k0_pay2 q k = s0 at h0 ⊢
  generalize k0_pay40 (k0_pay39 k0_pay3 q k) (FloatOps.ofBits .f32 0x3E000000#32) = s1 at h1 ⊢
  pointwise [k0_pay31, k0_pay38, k0_pay2, k0_pay3]
  obtain rfl | rfl : b = 0 ∨ b = 1 := by omega
  · simp only [lt_lane0, ge_lane0, select_one, select_zero, Finset.sum_const_zero, add_zero, h0]
  · simp only [lt_lane1, ge_lane1, select_one, select_zero, Finset.sum_const_zero, zero_add, h1]

/-! ## The blocks -/

/-- Head `b` of pair `p`, among the four. -/
def head (p b : Fin 2) : Fin 4 := ⟨2 * p.val + b.val, by omega⟩

/-- Column `e` of head `h`, among the 256 columns of the heads; the same shifted by 256 or 768. -/
def col (h : Fin 4) (e : Fin 64) : Fin 256 := ⟨64 * h.val + e.val, by omega⟩
def kcol (h : Fin 4) (e : Fin 64) : Fin 512 := ⟨64 * h.val + e.val, by omega⟩
def vcol (h : Fin 4) (e : Fin 64) : Fin 512 := ⟨256 + (64 * h.val + e.val), by omega⟩
def qcol (h : Fin 4) (e : Fin 64) : Fin 1024 := ⟨768 + (64 * h.val + e.val), by omega⟩

/-- Row `r` of block `t`. -/
def row (t : Fin cfg0.N) (r : Fin 512) : Fin 4096 :=
  ⟨t.val * 512 + r.val, by have h : t.val < 8 := lt_of_lt_of_eq t.isLt N_0; omega⟩

theorem idx_facts : ∀ t : Fin cfg0.N, win0_0.index t 0 = t.val ∧ win0_0.index t 1 = 3 ∧ win0_1.index t 0 = 0
    ∧ win0_1.index t 1 = 0 ∧ win0_2.index t 0 = t.val ∧ win0_2.index t 1 = 3 ∧ win0_3.index t 0 = t.val
    ∧ win0_3.index t 1 = 0 ∧ win0_4.index t 0 = 0 ∧ win0_4.index t 1 = 0 :=
  (by decide +kernel : ∀ t : Fin grid0.N, win0_0.index t 0 = t.val ∧ win0_0.index t 1 = 3 ∧ win0_1.index t 0 = 0
    ∧ win0_1.index t 1 = 0 ∧ win0_2.index t 0 = t.val ∧ win0_2.index t 1 = 3 ∧ win0_3.index t 0 = t.val
    ∧ win0_3.index t 1 = 0 ∧ win0_4.index t 0 = 0 ∧ win0_4.index t 1 = 0)

theorem iblk0_apply (c : Dev nD) (t : Fin cfg0.N) (r : Fin 512) (h : Fin 4) (e : Fin 64) :
    iblk m c 0 t (ix2 r (col h e)) = m ((c : Thread nD τ).loc main_arg0) (ix2 (row t r) (qcol h e)) := by
  obtain ⟨h0, h1, -⟩ := idx_facts t
  show m ((c : Thread nD τ).loc main_arg0) ((win0_0.rect t).emb (ix2 r (col h e))) = _
  refine congrArg _ (Shape.idx_ext₂ ?_ ?_)
  · rw [win0_0.rect_emb_val, h0]; rfl
  · rw [win0_0.rect_emb_val, h1]; rfl

theorem iblk1_apply (c : Dev nD) (t : Fin cfg0.N) (j : Fin 256) (k : Fin 512) :
    iblk m c 1 t (ix2 j k) = m ((c : Thread nD τ).loc main_arg1) (ix2 j k) := by
  obtain ⟨-, -, h0, h1, -⟩ := idx_facts t
  show m ((c : Thread nD τ).loc main_arg1) ((win0_1.rect t).emb (ix2 j k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (r : Fin 512) (h : Fin 4) (e : Fin 64) :
    iblk m c 2 t (ix2 r (col h e)) = m ((c : Thread nD τ).loc main_arg2) (ix2 (row t r) (qcol h e)) := by
  obtain ⟨-, -, -, -, h0, h1, -⟩ := idx_facts t
  show m ((c : Thread nD τ).loc main_arg2) ((win0_2.rect t).emb (ix2 r (col h e))) = _
  refine congrArg _ (Shape.idx_ext₂ ?_ ?_)
  · rw [win0_2.rect_emb_val, h0]; rfl
  · rw [win0_2.rect_emb_val, h1]; rfl

/-- A load of 128 columns, one entry. -/
theorem ld_cols {n k : ℕ} {φ : EltTy} (X : (⟨2, ![n, k]⟩ : Shape).Idx → Elt Ideal φ) (o : ℕ)
    (inb : ∀ a, (![0, o] : Fin 2 → ℕ) a + (⟨2, ![n, 128]⟩ : Shape).size a ≤ (⟨2, ![n, k]⟩ : Shape).size a) (r : Fin n) (l : Fin 128)
    (z : Fin k) (hz : z.val = o + l.val) :
    View.ld X (Rect.unit (s := ⟨2, ![n, k]⟩) ![0, o] (⟨2, ![n, 128]⟩ : Shape).size inb) (ix2 r l) = X (ix2 r z) := by
  refine congrArg X (Shape.idx_ext₂ ?_ ?_)
  · show 0 + 1 * r.val = r.val; omega
  · show o + 1 * l.val = z.val; omega

/-- A list of stores of 128 columns each, read where the last one stored … -/
theorem canon_hit {n k : ℕ} {φ : EltTy} (o : ℕ)
    (inb : ∀ a, (![0, o] : Fin 2 → ℕ) a + (⟨2, ![n, 128]⟩ : Shape).size a ≤ (⟨2, ![n, k]⟩ : Shape).size a)
    (w : (⟨2, ![n, 128]⟩ : Shape).Idx → Elt Ideal φ) (L : List (View.Piece (Elt Ideal) (⟨2, ![n, k]⟩ : Shape) φ)) (r : Fin n) (l : Fin 128)
    (z : Fin k) (hz : z.val = o + l.val) :
    View.canon (⟨Rect.unit (s := ⟨2, ![n, k]⟩) ![0, o] (⟨2, ![n, 128]⟩ : Shape).size inb, w⟩ :: L) (ix2 r z) = w (ix2 r l) := by
  rw [← View.canon_cons_emb (Rect.unit (s := ⟨2, ![n, k]⟩) ![0, o] (⟨2, ![n, 128]⟩ : Shape).size inb) w L (ix2 r l)]
  refine congrArg _ (Shape.idx_ext₂ ?_ ?_)
  · show r.val = 0 + 1 * r.val; omega
  · show z.val = o + 1 * l.val; omega

/-- … and where it did not. -/
theorem canon_miss {n k : ℕ} {φ : EltTy} (o : ℕ)
    (inb : ∀ a, (![0, o] : Fin 2 → ℕ) a + (⟨2, ![n, 128]⟩ : Shape).size a ≤ (⟨2, ![n, k]⟩ : Shape).size a)
    (w : (⟨2, ![n, 128]⟩ : Shape).Idx → Elt Ideal φ) (L : List (View.Piece (Elt Ideal) (⟨2, ![n, k]⟩ : Shape) φ)) (r : Fin n)
    (z : Fin k) (hz : z.val < o ∨ o + 128 ≤ z.val) :
    View.canon (⟨Rect.unit (s := ⟨2, ![n, k]⟩) ![0, o] (⟨2, ![n, 128]⟩ : Shape).size inb, w⟩ :: L) (ix2 r z) = View.canon L (ix2 r z) := by
  refine View.canon_cons_of_not_mem _ L ?_
  rw [Rect.mem_set_unit]
  intro h
  have h1 : o ≤ z.val ∧ z.val < o + 128 := h 1
  omega

/-- The three arrays. -/
abbrev Arr (s : Shape) := (⟨s, .bf16⟩ : BufTy).Contents (Elt Ideal)

/-- The scores of row `R` of head `h`, and the gradient of its probabilities. -/
def score (x0 : Arr S4096x1024) (x1 : Arr S256x512) (h : Fin 4) (R : Fin 4096) (j : Fin 256) : EReal :=
  (∑ e : Fin 64, (x0 (ix2 R (qcol h e)) : EReal) * (x1 (ix2 j (kcol h e)) : EReal)) * ((1 / 8 : ℝ) : EReal)

def dprob (x2 : Arr S4096x1024) (x1 : Arr S256x512) (h : Fin 4) (R : Fin 4096) (j : Fin 256) : EReal :=
  ∑ e : Fin 64, (x2 (ix2 R (qcol h e)) : EReal) * (x1 (ix2 j (vcol h e)) : EReal)

/-- The arguments on device `c`. -/
abbrev a0 (c : Dev nD) : Arr S4096x1024 := m ((c : Thread nD τ).loc main_arg0)
abbrev a1 (c : Dev nD) : Arr S256x512 := m ((c : Thread nD τ).loc main_arg1)
abbrev a2 (c : Dev nD) : Arr S4096x1024 := m ((c : Thread nD τ).loc main_arg2)

theorem lgt_eq (c : Dev nD) (t : Fin cfg0.N) (p b : Fin 2) (r : Fin 512) (q : Vec Ideal S512x128 .bf16) (k : Vec Ideal S256x128 .bf16)
    (hq : ∀ r b e, q (ix2 r (lane b e)) = a0 m c (ix2 (row t r) (qcol (head p b) e)))
    (hk : ∀ j b e, k (ix2 j (lane b e)) = a1 m c (ix2 j (kcol (head p b) e))) :
    lgt q k b r = score (a0 m c) (a1 m c) (head p b) (row t r) := by
  funext j
  unfold lgt score
  simp only [hq, hk]

theorem dpt_eq (c : Dev nD) (t : Fin cfg0.N) (p b : Fin 2) (r : Fin 512) (q : Vec Ideal S512x128 .bf16) (k : Vec Ideal S256x128 .bf16)
    (hq : ∀ r b e, q (ix2 r (lane b e)) = a2 m c (ix2 (row t r) (qcol (head p b) e)))
    (hk : ∀ j b e, k (ix2 j (lane b e)) = a1 m c (ix2 j (vcol (head p b) e))) :
    dpt q k b r = dprob (a2 m c) (a1 m c) (head p b) (row t r) := by
  funext j
  unfold dpt dprob
  simp only [hq, hk]

theorem ld_q (c : Dev nD) (t : Fin cfg0.N) (p : Fin 2) (o : ℕ) (ho : o = 128 * p.val) (inb) (r : Fin 512) (b : Fin 2) (e : Fin 64) :
    View.ld (iblk m c 0 t) (Rect.unit (s := S512x256) ![0, o] S512x128.size inb) (ix2 r (lane b e))
      = a0 m c (ix2 (row t r) (qcol (head p b) e)) :=
  (ld_cols (n := 512) (k := 256) (φ := .bf16) (iblk m c 0 t) o inb r (lane b e) (col (head p b) e)
    (by subst ho; simp only [col, head, lane]; omega)).trans (iblk0_apply m c t r _ e)

theorem ld_d (c : Dev nD) (t : Fin cfg0.N) (p : Fin 2) (o : ℕ) (ho : o = 128 * p.val) (inb) (r : Fin 512) (b : Fin 2) (e : Fin 64) :
    View.ld (iblk m c 2 t) (Rect.unit (s := S512x256) ![0, o] S512x128.size inb) (ix2 r (lane b e))
      = a2 m c (ix2 (row t r) (qcol (head p b) e)) :=
  (ld_cols (n := 512) (k := 256) (φ := .bf16) (iblk m c 2 t) o inb r (lane b e) (col (head p b) e)
    (by subst ho; simp only [col, head, lane]; omega)).trans (iblk2_apply m c t r _ e)

theorem ld_k (c : Dev nD) (t : Fin cfg0.N) (p : Fin 2) (o : ℕ) (ho : o = 128 * p.val) (inb) (j : Fin 256) (b : Fin 2) (e : Fin 64) :
    View.ld (iblk m c 1 t) (Rect.unit (s := S256x512) ![0, o] S256x128.size inb) (ix2 j (lane b e))
      = a1 m c (ix2 j (kcol (head p b) e)) :=
  (ld_cols (n := 256) (k := 512) (φ := .bf16) (iblk m c 1 t) o inb j (lane b e) (kcol (head p b) e)
    (by subst ho; simp only [kcol, head, lane]; omega)).trans (iblk1_apply m c t j _)

theorem ld_v (c : Dev nD) (t : Fin cfg0.N) (p : Fin 2) (o : ℕ) (ho : o = 256 + 128 * p.val) (inb) (j : Fin 256) (b : Fin 2) (e : Fin 64) :
    View.ld (iblk m c 1 t) (Rect.unit (s := S256x512) ![0, o] S256x128.size inb) (ix2 j (lane b e))
      = a1 m c (ix2 j (vcol (head p b) e)) :=
  (ld_cols (n := 256) (k := 512) (φ := .bf16) (iblk m c 1 t) o inb j (lane b e) (vcol (head p b) e)
    (by subst ho; simp only [vcol, head, lane]; omega)).trans (iblk1_apply m c t j _)

/-- The gradient of the scores' products. -/
def ds (c : Dev nD) (h : Fin 4) (R : Fin 4096) (j : Fin 256) : EReal :=
  dscore (score (a0 m c) (a1 m c) h R) (dprob (a2 m c) (a1 m c) h R) j

/-- What a point leaves of the gradient of the queries. -/
theorem outs_dq (c : Dev nD) (t : Fin cfg0.N) (r : Fin 512) (p b : Fin 2) (e : Fin 64) :
    (outsAt0 m c t.val t.isLt).1 (ix2 r (col (head p b) e))
      = ∑ x, ds m c (head p b) (row t r) x * a1 m c (ix2 x (kcol (head p b) e)) := by
  have key : ∀ (q d : Vec Ideal S512x128 .bf16) (k v : Vec Ideal S256x128 .bf16)
    (hq : ∀ r b e, q (ix2 r (lane b e)) = a0 m c (ix2 (row t r) (qcol (head p b) e)))
    (hd : ∀ r b e, d (ix2 r (lane b e)) = a2 m c (ix2 (row t r) (qcol (head p b) e)))
    (hk : ∀ j b e, k (ix2 j (lane b e)) = a1 m c (ix2 j (kcol (head p b) e)))
    (hv : ∀ j b e, v (ix2 j (lane b e)) = a1 m c (ix2 j (vcol (head p b) e))),
      ∑ x, dscore (lgt q k b r) (dpt d v b r) x * k (ix2 x (lane b e))
        = ∑ x, ds m c (head p b) (row t r) x * a1 m c (ix2 x (kcol (head p b) e)) := by
    intro q d k v hq hd hk hv
    simp only [lgt_eq m c t p b r q k hq hk, dpt_eq m c t p b r d v hd hv, hk]
    rfl
  by_cases h0 : t.val % 8 = 0
  · rw [outsAt0_A m c t h0]
    dsimp only
    unfold out0_A_3
    refine (congrFun (View.read_writes_eq_canon _ _ _ fun y => cover0_A_3 ..) _).trans ?_
    unfold kernelRun0_A
    dsimp only
    sl_unfold_words
    simp only [View.readAt_eq_ld, (hs0_0 t).read_unread, (hs0_1 t).read_unread, (hs0_2 t).read_unread]
    obtain rfl | rfl : p = 0 ∨ p = 1 := by omega
    · refine (canon_miss (n := 512) (k := 256) (φ := .bf16) 128 _ _ _ r _ (.inl (by simp only [col, head]; omega))).trans ?_
      refine (canon_hit (n := 512) (k := 256) (φ := .bf16) 0 _ _ _ r (lane b e) _ (by simp only [col, head, lane]; omega)).trans ?_
      exact (dq_pair0 _ _ _ _ r b e).trans (key _ _ _ _ (ld_q m c t 0 0 rfl _) (ld_d m c t 0 0 rfl _) (ld_k m c t 0 0 rfl _) (ld_v m c t 0 256 rfl _))
    · refine (canon_hit (n := 512) (k := 256) (φ := .bf16) 128 _ _ _ r (lane b e) _ (by simp only [col, head, lane]; omega)).trans ?_
      exact (dq_pair1 _ _ _ _ r b e).trans (key _ _ _ _ (ld_q m c t 1 128 rfl _) (ld_d m c t 1 128 rfl _) (ld_k m c t 1 128 rfl _) (ld_v m c t 1 384 rfl _))
  · rw [outsAt0_B m c t h0]
    dsimp only
    unfold out0_B_3
    refine (congrFun (View.read_writes_eq_canon _ _ _ fun y => cover0_B_3 ..) _).trans ?_
    unfold kernelRun0_B
    dsimp only
    sl_unfold_words
    simp only [View.readAt_eq_ld, (hs0_0 t).read_unread, (hs0_1 t).read_unread, (hs0_2 t).read_unread, (hs0_4 t).read_unread]
    obtain rfl | rfl : p = 0 ∨ p = 1 := by omega
    · refine (canon_miss (n := 512) (k := 256) (φ := .bf16) 128 _ _ _ r _ (.inl (by simp only [col, head]; omega))).trans ?_
      refine (canon_hit (n := 512) (k := 256) (φ := .bf16) 0 _ _ _ r (lane b e) _ (by simp only [col, head, lane]; omega)).trans ?_
      exact (dq_pair0 _ _ _ _ r b e).trans (key _ _ _ _ (ld_q m c t 0 0 rfl _) (ld_d m c t 0 0 rfl _) (ld_k m c t 0 0 rfl _) (ld_v m c t 0 256 rfl _))
    · refine (canon_hit (n := 512) (k := 256) (φ := .bf16) 128 _ _ _ r (lane b e) _ (by simp only [col, head, lane]; omega)).trans ?_
      exact (dq_pair1 _ _ _ _ r b e).trans (key _ _ _ _ (ld_q m c t 1 128 rfl _) (ld_d m c t 1 128 rfl _) (ld_k m c t 1 128 rfl _) (ld_v m c t 1 384 rfl _))

/-! ## The gradient of the keys and values, summed up over the blocks -/

theorem zero_block (x : S256x512.Idx) : (k0_pay1 (F := Ideal)) x = (0 : EReal) := by
  pointwise [k0_pay1]

section Key
variable (c : Dev nD) (t : Fin cfg0.N) (p b : Fin 2) (e : Fin 64) (j : Fin 256)

theorem key_dk (q d : Vec Ideal S512x128 .bf16) (k v : Vec Ideal S256x128 .bf16)
    (hq : ∀ r b e, q (ix2 r (lane b e)) = a0 m c (ix2 (row t r) (qcol (head p b) e)))
    (hd : ∀ r b e, d (ix2 r (lane b e)) = a2 m c (ix2 (row t r) (qcol (head p b) e)))
    (hk : ∀ j b e, k (ix2 j (lane b e)) = a1 m c (ix2 j (kcol (head p b) e)))
    (hv : ∀ j b e, v (ix2 j (lane b e)) = a1 m c (ix2 j (vcol (head p b) e))) :
    ∑ x, dscore (lgt q k b x) (dpt d v b x) j * q (ix2 x (lane b e))
      = ∑ x, ds m c (head p b) (row t x) j * a0 m c (ix2 (row t x) (qcol (head p b) e)) := by
  refine Finset.sum_congr rfl fun x _ => ?_
  rw [lgt_eq m c t p b x q k hq hk, dpt_eq m c t p b x d v hd hv, hq]
  rfl

theorem key_dv (q d : Vec Ideal S512x128 .bf16) (k : Vec Ideal S256x128 .bf16)
    (hq : ∀ r b e, q (ix2 r (lane b e)) = a0 m c (ix2 (row t r) (qcol (head p b) e)))
    (hd : ∀ r b e, d (ix2 r (lane b e)) = a2 m c (ix2 (row t r) (qcol (head p b) e)))
    (hk : ∀ j b e, k (ix2 j (lane b e)) = a1 m c (ix2 j (kcol (head p b) e))) :
    ∑ x, prob (lgt q k b x) j * d (ix2 x (lane b e))
      = ∑ x, prob (score (a0 m c) (a1 m c) (head p b) (row t x)) j * a2 m c (ix2 (row t x) (qcol (head p b) e)) := by
  refine Finset.sum_congr rfl fun x _ => ?_
  rw [lgt_eq m c t p b x q k hq hk, hd]

end Key

theorem outs_dk_first (c : Dev nD) (t : Fin cfg0.N) (h0 : t.val % 8 = 0) (j : Fin 256) (p b : Fin 2) (e : Fin 64) :
    (outsAt0 m c t.val t.isLt).2 (ix2 j (kcol (head p b) e))
      = 0 + ∑ x, ds m c (head p b) (row t x) j * a0 m c (ix2 (row t x) (qcol (head p b) e)) := by
  rw [outsAt0_A m c t h0]
  dsimp only
  unfold out0_A_4
  refine (congrFun (View.read_writes_eq_canon _ _ _ fun y => cover0_A_4 ..) _).trans ?_
  unfold kernelRun0_A
  dsimp only
  sl_unfold_words
  simp only [View.readAt_eq_ld, (hs0_0 t).read_unread, (hs0_1 t).read_unread, (hs0_2 t).read_unread]
  obtain rfl | rfl : p = 0 ∨ p = 1 := by omega
  · refine (canon_miss (n := 256) (k := 512) (φ := .f32) 384 _ _ _ j _ (by simp only [kcol, head]; omega)).trans ?_
    refine (canon_miss (n := 256) (k := 512) (φ := .f32) 128 _ _ _ j _ (by simp only [kcol, head]; omega)).trans ?_
    refine (canon_miss (n := 256) (k := 512) (φ := .f32) 256 _ _ _ j _ (by simp only [kcol, head]; omega)).trans ?_
    refine (canon_hit (n := 256) (k := 512) (φ := .f32) 0 _ _ _ j (lane b e) _ (by simp only [kcol, head, lane]; omega)).trans ?_
    refine (dk_pair0 _ _ _ _ j _ b e).trans (congrArg₂ (· + ·) ?_ (key_dk m c t _ b e j _ _ _ _ (ld_q m c t 0 0 rfl _) (ld_d m c t 0 0 rfl _) (ld_k m c t 0 0 rfl _) (ld_v m c t 0 256 rfl _)))
    exact (congrFun (View.readCov_fill (s := S256x512) _ _ _ _ _ (fun a => by fin_cases a <;> rfl)) _).trans (zero_block _)
  · refine (canon_miss (n := 256) (k := 512) (φ := .f32) 384 _ _ _ j _ (by simp only [kcol, head]; omega)).trans ?_
    refine (canon_hit (n := 256) (k := 512) (φ := .f32) 128 _ _ _ j (lane b e) _ (by simp only [kcol, head, lane]; omega)).trans ?_
    refine (dk_pair1 _ _ _ _ j _ b e).trans (congrArg₂ (· + ·) ?_ (key_dk m c t _ b e j _ _ _ _ (ld_q m c t 1 128 rfl _) (ld_d m c t 1 128 rfl _) (ld_k m c t 1 128 rfl _) (ld_v m c t 1 384 rfl _)))
    simp (disch := decide) only [View.readCov_skip]
    exact (congrFun (View.readCov_fill (s := S256x512) _ _ _ _ _ (fun a => by fin_cases a <;> rfl)) _).trans (zero_block _)

theorem outs_dv_first (c : Dev nD) (t : Fin cfg0.N) (h0 : t.val % 8 = 0) (j : Fin 256) (p b : Fin 2) (e : Fin 64) :
    (outsAt0 m c t.val t.isLt).2 (ix2 j (vcol (head p b) e))
      = 0 + ∑ x, prob (score (a0 m c) (a1 m c) (head p b) (row t x)) j * a2 m c (ix2 (row t x) (qcol (head p b) e)) := by
  rw [outsAt0_A m c t h0]
  dsimp only
  unfold out0_A_4
  refine (congrFun (View.read_writes_eq_canon _ _ _ fun y => cover0_A_4 ..) _).trans ?_
  unfold kernelRun0_A
  dsimp only
  sl_unfold_words
  simp only [View.readAt_eq_ld, (hs0_0 t).read_unread, (hs0_1 t).read_unread, (hs0_2 t).read_unread]
  obtain rfl | rfl : p = 0 ∨ p = 1 := by omega
  · refine (canon_miss (n := 256) (k := 512) (φ := .f32) 384 _ _ _ j _ (by simp only [vcol, head]; omega)).trans ?_
    refine (canon_miss (n := 256) (k := 512) (φ := .f32) 128 _ _ _ j _ (by simp only [vcol, head]; omega)).trans ?_
    refine (canon_hit (n := 256) (k := 512) (φ := .f32) 256 _ _ _ j (lane b e) _ (by simp only [vcol, head, lane]; omega)).trans ?_
    refine (dv_pair0 _ _ _ j _ b e).trans (congrArg₂ (· + ·) ?_ (key_dv m c t _ b e j _ _ _ (ld_q m c t 0 0 rfl _) (ld_d m c t 0 0 rfl _) (ld_k m c t 0 0 rfl _)))
    simp (disch := decide) only [View.readCov_skip]
    exact (congrFun (View.readCov_fill (s := S256x512) _ _ _ _ _ (fun a => by fin_cases a <;> rfl)) _).trans (zero_block _)
  · refine (canon_hit (n := 256) (k := 512) (φ := .f32) 384 _ _ _ j (lane b e) _ (by simp only [vcol, head, lane]; omega)).trans ?_
    refine (dv_pair1 _ _ _ j _ b e).trans (congrArg₂ (· + ·) ?_ (key_dv m c t _ b e j _ _ _ (ld_q m c t 1 128 rfl _) (ld_d m c t 1 128 rfl _) (ld_k m c t 1 128 rfl _)))
    simp (disch := decide) only [View.readCov_skip]
    exact (congrFun (View.readCov_fill (s := S256x512) _ _ _ _ _ (fun a => by fin_cases a <;> rfl)) _).trans (zero_block _)

theorem outs_dk_next (c : Dev nD) (t : Fin cfg0.N) (h0 : ¬ t.val % 8 = 0) (j : Fin 256) (p b : Fin 2) (e : Fin 64) :
    (outsAt0 m c t.val t.isLt).2 (ix2 j (kcol (head p b) e))
      = (outsAt0 m c (t.val - 1) (Nat.lt_of_le_of_lt (Nat.sub_le _ _) t.isLt)).2 (ix2 j (kcol (head p b) e))
        + ∑ x, ds m c (head p b) (row t x) j * a0 m c (ix2 (row t x) (qcol (head p b) e)) := by
  rw [outsAt0_B m c t h0]
  dsimp only
  unfold out0_B_4
  refine (congrFun (View.read_writes_eq_canon _ _ _ fun y => cover0_B_4 ..) _).trans ?_
  unfold kernelRun0_B
  dsimp only
  sl_unfold_words
  simp only [View.readAt_eq_ld, (hs0_0 t).read_unread, (hs0_1 t).read_unread, (hs0_2 t).read_unread, (hs0_4 t).read_unread]
  obtain rfl | rfl : p = 0 ∨ p = 1 := by omega
  · refine (canon_miss (n := 256) (k := 512) (φ := .f32) 384 _ _ _ j _ (by simp only [kcol, head]; omega)).trans ?_
    refine (canon_miss (n := 256) (k := 512) (φ := .f32) 128 _ _ _ j _ (by simp only [kcol, head]; omega)).trans ?_
    refine (canon_miss (n := 256) (k := 512) (φ := .f32) 256 _ _ _ j _ (by simp only [kcol, head]; omega)).trans ?_
    refine (canon_hit (n := 256) (k := 512) (φ := .f32) 0 _ _ _ j (lane b e) _ (by simp only [kcol, head, lane]; omega)).trans ?_
    refine (dk_pair0 _ _ _ _ j _ b e).trans (congrArg₂ (· + ·) ?_ (key_dk m c t _ b e j _ _ _ _ (ld_q m c t 0 0 rfl _) (ld_d m c t 0 0 rfl _) (ld_k m c t 0 0 rfl _) (ld_v m c t 0 256 rfl _)))
    exact ld_cols (n := 256) (k := 512) (φ := .f32) _ 0 _ j (lane b e) _ (by simp only [kcol, head, lane]; omega)
  · refine (canon_miss (n := 256) (k := 512) (φ := .f32) 384 _ _ _ j _ (by simp only [kcol, head]; omega)).trans ?_
    refine (canon_hit (n := 256) (k := 512) (φ := .f32) 128 _ _ _ j (lane b e) _ (by simp only [kcol, head, lane]; omega)).trans ?_
    refine (dk_pair1 _ _ _ _ j _ b e).trans (congrArg₂ (· + ·) ?_ (key_dk m c t _ b e j _ _ _ _ (ld_q m c t 1 128 rfl _) (ld_d m c t 1 128 rfl _) (ld_k m c t 1 128 rfl _) (ld_v m c t 1 384 rfl _)))
    exact ld_cols (n := 256) (k := 512) (φ := .f32) _ 128 _ j (lane b e) _ (by simp only [kcol, head, lane]; omega)

theorem outs_dv_next (c : Dev nD) (t : Fin cfg0.N) (h0 : ¬ t.val % 8 = 0) (j : Fin 256) (p b : Fin 2) (e : Fin 64) :
    (outsAt0 m c t.val t.isLt).2 (ix2 j (vcol (head p b) e))
      = (outsAt0 m c (t.val - 1) (Nat.lt_of_le_of_lt (Nat.sub_le _ _) t.isLt)).2 (ix2 j (vcol (head p b) e))
        + ∑ x, prob (score (a0 m c) (a1 m c) (head p b) (row t x)) j * a2 m c (ix2 (row t x) (qcol (head p b) e)) := by
  rw [outsAt0_B m c t h0]
  dsimp only
  unfold out0_B_4
  refine (congrFun (View.read_writes_eq_canon _ _ _ fun y => cover0_B_4 ..) _).trans ?_
  unfold kernelRun0_B
  dsimp only
  sl_unfold_words
  simp only [View.readAt_eq_ld, (hs0_0 t).read_unread, (hs0_1 t).read_unread, (hs0_2 t).read_unread, (hs0_4 t).read_unread]
  obtain rfl | rfl : p = 0 ∨ p = 1 := by omega
  · refine (canon_miss (n := 256) (k := 512) (φ := .f32) 384 _ _ _ j _ (by simp only [vcol, head]; omega)).trans ?_
    refine (canon_miss (n := 256) (k := 512) (φ := .f32) 128 _ _ _ j _ (by simp only [vcol, head]; omega)).trans ?_
    refine (canon_hit (n := 256) (k := 512) (φ := .f32) 256 _ _ _ j (lane b e) _ (by simp only [vcol, head, lane]; omega)).trans ?_
    refine (dv_pair0 _ _ _ j _ b e).trans (congrArg₂ (· + ·) ?_ (key_dv m c t _ b e j _ _ _ (ld_q m c t 0 0 rfl _) (ld_d m c t 0 0 rfl _) (ld_k m c t 0 0 rfl _)))
    exact ld_cols (n := 256) (k := 512) (φ := .f32) _ 256 _ j (lane b e) _ (by simp only [vcol, head, lane]; omega)
  · refine (canon_hit (n := 256) (k := 512) (φ := .f32) 384 _ _ _ j (lane b e) _ (by simp only [vcol, head, lane]; omega)).trans ?_
    refine (dv_pair1 _ _ _ j _ b e).trans (congrArg₂ (· + ·) ?_ (key_dv m c t _ b e j _ _ _ (ld_q m c t 1 128 rfl _) (ld_d m c t 1 128 rfl _) (ld_k m c t 1 128 rfl _)))
    exact ld_cols (n := 256) (k := 512) (φ := .f32) _ 384 _ j (lane b e) _ (by simp only [vcol, head, lane]; omega)

end Cert.MemBwd

end
-- ==== Proof.Val1.lean ====
/- The value of the gradient of the memory attention: the reference, entry by entry, and the claim. -/
module

public import proofs.«01_k».proof.Proof.Val1a
public import Idealize.ShloMosaic.Lib.KernelVsHost
public import proofs.«01_k».proof.Proof.Gen.ReferenceIdeal.Run
public import proofs.«01_k».proof.Proof.Gen.ReferenceIdeal.Read

@[expose] public section

noncomputable section

namespace Cert.MemBwd

open Cert.KernelIdeal Cert.KernelIdeal.Gen Idealize.ShloMosaic Idealize.ShloMosaic.TcCoe Idealize.SL.Sem
open Idealize.ShloMosaic.Pipeline (Dat Window)

variable (m : (ℓ : Loc nD τ sig) → Buf (Elt Ideal) ℓ)

/-! ## The reference, entry by entry -/

section Softmax

/-- The largest of finitely many numbers is one of them. -/
theorem fold_max_mem (L : Fin 256 → EReal) : ∀ s : Finset (Fin 256), s.Nonempty → ∃ i ∈ s, s.fold max ⊥ L = L i := by
  intro s hs
  induction hs using Finset.Nonempty.cons_induction with
  | singleton a => exact ⟨a, Finset.mem_singleton_self a, by rw [Finset.fold_singleton, max_bot_right]⟩
  | cons a s ha hs ih =>
    obtain ⟨i, hi, e⟩ := ih
    rw [Finset.fold_cons, e]
    rcases max_choice (L a) (L i) with h | h
    · exact ⟨a, Finset.mem_cons_self a s, h⟩
    · exact ⟨i, Finset.mem_cons_of_mem hi, h⟩

/-- The gradient of a softmax at finite scores: the two quotients the reference takes are the kernel's one. -/
theorem softmax_row (L P : Fin 256 → EReal) (hL : ∀ j, ∃ r : ℝ, L j = (r : EReal)) (M S : EReal) (E : Fin 256 → EReal)
    (hM : M = Finset.fold max ⊥ L Finset.univ) (hE : ∀ j, E j = Ideal.exp (L j - M)) (hS : S = ∑ x, E x) (j : Fin 256) :
    (Ideal.div (P j) S + -(∑ x, P x * Ideal.div 1 (S * S) * E x)) * E j * ((1 / 8 : ℝ) : EReal) = dscore L P j := by
  choose l hl using hL
  obtain ⟨i, -, hi⟩ := fold_max_mem L Finset.univ ⟨0, Finset.mem_univ _⟩
  have hM' : M = (l i : EReal) := by rw [hM, hi, hl]
  have hE' : ∀ j, E j = (Real.exp (l j - l i) : EReal) := fun j => by
    rw [hE, hM', hl, ← EReal.coe_sub, Ideal.exp_coe]
  set s : ℝ := ∑ x, Real.exp (l x - l i) with hs
  have hS' : S = (s : EReal) := by
    rw [hS, Finset.sum_congr rfl fun x _ => hE' x, Cert.Math.sum_coe]
  have hs0 : 0 < s := Finset.sum_pos (fun x _ => Real.exp_pos _) ⟨0, Finset.mem_univ _⟩
  have hp : ∀ j, prob L j = ((1 / s * Real.exp (l j - l i) : ℝ) : EReal) := fun j => by
    unfold prob
    rw [← hM, ← hE, Finset.sum_congr rfl fun x _ => (hE x).symm, ← hS, hS', hE', Ideal.div_coe hs0.ne', ← EReal.coe_mul, mul_comm]
  have hu : 0 ≤ 1 / s := by positivity
  have h1 : ∑ x, P x * Ideal.div 1 (S * S) * E x = ((1 / s : ℝ) : EReal) * ∑ x, P x * prob L x := by
    rw [Cert.Math.coe_mul_sum _ hu]
    refine Finset.sum_congr rfl fun x _ => ?_
    rw [hS', ← EReal.coe_mul, Ideal.div_coe (mul_ne_zero hs0.ne' hs0.ne'), one_mul, hE', mul_assoc, ← EReal.coe_mul, hp,
      mul_left_comm, ← EReal.coe_mul]
    congr 2
    field_simp
  have h2 : Ideal.div (P j) S = ((1 / s : ℝ) : EReal) * P j := by rw [hS', Ideal.div_coe hs0.ne', mul_comm]
  unfold dscore
  rw [h1, h2, ← sub_eq_add_neg, ← Cert.Math.coe_mul_sub hu, hE', hp, EReal.coe_mul,
    mul_right_comm ((1 / s : ℝ) : EReal) _ (Real.exp (l j - l i) : EReal)]

end Softmax

open Cert.ReferenceIdeal.Read

section Ref
variable (x0 x2 : Arr S4096x1024) (x1 : Arr S256x512)

theorem ref_q (R : Fin 4096) (h : Fin 4) (e : Fin 64) : val_main_v5 (F := Ideal) x0 (ix3 R h e) = x0 (ix2 R (qcol h e)) := by
  rw [val_main_v5_apply, val_main_v2_apply, val_main_v1_apply]
  refine congrArg x0 (Shape.idx_ext₂ ?_ ?_)
  · show ((R.val * 4 + h.val) * 64 + e.val) / 256 = R.val; omega
  · show 768 + ((R.val * 4 + h.val) * 64 + e.val) % 256 = 768 + (64 * h.val + e.val); omega

theorem ref_k (j : Fin 256) (h : Fin 4) (e : Fin 64) : val_main_v6 (F := Ideal) x1 (ix3 j h e) = x1 (ix2 j (kcol h e)) := by
  rw [val_main_v6_apply, val_main_v3_apply, val_main_v0_apply]
  refine congrArg x1 (Shape.idx_ext₂ ?_ ?_)
  · show ((j.val * 4 + h.val) * 64 + e.val) / 256 = j.val; omega
  · show ((j.val * 4 + h.val) * 64 + e.val) % 256 = 64 * h.val + e.val; omega

theorem ref_v (j : Fin 256) (h : Fin 4) (e : Fin 64) : val_main_v38 (F := Ideal) x1 (ix3 j h e) = x1 (ix2 j (vcol h e)) := by
  rw [val_main_v38_apply, val_main_v4_apply, val_main_v0_apply]
  refine congrArg x1 (Shape.idx_ext₂ ?_ ?_)
  · show ((j.val * 4 + h.val) * 64 + e.val) / 256 = j.val; omega
  · show 256 + ((j.val * 4 + h.val) * 64 + e.val) % 256 = 256 + (64 * h.val + e.val); omega

theorem ref_d (h : Fin 4) (e : Fin 64) (R : Fin 4096) : val_main_v45 (F := Ideal) x2 (ix3 h e R) = x2 (ix2 R (qcol h e)) := by
  rw [val_main_v45_apply, val_main_v44_apply, val_main_v43_apply, val_main_v42_apply]
  refine congrArg x2 (Shape.idx_ext₂ ?_ ?_)
  · show ((R.val * 4 + h.val) * 64 + e.val) / 256 = R.val; omega
  · show 768 + ((R.val * 4 + h.val) * 64 + e.val) % 256 = 768 + (64 * h.val + e.val); omega

theorem ref_score (h : Fin 4) (R : Fin 4096) (j : Fin 256) :
    val_main_v9 (F := Ideal) x0 x1 (ix3 h R j) = score x0 x1 h R j := by
  have h7 : val_main_v7 (F := Ideal) x0 x1 (ix3 h R j) = ∑ e : Fin 64, x0 (ix2 R (qcol h e)) * x1 (ix2 j (kcol h e)) := by
    rw [val_main_v7_apply]
    exact Finset.sum_congr rfl fun e _ => congrArg₂ (· * ·) (ref_q x0 R h e) (ref_k x1 j h e)
  pointwise [val_main_v9, val_main_v8, val_main_cst]
  rw [h7, ofBits_eighth]
  rfl

/-- A largest value over one axis, the host's reduction read as a fold. -/
theorem host_max {s t u : Shape} {a : Fin s.rank} (x : FVec Ideal s .f32) (h : s.ReducesTo [a] t) (hu : 0 < u.numel)
    (hr : s.Reduces [a] t) (j : t.Idx) :
    Host.reduce FloatOps.maximumf x (constant u .f32 0xFF800000#32) h hu j
      = (Finset.univ : Finset (Fin (s.size a))).fold max (Ideal.ofBits .f32 0xFF800000#32) (x ∘ hr.lift j) :=
  (congrFun (hostReduce_maximumf_eq_multiReduction x 0xFF800000#32 h hu hr (.inl rfl) rfl) j).trans
    (Ideal.multiReduction_maximumf_single x 0xFF800000#32 hr (.inl rfl) rfl j)

theorem ref_max (h : Fin 4) (R : Fin 4096) :
    val_main_v17 (F := Ideal) x0 x1 (ix2 h R) = Finset.fold max ⊥ (score x0 x1 h R) Finset.univ := by
  have hs := fun x => ref_score x0 x1 h R x
  have hr : Cert.ReferenceIdeal.S4x4096x256.Reduces [2] Cert.ReferenceIdeal.S4x4096 := by decide
  have e : val_main_v10 (F := Ideal) x0 x1 (ix2 h R) = Finset.fold max ⊥ (score x0 x1 h R) Finset.univ := by
    unfold val_main_v10 val_main_cst_0
    rw [host_max _ _ _ hr]
    refine (congrArg (fun z => Finset.fold max z _ Finset.univ) ofBits_bot).trans (Finset.fold_congr fun x _ => ?_)
    rw [← hs x]
    refine congrArg (val_main_v9 (F := Ideal) x0 x1) (funext fun c => ?_)
    match c with
    | ⟨0, _⟩ => rfl
    | ⟨1, _⟩ => rfl
    | ⟨2, _⟩ => rfl
  rw [val_main_v17_apply, e, val_main_v16_apply, val_main_cst_2_apply]
  show max (Ideal.ofBits .f32 0xFF800000#32) _ = _
  rw [ofBits_bot, max_bot_left]

theorem ref_exp (h : Fin 4) (R : Fin 4096) (j : Fin 256) : val_main_v30 (F := Ideal) x0 x1 (ix3 h R j)
    = Ideal.exp (score x0 x1 h R j - val_main_v17 (F := Ideal) x0 x1 (ix2 h R)) := by
  rw [← ref_score]
  pointwise [val_main_v30, val_main_v29, val_main_v28, val_main_v27]

theorem ref_sum (h : Fin 4) (R : Fin 4096) : val_main_v31 (F := Ideal) x0 x1 (ix2 h R)
    = ∑ x, val_main_v30 (F := Ideal) x0 x1 (ix3 h R x) := by
  pointwise [val_main_v31, val_main_cst_8]

theorem ref_prob (h : Fin 4) (R : Fin 4096) (j : Fin 256) :
    val_main_v34 (F := Ideal) x0 x1 (ix3 h R j) = prob (score x0 x1 h R) j := by
  have e : val_main_v34 (F := Ideal) x0 x1 (ix3 h R j)
      = Ideal.div (val_main_v30 (F := Ideal) x0 x1 (ix3 h R j)) (val_main_v31 (F := Ideal) x0 x1 (ix2 h R)) := by
    pointwise [val_main_v34, val_main_v33, val_main_v32]
  rw [e, ref_sum]
  simp only [ref_exp, ref_max]
  rfl

theorem ref_dprob (h : Fin 4) (R : Fin 4096) (j : Fin 256) :
    val_main_v46 (F := Ideal) x1 x2 (ix3 h R j) = dprob x2 x1 h R j := by
  rw [val_main_v46_apply]
  exact Finset.sum_congr rfl fun e _ => congrArg₂ (· * ·) (ref_d x2 h e R) (ref_v x1 j h e)

theorem ref_ds (h : Fin 4) (R : Fin 4096) (j : Fin 256) (hL : ∀ j, ∃ r : ℝ, score x0 x1 h R j = (r : EReal)) :
    val_main_v63 (F := Ideal) x0 x1 x2 (ix3 h R j) = dscore (score x0 x1 h R) (dprob x2 x1 h R) j := by
  rw [← softmax_row _ _ hL _ _ (fun x => val_main_v30 (F := Ideal) x0 x1 (ix3 h R x)) (ref_max x0 x1 h R) (ref_exp x0 x1 h R) (ref_sum x0 x1 h R) j]
  have hd := fun x => ref_dprob x2 x1 h R x
  unfold val_main_v63 val_main_v61 val_main_v60 val_main_v59 val_main_v58 val_main_v57 val_main_v56 val_main_v55 val_main_v54 val_main_v53 val_main_v52 val_main_v51 val_main_v50 val_main_v37 val_main_v35 val_main_v32
  generalize val_main_v46 (F := Ideal) x1 x2 = y at hd ⊢
  generalize val_main_v31 (F := Ideal) x0 x1 = S
  generalize val_main_v30 (F := Ideal) x0 x1 = E
  pointwise [val_main_v62, val_main_cst_12, val_main_cst_11, val_main_cst_10, val_main_v36, val_main_cst_9]
  simp only [hd, Fin.sum_univ_one, ofBits_eighth]

end Ref

/-! ## The finite scores -/

/-- Every query and key on device `c` is finite. -/
structure Finite (c : Dev nD) : Prop where
  hq : ∀ R h e, ∃ x : ℝ, a0 m c (ix2 R (qcol h e)) = (x : EReal)
  hk : ∀ j h e, ∃ x : ℝ, a1 m c (ix2 j (kcol h e)) = (x : EReal)

theorem score_real (c : Dev nD) (hf : Finite m c) (h : Fin 4) (R : Fin 4096) (j : Fin 256) :
    ∃ x : ℝ, score (a0 m c) (a1 m c) h R j = (x : EReal) := by
  choose q hq using hf.hq
  choose k hk using hf.hk
  refine ⟨(∑ e : Fin 64, q R h e * k j h e) * (1 / 8), ?_⟩
  unfold score
  simp only [hq, hk]
  rw [EReal.coe_mul, ← Cert.Math.sum_coe]
  simp only [EReal.coe_mul]

/-! ## The arrays the kernel leaves -/

/-- Two indices of equal coordinates. -/
theorem ext3 {n k l : ℕ} {x y : (⟨3, ![n, k, l]⟩ : Shape).Idx} (h0 : (x 0).val = (y 0).val) (h1 : (x 1).val = (y 1).val)
    (h2 : (x 2).val = (y 2).val) : x = y := by
  funext z
  match z with
  | ⟨0, _⟩ => exact Fin.ext h0
  | ⟨1, _⟩ => exact Fin.ext h1
  | ⟨2, _⟩ => exact Fin.ext h2

/-- The reference's gradients. -/
def G3 (c : Dev nD) : S4096x256.Idx → EReal := val_main_v70 (F := Ideal) (a0 m c) (a1 m c) (a2 m c)
def G4 (c : Dev nD) : S256x512.Idx → EReal := val_main_v71 (F := Ideal) (a0 m c) (a1 m c) (a2 m c)

theorem ref_dq (c : Dev nD) (hf : Finite m c) (R : Fin 4096) (h : Fin 4) (e : Fin 64) :
    G3 m c (ix2 R (col h e)) = ∑ x, ds m c h R x * a1 m c (ix2 x (kcol h e)) := by
  have e1 : G3 m c (ix2 R (col h e)) = val_main_v66 (F := Ideal) (a0 m c) (a1 m c) (a2 m c) (ix3 h R e) := by
    unfold G3
    rw [val_main_v70_apply]
    show val_main_v69 (F := Ideal) (a0 m c) (a1 m c) (a2 m c) (ix2 R (col h e)) = _
    rw [val_main_v69_apply, val_main_v67_apply]
    refine congrArg _ (ext3 ?_ ?_ ?_)
    · show (R.val * 256 + (64 * h.val + e.val)) / 64 % 4 = h.val; omega
    · show (R.val * 256 + (64 * h.val + e.val)) / 256 = R.val; omega
    · show (R.val * 256 + (64 * h.val + e.val)) % 64 = e.val; omega
  rw [e1, val_main_v66_apply]
  refine Finset.sum_congr rfl fun x _ => ?_
  rw [show lidx_main_v66 (ix3 h R e) x = ix3 h R x from ext3 rfl rfl rfl,
    show ridx_main_v66 (ix3 h R e) x = ix3 x h e from ext3 rfl rfl rfl, ref_ds _ _ _ _ _ _ (score_real m c hf h R), ref_k]
  rfl

theorem ref_dk (c : Dev nD) (hf : Finite m c) (j : Fin 256) (h : Fin 4) (e : Fin 64) :
    G4 m c (ix2 j (kcol h e)) = ∑ R, ds m c h R j * a0 m c (ix2 R (qcol h e)) := by
  have e1 : G4 m c (ix2 j (kcol h e)) = val_main_v64 (F := Ideal) (a0 m c) (a1 m c) (a2 m c) (ix3 h j e) := by
    unfold G4 val_main_v71
    refine (concatenate_pair_apply_left (s₁ := Cert.ReferenceIdeal.S256x256) (s₂ := Cert.ReferenceIdeal.S256x256) 1 _ _ _
      (ix2 j (kcol h e)) rfl (ix2 j (col h e)) (fun z => ?_)).trans ?_
    · match z with
      | ⟨0, _⟩ => rfl
      | ⟨1, _⟩ => rfl
    rw [val_main_v68_apply, val_main_v65_apply]
    refine congrArg _ (ext3 ?_ ?_ ?_)
    · show (j.val * 256 + (64 * h.val + e.val)) / 64 % 4 = h.val; omega
    · show (j.val * 256 + (64 * h.val + e.val)) / 256 = j.val; omega
    · show (j.val * 256 + (64 * h.val + e.val)) % 64 = e.val; omega
  rw [e1, val_main_v64_apply]
  refine Finset.sum_congr rfl fun R _ => ?_
  rw [show lidx_main_v64 (ix3 h j e) R = ix3 h R j from ext3 rfl rfl rfl,
    show ridx_main_v64 (ix3 h j e) R = ix3 R h e from ext3 rfl rfl rfl, ref_ds _ _ _ _ _ _ (score_real m c hf h R), ref_q]
  rfl

theorem ref_dv (c : Dev nD) (j : Fin 256) (h : Fin 4) (e : Fin 64) :
    G4 m c (ix2 j (vcol h e)) = ∑ R, prob (score (a0 m c) (a1 m c) h R) j * a2 m c (ix2 R (qcol h e)) := by
  have e1 : G4 m c (ix2 j (vcol h e)) = val_main_v47 (F := Ideal) (a0 m c) (a1 m c) (a2 m c) (ix3 h e j) := by
    unfold G4 val_main_v71
    refine (concatenate_pair_apply_right (s₁ := Cert.ReferenceIdeal.S256x256) (s₂ := Cert.ReferenceIdeal.S256x256) 1 _ _ _
      (ix2 j (vcol h e)) rfl rfl (ix2 j (col h e)) (fun z hz => ?_) ?_).trans ?_
    · match z, hz with
      | ⟨0, _⟩, _ => rfl
      | ⟨1, _⟩, hz => exact absurd rfl hz
    · show (64 * h.val + e.val) + 256 = 256 + (64 * h.val + e.val); omega
    rw [val_main_v49_apply, val_main_v48_apply]
    refine congrArg _ (ext3 ?_ ?_ ?_)
    · show (j.val * 256 + (64 * h.val + e.val)) / 64 % 4 = h.val; omega
    · show (j.val * 256 + (64 * h.val + e.val)) % 64 = e.val; omega
    · show (j.val * 256 + (64 * h.val + e.val)) / 256 = j.val; omega
  rw [e1, val_main_v47_apply]
  refine Finset.sum_congr rfl fun R _ => ?_
  rw [show lidx_main_v47 (ix3 h e j) R = ix3 h e R from ext3 rfl rfl rfl,
    show ridx_main_v47 (ix3 h e j) R = ix3 h R j from ext3 rfl rfl rfl, ref_d, ref_prob, mul_comm]

/-! The gradient of the queries is written block by block … -/

/-- Every column is a column of one head of one pair. -/
theorem col_cases (y : Fin 256) : ∃ (p b : Fin 2) (e : Fin 64), y = col (head p b) e :=
  ⟨⟨y.val / 128, by omega⟩, ⟨y.val / 64 % 2, by omega⟩, ⟨y.val % 64, by omega⟩, Fin.ext (by simp only [col, head]; omega)⟩

theorem kv_cases (y : Fin 512) : ∃ (p b : Fin 2) (e : Fin 64), y = kcol (head p b) e ∨ y = vcol (head p b) e := by
  refine ⟨⟨y.val / 128 % 2, by omega⟩, ⟨y.val / 64 % 2, by omega⟩, ⟨y.val % 64, by omega⟩, ?_⟩
  rcases Nat.lt_or_ge y.val 256 with h | h
  · exact .inl (Fin.ext (by simp only [kcol, head]; omega))
  · exact .inr (Fin.ext (by simp only [vcol, head]; omega))

theorem flushed3_eq (c : Dev nD) (hf : Finite m c) (t : Fin cfg0.N) :
    (dats m 0 c).flushed 3 t = ((cfg0.win 3).blk t).view.read (Elt Ideal) (G3 m c) := by
  rw [Value.flushed3]
  obtain ⟨-, -, -, -, -, -, e0, e1, -⟩ := idx_facts t
  funext y
  show (outsAt0 m c t.val t.isLt).1 y = G3 m c ((win0_3.rect t).emb y)
  obtain ⟨r, z, rfl⟩ : ∃ (r : Fin 512) (z : Fin 256), y = ix2 r z := ⟨y 0, y 1, eq_ix2 y⟩
  obtain ⟨p, b, e, rfl⟩ := col_cases z
  have hemb : (win0_3.rect t).emb (ix2 r (col (head p b) e)) = ix2 (row t r) (col (head p b) e) := by
    refine Shape.idx_ext₂ ?_ ?_
    · rw [win0_3.rect_emb_val, e0]; rfl
    · rw [win0_3.rect_emb_val, e1]; exact (Nat.zero_mul _).symm ▸ Nat.zero_add _
  rw [hemb, outs_dq, ref_dq m c hf]

theorem cover3 (i : S4096x256.Idx) : ∃ t : Fin cfg0.N, (cfg0.win 3).flush t = true ∧ i ∈ ((cfg0.win 3).blk t).view.set := by
  have h0 : (i 0 : Nat) < 4096 := (i 0).isLt
  have h1 : (i 1 : Nat) < 256 := (i 1).isLt
  have hN : cfg0.N = 8 := N_0
  refine ⟨⟨(i 0).val / 512, by omega⟩, flush0_3 _, ?_⟩
  set t : Fin cfg0.N := ⟨(i 0).val / 512, by omega⟩ with ht
  obtain ⟨-, -, -, -, -, -, e0, e1, -⟩ := idx_facts t
  have hv : t.val = (i 0).val / 512 := rfl
  show i ∈ ((View.whole main_v0_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [e0, hv]; omega
  | ⟨1, _⟩ =>
    show win0_3.index t 1 * 256 ≤ (i 1 : Nat) ∧ (i 1 : Nat) < win0_3.index t 1 * 256 + 256
    rw [e1]; omega

/-! … and that of the keys and values is summed up over the blocks. -/

/-- Row `R`'s part of one entry; zero beyond the last row. -/
def dkRow (c : Dev nD) (j : Fin 256) (h : Fin 4) (e : Fin 64) (R : ℕ) : EReal :=
  if hR : R < 4096 then ds m c h ⟨R, hR⟩ j * a0 m c (ix2 ⟨R, hR⟩ (qcol h e)) else 0

def dvRow (c : Dev nD) (j : Fin 256) (h : Fin 4) (e : Fin 64) (R : ℕ) : EReal :=
  if hR : R < 4096 then prob (score (a0 m c) (a1 m c) h ⟨R, hR⟩) j * a2 m c (ix2 ⟨R, hR⟩ (qcol h e)) else 0

theorem dk_sum (c : Dev nD) (t : Fin cfg0.N) (j : Fin 256) (h : Fin 4) (e : Fin 64) :
    ∑ x, ds m c h (row t x) j * a0 m c (ix2 (row t x) (qcol h e)) = ∑ r : Fin 512, dkRow m c j h e (t.val * 512 + r.val) :=
  Finset.sum_congr rfl fun r _ => by
    unfold dkRow
    rw [dif_pos (show t.val * 512 + r.val < 4096 from (row t r).isLt)]
    rfl

theorem dv_sum (c : Dev nD) (t : Fin cfg0.N) (j : Fin 256) (h : Fin 4) (e : Fin 64) :
    ∑ x, prob (score (a0 m c) (a1 m c) h (row t x)) j * a2 m c (ix2 (row t x) (qcol h e))
      = ∑ r : Fin 512, dvRow m c j h e (t.val * 512 + r.val) :=
  Finset.sum_congr rfl fun r _ => by
    unfold dvRow
    rw [dif_pos (show t.val * 512 + r.val < 4096 from (row t r).isLt)]
    rfl

theorem dk_acc (c : Dev nD) (j : Fin 256) (p b : Fin 2) (e : Fin 64) : ∀ (n : ℕ) (hn : n < cfg0.N),
    (outsAt0 m c n hn).2 (ix2 j (kcol (head p b) e)) = ∑ R ∈ Finset.range ((n + 1) * 512), dkRow m c j (head p b) e R
  | 0, hn => by
    rw [outs_dk_first m c ⟨0, hn⟩ rfl, dk_sum, Cert.Math.sum_range_block]
    rw [Nat.zero_mul, Finset.range_zero, Finset.sum_empty]
  | n + 1, hn => by
    have hN : cfg0.N = 8 := N_0
    rw [outs_dk_next m c ⟨n + 1, hn⟩ (by show ¬ (n + 1) % 8 = 0; omega), dk_sum, Cert.Math.sum_range_block]
    exact congrArg (· + _) (dk_acc c j p b e n (by omega))

theorem dv_acc (c : Dev nD) (j : Fin 256) (p b : Fin 2) (e : Fin 64) : ∀ (n : ℕ) (hn : n < cfg0.N),
    (outsAt0 m c n hn).2 (ix2 j (vcol (head p b) e)) = ∑ R ∈ Finset.range ((n + 1) * 512), dvRow m c j (head p b) e R
  | 0, hn => by
    rw [outs_dv_first m c ⟨0, hn⟩ rfl, dv_sum, Cert.Math.sum_range_block]
    rw [Nat.zero_mul, Finset.range_zero, Finset.sum_empty]
  | n + 1, hn => by
    have hN : cfg0.N = 8 := N_0
    rw [outs_dv_next m c ⟨n + 1, hn⟩ (by show ¬ (n + 1) % 8 = 0; omega), dv_sum, Cert.Math.sum_range_block]
    exact congrArg (· + _) (dv_acc c j p b e n (by omega))

theorem flushed4_eq (c : Dev nD) (hf : Finite m c) (t : Fin cfg0.N) (hl : (cfg0.win 4).flush t = true) :
    (dats m 0 c).flushed 4 t = ((cfg0.win 4).blk t).view.read (Elt Ideal) (G4 m c) := by
  rw [Value.flushed4]
  obtain ⟨-, -, -, -, -, -, -, -, e0, e1⟩ := idx_facts t
  have hN : t.val < 8 := lt_of_lt_of_eq t.isLt N_0
  have h7 : t.val = 7 := by have := (flush0_4 t).mp hl; omega
  funext y
  show (outsAt0 m c t.val t.isLt).2 y = G4 m c ((win0_4.rect t).emb y)
  obtain ⟨j, z, rfl⟩ : ∃ (j : Fin 256) (z : Fin 512), y = ix2 j z := ⟨y 0, y 1, eq_ix2 y⟩
  have hemb : (win0_4.rect t).emb (ix2 j z) = ix2 j z := by
    refine Shape.idx_ext₂ ?_ ?_
    · rw [win0_4.rect_emb_val, e0]; exact (Nat.zero_mul _).symm ▸ Nat.zero_add _
    · rw [win0_4.rect_emb_val, e1]; exact (Nat.zero_mul _).symm ▸ Nat.zero_add _
  rw [hemb]
  obtain ⟨p, b, e, rfl | rfl⟩ := kv_cases z
  · rw [dk_acc, ref_dk m c hf, h7, Finset.sum_range (fun R => dkRow m c j (head p b) e R)]
    exact Finset.sum_congr rfl fun R _ => by unfold dkRow; rw [dif_pos R.isLt]
  · rw [dv_acc, ref_dv m c, h7, Finset.sum_range (fun R => dvRow m c j (head p b) e R)]
    exact Finset.sum_congr rfl fun R _ => by unfold dvRow; rw [dif_pos R.isLt]

theorem cover4 (i : S256x512.Idx) : ∃ t : Fin cfg0.N, (cfg0.win 4).flush t = true ∧ i ∈ ((cfg0.win 4).blk t).view.set := by
  have h0 : (i 0 : Nat) < 256 := (i 0).isLt
  have h1 : (i 1 : Nat) < 512 := (i 1).isLt
  have hN : cfg0.N = 8 := N_0
  refine ⟨⟨7, by omega⟩, (flush0_4 _).mpr rfl, ?_⟩
  set t : Fin cfg0.N := ⟨7, by omega⟩
  obtain ⟨-, -, -, -, -, -, -, -, e0, e1⟩ := idx_facts t
  show i ∈ ((View.whole main_v0_1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [e0]; omega
  | ⟨1, _⟩ =>
    show win0_4.index t 1 * 512 ≤ (i 1 : Nat) ∧ (i 1 : Nat) < win0_4.index t 1 * 512 + 512
    rw [e1]; omega

/-! ## The claim -/

theorem pre_facts : Cert.Pre_finite_mem.Facts := by constructor <;> decide

theorem finite_of_pre (h : Cert.Pre_KernelIdeal_finite_mem (hPre_finite_mem := pre_facts) m) (c : Dev nD) : Finite m c where
  hq R h' e := by
    obtain ⟨x, hx⟩ := Cert.Math.exists_coe_of_cmp (congrFun (h c).1 (ix2 R (col h' e)))
    refine ⟨x, hx ▸ ?_⟩
    exact congrArg (a0 m c) (Shape.idx_ext₂ (by show R.val = 0 + R.val; omega) rfl)
  hk j h' e := by
    obtain ⟨x, hx⟩ := Cert.Math.exists_coe_of_cmp (congrFun (h c).2 (ix2 j (col h' e)))
    refine ⟨x, hx ▸ ?_⟩
    exact congrArg (a1 m c) (Shape.idx_ext₂ (by show j.val = 0 + j.val; omega) (by show 64 * h'.val + e.val = 0 + (64 * h'.val + e.val); omega))

/-- From equal arguments, the queries and keys finite, the kernel and the reference end with equal arrays. -/
theorem algebraic : Cert.algebraic_KernelIdeal_ReferenceIdeal_pre_finite_mem
    (hKernelIdeal := Cert.KernelIdeal.Gen.facts) (hReferenceIdeal := Cert.ReferenceIdeal.Gen.facts)
    (hPre_finite_mem := pre_facts) := by
  intro m g m' g' hpre hargs
  refine ⟨fun c => G3 m c, fun c => G4 m c, ?_, ?_⟩
  · refine (θ_run (Cert.KernelIdeal.defs (F := Ideal)) _ _).mono (fun r h c => ?_) (Value.run_blocks m g)
    obtain ⟨a, b, h⟩ := h c
    have hf := finite_of_pre m hpre c
    exact ⟨a.trans ((dats m 0 c).arrAt_eq_of_cover 3 (G3 m c) (fun t _ => flushed3_eq m c hf t) cover3),
      b.trans ((dats m 0 c).arrAt_eq_of_cover 4 (G4 m c) (fun t hl => flushed4_eq m c hf t hl) cover4), h⟩
  · refine (θ_run (Cert.ReferenceIdeal.defs (F := Ideal)) _ _).mono (fun r h c => ?_)
      (Cert.ReferenceIdeal.Value.run (F := Ideal) m' g')
    obtain ⟨a, b, h⟩ := h c
    obtain ⟨e0, e1, e2⟩ := hargs c
    refine ⟨(a.trans (val_main_v70_eq _ _)).trans ?_, (b.trans (val_main_v71_eq _ _)).trans ?_, h⟩
    · rw [e0, e1, e2]; rfl
    · rw [e0, e1, e2]; rfl

end Cert.MemBwd

end
-- ==== Proof.Val10.lean ====
/- The value of the gradient of the output projection's input: the kernel's blocks of
   512 rows and 1024 columns, put together, are the reference's array. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Math
public import Idealize.ShloMosaic.Lib.Pointwise

@[expose] public section

noncomputable section

namespace Cert.OutDx

open Cert.Kernel10Ideal Cert.Kernel10Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = t.val % 1 ∧ win0_1.index t 1 = 0 ∧ win0_2.index t 0 = t.val / 1 ∧ win0_2.index t 1 = t.val % 1 :=
  (by decide +kernel : ∀ t : Fin grid0.N, win0_0.index t 0 = t.val / 1 ∧ win0_0.index t 1 = 0 ∧ win0_1.index t 0 = t.val % 1 ∧ win0_1.index t 1 = 0 ∧ win0_2.index t 0 = t.val / 1 ∧ win0_2.index t 1 = t.val % 1)

theorem iblk0_apply (c : Dev nD) (t : Fin cfg0.N) (r : Fin 512) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (s : Fin 1024) (k : Fin 1024) :
    iblk m c 1 t (ix2 s k) = m ((c : Thread nD τ).loc main_arg1) (ix2 (col t s) k) := by
  obtain ⟨-, -, h0, h1, -⟩ := idx_facts t
  show m ((c : Thread nD τ).loc main_arg1) ((win0_1.rect t).emb (ix2 s k)) = _
  refine congrArg _ (Shape.idx_ext₂ ?_ ?_)
  · rw [win0_1.rect_emb_val, h0]; rfl
  · rw [win0_1.rect_emb_val, h1]; exact (Nat.zero_mul _).symm ▸ Nat.zero_add _

/-- The block a point writes, entry by entry. -/
theorem out_apply (x0 : Vec Ideal S512x1024 .bf16) (x1 : Vec Ideal S1024x1024 .bf16) (r : Fin 512) (s : Fin 1024) :
    out0_2 x0 x1 (ix2 r s) = ∑ k : Fin 1024, x0 (ix2 r k) * x1 (ix2 s k) := by
  have hz0 : (![0, 0] : Fin S512x1024.rank → Nat) = fun _ => 0 := funext fun a => by fin_cases a <;> rfl
  have hz1 : (![0, 0] : Fin S1024x1024.rank → Nat) = fun _ => 0 := funext fun a => by fin_cases a <;> rfl
  unfold out0_2
  simp only [View.ld_unit_zero (S := S512x1024) hz0, View.ld_unit_zero (S := S1024x1024) hz1, View.canon_unit_zero (S := S512x1024) hz0]
  pointwise [k0_pay1]

/-- The reference's array, entry by entry. -/
theorem ref_apply (x0 : (⟨Cert.Reference10Ideal.S4096x1024, .bf16⟩ : BufTy).Contents (Elt Ideal)) (x1 : (⟨Cert.Reference10Ideal.S1024x1024, .bf16⟩ : BufTy).Contents (Elt Ideal)) (i : Fin 4096) (j : Fin 1024) :
    Cert.Reference10Ideal.Read.val_main_v5 (F := Ideal) x0 x1 (ix2 i j) = ∑ k : Fin 1024, x0 (ix2 i k) * x1 (ix2 j k) := by
  open Cert.Reference10Ideal.Read in pointwise [val_main_cst, val_main_v0, val_main_v1, val_main_v2, val_main_v3, val_main_v4, val_main_v5]

/-- The array the reference leaves, of the kernel's arguments. -/
abbrev G (c : Dev nD) : Buf (Elt Ideal) ((c : Thread nD τ).loc main_v0) :=
  Cert.Reference10Ideal.Read.val_main_v5 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S4096x1024.Idx) : ∃ t : Fin cfg0.N, (cfg0.win 2).flush t = true ∧ i ∈ ((cfg0.win 2).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_2 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel10Ideal_Reference10Ideal
    (hKernel10Ideal := Cert.Kernel10Ideal.Gen.facts) (hReference10Ideal := Cert.Reference10Ideal.Gen.facts) := by
  intro m g m' g' _ hargs
  refine ⟨fun c => G m c, ?_, ?_⟩
  · refine (θ_run (Cert.Kernel10Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference10Ideal.defs (F := Ideal)) _ _).mono (fun r h c => ?_)
      (Cert.Reference10Ideal.Value.run (F := Ideal) m' g')
    refine ⟨((h c).1.trans (Cert.Reference10Ideal.Read.val_main_v5_eq _ _)).trans ?_, (h c).2⟩
    obtain ⟨e0, e1⟩ := hargs c
    rw [e0, e1]

end Cert.OutDx

end
-- ==== Proof.Val11.lean ====
/- The value of the gradient of the query projection's input: the kernel's blocks of
   512 rows and 1024 columns, put together, are the reference's array. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Math
public import Idealize.ShloMosaic.Lib.Pointwise

@[expose] public section

noncomputable section

namespace Cert.QDx

open Cert.Kernel11Ideal Cert.Kernel11Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = t.val % 1 ∧ win0_1.index t 1 = 0 ∧ win0_2.index t 0 = t.val / 1 ∧ win0_2.index t 1 = t.val % 1 :=
  (by decide +kernel : ∀ t : Fin grid0.N, win0_0.index t 0 = t.val / 1 ∧ win0_0.index t 1 = 0 ∧ win0_1.index t 0 = t.val % 1 ∧ win0_1.index t 1 = 0 ∧ win0_2.index t 0 = t.val / 1 ∧ win0_2.index t 1 = t.val % 1)

theorem iblk0_apply (c : Dev nD) (t : Fin cfg0.N) (r : Fin 512) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (s : Fin 1024) (k : Fin 1024) :
    iblk m c 1 t (ix2 s k) = m ((c : Thread nD τ).loc main_arg1) (ix2 (col t s) k) := by
  obtain ⟨-, -, h0, h1, -⟩ := idx_facts t
  show m ((c : Thread nD τ).loc main_arg1) ((win0_1.rect t).emb (ix2 s k)) = _
  refine congrArg _ (Shape.idx_ext₂ ?_ ?_)
  · rw [win0_1.rect_emb_val, h0]; rfl
  · rw [win0_1.rect_emb_val, h1]; exact (Nat.zero_mul _).symm ▸ Nat.zero_add _

/-- The block a point writes, entry by entry. -/
theorem out_apply (x0 : Vec Ideal S512x1024 .bf16) (x1 : Vec Ideal S1024x1024 .bf16) (r : Fin 512) (s : Fin 1024) :
    out0_2 x0 x1 (ix2 r s) = ∑ k : Fin 1024, x0 (ix2 r k) * x1 (ix2 s k) := by
  have hz0 : (![0, 0] : Fin S512x1024.rank → Nat) = fun _ => 0 := funext fun a => by fin_cases a <;> rfl
  have hz1 : (![0, 0] : Fin S1024x1024.rank → Nat) = fun _ => 0 := funext fun a => by fin_cases a <;> rfl
  unfold out0_2
  simp only [View.ld_unit_zero (S := S512x1024) hz0, View.ld_unit_zero (S := S1024x1024) hz1, View.canon_unit_zero (S := S512x1024) hz0]
  pointwise [k0_pay1]

/-- The reference's array, entry by entry. -/
theorem ref_apply (x0 : (⟨Cert.Reference11Ideal.S4096x1024, .bf16⟩ : BufTy).Contents (Elt Ideal)) (x1 : (⟨Cert.Reference11Ideal.S1024x1024, .bf16⟩ : BufTy).Contents (Elt Ideal)) (i : Fin 4096) (j : Fin 1024) :
    Cert.Reference11Ideal.Read.val_main_v4 (F := Ideal) x0 x1 (ix2 i j) = ∑ k : Fin 1024, x0 (ix2 i k) * x1 (ix2 j k) := by
  open Cert.Reference11Ideal.Read in pointwise [val_main_cst, val_main_v0, val_main_v1, val_main_v2, val_main_v3, val_main_v4]

/-- The array the reference leaves, of the kernel's arguments. -/
abbrev G (c : Dev nD) : Buf (Elt Ideal) ((c : Thread nD τ).loc main_v0) :=
  Cert.Reference11Ideal.Read.val_main_v4 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S4096x1024.Idx) : ∃ t : Fin cfg0.N, (cfg0.win 2).flush t = true ∧ i ∈ ((cfg0.win 2).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_2 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel11Ideal_Reference11Ideal
    (hKernel11Ideal := Cert.Kernel11Ideal.Gen.facts) (hReference11Ideal := Cert.Reference11Ideal.Gen.facts) := by
  intro m g m' g' _ hargs
  refine ⟨fun c => G m c, ?_, ?_⟩
  · refine (θ_run (Cert.Kernel11Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference11Ideal.defs (F := Ideal)) _ _).mono (fun r h c => ?_)
      (Cert.Reference11Ideal.Value.run (F := Ideal) m' g')
    refine ⟨((h c).1.trans (Cert.Reference11Ideal.Read.val_main_v4_eq _ _)).trans ?_, (h c).2⟩
    obtain ⟨e0, e1⟩ := hargs c
    rw [e0, e1]

end Cert.QDx

end
-- ==== Proof.Val12.lean ====
/- The value of the gate and up projection and of the gated unit: the kernel's blocks of 256 columns, put together, are the
   reference's three arrays. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Math
public import Idealize.ShloMosaic.Lib.Pointwise

@[expose] public section

noncomputable section

namespace Cert.GatedUnit

open Cert.Kernel12Ideal Cert.Kernel12Ideal.Gen Idealize.ShloMosaic Idealize.ShloMosaic.TcCoe Idealize.SL.Sem
open Idealize.ShloMosaic.Pipeline (Dat Window)

variable (m : (ℓ : Loc nD τ sig) → Buf (Elt Ideal) ℓ)

/-- Column `s` of block `t` of a result, and the same column in the gate's and in the up branch's half of the weights. -/
def col (t : Fin cfg0.N) (s : Fin 256) : Fin 2816 :=
  ⟨t.val * 256 + s.val, by have h : t.val < 11 := lt_of_lt_of_eq t.isLt N_0; omega⟩
def gcol (j : Fin 2816) : Fin 5632 := ⟨j.val, by omega⟩
def ucol (j : Fin 2816) : Fin 5632 := ⟨2816 + j.val, by omega⟩

theorem idx_facts : ∀ t : Fin cfg0.N, win0_0.index t 0 = 0 ∧ win0_0.index t 1 = 0 ∧ win0_1.index t 0 = 0
    ∧ win0_1.index t 1 = t.val ∧ win0_2.index t 0 = 0 ∧ win0_2.index t 1 = 11 + t.val ∧ win0_3.index t 0 = 0
    ∧ win0_3.index t 1 = t.val ∧ win0_4.index t 0 = 0 ∧ win0_4.index t 1 = t.val ∧ win0_5.index t 0 = 0
    ∧ win0_5.index t 1 = t.val :=
  (by decide +kernel : ∀ t : Fin grid0.N, win0_0.index t 0 = 0 ∧ win0_0.index t 1 = 0 ∧ win0_1.index t 0 = 0
    ∧ win0_1.index t 1 = t.val ∧ win0_2.index t 0 = 0 ∧ win0_2.index t 1 = 11 + t.val ∧ win0_3.index t 0 = 0
    ∧ win0_3.index t 1 = t.val ∧ win0_4.index t 0 = 0 ∧ win0_4.index t 1 = t.val ∧ win0_5.index t 0 = 0
    ∧ win0_5.index t 1 = t.val)

theorem iblk0_apply (c : Dev nD) (t : Fin cfg0.N) (r : Fin 4096) (k : Fin 1024) :
    iblk m c 0 t (ix2 r k) = m ((c : Thread nD τ).loc main_arg0) (ix2 r k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; exact (Nat.zero_mul _).symm ▸ Nat.zero_add _
  · rw [win0_0.rect_emb_val, h1]; exact (Nat.zero_mul _).symm ▸ Nat.zero_add _

theorem iblk1_apply (c : Dev nD) (t : Fin cfg0.N) (k : Fin 1024) (s : Fin 256) :
    iblk m c 1 t (ix2 k s) = m ((c : Thread nD τ).loc main_arg1) (ix2 k (gcol (col t s))) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

theorem iblk2_apply (c : Dev nD) (t : Fin cfg0.N) (k : Fin 1024) (s : Fin 256) :
    iblk m c 2 t (ix2 k s) = m ((c : Thread nD τ).loc main_arg1) (ix2 k (ucol (col t s))) := by
  obtain ⟨-, -, -, -, h0, h1, -⟩ := idx_facts t
  show m ((c : Thread nD τ).loc main_arg1) ((win0_2.rect t).emb (ix2 k s)) = _
  refine congrArg _ (Shape.idx_ext₂ ?_ ?_)
  · rw [win0_2.rect_emb_val, h0]; exact (Nat.zero_mul _).symm ▸ Nat.zero_add _
  · rw [win0_2.rect_emb_val, h1]
    show (11 + t.val) * 256 + s.val = 2816 + (t.val * 256 + s.val)
    omega

/-! The blocks a point writes, entry by entry. -/

section Out
variable (x0 : Vec Ideal S4096x1024 .bf16) (x1 x2 : Vec Ideal S1024x256 .bf16) (r : Fin 4096) (s : Fin 256)

theorem hz0 : (![0, 0] : Fin S4096x1024.rank → Nat) = fun _ => 0 := funext fun a => by fin_cases a <;> rfl
theorem hz1 : (![0, 0] : Fin S1024x256.rank → Nat) = fun _ => 0 := funext fun a => by fin_cases a <;> rfl
theorem hz2 : (![0, 0] : Fin S4096x256.rank → Nat) = fun _ => 0 := funext fun a => by fin_cases a <;> rfl

theorem gate_apply : out0_3 x0 x1 x2 (ix2 r s) = ∑ k : Fin 1024, x0 (ix2 r k) * x1 (ix2 k s) := by
  unfold out0_3
  simp only [View.ld_unit_zero (S := S4096x1024) hz0, View.ld_unit_zero (S := S1024x256) hz1,
    View.canon_unit_zero (S := S4096x256) hz2]
  pointwise [k0_pay3, k0_pay1]

theorem up_apply : out0_4 x0 x1 x2 (ix2 r s) = ∑ k : Fin 1024, x0 (ix2 r k) * x2 (ix2 k s) := by
  unfold out0_4
  simp only [View.ld_unit_zero (S := S4096x1024) hz0, View.ld_unit_zero (S := S1024x256) hz1,
    View.canon_unit_zero (S := S4096x256) hz2]
  pointwise [k0_pay4, k0_pay2]

theorem act_apply : out0_5 x0 x1 x2 (ix2 r s)
    = (∑ k : Fin 1024, x0 (ix2 r k) * x1 (ix2 k s)) * Ideal.logistic (∑ k : Fin 1024, x0 (ix2 r k) * x1 (ix2 k s))
      * ∑ k : Fin 1024, x0 (ix2 r k) * x2 (ix2 k s) := by
  unfold out0_5
  simp only [View.ld_unit_zero (S := S4096x1024) hz0, View.ld_unit_zero (S := S1024x256) hz1,
    View.canon_unit_zero (S := S4096x256) hz2]
  pointwise [k0_pay5, k0_pay2, k0_pay1]

end Out

/-! The reference's arrays, entry by entry. -/

section Reference
open Cert.Reference12Ideal.Read
variable (x0 : (⟨Cert.Reference12Ideal.S4096x1024, .bf16⟩ : BufTy).Contents (Elt Ideal))
variable (x1 : (⟨Cert.Reference12Ideal.S1024x5632, .bf16⟩ : BufTy).Contents (Elt Ideal)) (r : Fin 4096) (j : Fin 2816)

theorem ref_gate : val_main_v3 (F := Ideal) x0 x1 (ix2 r j) = ∑ k : Fin 1024, x0 (ix2 r k) * x1 (ix2 k (gcol j)) := by
  pointwise [val_main_v3, val_main_v2, val_main_v1, val_main_v0]
  rfl

theorem ref_up : val_main_v4 (F := Ideal) x0 x1 (ix2 r j) = ∑ k : Fin 1024, x0 (ix2 r k) * x1 (ix2 k (ucol j)) := by
  pointwise [val_main_v4, val_main_v2, val_main_v1, val_main_v0]
  rfl

theorem ref_act : val_main_v9 (F := Ideal) x0 x1 (ix2 r j)
    = val_main_v3 (F := Ideal) x0 x1 (ix2 r j) * Ideal.logistic (val_main_v3 (F := Ideal) x0 x1 (ix2 r j))
      * val_main_v4 (F := Ideal) x0 x1 (ix2 r j) := by
  pointwise [val_main_v9, val_main_v8, val_main_v7, val_main_call0_v5, val_main_call0_v4, val_main_call0_v3,
    val_main_call0_v2, val_main_call0_v1, val_main_call0_v0, val_main_call0_cst, val_main_call0_cst_0]
  rfl

end Reference

/-! The arrays the reference leaves, of the kernel's arguments. -/

abbrev G3 (c : Dev nD) : Buf (Elt Ideal) ((c : Thread nD τ).loc main_v0_0) :=
  Cert.Reference12Ideal.Read.val_main_v5 (F := Ideal) (m ((c : Thread nD τ).loc main_arg0)) (m ((c : Thread nD τ).loc main_arg1))
abbrev G4 (c : Dev nD) : Buf (Elt Ideal) ((c : Thread nD τ).loc main_v0_1) :=
  Cert.Reference12Ideal.Read.val_main_v6 (F := Ideal) (m ((c : Thread nD τ).loc main_arg0)) (m ((c : Thread nD τ).loc main_arg1))
abbrev G5 (c : Dev nD) : Buf (Elt Ideal) ((c : Thread nD τ).loc main_v0_2) :=
  Cert.Reference12Ideal.Read.val_main_v9 (F := Ideal) (m ((c : Thread nD τ).loc main_arg0)) (m ((c : Thread nD τ).loc main_arg1))

theorem flushed3_eq (c : Dev nD) (t : Fin cfg0.N) :
    (dats m 0 c).flushed 3 t = ((cfg0.win 3).blk t).view.read (Elt Ideal) (G3 m c) := by
  rw [Value.flushed3]
  obtain ⟨-, -, -, -, -, -, h0, h1, -⟩ := idx_facts t
  funext y
  show out0_3 (iblk m c 0 t) (iblk m c 1 t) (iblk m c 2 t) y = G3 m c ((win0_3.rect t).emb y)
  obtain ⟨r, s, rfl⟩ : ∃ (r : Fin 4096) (s : Fin 256), y = ix2 r s := ⟨y 0, y 1, eq_ix2 y⟩
  have hemb : (win0_3.rect t).emb (ix2 r s) = ix2 r (col t s) := by
    refine Shape.idx_ext₂ ?_ ?_
    · rw [win0_3.rect_emb_val, h0]; exact (Nat.zero_mul _).symm ▸ Nat.zero_add _
    · rw [win0_3.rect_emb_val, h1]; rfl
  rw [hemb]
  unfold G3
  rw [gate_apply, Cert.Reference12Ideal.Read.val_main_v5_apply]
  simp only [iblk0_apply, iblk1_apply]
  exact (ref_gate _ _ _ _).symm

theorem flushed4_eq (c : Dev nD) (t : Fin cfg0.N) :
    (dats m 0 c).flushed 4 t = ((cfg0.win 4).blk t).view.read (Elt Ideal) (G4 m c) := by
  rw [Value.flushed4]
  obtain ⟨-, -, -, -, -, -, -, -, h0, h1, -⟩ := idx_facts t
  funext y
  show out0_4 (iblk m c 0 t) (iblk m c 1 t) (iblk m c 2 t) y = G4 m c ((win0_4.rect t).emb y)
  obtain ⟨r, s, rfl⟩ : ∃ (r : Fin 4096) (s : Fin 256), y = ix2 r s := ⟨y 0, y 1, eq_ix2 y⟩
  have hemb : (win0_4.rect t).emb (ix2 r s) = ix2 r (col t s) := by
    refine Shape.idx_ext₂ ?_ ?_
    · rw [win0_4.rect_emb_val, h0]; exact (Nat.zero_mul _).symm ▸ Nat.zero_add _
    · rw [win0_4.rect_emb_val, h1]; rfl
  rw [hemb]
  unfold G4
  rw [up_apply, Cert.Reference12Ideal.Read.val_main_v6_apply]
  simp only [iblk0_apply, iblk2_apply]
  exact (ref_up _ _ _ _).symm

theorem flushed5_eq (c : Dev nD) (t : Fin cfg0.N) :
    (dats m 0 c).flushed 5 t = ((cfg0.win 5).blk t).view.read (Elt Ideal) (G5 m c) := by
  rw [Value.flushed5]
  obtain ⟨-, -, -, -, -, -, -, -, -, -, h0, h1⟩ := idx_facts t
  funext y
  show out0_5 (iblk m c 0 t) (iblk m c 1 t) (iblk m c 2 t) y = G5 m c ((win0_5.rect t).emb y)
  obtain ⟨r, s, rfl⟩ : ∃ (r : Fin 4096) (s : Fin 256), y = ix2 r s := ⟨y 0, y 1, eq_ix2 y⟩
  have hemb : (win0_5.rect t).emb (ix2 r s) = ix2 r (col t s) := by
    refine Shape.idx_ext₂ ?_ ?_
    · rw [win0_5.rect_emb_val, h0]; exact (Nat.zero_mul _).symm ▸ Nat.zero_add _
    · rw [win0_5.rect_emb_val, h1]; rfl
  rw [hemb]
  unfold G5
  rw [act_apply, ref_act, ref_gate, ref_up]
  simp only [iblk0_apply, iblk1_apply, iblk2_apply]

theorem cover3 (i : S4096x2816.Idx) : ∃ t : Fin cfg0.N, (cfg0.win 3).flush t = true ∧ i ∈ ((cfg0.win 3).blk t).view.set := by
  have b0 : (i 0 : Nat) < 4096 := (i 0).isLt
  have b1 : (i 1 : Nat) < 2816 := (i 1).isLt
  have hN : cfg0.N = 11 := N_0
  refine ⟨⟨(i 1 : Nat) / 256, by omega⟩, flush0_3 _, ?_⟩
  set t : Fin cfg0.N := ⟨(i 1 : Nat) / 256, by omega⟩
  have hv : t.val = (i 1 : Nat) / 256 := rfl
  obtain ⟨-, -, -, -, -, -, h0, h1, -⟩ := idx_facts t
  show i ∈ ((View.whole main_v0_0).slice (win0_3.rect t)).set
  rw [View.set_slice_whole, Rect.mem_set_unit]
  intro a
  match a with
  | ⟨0, _⟩ =>
    show win0_3.index t 0 * 4096 ≤ (i 0 : Nat) ∧ (i 0 : Nat) < win0_3.index t 0 * 4096 + 4096
    rw [h0]; omega
  | ⟨1, _⟩ =>
    show win0_3.index t 1 * 256 ≤ (i 1 : Nat) ∧ (i 1 : Nat) < win0_3.index t 1 * 256 + 256
    rw [h1, hv]; omega

theorem cover4 (i : S4096x2816.Idx) : ∃ t : Fin cfg0.N, (cfg0.win 4).flush t = true ∧ i ∈ ((cfg0.win 4).blk t).view.set := by
  have b0 : (i 0 : Nat) < 4096 := (i 0).isLt
  have b1 : (i 1 : Nat) < 2816 := (i 1).isLt
  have hN : cfg0.N = 11 := N_0
  refine ⟨⟨(i 1 : Nat) / 256, by omega⟩, flush0_4 _, ?_⟩
  set t : Fin cfg0.N := ⟨(i 1 : Nat) / 256, by omega⟩
  have hv : t.val = (i 1 : Nat) / 256 := rfl
  obtain ⟨-, -, -, -, -, -, -, -, h0, h1, -⟩ := idx_facts t
  show i ∈ ((View.whole main_v0_1).slice (win0_4.rect t)).set
  rw [View.set_slice_whole, Rect.mem_set_unit]
  intro a
  match a with
  | ⟨0, _⟩ =>
    show win0_4.index t 0 * 4096 ≤ (i 0 : Nat) ∧ (i 0 : Nat) < win0_4.index t 0 * 4096 + 4096
    rw [h0]; omega
  | ⟨1, _⟩ =>
    show win0_4.index t 1 * 256 ≤ (i 1 : Nat) ∧ (i 1 : Nat) < win0_4.index t 1 * 256 + 256
    rw [h1, hv]; omega

theorem cover5 (i : S4096x2816.Idx) : ∃ t : Fin cfg0.N, (cfg0.win 5).flush t = true ∧ i ∈ ((cfg0.win 5).blk t).view.set := by
  have b0 : (i 0 : Nat) < 4096 := (i 0).isLt
  have b1 : (i 1 : Nat) < 2816 := (i 1).isLt
  have hN : cfg0.N = 11 := N_0
  refine ⟨⟨(i 1 : Nat) / 256, by omega⟩, flush0_5 _, ?_⟩
  set t : Fin cfg0.N := ⟨(i 1 : Nat) / 256, by omega⟩
  have hv : t.val = (i 1 : Nat) / 256 := rfl
  obtain ⟨-, -, -, -, -, -, -, -, -, -, h0, h1⟩ := idx_facts t
  show i ∈ ((View.whole main_v0_2).slice (win0_5.rect t)).set
  rw [View.set_slice_whole, Rect.mem_set_unit]
  intro a
  match a with
  | ⟨0, _⟩ =>
    show win0_5.index t 0 * 4096 ≤ (i 0 : Nat) ∧ (i 0 : Nat) < win0_5.index t 0 * 4096 + 4096
    rw [h0]; omega
  | ⟨1, _⟩ =>
    show win0_5.index t 1 * 256 ≤ (i 1 : Nat) ∧ (i 1 : Nat) < win0_5.index t 1 * 256 + 256
    rw [h1, hv]; omega

/-- From equal arguments the kernel and the reference end with equal arrays. -/
theorem algebraic : Cert.algebraic_Kernel12Ideal_Reference12Ideal
    (hKernel12Ideal := Cert.Kernel12Ideal.Gen.facts) (hReference12Ideal := Cert.Reference12Ideal.Gen.facts) := by
  intro m g m' g' _ hargs
  refine ⟨fun c => G3 m c, fun c => G4 m c, fun c => G5 m c, ?_, ?_⟩
  · refine (θ_run (Cert.Kernel12Ideal.defs (F := Ideal)) _ _).mono (fun r h c => ?_) (Value.run_blocks m g)
    obtain ⟨a, b, d, h⟩ := h c
    exact ⟨a.trans ((dats m 0 c).arrAt_eq_of_cover 3 (G3 m c) (fun t _ => flushed3_eq m c t) cover3),
      b.trans ((dats m 0 c).arrAt_eq_of_cover 4 (G4 m c) (fun t _ => flushed4_eq m c t) cover4),
      d.trans ((dats m 0 c).arrAt_eq_of_cover 5 (G5 m c) (fun t _ => flushed5_eq m c t) cover5), h⟩
  · refine (θ_run (Cert.Reference12Ideal.defs (F := Ideal)) _ _).mono (fun r h c => ?_)
      (Cert.Reference12Ideal.Value.run (F := Ideal) m' g')
    obtain ⟨a, b, d, h⟩ := h c
    obtain ⟨e0, e1⟩ := hargs c
    refine ⟨(a.trans (Cert.Reference12Ideal.Read.val_main_v5_eq _ _)).trans ?_,
      (b.trans (Cert.Reference12Ideal.Read.val_main_v6_eq _ _)).trans ?_,
      (d.trans (Cert.Reference12Ideal.Read.val_main_v9_eq _ _)).trans ?_, h⟩ <;> rw [e0, e1]

end Cert.GatedUnit

end
-- ==== Proof.Val13.lean ====
/- The value of the down projection with the residual: the kernel's blocks of
   512 rows and 1024 columns, put together, are the reference's array. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Math
public import Idealize.ShloMosaic.Lib.Pointwise

@[expose] public section

noncomputable section

namespace Cert.Down

open Cert.Kernel13Ideal Cert.Kernel13Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 ∧ win0_3.index t 0 = t.val / 1 ∧ win0_3.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1 ∧ win0_3.index t 0 = t.val / 1 ∧ win0_3.index t 1 = t.val % 1)

theorem iblk0_apply (c : Dev nD) (t : Fin cfg0.N) (r : Fin 512) (k : Fin 2816) :
    iblk m c 0 t (ix2 r k) = m ((c : Thread nD τ).loc main_arg1) (ix2 (row t r) k) := by
  obtain ⟨h0, h1, -⟩ := idx_facts t
  show m ((c : Thread nD τ).loc main_arg1) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 2816) (s : Fin 1024) :
    iblk m c 1 t (ix2 k s) = m ((c : Thread nD τ).loc main_arg2) (ix2 k (col t s)) := by
  obtain ⟨-, -, h0, h1, -⟩ := idx_facts t
  show m ((c : Thread nD τ).loc main_arg2) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

theorem iblk2_apply (c : Dev nD) (t : Fin cfg0.N) (r : Fin 512) (s : Fin 1024) :
    iblk m c 2 t (ix2 r s) = m ((c : Thread nD τ).loc main_arg0) (ix2 (row t r) (col t s)) := by
  obtain ⟨-, -, -, -, h0, h1, -⟩ := idx_facts t
  show m ((c : Thread nD τ).loc main_arg0) ((win0_2.rect t).emb (ix2 r s)) = _
  refine congrArg _ (Shape.idx_ext₂ ?_ ?_)
  · rw [win0_2.rect_emb_val, h0]; rfl
  · rw [win0_2.rect_emb_val, h1]; rfl

/-- The block a point writes, entry by entry. -/
theorem out_apply (x0 : Vec Ideal S512x2816 .bf16) (x1 : Vec Ideal S2816x1024 .bf16) (x2 : Vec Ideal S512x1024 .f32) (r : Fin 512) (s : Fin 1024) :
    out0_3 x0 x1 x2 (ix2 r s) = (∑ k : Fin 2816, x0 (ix2 r k) * x1 (ix2 k s)) + x2 (ix2 r s) := by
  have hz0 : (![0, 0] : Fin S512x2816.rank → Nat) = fun _ => 0 := funext fun a => by fin_cases a <;> rfl
  have hz1 : (![0, 0] : Fin S2816x1024.rank → Nat) = fun _ => 0 := funext fun a => by fin_cases a <;> rfl
  have hz2 : (![0, 0] : Fin S512x1024.rank → Nat) = fun _ => 0 := funext fun a => by fin_cases a <;> rfl
  unfold out0_3
  simp only [View.ld_unit_zero (S := S512x2816) hz0, View.ld_unit_zero (S := S2816x1024) hz1, View.ld_unit_zero (S := S512x1024) hz2, View.canon_unit_zero (S := S512x1024) hz2]
  pointwise [k0_pay1]

/-- The reference's array, entry by entry. -/
theorem ref_apply (x0 : (⟨Cert.Reference13Ideal.S4096x1024, .f32⟩ : BufTy).Contents (Elt Ideal)) (x1 : (⟨Cert.Reference13Ideal.S4096x2816, .bf16⟩ : BufTy).Contents (Elt Ideal)) (x2 : (⟨Cert.Reference13Ideal.S2816x1024, .bf16⟩ : BufTy).Contents (Elt Ideal)) (i : Fin 4096) (j : Fin 1024) :
    Cert.Reference13Ideal.Read.val_main_v3 (F := Ideal) x0 x1 x2 (ix2 i j) = x0 (ix2 i j) + ∑ k : Fin 2816, x1 (ix2 i k) * x2 (ix2 k j) := by
  open Cert.Reference13Ideal.Read in pointwise [val_main_v0, val_main_v1, val_main_v2, val_main_v3]

/-- The array the reference leaves, of the kernel's arguments. -/
abbrev G (c : Dev nD) : Buf (Elt Ideal) ((c : Thread nD τ).loc main_v0) :=
  Cert.Reference13Ideal.Read.val_main_v3 (F := Ideal) (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (G m c) := by
  rw [Value.flushed3]
  obtain ⟨-, -, -, -, -, -, h0, h1⟩ := idx_facts t
  funext y
  show out0_3 (iblk m c 0 t) (iblk m c 1 t) (iblk m c 2 t) y = G m c ((win0_3.rect t).emb y)
  obtain ⟨r, s, rfl⟩ : ∃ (r : Fin 512) (s : Fin 1024), y = ix2 r s := ⟨y 0, y 1, eq_ix2 y⟩
  have hemb : (win0_3.rect t).emb (ix2 r s) = ix2 (row t r) (col t s) := by
    refine Shape.idx_ext₂ ?_ ?_
    · rw [win0_3.rect_emb_val, h0]; rfl
    · rw [win0_3.rect_emb_val, h1]; rfl
  rw [hemb]
  unfold G
  rw [out_apply, ref_apply]
  simp only [iblk0_apply, iblk1_apply, iblk2_apply]
  exact add_comm _ _

theorem cover (i : S4096x1024.Idx) : ∃ t : Fin cfg0.N, (cfg0.win 3).flush t = true ∧ i ∈ ((cfg0.win 3).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_3 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, -, -, h0, h1⟩ := idx_facts t
  show i ∈ ((View.whole main_v0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [h0, hv]; omega
  | ⟨1, _⟩ =>
    show win0_3.index t 1 * 1024 ≤ (i 1 : Nat) ∧ (i 1 : Nat) < win0_3.index t 1 * 1024 + 1024
    rw [h1, hv]; omega

/-- From equal arguments the kernel and the reference end with equal arrays. -/
theorem algebraic : Cert.algebraic_Kernel13Ideal_Reference13Ideal
    (hKernel13Ideal := Cert.Kernel13Ideal.Gen.facts) (hReference13Ideal := Cert.Reference13Ideal.Gen.facts) := by
  intro m g m' g' _ hargs
  refine ⟨fun c => G m c, ?_, ?_⟩
  · refine (θ_run (Cert.Kernel13Ideal.defs (F := Ideal)) _ _).mono (fun r h c => ?_) (Value.run_blocks m g)
    exact ⟨(h c).1.trans ((dats m 0 c).arrAt_eq_of_cover 3 (G m c) (fun t _ => flushed_eq m c t) cover), (h c).2⟩
  · refine (θ_run (Cert.Reference13Ideal.defs (F := Ideal)) _ _).mono (fun r h c => ?_)
      (Cert.Reference13Ideal.Value.run (F := Ideal) m' g')
    refine ⟨((h c).1.trans (Cert.Reference13Ideal.Read.val_main_v3_eq _ _ _)).trans ?_, (h c).2⟩
    obtain ⟨e0, e1, e2⟩ := hargs c
    rw [e0, e1, e2]

end Cert.Down

end
-- ==== Proof.Val14.lean ====
/- The value of the output projection with the residual: the kernel's blocks of
   512 rows and 1024 columns, put together, are the reference's array. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Math
public import Idealize.ShloMosaic.Lib.Pointwise

@[expose] public section

noncomputable section

namespace Cert.Out

open Cert.Kernel14Ideal Cert.Kernel14Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 ∧ win0_3.index t 0 = t.val / 1 ∧ win0_3.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1 ∧ win0_3.index t 0 = t.val / 1 ∧ win0_3.index t 1 = t.val % 1)

theorem iblk0_apply (c : Dev nD) (t : Fin cfg0.N) (r : Fin 512) (k : Fin 1024) :
    iblk m c 0 t (ix2 r k) = m ((c : Thread nD τ).loc main_arg1) (ix2 (row t r) k) := by
  obtain ⟨h0, h1, -⟩ := idx_facts t
  show m ((c : Thread nD τ).loc main_arg1) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) (s : Fin 1024) :
    iblk m c 1 t (ix2 k s) = m ((c : Thread nD τ).loc main_arg2) (ix2 k (col t s)) := by
  obtain ⟨-, -, h0, h1, -⟩ := idx_facts t
  show m ((c : Thread nD τ).loc main_arg2) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

theorem iblk2_apply (c : Dev nD) (t : Fin cfg0.N) (r : Fin 512) (s : Fin 1024) :
    iblk m c 2 t (ix2 r s) = m ((c : Thread nD τ).loc main_arg0) (ix2 (row t r) (col t s)) := by
  obtain ⟨-, -, -, -, h0, h1, -⟩ := idx_facts t
  show m ((c : Thread nD τ).loc main_arg0) ((win0_2.rect t).emb (ix2 r s)) = _
  refine congrArg _ (Shape.idx_ext₂ ?_ ?_)
  · rw [win0_2.rect_emb_val, h0]; rfl
  · rw [win0_2.rect_emb_val, h1]; rfl

/-- The block a point writes, entry by entry. -/
theorem out_apply (x0 : Vec Ideal S512x1024 .bf16) (x1 : Vec Ideal S1024x1024 .bf16) (x2 : Vec Ideal S512x1024 .f32) (r : Fin 512) (s : Fin 1024) :
    out0_3 x0 x1 x2 (ix2 r s) = (∑ k : Fin 1024, x0 (ix2 r k) * x1 (ix2 k s)) + x2 (ix2 r s) := by
  have hz0 : (![0, 0] : Fin S512x1024.rank → Nat) = fun _ => 0 := funext fun a => by fin_cases a <;> rfl
  have hz1 : (![0, 0] : Fin S1024x1024.rank → Nat) = fun _ => 0 := funext fun a => by fin_cases a <;> rfl
  unfold out0_3
  simp only [View.ld_unit_zero (S := S512x1024) hz0, View.ld_unit_zero (S := S1024x1024) hz1, View.canon_unit_zero (S := S512x1024) hz0]
  pointwise [k0_pay1]

/-- The reference's array, entry by entry. -/
theorem ref_apply (x0 : (⟨Cert.Reference14Ideal.S4096x1024, .f32⟩ : BufTy).Contents (Elt Ideal)) (x1 : (⟨Cert.Reference14Ideal.S4096x1024, .bf16⟩ : BufTy).Contents (Elt Ideal)) (x2 : (⟨Cert.Reference14Ideal.S1024x1024, .bf16⟩ : BufTy).Contents (Elt Ideal)) (i : Fin 4096) (j : Fin 1024) :
    Cert.Reference14Ideal.Read.val_main_v3 (F := Ideal) x0 x1 x2 (ix2 i j) = x0 (ix2 i j) + ∑ k : Fin 1024, x1 (ix2 i k) * x2 (ix2 k j) := by
  open Cert.Reference14Ideal.Read in pointwise [val_main_v0, val_main_v1, val_main_v2, val_main_v3]

/-- The array the reference leaves, of the kernel's arguments. -/
abbrev G (c : Dev nD) : Buf (Elt Ideal) ((c : Thread nD τ).loc main_v0) :=
  Cert.Reference14Ideal.Read.val_main_v3 (F := Ideal) (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (G m c) := by
  rw [Value.flushed3]
  obtain ⟨-, -, -, -, -, -, h0, h1⟩ := idx_facts t
  funext y
  show out0_3 (iblk m c 0 t) (iblk m c 1 t) (iblk m c 2 t) y = G m c ((win0_3.rect t).emb y)
  obtain ⟨r, s, rfl⟩ : ∃ (r : Fin 512) (s : Fin 1024), y = ix2 r s := ⟨y 0, y 1, eq_ix2 y⟩
  have hemb : (win0_3.rect t).emb (ix2 r s) = ix2 (row t r) (col t s) := by
    refine Shape.idx_ext₂ ?_ ?_
    · rw [win0_3.rect_emb_val, h0]; rfl
    · rw [win0_3.rect_emb_val, h1]; rfl
  rw [hemb]
  unfold G
  rw [out_apply, ref_apply]
  simp only [iblk0_apply, iblk1_apply, iblk2_apply]
  exact add_comm _ _

theorem cover (i : S4096x1024.Idx) : ∃ t : Fin cfg0.N, (cfg0.win 3).flush t = true ∧ i ∈ ((cfg0.win 3).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_3 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, -, -, h0, h1⟩ := idx_facts t
  show i ∈ ((View.whole main_v0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [h0, hv]; omega
  | ⟨1, _⟩ =>
    show win0_3.index t 1 * 1024 ≤ (i 1 : Nat) ∧ (i 1 : Nat) < win0_3.index t 1 * 1024 + 1024
    rw [h1, hv]; omega

/-- From equal arguments the kernel and the reference end with equal arrays. -/
theorem algebraic : Cert.algebraic_Kernel14Ideal_Reference14Ideal
    (hKernel14Ideal := Cert.Kernel14Ideal.Gen.facts) (hReference14Ideal := Cert.Reference14Ideal.Gen.facts) := by
  intro m g m' g' _ hargs
  refine ⟨fun c => G m c, ?_, ?_⟩
  · refine (θ_run (Cert.Kernel14Ideal.defs (F := Ideal)) _ _).mono (fun r h c => ?_) (Value.run_blocks m g)
    exact ⟨(h c).1.trans ((dats m 0 c).arrAt_eq_of_cover 3 (G m c) (fun t _ => flushed_eq m c t) cover), (h c).2⟩
  · refine (θ_run (Cert.Reference14Ideal.defs (F := Ideal)) _ _).mono (fun r h c => ?_)
      (Cert.Reference14Ideal.Value.run (F := Ideal) m' g')
    refine ⟨((h c).1.trans (Cert.Reference14Ideal.Read.val_main_v3_eq _ _ _)).trans ?_, (h c).2⟩
    obtain ⟨e0, e1, e2⟩ := hargs c
    rw [e0, e1, e2]

end Cert.Out

end
-- ==== Proof.Val15.lean ====
/- The value of the pooling layer's input projection: the kernel's blocks of
   512 rows and 1024 columns, put together, are the reference's array. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Math
public import Idealize.ShloMosaic.Lib.Pointwise

@[expose] public section

noncomputable section

namespace Cert.PoolIn

open Cert.Kernel15Ideal Cert.Kernel15Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1)

theorem iblk0_apply (c : Dev nD) (t : Fin cfg0.N) (r : Fin 512) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) (s : Fin 1024) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S512x1024 .bf16) (x1 : Vec Ideal S1024x1024 .bf16) (r : Fin 512) (s : Fin 1024) :
    out0_2 x0 x1 (ix2 r s) = ∑ k : Fin 1024, x0 (ix2 r k) * x1 (ix2 k s) := by
  have hz0 : (![0, 0] : Fin S512x1024.rank → Nat) = fun _ => 0 := funext fun a => by fin_cases a <;> rfl
  have hz1 : (![0, 0] : Fin S1024x1024.rank → Nat) = fun _ => 0 := funext fun a => by fin_cases a <;> rfl
  unfold out0_2
  simp only [View.ld_unit_zero (S := S512x1024) hz0, View.ld_unit_zero (S := S1024x1024) hz1, View.canon_unit_zero (S := S512x1024) hz0]
  pointwise [k0_pay1]

/-- The reference's array, entry by entry. -/
theorem ref_apply (x0 : (⟨Cert.Reference15Ideal.S4096x1024, .bf16⟩ : BufTy).Contents (Elt Ideal)) (x1 : (⟨Cert.Reference15Ideal.S1024x1024, .bf16⟩ : BufTy).Contents (Elt Ideal)) (i : Fin 4096) (j : Fin 1024) :
    Cert.Reference15Ideal.Read.val_main_v2 (F := Ideal) x0 x1 (ix2 i j) = ∑ k : Fin 1024, x0 (ix2 i k) * x1 (ix2 k j) := by
  open Cert.Reference15Ideal.Read in pointwise [val_main_v0, val_main_v1, val_main_v2]

/-- The array the reference leaves, of the kernel's arguments. -/
abbrev G (c : Dev nD) : Buf (Elt Ideal) ((c : Thread nD τ).loc main_v0) :=
  Cert.Reference15Ideal.Read.val_main_v2 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S4096x1024.Idx) : ∃ t : Fin cfg0.N, (cfg0.win 2).flush t = true ∧ i ∈ ((cfg0.win 2).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_2 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel15Ideal_Reference15Ideal
    (hKernel15Ideal := Cert.Kernel15Ideal.Gen.facts) (hReference15Ideal := Cert.Reference15Ideal.Gen.facts) := by
  intro m g m' g' _ hargs
  refine ⟨fun c => G m c, ?_, ?_⟩
  · refine (θ_run (Cert.Kernel15Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference15Ideal.defs (F := Ideal)) _ _).mono (fun r h c => ?_)
      (Cert.Reference15Ideal.Value.run (F := Ideal) m' g')
    refine ⟨((h c).1.trans (Cert.Reference15Ideal.Read.val_main_v2_eq _ _)).trans ?_, (h c).2⟩
    obtain ⟨e0, e1⟩ := hargs c
    rw [e0, e1]

end Cert.PoolIn

end
-- ==== Proof.Val16.lean ====
/- The value of the query projection: the kernel's blocks of
   512 rows and 1024 columns, put together, are the reference's array. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Math
public import Idealize.ShloMosaic.Lib.Pointwise

@[expose] public section

noncomputable section

namespace Cert.Query

open Cert.Kernel16Ideal Cert.Kernel16Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1024) : Fin 1024 :=
  ⟨t.val % 1 * 1024 + s.val, by have h : t.val < 8 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1)

theorem iblk0_apply (c : Dev nD) (t : Fin cfg0.N) (r : Fin 512) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) (s : Fin 1024) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S512x1024 .bf16) (x1 : Vec Ideal S1024x1024 .bf16) (r : Fin 512) (s : Fin 1024) :
    out0_2 x0 x1 (ix2 r s) = ∑ k : Fin 1024, x0 (ix2 r k) * x1 (ix2 k s) := by
  have hz0 : (![0, 0] : Fin S512x1024.rank → Nat) = fun _ => 0 := funext fun a => by fin_cases a <;> rfl
  have hz1 : (![0, 0] : Fin S1024x1024.rank → Nat) = fun _ => 0 := funext fun a => by fin_cases a <;> rfl
  unfold out0_2
  simp only [View.ld_unit_zero (S := S512x1024) hz0, View.ld_unit_zero (S := S1024x1024) hz1, View.canon_unit_zero (S := S512x1024) hz0]
  pointwise [k0_pay1]

/-- The reference's array, entry by entry. -/
theorem ref_apply (x0 : (⟨Cert.Reference16Ideal.S4096x1024, .bf16⟩ : BufTy).Contents (Elt Ideal)) (x1 : (⟨Cert.Reference16Ideal.S1024x1024, .bf16⟩ : BufTy).Contents (Elt Ideal)) (i : Fin 4096) (j : Fin 1024) :
    Cert.Reference16Ideal.Read.val_main_v3 (F := Ideal) x0 x1 (ix2 i j) = ∑ k : Fin 1024, x0 (ix2 i k) * x1 (ix2 k j) := by
  open Cert.Reference16Ideal.Read in pointwise [val_main_v0, val_main_v1, val_main_v2, val_main_v3]

/-- The array the reference leaves, of the kernel's arguments. -/
abbrev G (c : Dev nD) : Buf (Elt Ideal) ((c : Thread nD τ).loc main_v0) :=
  Cert.Reference16Ideal.Read.val_main_v3 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S4096x1024.Idx) : ∃ t : Fin cfg0.N, (cfg0.win 2).flush t = true ∧ i ∈ ((cfg0.win 2).blk t).view.set := by
  have b0 : (i 0 : Nat) < 4096 := (i 0).isLt
  have b1 : (i 1 : Nat) < 1024 := (i 1).isLt
  have hN : cfg0.N = 8 := N_0
  refine ⟨⟨(i 0 : Nat) / 512 * 1 + (i 1 : Nat) / 1024, by omega⟩, flush0_2 _, ?_⟩
  set t : Fin cfg0.N := ⟨(i 0 : Nat) / 512 * 1 + (i 1 : Nat) / 1024, by omega⟩ with ht
  have hv : t.val = (i 0 : Nat) / 512 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel16Ideal_Reference16Ideal
    (hKernel16Ideal := Cert.Kernel16Ideal.Gen.facts) (hReference16Ideal := Cert.Reference16Ideal.Gen.facts) := by
  intro m g m' g' _ hargs
  refine ⟨fun c => G m c, ?_, ?_⟩
  · refine (θ_run (Cert.Kernel16Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference16Ideal.defs (F := Ideal)) _ _).mono (fun r h c => ?_)
      (Cert.Reference16Ideal.Value.run (F := Ideal) m' g')
    refine ⟨((h c).1.trans (Cert.Reference16Ideal.Read.val_main_v3_eq _ _)).trans ?_, (h c).2⟩
    obtain ⟨e0, e1⟩ := hargs c
    rw [e0, e1]

end Cert.Query

end
-- ==== Proof.Val17.lean ====
/- The value of the key and value projection: the kernel's blocks of
   512 rows and 1536 columns, put together, are the reference's array. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Math
public import Idealize.ShloMosaic.Lib.Pointwise

@[expose] public section

noncomputable section

namespace Cert.KeyValue

open Cert.Kernel17Ideal Cert.Kernel17Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 4096 :=
  ⟨t.val / 1 * 512 + r.val, by have h : t.val < 8 := lt_of_lt_of_eq t.isLt N_0; omega⟩
def col (t : Fin cfg0.N) (s : Fin 1536) : Fin 1536 :=
  ⟨t.val % 1 * 1536 + s.val, by have h : t.val < 8 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1)

theorem iblk0_apply (c : Dev nD) (t : Fin cfg0.N) (r : Fin 512) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) (s : Fin 1536) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S512x1024 .bf16) (x1 : Vec Ideal S1024x1536 .bf16) (r : Fin 512) (s : Fin 1536) :
    out0_2 x0 x1 (ix2 r s) = ∑ k : Fin 1024, x0 (ix2 r k) * x1 (ix2 k s) := by
  have hz0 : (![0, 0] : Fin S512x1024.rank → Nat) = fun _ => 0 := funext fun a => by fin_cases a <;> rfl
  have hz1 : (![0, 0] : Fin S1024x1536.rank → Nat) = fun _ => 0 := funext fun a => by fin_cases a <;> rfl
  have hz2 : (![0, 0] : Fin S512x1536.rank → Nat) = fun _ => 0 := funext fun a => by fin_cases a <;> rfl
  unfold out0_2
  simp only [View.ld_unit_zero (S := S512x1024) hz0, View.ld_unit_zero (S := S1024x1536) hz1, View.ld_unit_zero (S := S512x1536) hz2, View.canon_unit_zero (S := S512x1536) hz2]
  pointwise [k0_pay1]

/-- The reference's array, entry by entry. -/
theorem ref_apply (x0 : (⟨Cert.Reference17Ideal.S4096x1024, .bf16⟩ : BufTy).Contents (Elt Ideal)) (x1 : (⟨Cert.Reference17Ideal.S1024x1536, .bf16⟩ : BufTy).Contents (Elt Ideal)) (i : Fin 4096) (j : Fin 1536) :
    Cert.Reference17Ideal.Read.val_main_v3 (F := Ideal) x0 x1 (ix2 i j) = ∑ k : Fin 1024, x0 (ix2 i k) * x1 (ix2 k j) := by
  open Cert.Reference17Ideal.Read in pointwise [val_main_v0, val_main_v1, val_main_v2, val_main_v3]

/-- The array the reference leaves, of the kernel's arguments. -/
abbrev G (c : Dev nD) : Buf (Elt Ideal) ((c : Thread nD τ).loc main_v0) :=
  Cert.Reference17Ideal.Read.val_main_v3 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 1536), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S4096x1536.Idx) : ∃ t : Fin cfg0.N, (cfg0.win 2).flush t = true ∧ i ∈ ((cfg0.win 2).blk t).view.set := by
  have b0 : (i 0 : Nat) < 4096 := (i 0).isLt
  have b1 : (i 1 : Nat) < 1536 := (i 1).isLt
  have hN : cfg0.N = 8 := N_0
  refine ⟨⟨(i 0 : Nat) / 512 * 1 + (i 1 : Nat) / 1536, by omega⟩, flush0_2 _, ?_⟩
  set t : Fin cfg0.N := ⟨(i 0 : Nat) / 512 * 1 + (i 1 : Nat) / 1536, by omega⟩ with ht
  have hv : t.val = (i 0 : Nat) / 512 * 1 + (i 1 : Nat) / 1536 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 1536 ≤ (i 1 : Nat) ∧ (i 1 : Nat) < win0_2.index t 1 * 1536 + 1536
    rw [h1, hv]; omega

/-- From equal arguments the kernel and the reference end with equal arrays. -/
theorem algebraic : Cert.algebraic_Kernel17Ideal_Reference17Ideal
    (hKernel17Ideal := Cert.Kernel17Ideal.Gen.facts) (hReference17Ideal := Cert.Reference17Ideal.Gen.facts) := by
  intro m g m' g' _ hargs
  refine ⟨fun c => G m c, ?_, ?_⟩
  · refine (θ_run (Cert.Kernel17Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference17Ideal.defs (F := Ideal)) _ _).mono (fun r h c => ?_)
      (Cert.Reference17Ideal.Value.run (F := Ideal) m' g')
    refine ⟨((h c).1.trans (Cert.Reference17Ideal.Read.val_main_v3_eq _ _)).trans ?_, (h c).2⟩
    obtain ⟨e0, e1⟩ := hargs c
    rw [e0, e1]

end Cert.KeyValue

end
-- ==== Proof.Val18.lean ====
/- The value of the gradient of the key and value projection and of the two norms of its argument: sixteen blocks of 256
   rows for the gradient of the norms' argument, and one row for each norm's scale, summed up over the blocks. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Math
public import Idealize.ShloMosaic.Lib.Pointwise

@[expose] public section

noncomputable section

namespace Cert.KvProjDx

open Cert.Kernel18Ideal Cert.Kernel18Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S256x1536.rank → Nat) = fun _ => 0 := funext fun a => by fin_cases a <;> rfl
theorem hz1 : (![0, 0] : Fin S1024x1536.rank → Nat) = fun _ => 0 := funext fun a => by fin_cases a <;> rfl
theorem hz2 : (![0, 0] : Fin S256x1024.rank → Nat) = fun _ => 0 := funext fun a => by fin_cases a <;> rfl
theorem hz3 : (![0, 0] : Fin S1x1024.rank → Nat) = fun _ => 0 := funext fun a => by fin_cases a <;> rfl

/-- What a point leaves of the gradient of the norms' argument. -/
theorem outs_dx (c : Dev nD) (t : Fin cfg0.N) :
    (outsAt0 m c t.val t.isLt).1 = k0_pay8 (iblk m c 0 t) (iblk m c 1 t) (iblk m c 2 t) (iblk m c 4 t) (iblk m c 6 t) (iblk m c 5 t) (iblk m c 3 t) := by
  by_cases h0 : t.val % 16 = 0
  · rw [outsAt0_A m c t h0]
    dsimp only
    unfold out0_A_7
    refine (View.read_writes_eq_canon _ _ _ fun y => cover0_A_7 ..).trans ?_
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1536) hz0, View.ld_unit_zero (S := S1024x1536) hz1, View.ld_unit_zero (S := S256x1024) hz2,
      View.ld_unit_zero (S := S1x1024) hz3, View.canon_unit_zero (S := S256x1024) hz2]
  · rw [outsAt0_B m c t h0]
    dsimp only
    unfold out0_B_7
    refine (View.read_writes_eq_canon _ _ _ fun y => cover0_B_7 ..).trans ?_
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1536) hz0, View.ld_unit_zero (S := S1024x1536) hz1, View.ld_unit_zero (S := S256x1024) hz2,
      View.ld_unit_zero (S := S1x1024) hz3, View.canon_unit_zero (S := S256x1024) hz2]

/-- What a point leaves of the same gradient, cast. -/
theorem outs_bf (c : Dev nD) (t : Fin cfg0.N) :
    (outsAt0 m c t.val t.isLt).2.1 = k0_pay9 (iblk m c 0 t) (iblk m c 1 t) (iblk m c 2 t) (iblk m c 4 t) (iblk m c 6 t) (iblk m c 5 t) (iblk m c 3 t) := by
  by_cases h0 : t.val % 16 = 0
  · rw [outsAt0_A m c t h0]
    dsimp only
    unfold out0_A_8
    refine (View.read_writes_eq_canon _ _ _ fun y => cover0_A_8 ..).trans ?_
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1536) hz0, View.ld_unit_zero (S := S1024x1536) hz1, View.ld_unit_zero (S := S256x1024) hz2,
      View.ld_unit_zero (S := S1x1024) hz3, View.canon_unit_zero (S := S256x1024) hz2]
  · rw [outsAt0_B m c t h0]
    dsimp only
    unfold out0_B_8
    refine (View.read_writes_eq_canon _ _ _ fun y => cover0_B_8 ..).trans ?_
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1536) hz0, View.ld_unit_zero (S := S1024x1536) hz1, View.ld_unit_zero (S := S256x1024) hz2,
      View.ld_unit_zero (S := S1x1024) hz3, View.canon_unit_zero (S := S256x1024) hz2]

/-- The first point starts the sum from zero. -/
theorem outs_dg_first (c : Dev nD) (t : Fin cfg0.N) (h0 : t.val % 16 = 0) :
    (outsAt0 m c t.val t.isLt).2.2.1
      = k0_pay3 (k0_pay5 (iblk m c 0 t) (iblk m c 1 t)) (k0_pay7 (iblk m c 2 t))
          (k0_pay1 (F := Ideal)) := by
  rw [outsAt0_A m c t h0]
  dsimp only
  unfold out0_A_9
  refine (View.read_writes_eq_canon _ _ _ fun y => cover0_A_9 ..).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S256x1536) hz0, View.ld_unit_zero (S := S1024x1536) hz1, View.ld_unit_zero (S := S256x1024) hz2,
      View.ld_unit_zero (S := S1x1024) hz3, View.canon_cons_unit_zero (S := S1x1024) hz3, View.readCov_unit_zero (S := S1x1024) _ hz3]

/-- A later point adds its rows to what the point before left. -/
theorem outs_dg_next (c : Dev nD) (t : Fin cfg0.N) (h0 : ¬ t.val % 16 = 0) :
    (outsAt0 m c t.val t.isLt).2.2.1
      = k0_pay3 (k0_pay5 (iblk m c 0 t) (iblk m c 1 t)) (k0_pay7 (iblk m c 2 t))
          (outsAt0 m c (t.val - 1) (Nat.lt_of_le_of_lt (Nat.sub_le _ _) t.isLt)).2.2.1 := by
  rw [outsAt0_B m c t h0]
  dsimp only
  unfold out0_B_9
  refine (View.read_writes_eq_canon _ _ _ fun y => cover0_B_9 ..).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread,
    View.ld_unit_zero (S := S256x1536) hz0, View.ld_unit_zero (S := S1024x1536) hz1, View.ld_unit_zero (S := S256x1024) hz2,
      View.ld_unit_zero (S := S1x1024) hz3, View.canon_cons_unit_zero (S := S1x1024) hz3, View.readCov_unit_zero (S := S1x1024) _ hz3]

/-- The first point starts the sum from zero. -/
theorem outs_dh_first (c : Dev nD) (t : Fin cfg0.N) (h0 : t.val % 16 = 0) :
    (outsAt0 m c t.val t.isLt).2.2.2
      = k0_pay4 (k0_pay7 (iblk m c 2 t)) (iblk m c 6 t)
          (k0_pay2 (F := Ideal)) := by
  rw [outsAt0_A m c t h0]
  dsimp only
  unfold out0_A_10
  refine (View.read_writes_eq_canon _ _ _ fun y => cover0_A_10 ..).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S256x1536) hz0, View.ld_unit_zero (S := S1024x1536) hz1, View.ld_unit_zero (S := S256x1024) hz2,
      View.ld_unit_zero (S := S1x1024) hz3, View.canon_cons_unit_zero (S := S1x1024) hz3, View.readCov_unit_zero (S := S1x1024) _ hz3]

/-- A later point adds its rows to what the point before left. -/
theorem outs_dh_next (c : Dev nD) (t : Fin cfg0.N) (h0 : ¬ t.val % 16 = 0) :
    (outsAt0 m c t.val t.isLt).2.2.2
      = k0_pay4 (k0_pay7 (iblk m c 2 t)) (iblk m c 6 t)
          (outsAt0 m c (t.val - 1) (Nat.lt_of_le_of_lt (Nat.sub_le _ _) t.isLt)).2.2.2 := by
  rw [outsAt0_B m c t h0]
  dsimp only
  unfold out0_B_10
  refine (View.read_writes_eq_canon _ _ _ fun y => cover0_B_10 ..).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread,
    View.ld_unit_zero (S := S256x1536) hz0, View.ld_unit_zero (S := S1024x1536) hz1, View.ld_unit_zero (S := S256x1024) hz2,
      View.ld_unit_zero (S := S1x1024) hz3, View.canon_cons_unit_zero (S := S1x1024) hz3, View.readCov_unit_zero (S := S1x1024) _ hz3]

/-! ## The kernel, entry by entry -/

/-- Row `r` of block `t`. -/
def row (t : Fin cfg0.N) (r : Fin 256) : Fin 4096 :=
  ⟨t.val * 256 + r.val, by have h : t.val < 16 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

theorem iblk0_apply (c : Dev nD) (t : Fin cfg0.N) (r : Fin 256) (k : Fin 1536) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 1024) (k : Fin 1536) :
    iblk m c 1 t (ix2 r k) = m ((c : Thread nD τ).loc main_arg1) (ix2 r k) := by
  obtain ⟨h0, h1⟩ := idx1 t
  show m ((c : Thread nD τ).loc main_arg1) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (r : Fin 256) (k : Fin 1024) :
    iblk m c 2 t (ix2 r k) = m ((c : Thread nD τ).loc main_arg2) (ix2 (row t r) k) := by
  obtain ⟨h0, h1⟩ := idx2 t
  show m ((c : Thread nD τ).loc main_arg2) ((win0_2.rect t).emb (ix2 r k)) = _
  refine congrArg _ (Shape.idx_ext₂ ?_ ?_)
  · rw [win0_2.rect_emb_val, h0]; rfl
  · rw [win0_2.rect_emb_val, h1]; exact (Nat.zero_mul _).symm ▸ Nat.zero_add _

theorem iblk3_apply (c : Dev nD) (t : Fin cfg0.N) (r : Fin 256) (k : Fin 1024) :
    iblk m c 3 t (ix2 r k) = m ((c : Thread nD τ).loc main_arg4) (ix2 (row t r) k) := by
  obtain ⟨h0, h1⟩ := idx3 t
  show m ((c : Thread nD τ).loc main_arg4) ((win0_3.rect t).emb (ix2 r k)) = _
  refine congrArg _ (Shape.idx_ext₂ ?_ ?_)
  · rw [win0_3.rect_emb_val, h0]; rfl
  · rw [win0_3.rect_emb_val, h1]; exact (Nat.zero_mul _).symm ▸ Nat.zero_add _

theorem iblk4_apply (c : Dev nD) (t : Fin cfg0.N) (k : Fin 1024) :
    iblk m c 4 t (ix2 0 k) = m ((c : Thread nD τ).loc main_arg3) (ix2 0 k) := by
  obtain ⟨h0, h1⟩ := idx4 t
  show m ((c : Thread nD τ).loc main_arg3) ((win0_4.rect t).emb (ix2 0 k)) = _
  refine congrArg _ (Shape.idx_ext₂ ?_ ?_)
  · rw [win0_4.rect_emb_val, h0]; exact (Nat.zero_mul _).symm ▸ Nat.zero_add _
  · rw [win0_4.rect_emb_val, h1]; exact (Nat.zero_mul _).symm ▸ Nat.zero_add _

theorem iblk5_apply (c : Dev nD) (t : Fin cfg0.N) (k : Fin 1024) :
    iblk m c 5 t (ix2 0 k) = m ((c : Thread nD τ).loc main_arg5) (ix2 0 k) := by
  obtain ⟨h0, h1⟩ := idx5 t
  show m ((c : Thread nD τ).loc main_arg5) ((win0_5.rect t).emb (ix2 0 k)) = _
  refine congrArg _ (Shape.idx_ext₂ ?_ ?_)
  · rw [win0_5.rect_emb_val, h0]; exact (Nat.zero_mul _).symm ▸ Nat.zero_add _
  · rw [win0_5.rect_emb_val, h1]; exact (Nat.zero_mul _).symm ▸ Nat.zero_add _

theorem iblk6_apply (c : Dev nD) (t : Fin cfg0.N) (r : Fin 256) (k : Fin 1024) :
    iblk m c 6 t (ix2 r k) = m ((c : Thread nD τ).loc main_arg6) (ix2 (row t r) k) := by
  obtain ⟨h0, h1⟩ := idx6 t
  show m ((c : Thread nD τ).loc main_arg6) ((win0_6.rect t).emb (ix2 r k)) = _
  refine congrArg _ (Shape.idx_ext₂ ?_ ?_)
  · rw [win0_6.rect_emb_val, h0]; rfl
  · rw [win0_6.rect_emb_val, h1]; exact (Nat.zero_mul _).symm ▸ Nat.zero_add _

section Kernel
variable (x0 : Vec Ideal S256x1536 .bf16) (x1 : Vec Ideal S1024x1536 .bf16) (x2 x6 x4 : Vec Ideal S256x1024 .f32)
variable (x3 x5 : Vec Ideal S1x1024 .f32)

/-- The gradient of the first norm's row, one entry. -/
theorem dh_apply (r : Fin 256) (j : Fin 1024) :
    k0_pay5 x0 x1 (ix2 r j) = ∑ k : Fin 1536, x0 (ix2 r k) * x1 (ix2 j k) := by
  pointwise [k0_pay5]

/-- The reciprocal root of a row's mean square. -/
theorem rstd_apply (r : Fin 256) :
    k0_pay6 x2 (ix2 r 0) = Ideal.rsqrt (Ideal.div (∑ k : Fin 1024, x2 (ix2 r k) * x2 (ix2 r k))
      (Ideal.ofBits .f32 0x44800000#32) + Ideal.ofBits .f32 0x358637BD#32) := by
  pointwise [k0_pay6]

theorem xhat_apply (r : Fin 256) (j : Fin 1024) :
    k0_pay7 x2 (ix2 r j) = x2 (ix2 r j) * k0_pay6 x2 (ix2 r 0) := by
  pointwise [k0_pay7]

theorem dx_apply (r : Fin 256) (j : Fin 1024) :
    k0_pay8 x0 x1 x2 x3 x6 x5 x4 (ix2 r j)
      = k0_pay6 x2 (ix2 r 0) * (k0_pay5 x0 x1 (ix2 r j) * x3 (ix2 0 j) + x6 (ix2 r j) * x5 (ix2 0 j)
          - x2 (ix2 r j) * k0_pay6 x2 (ix2 r 0)
            * Ideal.div (∑ k : Fin 1024, (k0_pay5 x0 x1 (ix2 r k) * x3 (ix2 0 k) + x6 (ix2 r k) * x5 (ix2 0 k))
                * (x2 (ix2 r k) * k0_pay6 x2 (ix2 r 0)))
              (Ideal.ofBits .f32 0x44800000#32))
        + x4 (ix2 r j) := by
  pointwise [k0_pay8, k0_pay7]

theorem bf_apply (r : Fin 256) (j : Fin 1024) :
    k0_pay9 x0 x1 x2 x3 x6 x5 x4 (ix2 r j) = k0_pay8 x0 x1 x2 x3 x6 x5 x4 (ix2 r j) := by
  pointwise [k0_pay9]

theorem dg_zero (j : Fin 1024) : k0_pay1 (F := Ideal) (ix2 0 j) = 0 := by
  pointwise [k0_pay1]

theorem dh_zero (j : Fin 1024) : k0_pay2 (F := Ideal) (ix2 0 j) = 0 := by
  pointwise [k0_pay2]

theorem dg_apply (y z : Vec Ideal S256x1024 .f32) (x : Vec Ideal S1x1024 .f32) (j : Fin 1024) :
    k0_pay3 (F := Ideal) y z x (ix2 0 j) = x (ix2 0 j) + ∑ r : Fin 256, y (ix2 r j) * z (ix2 r j) := by
  pointwise [k0_pay3]

theorem dg2_apply (y z : Vec Ideal S256x1024 .f32) (x : Vec Ideal S1x1024 .f32) (j : Fin 1024) :
    k0_pay4 (F := Ideal) y z x (ix2 0 j) = x (ix2 0 j) + ∑ r : Fin 256, z (ix2 r j) * y (ix2 r j) := by
  pointwise [k0_pay4]

end Kernel

/-! ## The reference, entry by entry -/

section Reference
open Cert.Reference18Ideal.Read

variable (x0 : (⟨S4096x1536, .bf16⟩ : BufTy).Contents (Elt Ideal)) (x1 : (⟨S1024x1536, .bf16⟩ : BufTy).Contents (Elt Ideal))
variable (x2 x4 x6 : (⟨S4096x1024, .f32⟩ : BufTy).Contents (Elt Ideal)) (x3 x5 : (⟨S1x1024, .f32⟩ : BufTy).Contents (Elt Ideal))

theorem ref_dh (r : Fin 4096) (j : Fin 1024) :
    val_main_v52 (F := Ideal) x0 x1 (ix2 r j) = ∑ k : Fin 1536, x0 (ix2 r k) * x1 (ix2 j k) := by
  rw [val_main_v52_apply]
  exact Finset.sum_congr rfl fun k _ => congrArg₂ (· * ·) (congrArg x0 (Shape.idx_ext₂ rfl rfl))
    (congrArg x1 (Shape.idx_ext₂ rfl rfl))

/-- A row's mean square and the small constant. -/
theorem ref_ms (r : Fin 4096) :
    val_main_v6 (F := Ideal) x2 (ix2 r 0) = Ideal.div (∑ k : Fin 1024, x2 (ix2 r k) * x2 (ix2 r k))
      (Ideal.ofBits .f32 0x44800000#32) + Ideal.ofBits .f32 0x358637BD#32 := by
  pointwise [val_main_v6, val_main_v5, val_main_v4, val_main_v3, val_main_v2, val_main_v1, val_main_v0, val_main_cst,
    val_main_cst_0, val_main_cst_1]

/-- The second norm's mean square is the first's. -/
theorem ref_ms2 (r : Fin 4096) : val_main_v23 (F := Ideal) x2 (ix2 r 0) = val_main_v6 (F := Ideal) x2 (ix2 r 0) := by
  rw [ref_ms]
  pointwise [val_main_v23, val_main_v22, val_main_v21, val_main_v20, val_main_v19, val_main_v18, val_main_v17, val_main_cst_3,
    val_main_cst_4, val_main_cst_5]

theorem ref_rstd (r : Fin 4096) :
    val_main_v7 (F := Ideal) x2 (ix2 r 0) = Ideal.rsqrt (val_main_v6 (F := Ideal) x2 (ix2 r 0)) := by
  pointwise [val_main_v7]

theorem ref_rstd2 (r : Fin 4096) :
    val_main_v24 (F := Ideal) x2 (ix2 r 0) = val_main_v7 (F := Ideal) x2 (ix2 r 0) := by
  rw [ref_rstd, ← ref_ms2]
  pointwise [val_main_v24]

/-- What a row's own spread sends back through its mean square, of the first norm. -/
theorem ref_back (r : Fin 4096) :
    val_main_v66 (F := Ideal) x0 x1 x2 x3 (ix2 r 0)
      = Ideal.div ((∑ k : Fin 1024, x2 (ix2 r k) * (val_main_v52 (F := Ideal) x0 x1 (ix2 r k) * x3 (ix2 0 k)))
          * (Ideal.ofBits .f32 0xBF000000#32 * Ideal.div (val_main_v7 (F := Ideal) x2 (ix2 r 0)) (val_main_v6 (F := Ideal) x2 (ix2 r 0))))
        (Ideal.ofBits .f32 0x44800000#32) := by
  pointwise [val_main_v66, val_main_v65, val_main_v64, val_main_v60, val_main_v59, val_main_v58, val_main_v57, val_main_v56,
    val_main_v10, val_main_v9, val_main_v8, val_main_cst_2, val_main_cst_12, val_main_cst_13]

/-- The same of the second norm. -/
theorem ref_back2 (r : Fin 4096) :
    val_main_v45 (F := Ideal) x2 x5 x6 (ix2 r 0)
      = Ideal.div ((∑ k : Fin 1024, x2 (ix2 r k) * (x6 (ix2 r k) * x5 (ix2 0 k)))
          * (Ideal.ofBits .f32 0xBF000000#32 * Ideal.div (val_main_v7 (F := Ideal) x2 (ix2 r 0)) (val_main_v6 (F := Ideal) x2 (ix2 r 0))))
        (Ideal.ofBits .f32 0x44800000#32) := by
  rw [← ref_rstd2, ← ref_ms2]
  pointwise [val_main_v45, val_main_v44, val_main_v43, val_main_v40, val_main_v39, val_main_v38, val_main_v37, val_main_v36,
    val_main_v27, val_main_v26, val_main_v25, val_main_cst_6, val_main_cst_8, val_main_cst_9]

/-- The second norm's gradient. -/
theorem ref_dx2 (r : Fin 4096) (j : Fin 1024) :
    val_main_v51 (F := Ideal) x2 x5 x6 (ix2 r j)
      = (x6 (ix2 r j) * x5 (ix2 0 j)) * val_main_v7 (F := Ideal) x2 (ix2 r 0)
        + x2 (ix2 r j) * val_main_v45 (F := Ideal) x2 x5 x6 (ix2 r 0)
        + val_main_v45 (F := Ideal) x2 x5 x6 (ix2 r 0) * x2 (ix2 r j) := by
  rw [← ref_rstd2]
  pointwise [val_main_v51, val_main_v50, val_main_v49, val_main_v48, val_main_v47, val_main_v46, val_main_v42, val_main_v41,
    val_main_v37, val_main_v36, val_main_cst_10]
  rw [Fin.sum_univ_one]

theorem ref_dx (r : Fin 4096) (j : Fin 1024) :
    val_main_v73 (F := Ideal) x0 x1 x2 x3 x4 x5 x6 (ix2 r j)
      = val_main_v51 (F := Ideal) x2 x5 x6 (ix2 r j)
        + (val_main_v52 (F := Ideal) x0 x1 (ix2 r j) * x3 (ix2 0 j)) * val_main_v7 (F := Ideal) x2 (ix2 r 0)
        + x2 (ix2 r j) * val_main_v66 (F := Ideal) x0 x1 x2 x3 (ix2 r 0)
        + val_main_v66 (F := Ideal) x0 x1 x2 x3 (ix2 r 0) * x2 (ix2 r j) + x4 (ix2 r j) := by
  pointwise [val_main_v73, val_main_v72, val_main_v71, val_main_v70, val_main_v69, val_main_v68, val_main_v67, val_main_v63,
    val_main_v62, val_main_v61, val_main_v57, val_main_v56, val_main_cst_14]
  rw [Fin.sum_univ_one]

theorem ref_bf (r : Fin 4096) (j : Fin 1024) :
    val_main_v74 (F := Ideal) x0 x1 x2 x3 x4 x5 x6 (ix2 r j) = val_main_v73 (F := Ideal) x0 x1 x2 x3 x4 x5 x6 (ix2 r j) := by
  pointwise [val_main_v74]

theorem ref_dg (j : Fin 1024) :
    val_main_v55 (F := Ideal) x0 x1 x2 (ix2 0 j)
      = ∑ r : Fin 4096, x2 (ix2 r j) * val_main_v7 (F := Ideal) x2 (ix2 r 0) * val_main_v52 (F := Ideal) x0 x1 (ix2 r j) := by
  pointwise [val_main_v55, val_main_v54, val_main_v53, val_main_v12, val_main_v11, val_main_cst_11]

theorem ref_dg2 (j : Fin 1024) :
    val_main_v35 (F := Ideal) x2 x6 (ix2 0 j)
      = ∑ r : Fin 4096, x2 (ix2 r j) * val_main_v7 (F := Ideal) x2 (ix2 r 0) * x6 (ix2 r j) := by
  simp only [← ref_rstd2]
  pointwise [val_main_v35, val_main_v34, val_main_v33, val_main_v29, val_main_v28, val_main_cst_7]

end Reference

/-! ## Put together -/

open Cert.Reference18Ideal.Read

/-- The second of the two gradients is finite. -/
structure Finite (c : Dev nD) : Prop where
  h5 : ∀ i, ∃ r : ℝ, m ((c : Thread nD τ).loc main_arg5) i = (r : EReal)
  h6 : ∀ i, ∃ r : ℝ, m ((c : Thread nD τ).loc main_arg6) i = (r : EReal)

/-- The arrays the reference leaves, of the kernel's arguments. -/
abbrev G7 (c : Dev nD) : Buf (Elt Ideal) ((c : Thread nD τ).loc main_v0_0) :=
  val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev G8 (c : Dev nD) : Buf (Elt Ideal) ((c : Thread nD τ).loc main_v0_1) :=
  val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev G9 (c : Dev nD) : Buf (Elt Ideal) ((c : Thread nD τ).loc main_v0_2) :=
  val_main_v55 (F := Ideal) (m ((c : Thread nD τ).loc main_arg0)) (m ((c : Thread nD τ).loc main_arg1)) (m ((c : Thread nD τ).loc main_arg2))

abbrev G10 (c : Dev nD) : Buf (Elt Ideal) ((c : Thread nD τ).loc main_v0_3) :=
  val_main_v35 (F := Ideal) (m ((c : Thread nD τ).loc main_arg2)) (m ((c : Thread nD τ).loc main_arg6))

theorem rstd_eq (c : Dev nD) (t : Fin cfg0.N) (r : Fin 256) :
    k0_pay6 (iblk m c 2 t) (ix2 r 0) = val_main_v7 (F := Ideal) (m ((c : Thread nD τ).loc main_arg2)) (ix2 (row t r) 0) := by
  rw [rstd_apply, ref_rstd, ref_ms]
  simp only [iblk2_apply]

theorem dh_eq (c : Dev nD) (t : Fin cfg0.N) (r : Fin 256) (j : Fin 1024) :
    k0_pay5 (iblk m c 0 t) (iblk m c 1 t) (ix2 r j)
      = val_main_v52 (F := Ideal) (m ((c : Thread nD τ).loc main_arg0)) (m ((c : Thread nD τ).loc main_arg1)) (ix2 (row t r) j) := by
  rw [dh_apply, ref_dh]
  simp only [iblk0_apply, iblk1_apply]

theorem add_turn (a b d e : EReal) : a + b + d + e = e + a + b + d := by ac_rfl

/-- The gradient of the norms' argument: the kernel takes the sum of the two gradients through the norm, the reference
    each by itself. -/
theorem dx_eq (c : Dev nD) (hf : Finite m c) (t : Fin cfg0.N) (r : Fin 256) (j : Fin 1024) :
    k0_pay8 (iblk m c 0 t) (iblk m c 1 t) (iblk m c 2 t) (iblk m c 4 t) (iblk m c 6 t) (iblk m c 5 t) (iblk m c 3 t) (ix2 r j)
      = G7 m c (ix2 (row t r) j) := by
  unfold G7
  rw [dx_apply, ref_dx, ref_dx2, ref_back, ref_back2]
  simp only [dh_eq, rstd_eq, iblk2_apply, iblk3_apply, iblk4_apply, iblk5_apply, iblk6_apply]
  obtain ⟨e, he, hee⟩ := Cert.Math.ofBits_eps
  have hv := ref_ms (m ((c : Thread nD τ).loc main_arg2)) (row t r)
  have hs := ref_rstd (m ((c : Thread nD τ).loc main_arg2)) (row t r)
  rw [Cert.Math.ofBits_1024, hee] at hv
  rw [Cert.Math.ofBits_1024, Cert.Math.ofBits_neg_half]
  choose g5 hg5 using hf.h5
  choose g6 hg6 using hf.h6
  refine congrArg (· + _) ?_
  have hb : ∀ k : Fin 1024, @HMul.hMul EReal EReal EReal _ (m ((c : Thread nD τ).loc main_arg6) (ix2 (row t r) k)) (m ((c : Thread nD τ).loc main_arg5) (ix2 0 k))
      = ((g6 (ix2 (row t r) k) * g5 (ix2 0 k) : ℝ) : EReal) := fun k => by rw [hg5, hg6, EReal.coe_mul]
  simp only [hb]
  have h1 := Cert.Math.rms_row_add (fun k : Fin 1024 => m ((c : Thread nD τ).loc main_arg2) (ix2 (row t r) k))
    (fun k => val_main_v52 (F := Ideal) (m ((c : Thread nD τ).loc main_arg0)) (m ((c : Thread nD τ).loc main_arg1)) (ix2 (row t r) k)
      * m ((c : Thread nD τ).loc main_arg3) (ix2 0 k)) (fun k => g6 (ix2 (row t r) k) * g5 (ix2 0 k)) 1024 e (by norm_num) he j _ _ hv hs
  have h2 := Cert.Math.rms_row (fun k : Fin 1024 => m ((c : Thread nD τ).loc main_arg2) (ix2 (row t r) k))
    (fun k => val_main_v52 (F := Ideal) (m ((c : Thread nD τ).loc main_arg0)) (m ((c : Thread nD τ).loc main_arg1)) (ix2 (row t r) k)
      * m ((c : Thread nD τ).loc main_arg3) (ix2 0 k)) 1024 e (by norm_num) he j _ _ hv hs
  have h3 := Cert.Math.rms_row (fun k : Fin 1024 => m ((c : Thread nD τ).loc main_arg2) (ix2 (row t r) k))
    (fun k => ((g6 (ix2 (row t r) k) * g5 (ix2 0 k) : ℝ) : EReal)) 1024 e (by norm_num) he j _ _ hv hs
  exact (h1.trans (congrArg₂ (· + ·) h2 h3)).trans (add_turn _ _ _ _)

theorem flushed7_eq (c : Dev nD) (hf : Finite m c) (t : Fin cfg0.N) :
    (dats m 0 c).flushed 7 t = ((cfg0.win 7).blk t).view.read (Elt Ideal) (G7 m c) := by
  rw [Value.flushed7]
  obtain ⟨e0, e1⟩ := idx7 t
  funext y
  show (outsAt0 m c t.val t.isLt).1 y = G7 m c ((win0_7.rect t).emb y)
  obtain ⟨r, j, rfl⟩ : ∃ (r : Fin 256) (j : Fin 1024), y = ix2 r j := ⟨y 0, y 1, eq_ix2 y⟩
  have hemb : (win0_7.rect t).emb (ix2 r j) = ix2 (row t r) j := by
    refine Shape.idx_ext₂ ?_ ?_
    · rw [win0_7.rect_emb_val, e0]; rfl
    · rw [win0_7.rect_emb_val, e1]; exact (Nat.zero_mul _).symm ▸ Nat.zero_add _
  rw [hemb, outs_dx, dx_eq m c hf]

theorem cover7 (i : S4096x1024.Idx) : ∃ t : Fin cfg0.N, (cfg0.win 7).flush t = true ∧ i ∈ ((cfg0.win 7).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_7 _, ?_⟩
  set t : Fin cfg0.N := ⟨(i 0 : Nat) / 256, by omega⟩
  obtain ⟨e0, e1⟩ := idx7 t
  show i ∈ ((View.whole main_v0_0).slice (win0_7.rect t)).set
  rw [View.set_slice_whole, Rect.mem_set_unit]
  intro a
  match a with
  | ⟨0, _⟩ =>
    show win0_7.index t 0 * 256 ≤ (i 0 : Nat) ∧ (i 0 : Nat) < win0_7.index t 0 * 256 + 256
    rw [e0]
    show (i 0 : Nat) / 256 * 256 ≤ (i 0 : Nat) ∧ (i 0 : Nat) < (i 0 : Nat) / 256 * 256 + 256
    omega
  | ⟨1, _⟩ =>
    show win0_7.index t 1 * 1024 ≤ (i 1 : Nat) ∧ (i 1 : Nat) < win0_7.index t 1 * 1024 + 1024
    rw [e1]; omega

theorem flushed8_eq (c : Dev nD) (hf : Finite m c) (t : Fin cfg0.N) :
    (dats m 0 c).flushed 8 t = ((cfg0.win 8).blk t).view.read (Elt Ideal) (G8 m c) := by
  rw [Value.flushed8]
  obtain ⟨e0, e1⟩ := idx8 t
  funext y
  show (outsAt0 m c t.val t.isLt).2.1 y = G8 m c ((win0_8.rect t).emb y)
  obtain ⟨r, j, rfl⟩ : ∃ (r : Fin 256) (j : Fin 1024), y = ix2 r j := ⟨y 0, y 1, eq_ix2 y⟩
  have hemb : (win0_8.rect t).emb (ix2 r j) = ix2 (row t r) j := by
    refine Shape.idx_ext₂ ?_ ?_
    · rw [win0_8.rect_emb_val, e0]; rfl
    · rw [win0_8.rect_emb_val, e1]; exact (Nat.zero_mul _).symm ▸ Nat.zero_add _
  rw [hemb, outs_bf, bf_apply, dx_eq m c hf]
  unfold G8
  rw [ref_bf]

theorem cover8 (i : S4096x1024.Idx) : ∃ t : Fin cfg0.N, (cfg0.win 8).flush t = true ∧ i ∈ ((cfg0.win 8).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_8 _, ?_⟩
  set t : Fin cfg0.N := ⟨(i 0 : Nat) / 256, by omega⟩
  obtain ⟨e0, e1⟩ := idx8 t
  show i ∈ ((View.whole main_v0_1).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [e0]
    show (i 0 : Nat) / 256 * 256 ≤ (i 0 : Nat) ∧ (i 0 : Nat) < (i 0 : Nat) / 256 * 256 + 256
    omega
  | ⟨1, _⟩ =>
    show win0_8.index t 1 * 1024 ≤ (i 1 : Nat) ∧ (i 1 : Nat) < win0_8.index t 1 * 1024 + 1024
    rw [e1]; omega

/-! ## The rows summed up over the blocks -/

/-- What one row adds to the gradient of a scale's entry `j`, of the row's gradient `y`. -/
def rowTerm (x2 y : (⟨S4096x1024, .f32⟩ : BufTy).Contents (Elt Ideal)) (j : Fin 1024) (R : Fin 4096) : EReal :=
  x2 (ix2 R j) * val_main_v7 (F := Ideal) x2 (ix2 R 0) * y (ix2 R j)

/-- The same of a row's number; nothing beyond the last row. -/
def dgRow (x2 y : (⟨S4096x1024, .f32⟩ : BufTy).Contents (Elt Ideal)) (j : Fin 1024) (R : ℕ) : EReal :=
  if h : R < 4096 then rowTerm x2 y j ⟨R, h⟩ else 0

theorem dgRow_sum (x2 y : (⟨S4096x1024, .f32⟩ : BufTy).Contents (Elt Ideal)) (j : Fin 1024) :
    ∑ R ∈ Finset.range 4096, dgRow x2 y j R = ∑ R : Fin 4096, rowTerm x2 y j R := by
  rw [Finset.sum_range (fun R => dgRow x2 y j R)]
  exact Finset.sum_congr rfl fun R _ => by unfold dgRow; rw [dif_pos R.isLt]

/-- What one block adds. -/
theorem dg_block (c : Dev nD) (t : Fin cfg0.N) (x : Vec Ideal S1x1024 .f32) (j : Fin 1024) :
    k0_pay3 (F := Ideal) (k0_pay5 (iblk m c 0 t) (iblk m c 1 t)) (k0_pay7 (iblk m c 2 t)) x (ix2 0 j)
      = x (ix2 0 j) + ∑ r : Fin 256, dgRow (m ((c : Thread nD τ).loc main_arg2)) (val_main_v52 (F := Ideal) (m ((c : Thread nD τ).loc main_arg0)) (m ((c : Thread nD τ).loc main_arg1))) j (t.val * 256 + r.val) := by
  rw [dg_apply]
  refine congrArg _ (Finset.sum_congr rfl fun r _ => ?_)
  rw [xhat_apply, dh_eq, rstd_eq, iblk2_apply, mul_comm]
  unfold dgRow
  rw [dif_pos (show t.val * 256 + r.val < 4096 from (row t r).isLt)]
  rfl

theorem dg_acc (c : Dev nD) (j : Fin 1024) : ∀ (n : ℕ) (hn : n < cfg0.N),
    (outsAt0 m c n hn).2.2.1 (ix2 0 j)
      = ∑ R ∈ Finset.range ((n + 1) * 256), dgRow (m ((c : Thread nD τ).loc main_arg2)) (val_main_v52 (F := Ideal) (m ((c : Thread nD τ).loc main_arg0)) (m ((c : Thread nD τ).loc main_arg1))) j R
  | 0, hn => by
    rw [outs_dg_first m c ⟨0, hn⟩ rfl, dg_block, dg_zero, Cert.Math.sum_range_block]
    rw [Nat.zero_mul, Finset.range_zero, Finset.sum_empty]
  | n + 1, hn => by
    have hN : cfg0.N = 16 := N_0
    rw [outs_dg_next m c ⟨n + 1, hn⟩ (by show ¬ (n + 1) % 16 = 0; omega), dg_block, Cert.Math.sum_range_block]
    exact congrArg (· + _) (dg_acc c j n (by omega))

theorem flushed9_eq (c : Dev nD) (t : Fin cfg0.N) (hf : (cfg0.win 9).flush t = true) :
    (dats m 0 c).flushed 9 t = ((cfg0.win 9).blk t).view.read (Elt Ideal) (G9 m c) := by
  rw [Value.flushed9]
  obtain ⟨e0, e1⟩ := idx9 t
  have hN : t.val < 16 := lt_of_lt_of_eq t.isLt N_0
  have h15 : t.val = 15 := by have := (flush0_9 t).mp hf; omega
  funext y
  show (outsAt0 m c t.val t.isLt).2.2.1 y = G9 m c ((win0_9.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_9.rect t).emb (ix2 0 j) = ix2 0 j := by
    refine Shape.idx_ext₂ ?_ ?_
    · rw [win0_9.rect_emb_val, e0]; exact (Nat.zero_mul _).symm ▸ Nat.zero_add _
    · rw [win0_9.rect_emb_val, e1]; exact (Nat.zero_mul _).symm ▸ Nat.zero_add _
  rw [hemb, dg_acc]
  unfold G9
  rw [ref_dg, h15, dgRow_sum]
  rfl

theorem cover9 (i : S1x1024.Idx) : ∃ t : Fin cfg0.N, (cfg0.win 9).flush t = true ∧ i ∈ ((cfg0.win 9).blk t).view.set := by
  have h0 : (i 0 : Nat) < 1 := (i 0).isLt
  have h1 : (i 1 : Nat) < 1024 := (i 1).isLt
  have hN : cfg0.N = 16 := N_0
  refine ⟨⟨15, by omega⟩, (flush0_9 _).mpr rfl, ?_⟩
  set t : Fin cfg0.N := ⟨15, by omega⟩
  obtain ⟨e0, e1⟩ := idx9 t
  show i ∈ ((View.whole main_v0_2).slice (win0_9.rect t)).set
  rw [View.set_slice_whole, Rect.mem_set_unit]
  intro a
  match a with
  | ⟨0, _⟩ =>
    show win0_9.index t 0 * 1 ≤ (i 0 : Nat) ∧ (i 0 : Nat) < win0_9.index t 0 * 1 + 1
    rw [e0]; omega
  | ⟨1, _⟩ =>
    show win0_9.index t 1 * 1024 ≤ (i 1 : Nat) ∧ (i 1 : Nat) < win0_9.index t 1 * 1024 + 1024
    rw [e1]; omega

/-- What one block adds. -/
theorem dh_block (c : Dev nD) (t : Fin cfg0.N) (x : Vec Ideal S1x1024 .f32) (j : Fin 1024) :
    k0_pay4 (F := Ideal) (k0_pay7 (iblk m c 2 t)) (iblk m c 6 t) x (ix2 0 j)
      = x (ix2 0 j) + ∑ r : Fin 256, dgRow (m ((c : Thread nD τ).loc main_arg2)) (m ((c : Thread nD τ).loc main_arg6)) j (t.val * 256 + r.val) := by
  rw [dg2_apply]
  refine congrArg _ (Finset.sum_congr rfl fun r _ => ?_)
  rw [xhat_apply, iblk6_apply, rstd_eq, iblk2_apply, mul_comm]
  unfold dgRow
  rw [dif_pos (show t.val * 256 + r.val < 4096 from (row t r).isLt)]
  rfl

theorem dh_acc (c : Dev nD) (j : Fin 1024) : ∀ (n : ℕ) (hn : n < cfg0.N),
    (outsAt0 m c n hn).2.2.2 (ix2 0 j)
      = ∑ R ∈ Finset.range ((n + 1) * 256), dgRow (m ((c : Thread nD τ).loc main_arg2)) (m ((c : Thread nD τ).loc main_arg6)) j R
  | 0, hn => by
    rw [outs_dh_first m c ⟨0, hn⟩ rfl, dh_block, dh_zero, Cert.Math.sum_range_block]
    rw [Nat.zero_mul, Finset.range_zero, Finset.sum_empty]
  | n + 1, hn => by
    have hN : cfg0.N = 16 := N_0
    rw [outs_dh_next m c ⟨n + 1, hn⟩ (by show ¬ (n + 1) % 16 = 0; omega), dh_block, Cert.Math.sum_range_block]
    exact congrArg (· + _) (dh_acc c j n (by omega))

theorem flushed10_eq (c : Dev nD) (t : Fin cfg0.N) (hf : (cfg0.win 10).flush t = true) :
    (dats m 0 c).flushed 10 t = ((cfg0.win 10).blk t).view.read (Elt Ideal) (G10 m c) := by
  rw [Value.flushed10]
  obtain ⟨e0, e1⟩ := idx10 t
  have hN : t.val < 16 := lt_of_lt_of_eq t.isLt N_0
  have h15 : t.val = 15 := by have := (flush0_10 t).mp hf; omega
  funext y
  show (outsAt0 m c t.val t.isLt).2.2.2 y = G10 m c ((win0_10.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_10.rect t).emb (ix2 0 j) = ix2 0 j := by
    refine Shape.idx_ext₂ ?_ ?_
    · rw [win0_10.rect_emb_val, e0]; exact (Nat.zero_mul _).symm ▸ Nat.zero_add _
    · rw [win0_10.rect_emb_val, e1]; exact (Nat.zero_mul _).symm ▸ Nat.zero_add _
  rw [hemb, dh_acc]
  unfold G10
  rw [ref_dg2, h15, dgRow_sum]
  rfl

theorem cover10 (i : S1x1024.Idx) : ∃ t : Fin cfg0.N, (cfg0.win 10).flush t = true ∧ i ∈ ((cfg0.win 10).blk t).view.set := by
  have h0 : (i 0 : Nat) < 1 := (i 0).isLt
  have h1 : (i 1 : Nat) < 1024 := (i 1).isLt
  have hN : cfg0.N = 16 := N_0
  refine ⟨⟨15, by omega⟩, (flush0_10 _).mpr rfl, ?_⟩
  set t : Fin cfg0.N := ⟨15, by omega⟩
  obtain ⟨e0, e1⟩ := idx10 t
  show i ∈ ((View.whole main_v0_3).slice (win0_10.rect t)).set
  rw [View.set_slice_whole, Rect.mem_set_unit]
  intro a
  match a with
  | ⟨0, _⟩ =>
    show win0_10.index t 0 * 1 ≤ (i 0 : Nat) ∧ (i 0 : Nat) < win0_10.index t 0 * 1 + 1
    rw [e0]; omega
  | ⟨1, _⟩ =>
    show win0_10.index t 1 * 1024 ≤ (i 1 : Nat) ∧ (i 1 : Nat) < win0_10.index t 1 * 1024 + 1024
    rw [e1]; omega

/-! ## The claim -/

theorem pre_facts : Cert.Pre_finite_kv_proj_dx.Facts := by constructor <;> decide

theorem finite_of_pre (h : Cert.Pre_Kernel18Ideal_finite_kv_proj_dx (hPre_finite_kv_proj_dx := pre_facts) m) (c : Dev nD) :
    Finite m c where
  h5 i := Cert.Math.exists_coe_of_cmp (congrFun (h c).1 i)
  h6 i := Cert.Math.exists_coe_of_cmp (congrFun (h c).2 i)

/-- From equal arguments, of which the second gradient and its norm's scale are finite, the kernel and the reference end
    with equal arrays. -/
theorem algebraic : Cert.algebraic_Kernel18Ideal_Reference18Ideal_pre_finite_kv_proj_dx
    (hKernel18Ideal := Cert.Kernel18Ideal.Gen.facts) (hReference18Ideal := Cert.Reference18Ideal.Gen.facts)
    (hPre_finite_kv_proj_dx := pre_facts) := by
  intro m g m' g' hpre hargs
  refine ⟨fun c => G7 m c, fun c => G8 m c, fun c => G9 m c, fun c => G10 m c, ?_, ?_⟩
  · refine (θ_run (Cert.Kernel18Ideal.defs (F := Ideal)) _ _).mono (fun r h c => ?_) (Value.run_blocks m g)
    obtain ⟨a, b, d, e, h⟩ := h c
    have hf := finite_of_pre m hpre c
    exact ⟨a.trans ((dats m 0 c).arrAt_eq_of_cover 7 (G7 m c) (fun t _ => flushed7_eq m c hf t) cover7),
      b.trans ((dats m 0 c).arrAt_eq_of_cover 8 (G8 m c) (fun t _ => flushed8_eq m c hf t) cover8),
      d.trans ((dats m 0 c).arrAt_eq_of_cover 9 (G9 m c) (fun t hf => flushed9_eq m c t hf) cover9),
      e.trans ((dats m 0 c).arrAt_eq_of_cover 10 (G10 m c) (fun t hf => flushed10_eq m c t hf) cover10), h⟩
  · refine (θ_run (Cert.Reference18Ideal.defs (F := Ideal)) _ _).mono (fun r h c => ?_)
      (Cert.Reference18Ideal.Value.run (F := Ideal) m' g')
    obtain ⟨a, b, d, e, h⟩ := h c
    obtain ⟨e0, e1, e2, e3, e4, e5, e6⟩ := hargs c
    refine ⟨(a.trans (val_main_v73_eq _ _)).trans ?_, (b.trans (val_main_v74_eq _ _)).trans ?_,
      (d.trans (val_main_v55_eq _ _ _)).trans ?_, (e.trans (val_main_v35_eq _ _)).trans ?_, h⟩
    · rw [e0, e1, e2, e3, e4, e5, e6]
    · rw [e0, e1, e2, e3, e4, e5, e6]
    · rw [e0, e1, e2]
    · rw [e2, e6]

end Cert.KvProjDx

end
-- ==== Proof.Val19.lean ====
/- The value of the optimiser's step on a device's part of a square matrix: entry by entry the kernel and the reference
   compute the same expression of the weight, its gradient and the two moments. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise

@[expose] public section

noncomputable section

namespace Cert.Step19

open Cert.Kernel19Ideal Cert.Kernel19Ideal.Gen Idealize.ShloMosaic Idealize.ShloMosaic.TcCoe Idealize.SL.Sem

theorem G4_eq (x0 x1 x2 x3 : (⟨S256x1024, .f32⟩ : BufTy).Contents (Elt Ideal)) :
    Value.G4 (F := Ideal) x0 x1 x2 x3 = Cert.Reference19Ideal.Read.val_main_v23 (F := Ideal) x0 x1 x2 x3 := by
  funext i
  rfl

theorem G5_eq (x1 x2 : (⟨S256x1024, .f32⟩ : BufTy).Contents (Elt Ideal)) :
    Value.G5 (F := Ideal) x1 x2 = Cert.Reference19Ideal.Read.val_main_v4 (F := Ideal) x1 x2 := by
  funext i
  rfl

theorem G6_eq (x1 x3 : (⟨S256x1024, .f32⟩ : BufTy).Contents (Elt Ideal)) :
    Value.G6 (F := Ideal) x1 x3 = Cert.Reference19Ideal.Read.val_main_v10 (F := Ideal) x1 x3 := by
  funext i
  rfl

/-- From equal arguments the kernel and the reference end with equal arrays, whatever the arguments are. -/
theorem algebraic : Cert.algebraic_Kernel19Ideal_Reference19Ideal
    (hKernel19Ideal := Cert.Kernel19Ideal.Gen.facts) (hReference19Ideal := Cert.Reference19Ideal.Gen.facts) := by
  intro m g m' g' _ hargs
  refine ⟨fun c => Cert.Reference19Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference19Ideal.Read.val_main_v4 (F := Ideal) (m ((c : Thread nD τ).loc main_arg1)) (m ((c : Thread nD τ).loc main_arg2)),
    fun c => Cert.Reference19Ideal.Read.val_main_v10 (F := Ideal) (m ((c : Thread nD τ).loc main_arg1)) (m ((c : Thread nD τ).loc main_arg3)), ?_, ?_⟩
  · refine (θ_run (Cert.Kernel19Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference19Ideal.defs (F := Ideal)) _ _).mono (fun r h c => ?_)
      (Cert.Reference19Ideal.Value.run (F := Ideal) m' g')
    obtain ⟨a, b, d, h⟩ := h c
    obtain ⟨e0, e1, e2, e3⟩ := hargs c
    refine ⟨(a.trans (Cert.Reference19Ideal.Read.val_main_v23_eq _ _ _ _)).trans ?_,
      (b.trans (Cert.Reference19Ideal.Read.val_main_v4_eq _ _)).trans ?_,
      (d.trans (Cert.Reference19Ideal.Read.val_main_v10_eq _ _)).trans ?_, h⟩
    · rw [e0, e1, e2, e3]
    · rw [e1, e2]
    · rw [e1, e3]

end Cert.Step19

end
-- ==== Proof.Pool.lean ====
/- What the two pooling calls share: windows, counts, running sums, and the difference of two running sums as the sum over
   a window. -/
module

public import Idealize.ShloMosaic.Lib.Pointwise
public import Idealize.ShloMosaic.Lib.KernelVsHost
public import proofs.«01_k».proof.Proof.Math

@[expose] public section

noncomputable section

namespace Cert.Pool

open Idealize.ShloMosaic

/-- The window of a channel, as a number and as a word. -/
def width (c : ℕ) : ℕ := if c < 192 then 2 else if c < 384 then 4 else if c < 576 then 8 else 16
def word (c : ℕ) : BitVec 32 := if c < 192 then 2#32 else if c < 384 then 4#32 else if c < 576 then 8#32 else 16#32

/-- How many entries the window that ends at row `R` holds. -/
def count (w : BitVec 32) (R : ℕ) : BitVec 32 := IntOp.minsi (BitVec.ofNat 32 (R + 1)) w

theorem count_ne_zero (c R : ℕ) (h : R < 5000) : (((count (word c) R).toInt : ℤ) : ℝ) ≠ 0 := by
  have hw : (word c).toInt ≠ 0 := by
    unfold word
    split_ifs <;> decide
  have hR : (BitVec.ofNat 32 (R + 1)).toInt ≠ 0 := by
    have hn : (BitVec.ofNat 32 (R + 1)).toNat = R + 1 := by rw [BitVec.toNat_ofNat]; exact Nat.mod_eq_of_lt (by omega)
    rw [BitVec.toInt_eq_toNat_of_lt (by rw [hn]; omega), hn]
    omega
  have : (count (word c) R).toInt ≠ 0 := by
    unfold count IntOp.minsi
    split_ifs
    · exact hR
    · exact hw
  exact_mod_cast this

/-- A sum over windows from zero is a sum over the window's positions. -/
theorem window_sum {s t u : Shape} (window strides lo hi : Fin s.rank → ℕ) (x : FVec Ideal s .f32)
    (init : u.Idx → Ideal .f32) (h : s.ReduceWindows window strides lo hi t) (hu : 0 < u.numel)
    (hi0 : init (Shape.Idx.first hu) = (0 : EReal)) (j : t.Idx) (f : (⟨s.rank, window⟩ : Shape).Idx → EReal)
    (hf : ∀ k : (⟨s.rank, window⟩ : Shape).Idx,
      (if hin : ∀ a, lo a ≤ (j (a.cast h.1.symm)).val * strides a + (k a).val
          ∧ (j (a.cast h.1.symm)).val * strides a + (k a).val - lo a < s.size a
        then x (fun a => ⟨(j (a.cast h.1.symm)).val * strides a + (k a).val - lo a, (hin a).2⟩) else (0 : EReal)) = f k) :
    Host.reduceWindowAdd (t := t) window strides lo hi x init h hu j = ∑ k, f k := by
  rw [sum_idx_eq_foldl, ← funext hf, ← hi0]
  show Ideal.hostReduceWindowAdd window strides lo hi h x (init (Shape.Idx.first hu)) j = _
  unfold Ideal.hostReduceWindowAdd Host.reduceWindow
  dsimp only
  refine congrArg (fun F => List.foldl F _ _) (funext fun r => funext fun n => congrArg (r + ·) ?_)
  split_ifs <;> rfl

/-- A running sum from a row to the end. -/
theorem suffix_sum (x : FVec Ideal (⟨2, ![4096, 768]⟩ : Shape) .f32) {u : Shape} (init : u.Idx → Ideal .f32) (h) (hu)
    (hi : init (Shape.Idx.first hu) = (0 : EReal)) (R : Fin 4096) (c : Fin 768) :
    Host.reduceWindowAdd (t := (⟨2, ![4096, 768]⟩ : Shape)) ![4096, 1] ![1, 1] ![0, 0] ![4095, 0] x init h hu (ix2 R c)
      = ∑ n : Fin 4096, if h : R.val + n.val < 4096 then x (ix2 ⟨R.val + n.val, h⟩ c) else (0 : EReal) := by
  refine Eq.trans (b := ∑ k : (⟨2, ![4096, 1]⟩ : Shape).Idx,
    if h : R.val + (k 0).val < 4096 then x (ix2 ⟨R.val + (k 0).val, h⟩ c) else (0 : EReal)) ?_ ?_
  · refine window_sum _ _ _ _ x init h hu hi _ _ fun k => ?_
    have k1 : (k 1).val = 0 := by have : (k 1).val < 1 := (k 1).isLt; omega
    by_cases hlt : R.val + (k 0).val < 4096
    · rw [dif_pos hlt]
      rw [dif_pos]
      · refine congrArg x (Shape.idx_ext₂ ?_ ?_)
        · show R.val * 1 + (k 0).val - 0 = _
          rw [Nat.mul_one]; rfl
        · show c.val * 1 + (k 1).val - 0 = _
          rw [Nat.mul_one, k1]; rfl
      · intro a
        match a with
        | ⟨0, _⟩ =>
          refine ⟨Nat.zero_le _, ?_⟩
          show R.val * 1 + (k 0).val - 0 < 4096
          omega
        | ⟨1, _⟩ =>
          refine ⟨Nat.zero_le _, ?_⟩
          show c.val * 1 + (k 1).val - 0 < 768
          rw [k1]; omega
    · rw [dif_neg hlt]
      rw [dif_neg]
      intro hin
      have := (hin 0).2
      change R.val * 1 + (k 0).val - 0 < 4096 at this
      omega
  · rw [ValueIdx.sum_idx2]
    exact Finset.sum_congr rfl fun n _ => Fin.sum_univ_one _

/-- A running sum from the start to a row. -/
theorem prefix_sum (x : FVec Ideal (⟨2, ![4096, 768]⟩ : Shape) .f32) {u : Shape} (init : u.Idx → Ideal .f32) (h) (hu)
    (hi : init (Shape.Idx.first hu) = (0 : EReal)) (R : Fin 4096) (c : Fin 768) :
    Host.reduceWindowAdd (t := (⟨2, ![4096, 768]⟩ : Shape)) ![4096, 1] ![1, 1] ![4095, 0] ![0, 0] x init h hu (ix2 R c)
      = ∑ n : Fin 4096, if h : 4095 ≤ R.val + n.val then
          x (ix2 ⟨R.val + n.val - 4095, by omega⟩ c) else (0 : EReal) := by
  refine Eq.trans (b := ∑ k : (⟨2, ![4096, 1]⟩ : Shape).Idx,
    if h : 4095 ≤ R.val + (k 0).val then
      x (ix2 ⟨R.val + (k 0).val - 4095, by have : (k 0).val < 4096 := (k 0).isLt; omega⟩ c) else (0 : EReal)) ?_ ?_
  · refine window_sum _ _ _ _ x init h hu hi _ _ fun k => ?_
    have k0 : (k 0).val < 4096 := (k 0).isLt
    have k1 : (k 1).val = 0 := by have : (k 1).val < 1 := (k 1).isLt; omega
    by_cases hlt : 4095 ≤ R.val + (k 0).val
    · rw [dif_pos hlt]
      rw [dif_pos]
      · refine congrArg x (Shape.idx_ext₂ ?_ ?_)
        · show R.val * 1 + (k 0).val - 4095 = _
          rw [Nat.mul_one]; rfl
        · show c.val * 1 + (k 1).val - 0 = _
          rw [Nat.mul_one, k1]; rfl
      · intro a
        match a with
        | ⟨0, _⟩ =>
          refine ⟨?_, ?_⟩
          · show 4095 ≤ R.val * 1 + (k 0).val
            omega
          · show R.val * 1 + (k 0).val - 4095 < 4096
            omega
        | ⟨1, _⟩ =>
          refine ⟨Nat.zero_le _, ?_⟩
          show c.val * 1 + (k 1).val - 0 < 768
          rw [k1]; omega
    · rw [dif_neg hlt]
      rw [dif_neg]
      intro hin
      have := (hin 0).1
      change 4095 ≤ R.val * 1 + (k 0).val at this
      omega
  · rw [ValueIdx.sum_idx2]
    exact Finset.sum_congr rfl fun n _ => Fin.sum_univ_one _

/-- Rows padded below, and columns padded on both sides. -/
theorem pad_rows {n k : ℕ} (hn : n + k = 4096) (x : (⟨2, ![n, 192]⟩ : Shape).Idx → EReal) {u : Shape} (v : u.Idx → EReal)
    (h) (hu) (R : Fin 4096) (j : Fin 192) :
    pad (⟨2, ![4096, 192]⟩ : Shape) ![0, 0] ![k, 0] ![0, 0] x v h hu (ix2 R j)
      = if hR : R.val < n then x (ix2 ⟨R.val, hR⟩ j) else v (Shape.Idx.first hu) := by
  by_cases hR : R.val < n
  · rw [dif_pos hR]
    refine pad_apply_of_inside _ _ _ _ _ h hu _ _ fun a => ?_
    match a with
    | ⟨0, _⟩ => show R.val = 0 + R.val * (0 + 1); omega
    | ⟨1, _⟩ => show j.val = 0 + j.val * (0 + 1); omega
  · rw [dif_neg hR]
    refine pad_apply_of_not_inside _ _ _ _ _ h hu _ (0 : Fin 2) fun hin => hR ?_
    have h2 : (R.val - 0) / (0 + 1) < n := hin.2.2
    omega

theorem pad_cols {lo hi : ℕ} (x : (⟨2, ![4096, 192]⟩ : Shape).Idx → EReal) {u : Shape} (v : u.Idx → EReal)
    (h) (hu) (R : Fin 4096) (c : Fin 768) :
    pad (⟨2, ![4096, 768]⟩ : Shape) ![0, lo] ![0, hi] ![0, 0] x v h hu (ix2 R c)
      = if hc : lo ≤ c.val ∧ c.val - lo < 192 then x (ix2 R ⟨c.val - lo, hc.2⟩) else v (Shape.Idx.first hu) := by
  by_cases hc : lo ≤ c.val ∧ c.val - lo < 192
  · rw [dif_pos hc]
    refine pad_apply_of_inside _ _ _ _ _ h hu _ _ fun a => ?_
    match a with
    | ⟨0, _⟩ => show R.val = 0 + R.val * (0 + 1); omega
    | ⟨1, _⟩ => show c.val = lo + (c.val - lo) * (0 + 1); omega
  · rw [dif_neg hc]
    refine pad_apply_of_not_inside _ _ _ _ _ h hu _ (1 : Fin 2) fun hin => hc ?_
    have h1 : lo ≤ c.val := hin.1
    have h2 : (c.val - lo) / (0 + 1) < 192 := hin.2.2
    omega

/-- A running sum's difference, of a sequence that ends, is the sum over a window. -/
theorem tail_diff (z : ℕ → ℝ) (hz : ∀ n, 4096 ≤ n → z n = 0) (R w : ℕ) :
    ∑ n ∈ Finset.range 4096, (z (R + n) - z (R + n + w)) = ∑ k ∈ Finset.range w, z (R + k) := by
  have a := Finset.sum_range_add (fun n => z (R + n)) w 4096
  have b := Finset.sum_range_add (fun n => z (R + n)) 4096 w
  have c : ∑ k ∈ Finset.range w, z (R + (4096 + k)) = 0 := Finset.sum_eq_zero fun k _ => hz _ (by omega)
  rw [c, add_zero, add_comm 4096 w, a] at b
  rw [Finset.sum_sub_distrib, ← b, sub_eq_iff_eq_add]
  refine congrArg _ (Finset.sum_congr rfl fun n _ => congrArg z (by omega))

end Cert.Pool

end
-- ==== Proof.Val2.lean ====
/- The value of the backward pass of the multi-scale pooling: the kernel's eight blocks of 512 rows, put together, are the
   reference's array. The kernel adds each window of quotients by doubling: pairs, fours, eights, sixteens. The
   reference transposes a running sum and a difference of it, so its entry is a sum to the end of the sequence of
   differences, which telescopes to the window. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Math
public import proofs.«01_k».proof.Proof.Pool
public import Idealize.ShloMosaic.Lib.Pointwise
public import Idealize.ShloMosaic.Lib.KernelVsHost

@[expose] public section

noncomputable section

namespace Cert.PoolBwd

open Cert.Kernel2Ideal Cert.Kernel2Ideal.Gen Idealize.ShloMosaic Idealize.ShloMosaic.TcCoe Idealize.SL.Sem
open Idealize.ShloMosaic.Pipeline (Dat Window)
open Cert.Pool

variable (m : (ℓ : Loc nD τ sig) → Buf (Elt Ideal) ℓ)

theorem lt_N (t : Fin cfg0.N) : t.val < 8 := lt_of_lt_of_eq t.isLt N_0

/-- Row `r` of block `t`. -/
def row (t : Fin cfg0.N) (r : Fin 512) : Fin 4096 := ⟨t.val * 512 + r.val, by have := lt_N t; omega⟩

theorem idx_facts : ∀ t : Fin cfg0.N, win0_0.index t 0 = t.val ∧ win0_0.index t 1 = 0
    ∧ (t.val < 7 → win0_1.index t 0 = (t.val + 1) * 32) ∧ win0_1.index t 1 = 0
    ∧ win0_2.index t 0 = t.val ∧ win0_2.index t 1 = 0 ∧ ((grid0.coords t) 0).val = t.val :=
  (by decide +kernel : ∀ t : Fin grid0.N, win0_0.index t 0 = t.val ∧ win0_0.index t 1 = 0
    ∧ (t.val < 7 → win0_1.index t 0 = (t.val + 1) * 32) ∧ win0_1.index t 1 = 0
    ∧ win0_2.index t 0 = t.val ∧ win0_2.index t 1 = 0 ∧ ((grid0.coords t) 0).val = t.val)

theorem iblk0_apply (c : Dev nD) (t : Fin cfg0.N) (r : Fin 512) (k : Fin 768) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (ht : t.val < 7) (r : Fin 16) (k : Fin 768) :
    iblk m c 1 t (ix2 r k)
      = m ((c : Thread nD τ).loc main_arg0) (ix2 ⟨(t.val + 1) * 512 + r.val, by omega⟩ k) := by
  obtain ⟨-, -, h0, h1, -⟩ := idx_facts t
  show m ((c : Thread nD τ).loc main_arg0) ((win0_1.rect t).emb (ix2 r k)) = _
  refine congrArg _ (Shape.idx_ext₂ ?_ ?_)
  · rw [win0_1.rect_emb_val, h0 ht]
    show (t.val + 1) * 32 * 16 + r.val = (t.val + 1) * 512 + r.val
    omega
  · rw [win0_1.rect_emb_val, h1]; exact (Nat.zero_mul _).symm ▸ Nat.zero_add _

/-- The quotients: an entry over the size of the window that ends at it, and nothing after the last row. -/
def quot (ρ : S4096x768.Idx → ℝ) (c : Fin 768) (R : ℕ) : ℝ :=
  if h : R < 4096 then ρ (ix2 ⟨R, h⟩ c) * (1 / (((count (word c) R).toInt : ℤ) : ℝ)) else 0

theorem quot_end (ρ : S4096x768.Idx → ℝ) (c : Fin 768) (R : ℕ) (h : 4096 ≤ R) : quot ρ c R = 0 := dif_neg (by omega)

theorem div_count (ρ : S4096x768.Idx → ℝ) (c : Fin 768) (R : ℕ) (h : R < 4096) (x : EReal)
    (hx : x = (ρ (ix2 ⟨R, h⟩ c) : EReal)) :
    Ideal.div x ((((count (word c) R).toInt : ℤ) : ℝ) : EReal) = (quot ρ c R : EReal) := by
  rw [Ideal.div_coe (count_ne_zero c R (by omega)), hx, ← EReal.coe_mul, quot, dif_pos h]

/-! ## The kernel -/

section Kernel

theorem width_word : ∀ c : Fin 768,
    Scalar.select (IntOp.cmpi .slt (BitVec.ofNat 32 c.val) 192#32) 2#32
      (Scalar.select (IntOp.cmpi .slt (BitVec.ofNat 32 c.val) 384#32) 4#32
        (Scalar.select (IntOp.cmpi .slt (BitVec.ofNat 32 c.val) 576#32) 8#32 16#32)) = word c := by
  decide +kernel

theorem column_apply (n : Fin 528) (c : Fin 768) :
    iota .tc S528x768 32 [1] iota_S528x768_d1_w32 (ix2 n c) = BitVec.ofNat 32 c.val := by
  show BitVec.ofNat 32 (0 * 768 + c.val) = _
  rw [Nat.zero_mul, Nat.zero_add]

theorem row_apply (n : Fin 528) (c : Fin 768) :
    iota .tc S528x768 32 [0] iota_S528x768_d0_w32 (ix2 n c) = BitVec.ofNat 32 n.val := by
  show BitVec.ofNat 32 (0 * 528 + n.val) = _
  rw [Nat.zero_mul, Nat.zero_add]

theorem pay2_apply (n : Fin 528) (c : Fin 768) : k0_pay2 (ix2 n c) = word c := by
  rw [← width_word c, ← column_apply n c]
  rfl

/-- The quotients of one block and of the sixteen rows after it. -/
def quots (i : grid0.Coords) (v0 : Vec Ideal S512x768 .f32) (v2 : Vec Ideal S16x768 .f32) : FVec Ideal S528x768 .f32 :=
  divf (concatenate S528x768 0 [⟨S512x768, v0⟩,
      ⟨S16x768, Scalar.select (Scalar.cmpi .eq (BitVec.ofNat 32 (i 0).val) 7#32)
        (broadcast S16x768 (Scalar.ofBits (F := Ideal) .f32 0x00000000#32)) v2⟩] concatenates_S512x768_S16x768_S528x768_d0)
    (sitofp .f32 (minsi (addi (addi (broadcast S528x768 (Scalar.muli (BitVec.ofNat 32 (i 0).val) 512#32))
      (iota .tc S528x768 32 [0] iota_S528x768_d0_w32)) (broadcast S528x768 1#32)) k0_pay2))

theorem pay3_eq (i : grid0.Coords) (v0 : Vec Ideal S512x768 .f32) (v2 : Vec Ideal S16x768 .f32) :
    k0_pay3 i v0 v2 = addf (quots i v0 v2) (dynamicRotate 0 527#32 none (quots i v0 v2) rotates_S528x768_d0) := rfl

/-- A rotation by all but `k` rows reads `k` rows on. -/
theorem rotate_apply (sb : BitVec 32) (k : ℕ) (hsb : sb.toNat + k = 528) (hk : 0 < k) (x : S528x768.Idx → EReal)
    (h : S528x768.Rotates 0 none) (n : Fin 528) (hn : n.val + k < 528) (c : Fin 768) :
    dynamicRotate (0 : Fin 2) sb none x h (ix2 n c) = x (ix2 ⟨n.val + k, hn⟩ c) := by
  refine dynamicRotate_apply (s := S528x768) 0 sb x h _ _ fun b => ?_
  match b with
  | ⟨0, _⟩ =>
    show n.val + k = (n.val + 528 - sb.toNat % 528) % 528
    rw [Nat.mod_eq_of_lt (by omega : sb.toNat < 528), Nat.mod_eq_of_lt (by omega)]
    omega
  | ⟨1, _⟩ => rfl

theorem quots_apply (c : Dev nD) (t : Fin cfg0.N) (ρ : S4096x768.Idx → ℝ)
    (hρ : ∀ i : S4096x768.Idx, m ((c : Thread nD τ).loc main_arg0) i = (ρ i : EReal)) (n : Fin 528) (j : Fin 768) :
    quots (grid0.coords t) (iblk m c 0 t) (iblk m c 1 t) (ix2 n j) = (quot ρ j (t.val * 512 + n.val) : EReal) := by
  have ht := lt_N t
  obtain ⟨-, -, -, -, -, -, hc⟩ := idx_facts t
  have hcnt : (minsi (addi (addi (broadcast S528x768 (Scalar.muli (BitVec.ofNat 32 ((grid0.coords t) 0).val) 512#32))
      (iota .tc S528x768 32 [0] iota_S528x768_d0_w32)) (broadcast S528x768 1#32)) k0_pay2) (ix2 n j)
      = count (word j) (t.val * 512 + n.val) := by
    show IntOp.minsi (BitVec.ofNat 32 ((grid0.coords t) 0).val * 512#32 + iota .tc S528x768 32 [0] iota_S528x768_d0_w32 (ix2 n j)
      + 1#32) (k0_pay2 (ix2 n j)) = _
    rw [pay2_apply, row_apply, hc]
    unfold Pool.count
    congr 1
    rw [BitVec.ofNat_add, BitVec.ofNat_add, BitVec.ofNat_mul]
  show Ideal.div (concatenate S528x768 0 [⟨S512x768, iblk m c 0 t⟩,
      ⟨S16x768, Scalar.select (Scalar.cmpi .eq (BitVec.ofNat 32 ((grid0.coords t) 0).val) 7#32)
        (broadcast S16x768 (Scalar.ofBits (F := Ideal) .f32 0x00000000#32)) (iblk m c 1 t)⟩]
          concatenates_S512x768_S16x768_S528x768_d0 (ix2 n j))
    ((((minsi (addi (addi (broadcast S528x768 (Scalar.muli (BitVec.ofNat 32 ((grid0.coords t) 0).val) 512#32))
      (iota .tc S528x768 32 [0] iota_S528x768_d0_w32)) (broadcast S528x768 1#32)) k0_pay2) (ix2 n j)).toInt : ℝ) : EReal) = _
  rw [hcnt]
  by_cases hn : n.val < 512
  · rw [concatenate_pair_apply_left (t := S528x768) (s₁ := S512x768) (s₂ := S16x768) 0 _ _ _ (ix2 n j) rfl (ix2 ⟨n.val, hn⟩ j)
      (fun b => by match b with | ⟨0, _⟩ => rfl | ⟨1, _⟩ => rfl), iblk0_apply]
    exact div_count ρ j _ (by omega) _ (hρ _)
  · rw [concatenate_pair_apply_right (t := S528x768) (s₁ := S512x768) (s₂ := S16x768) 0 _ _ _ (ix2 n j) rfl rfl
      (ix2 ⟨n.val - 512, by omega⟩ j)
      (fun b hb => by match b with | ⟨0, _⟩ => exact absurd rfl hb | ⟨1, _⟩ => rfl)
      (by show n.val - 512 + 512 = n.val; omega), hc]
    by_cases h7 : t.val = 7
    · have e : Scalar.select (α := Vec Ideal S16x768 .f32) (Scalar.cmpi .eq (BitVec.ofNat 32 t.val) 7#32)
          (broadcast S16x768 (Scalar.ofBits (F := Ideal) .f32 0x00000000#32)) (iblk m c 1 t)
          = broadcast S16x768 (Scalar.ofBits (F := Ideal) .f32 0x00000000#32) := by rw [h7]; rfl
      rw [e, quot_end _ _ _ (by omega)]
      show Ideal.div (Ideal.ofBits .f32 0x00000000#32) _ = _
      rw [Ideal.div_coe (count_ne_zero _ _ (by omega))]
      simp [Ideal.ofBits, Ideal.ieee]
    · have e : Scalar.select (α := Vec Ideal S16x768 .f32) (Scalar.cmpi .eq (BitVec.ofNat 32 t.val) 7#32)
          (broadcast S16x768 (Scalar.ofBits (F := Ideal) .f32 0x00000000#32)) (iblk m c 1 t) = iblk m c 1 t := by
        have : ∀ t : Fin 7, Scalar.cmpi .eq (BitVec.ofNat 32 t.val) 7#32 = 0#1 := by decide
        rw [show Scalar.cmpi .eq (BitVec.ofNat 32 t.val) 7#32 = 0#1 from this ⟨t.val, by omega⟩]
        rfl
      rw [e, iblk1_apply m c t (by omega)]
      refine div_count ρ j _ (by omega) _ ((hρ _).trans (congrArg (fun i => (ρ i : EReal)) (Shape.idx_ext₂ ?_ rfl)))
      show (t.val + 1) * 512 + (n.val - 512) = t.val * 512 + n.val
      omega

variable (i : grid0.Coords) (v0 : Vec Ideal S512x768 .f32) (v2 : Vec Ideal S16x768 .f32)
variable (z : ℕ → ℝ) (b : ℕ) (j : Fin 768) (hz : ∀ n : Fin 528, quots i v0 v2 (ix2 n j) = (z (b + n.val) : EReal))
include hz

theorem two_apply (n : Fin 528) (hn : n.val + 1 < 528) :
    k0_pay3 i v0 v2 (ix2 n j) = ((∑ k ∈ Finset.range 2, z (b + n.val + k) : ℝ) : EReal) := by
  rw [pay3_eq]
  show quots i v0 v2 (ix2 n j) + dynamicRotate 0 527#32 none (quots i v0 v2) rotates_S528x768_d0 (ix2 n j) = _
  rw [rotate_apply 527#32 1 rfl (by omega) _ _ n hn, hz, hz, ← EReal.coe_add, Finset.sum_range_succ, Finset.sum_range_one]
  rfl

theorem four_apply (n : Fin 528) (hn : n.val + 3 < 528) :
    k0_pay4 i v0 v2 (ix2 n j) = ((∑ k ∈ Finset.range 4, z (b + n.val + k) : ℝ) : EReal) := by
  show k0_pay3 i v0 v2 (ix2 n j) + dynamicRotate 0 526#32 none (k0_pay3 i v0 v2) rotates_S528x768_d0 (ix2 n j) = _
  rw [rotate_apply 526#32 2 rfl (by omega) _ _ n (by omega), two_apply i v0 v2 z b j hz n (by omega),
    two_apply i v0 v2 z b j hz _ (by show n.val + 2 + 1 < 528; omega), ← EReal.coe_add, Finset.sum_range_add _ 2 2]
  simp only [Nat.add_assoc]

theorem eight_apply (n : Fin 528) (hn : n.val + 7 < 528) :
    k0_pay5 i v0 v2 (ix2 n j) = ((∑ k ∈ Finset.range 8, z (b + n.val + k) : ℝ) : EReal) := by
  show k0_pay4 i v0 v2 (ix2 n j) + dynamicRotate 0 524#32 none (k0_pay4 i v0 v2) rotates_S528x768_d0 (ix2 n j) = _
  rw [rotate_apply 524#32 4 rfl (by omega) _ _ n (by omega), four_apply i v0 v2 z b j hz n (by omega),
    four_apply i v0 v2 z b j hz _ (by show n.val + 4 + 3 < 528; omega), ← EReal.coe_add, Finset.sum_range_add _ 4 4]
  simp only [Nat.add_assoc]

theorem sixteen_apply (n : Fin 528) (hn : n.val + 15 < 528) :
    k0_pay6 i v0 v2 (ix2 n j) = ((∑ k ∈ Finset.range 16, z (b + n.val + k) : ℝ) : EReal) := by
  show k0_pay5 i v0 v2 (ix2 n j) + dynamicRotate 0 520#32 none (k0_pay5 i v0 v2) rotates_S528x768_d0 (ix2 n j) = _
  rw [rotate_apply 520#32 8 rfl (by omega) _ _ n (by omega), eight_apply i v0 v2 z b j hz n (by omega),
    eight_apply i v0 v2 z b j hz _ (by show n.val + 8 + 7 < 528; omega), ← EReal.coe_add, Finset.sum_range_add _ 8 8]
  simp only [Nat.add_assoc]

/-- One entry of a block: the window's sum less the entry. -/
theorem pay1_apply (r : Fin 512) :
    k0_pay1 v0 k0_pay2 (k0_pay3 i v0 v2) (k0_pay4 i v0 v2) (k0_pay5 i v0 v2) (k0_pay6 i v0 v2) k0_pay7 (ix2 r j)
      = ((∑ k ∈ Finset.range (width j), z (b + r.val + k) : ℝ) : EReal) - v0 (ix2 r j) := by
  have e : k0_pay1 v0 k0_pay2 (k0_pay3 i v0 v2) (k0_pay4 i v0 v2) (k0_pay5 i v0 v2) (k0_pay6 i v0 v2) k0_pay7 (ix2 r j)
      = Scalar.select (IntOp.cmpi .eq (k0_pay2 (ix2 (⟨r.val, by omega⟩ : Fin 528) j)) 2#32)
          (k0_pay3 i v0 v2 (ix2 (⟨r.val, by omega⟩ : Fin 528) j))
          (Scalar.select (IntOp.cmpi .eq (k0_pay2 (ix2 (⟨r.val, by omega⟩ : Fin 528) j)) 4#32)
            (k0_pay4 i v0 v2 (ix2 (⟨r.val, by omega⟩ : Fin 528) j))
            (Scalar.select (IntOp.cmpi .eq (k0_pay2 (ix2 (⟨r.val, by omega⟩ : Fin 528) j)) 8#32)
              (k0_pay5 i v0 v2 (ix2 (⟨r.val, by omega⟩ : Fin 528) j))
              (k0_pay6 i v0 v2 (ix2 (⟨r.val, by omega⟩ : Fin 528) j)))) - v0 (ix2 r j) := by
    pointwise [k0_pay1, k0_pay7]
  rw [e, pay2_apply]
  congr 1
  rw [two_apply i v0 v2 z b j hz _ (by show r.val + 1 < 528; omega), four_apply i v0 v2 z b j hz _ (by show r.val + 3 < 528; omega),
    eight_apply i v0 v2 z b j hz _ (by show r.val + 7 < 528; omega), sixteen_apply i v0 v2 z b j hz _ (by show r.val + 15 < 528; omega)]
  unfold word width
  split_ifs <;> rfl

end Kernel

/-! ## The reference, entry by entry -/

section Reference
open Cert.Reference2Ideal.Read

variable (ρ : S4096x768.Idx → ℝ)

theorem zero_bits : Ideal.ofBits .f32 0x00000000#32 = (0 : EReal) := by simp [Ideal.ofBits, Ideal.ieee]

/-- A column less the same column moved up, nothing after the end. -/
theorem diff_apply (c : Fin 768) {n k : ℕ} (q : Cert.Reference2Ideal.S4096x192.Idx → EReal) (j : Fin 192) (hn : n + k = 4096)
    (y : (⟨2, ![n, 192]⟩ : Shape).Idx → EReal) {u : Shape} (v : u.Idx → EReal) (h) (hu)
    (hq : ∀ R : Fin 4096, q (ix2 R j) = (quot ρ c R.val : EReal))
    (hy : ∀ R : Fin n, y (ix2 R j) = -(quot ρ c (R.val + k) : EReal)) (hv : v (Shape.Idx.first hu) = 0) (R : Fin 4096) :
    q (ix2 R j) + pad Cert.Reference2Ideal.S4096x192 ![0, 0] ![k, 0] ![0, 0] y v h hu (ix2 R j)
      = ((quot ρ c R.val - quot ρ c (R.val + k) : ℝ) : EReal) := by
  rw [hq, Pool.pad_rows hn]
  by_cases hR : R.val < n
  · rw [dif_pos hR, hy]
    norm_cast
  · rw [dif_neg hR, hv, add_zero, quot_end ρ c (R.val + k) (by omega), sub_zero]

variable (x0 : (⟨S4096x768, .f32⟩ : BufTy).Contents (Elt Ideal)) (hρ : ∀ i : S4096x768.Idx, x0 i = (ρ i : EReal))
include hρ

/-- The quotients of the group of columns from 0 on, whose windows hold 2 rows. -/
theorem ref_quot2 (R : Fin 4096) (j : Fin 192) :
    val_main_v94 (F := Ideal) x0 (ix2 R j) = (quot ρ ⟨0 + j.val, by omega⟩ R.val : EReal) := by
  have hw : word (0 + j.val) = 2#32 := by
    unfold word
    split_ifs <;> first | rfl | omega
  have hc : val_main_v93 (F := Ideal) (ix2 R j)
      = ((((Pool.count (word (0 + j.val)) R.val).toInt : ℤ) : ℝ) : EReal) := by
    rw [hw]
    unfold Pool.count
    rw [BitVec.ofNat_add]
    rfl
  have hs : val_main_v63 (F := Ideal) x0 (ix2 R j) = (ρ (ix2 R ⟨0 + j.val, by omega⟩) : EReal) := by
    rw [← hρ, val_main_v63_apply, val_main_v61, shapeCast_self]
    exact congrArg x0 (Shape.idx_ext₂ rfl (Nat.zero_add _).symm)
  rw [val_main_v94_apply, hc]
  exact div_count ρ ⟨0 + j.val, by omega⟩ R.val R.isLt _ hs

theorem ref_diff2 (R : Fin 4096) (j : Fin 192) :
    val_main_v99 (F := Ideal) x0 (ix2 R j)
      = ((quot ρ ⟨0 + j.val, by omega⟩ R.val - quot ρ ⟨0 + j.val, by omega⟩ (R.val + 2) : ℝ) : EReal) := by
  rw [val_main_v99_apply]
  refine diff_apply ρ (k := 2) (n := 4094) _ _ _ rfl _ _ _ _ (fun R' => ref_quot2 ρ x0 hρ R' j) (fun R' => ?_) zero_bits R
  rw [val_main_v97_apply, val_main_v95_apply, show idx_main_v97 (ix2 R' j) = ix2 ⟨R'.val + 2, by omega⟩ j from Shape.idx_ext₂ (Nat.add_comm _ _) rfl,
    ref_quot2 ρ x0 hρ]
  rfl

/-- The quotients of the group of columns from 192 on, whose windows hold 4 rows. -/
theorem ref_quot4 (R : Fin 4096) (j : Fin 192) :
    val_main_v85 (F := Ideal) x0 (ix2 R j) = (quot ρ ⟨192 + j.val, by omega⟩ R.val : EReal) := by
  have hw : word (192 + j.val) = 4#32 := by
    unfold word
    split_ifs <;> first | rfl | omega
  have hc : val_main_v84 (F := Ideal) (ix2 R j)
      = ((((Pool.count (word (192 + j.val)) R.val).toInt : ℤ) : ℝ) : EReal) := by
    rw [hw]
    unfold Pool.count
    rw [BitVec.ofNat_add]
    rfl
  have hs : val_main_v64 (F := Ideal) x0 (ix2 R j) = (ρ (ix2 R ⟨192 + j.val, by omega⟩) : EReal) := by
    rw [← hρ, val_main_v64_apply, val_main_v61, shapeCast_self]
    exact congrArg x0 (Shape.idx_ext₂ rfl rfl)
  rw [val_main_v85_apply, hc]
  exact div_count ρ ⟨192 + j.val, by omega⟩ R.val R.isLt _ hs

theorem ref_diff4 (R : Fin 4096) (j : Fin 192) :
    val_main_v90 (F := Ideal) x0 (ix2 R j)
      = ((quot ρ ⟨192 + j.val, by omega⟩ R.val - quot ρ ⟨192 + j.val, by omega⟩ (R.val + 4) : ℝ) : EReal) := by
  rw [val_main_v90_apply]
  refine diff_apply ρ (k := 4) (n := 4092) _ _ _ rfl _ _ _ _ (fun R' => ref_quot4 ρ x0 hρ R' j) (fun R' => ?_) zero_bits R
  rw [val_main_v88_apply, val_main_v86_apply, show idx_main_v88 (ix2 R' j) = ix2 ⟨R'.val + 4, by omega⟩ j from Shape.idx_ext₂ (Nat.add_comm _ _) rfl,
    ref_quot4 ρ x0 hρ]
  rfl

/-- The quotients of the group of columns from 384 on, whose windows hold 8 rows. -/
theorem ref_quot8 (R : Fin 4096) (j : Fin 192) :
    val_main_v76 (F := Ideal) x0 (ix2 R j) = (quot ρ ⟨384 + j.val, by omega⟩ R.val : EReal) := by
  have hw : word (384 + j.val) = 8#32 := by
    unfold word
    split_ifs <;> first | rfl | omega
  have hc : val_main_v75 (F := Ideal) (ix2 R j)
      = ((((Pool.count (word (384 + j.val)) R.val).toInt : ℤ) : ℝ) : EReal) := by
    rw [hw]
    unfold Pool.count
    rw [BitVec.ofNat_add]
    rfl
  have hs : val_main_v65 (F := Ideal) x0 (ix2 R j) = (ρ (ix2 R ⟨384 + j.val, by omega⟩) : EReal) := by
    rw [← hρ, val_main_v65_apply, val_main_v61, shapeCast_self]
    exact congrArg x0 (Shape.idx_ext₂ rfl rfl)
  rw [val_main_v76_apply, hc]
  exact div_count ρ ⟨384 + j.val, by omega⟩ R.val R.isLt _ hs

theorem ref_diff8 (R : Fin 4096) (j : Fin 192) :
    val_main_v81 (F := Ideal) x0 (ix2 R j)
      = ((quot ρ ⟨384 + j.val, by omega⟩ R.val - quot ρ ⟨384 + j.val, by omega⟩ (R.val + 8) : ℝ) : EReal) := by
  rw [val_main_v81_apply]
  refine diff_apply ρ (k := 8) (n := 4088) _ _ _ rfl _ _ _ _ (fun R' => ref_quot8 ρ x0 hρ R' j) (fun R' => ?_) zero_bits R
  rw [val_main_v79_apply, val_main_v77_apply, show idx_main_v79 (ix2 R' j) = ix2 ⟨R'.val + 8, by omega⟩ j from Shape.idx_ext₂ (Nat.add_comm _ _) rfl,
    ref_quot8 ρ x0 hρ]
  rfl

/-- The quotients of the group of columns from 576 on, whose windows hold 16 rows. -/
theorem ref_quot16 (R : Fin 4096) (j : Fin 192) :
    val_main_v68 (F := Ideal) x0 (ix2 R j) = (quot ρ ⟨576 + j.val, by omega⟩ R.val : EReal) := by
  have hw : word (576 + j.val) = 16#32 := by
    unfold word
    split_ifs <;> first | rfl | omega
  have hc : val_main_v67 (F := Ideal) (ix2 R j)
      = ((((Pool.count (word (576 + j.val)) R.val).toInt : ℤ) : ℝ) : EReal) := by
    rw [hw]
    unfold Pool.count
    rw [BitVec.ofNat_add]
    rfl
  have hs : val_main_v66 (F := Ideal) x0 (ix2 R j) = (ρ (ix2 R ⟨576 + j.val, by omega⟩) : EReal) := by
    rw [← hρ, val_main_v66_apply, val_main_v61, shapeCast_self]
    exact congrArg x0 (Shape.idx_ext₂ rfl rfl)
  rw [val_main_v68_apply, hc]
  exact div_count ρ ⟨576 + j.val, by omega⟩ R.val R.isLt _ hs

theorem ref_diff16 (R : Fin 4096) (j : Fin 192) :
    val_main_v73 (F := Ideal) x0 (ix2 R j)
      = ((quot ρ ⟨576 + j.val, by omega⟩ R.val - quot ρ ⟨576 + j.val, by omega⟩ (R.val + 16) : ℝ) : EReal) := by
  rw [val_main_v73_apply]
  refine diff_apply ρ (k := 16) (n := 4080) _ _ _ rfl _ _ _ _ (fun R' => ref_quot16 ρ x0 hρ R' j) (fun R' => ?_) zero_bits R
  rw [val_main_v71_apply, val_main_v69_apply, show idx_main_v71 (ix2 R' j) = ix2 ⟨R'.val + 16, by omega⟩ j from Shape.idx_ext₂ (Nat.add_comm _ _) rfl,
    ref_quot16 ρ x0 hρ]
  rfl

/-- The four groups side by side. -/
theorem ref_diff (R : Fin 4096) (c : Fin 768) :
    val_main_v101 (F := Ideal) x0 (ix2 R c)
      = ((quot ρ c R.val - quot ρ c (R.val + width c.val) : ℝ) : EReal) := by
  rw [val_main_v101_apply, val_main_v92_apply, val_main_v83_apply]
  unfold val_main_v74 val_main_v82 val_main_v91 val_main_v100
  rw [Pool.pad_cols, Pool.pad_cols, Pool.pad_cols, Pool.pad_cols]
  show (_ + _ + _ + _ : EReal) = _
  have z16 : ∀ i, val_main_cst_16 (F := Ideal) i = (0 : EReal) := fun _ => zero_bits
  have z18 : ∀ i, val_main_cst_18 (F := Ideal) i = (0 : EReal) := fun _ => zero_bits
  have z20 : ∀ i, val_main_cst_20 (F := Ideal) i = (0 : EReal) := fun _ => zero_bits
  have z22 : ∀ i, val_main_cst_22 (F := Ideal) i = (0 : EReal) := fun _ => zero_bits
  rw [z16, z18, z20, z22]
  have hc := c.isLt
  unfold width
  by_cases h0 : c.val < 192
  · rw [dif_neg (by omega), dif_neg (by omega), dif_neg (by omega), dif_pos (by omega), if_pos h0, zero_add, zero_add, zero_add,
      ref_diff2 ρ x0 hρ]
    have : (⟨0 + (c.val - 0), by omega⟩ : Fin 768) = c := Fin.ext (by show 0 + (c.val - 0) = c.val; omega)
    rw [this]
  · by_cases h1 : c.val < 384
    · rw [dif_neg (by omega), dif_neg (by omega), dif_pos (by omega), dif_neg (by omega), if_neg h0, if_pos h1, zero_add,
        zero_add, add_zero, ref_diff4 ρ x0 hρ]
      have : (⟨192 + (c.val - 192), by omega⟩ : Fin 768) = c := Fin.ext (by show 192 + (c.val - 192) = c.val; omega)
      rw [this]
    · by_cases h2 : c.val < 576
      · rw [dif_neg (by omega), dif_pos (by omega), dif_neg (by omega), dif_neg (by omega), if_neg h0, if_neg h1, if_pos h2,
          zero_add, add_zero, add_zero, ref_diff8 ρ x0 hρ]
        have : (⟨384 + (c.val - 384), by omega⟩ : Fin 768) = c := Fin.ext (by show 384 + (c.val - 384) = c.val; omega)
        rw [this]
      · rw [dif_pos (by omega), dif_neg (by omega), dif_neg (by omega), dif_neg (by omega), if_neg h0, if_neg h1, if_neg h2,
          add_zero, add_zero, add_zero, ref_diff16 ρ x0 hρ]
        have : (⟨576 + (c.val - 576), by omega⟩ : Fin 768) = c := Fin.ext (by show 576 + (c.val - 576) = c.val; omega)
        rw [this]

/-- The sum to the end telescopes to the window. -/
theorem ref_apply (R : Fin 4096) (c : Fin 768) :
    val_main_v104 (F := Ideal) x0 (ix2 R c)
      = ((∑ k ∈ Finset.range (width c.val), quot ρ c (R.val + k) : ℝ) : EReal) - x0 (ix2 R c) := by
  have e : val_main_v102 (F := Ideal) x0 (ix2 R c)
      = ((∑ k ∈ Finset.range (width c.val), quot ρ c (R.val + k) : ℝ) : EReal) := by
    unfold val_main_v102
    rw [Pool.suffix_sum _ _ _ _ zero_bits, ← Pool.tail_diff (quot ρ c) (quot_end ρ c), ← Cert.Math.sum_coe,
      ← Fin.sum_univ_eq_sum_range (fun n => ((quot ρ c (R.val + n) - quot ρ c (R.val + n + width c.val) : ℝ) : EReal))]
    refine Finset.sum_congr rfl fun n _ => ?_
    by_cases h : R.val + n.val < 4096
    · rw [dif_pos h, ref_diff ρ x0 hρ]
    · rw [dif_neg h, quot_end ρ c _ (by omega), quot_end ρ c _ (by omega), sub_zero, EReal.coe_zero]
  rw [val_main_v104_apply, val_main_v103_apply, e, val_main_v62_apply]
  show -x0 (ix2 R c) + _ = _
  rw [add_comm, sub_eq_add_neg]

end Reference

/-! ## Put together -/

/-- The array the reference leaves, of the kernel's argument. -/
abbrev G (c : Dev nD) : Buf (Elt Ideal) ((c : Thread nD τ).loc main_v0) :=
  Cert.Reference2Ideal.Read.val_main_v104 (F := Ideal) (m ((c : Thread nD τ).loc main_arg0))

/-- Every entry of the gradient is a real number. -/
def Finite (c : Dev nD) : Prop := ∀ i : S4096x768.Idx, ∃ r : ℝ, m ((c : Thread nD τ).loc main_arg0) i = (r : EReal)

theorem flushed_eq (c : Dev nD) (hf : Finite m c) (t : Fin cfg0.N) :
    (dats m 0 c).flushed 2 t = ((cfg0.win 2).blk t).view.read (Elt Ideal) (G m c) := by
  rw [Value.flushed2]
  obtain ⟨-, -, -, -, e0, e1, -⟩ := idx_facts t
  choose ρ hρ using hf
  funext y
  show out0_2 (grid0.coords t) (iblk m c 0 t) (iblk m c 1 t) y = G m c ((win0_2.rect t).emb y)
  obtain ⟨r, j, rfl⟩ : ∃ (r : Fin 512) (j : Fin 768), y = ix2 r j := ⟨y 0, y 1, eq_ix2 y⟩
  have hemb : (win0_2.rect t).emb (ix2 r j) = ix2 (row t r) j := by
    refine Shape.idx_ext₂ ?_ ?_
    · rw [win0_2.rect_emb_val, e0]; rfl
    · rw [win0_2.rect_emb_val, e1]; exact (Nat.zero_mul _).symm ▸ Nat.zero_add _
  rw [hemb]
  unfold G
  rw [ref_apply ρ _ hρ]
  have hz0 : (![0, 0] : Fin S512x768.rank → Nat) = fun _ => 0 := funext fun a => by fin_cases a <;> rfl
  have hz1 : (![0, 0] : Fin S16x768.rank → Nat) = fun _ => 0 := funext fun a => by fin_cases a <;> rfl
  unfold out0_2
  rw [View.ld_unit_zero hz0, View.ld_unit_zero hz1, View.canon_unit_zero hz0]
  rw [pay1_apply (grid0.coords t) _ _ (quot ρ j) (t.val * 512) j (fun n => quots_apply m c t ρ hρ n j) r, iblk0_apply]
  rfl

theorem cover (i : S4096x768.Idx) : ∃ t : Fin cfg0.N, (cfg0.win 2).flush t = true ∧ i ∈ ((cfg0.win 2).blk t).view.set := by
  have h0 : (i 0 : Nat) < 4096 := (i 0).isLt
  have h1 : (i 1 : Nat) < 768 := (i 1).isLt
  have hN : cfg0.N = 8 := N_0
  refine ⟨⟨(i 0 : Nat) / 512, by omega⟩, flush0_2 _, ?_⟩
  set t : Fin cfg0.N := ⟨(i 0 : Nat) / 512, by omega⟩
  obtain ⟨-, -, -, -, e0, e1, -⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 768 ≤ (i 1 : Nat) ∧ (i 1 : Nat) < win0_2.index t 1 * 768 + 768
    rw [e1]; omega

theorem final (c : Dev nD) (hf : Finite m c) : (dats m 0 c).arrAt 2 cfg0.N = G m c :=
  (dats m 0 c).arrAt_eq_of_cover 2 (G m c) (fun t _ => flushed_eq m c hf t) cover

/-! ## The claim -/

theorem pre_facts : Cert.Pre_finite_dpooled.Facts := by constructor <;> decide

theorem finite_of_pre (h : Cert.Pre_Kernel2Ideal_finite_dpooled (hPre_finite_dpooled := pre_facts) m) (c : Dev nD) :
    Finite m c := fun i => Cert.Math.exists_coe_of_cmp (congrFun (h c) i)

/-- From equal finite arguments, the kernel and the reference end with equal arrays. -/
theorem algebraic : Cert.algebraic_Kernel2Ideal_Reference2Ideal_pre_finite_dpooled
    (hKernel2Ideal := Cert.Kernel2Ideal.Gen.facts) (hReference2Ideal := Cert.Reference2Ideal.Gen.facts)
    (hPre_finite_dpooled := pre_facts) := by
  intro m g m' g' hpre hargs
  refine ⟨fun c => G m c, ?_, ?_⟩
  · refine (θ_run (Cert.Kernel2Ideal.defs (F := Ideal)) _ _).mono (fun r h c => ?_) (Value.run_blocks m g)
    exact ⟨(h c).1.trans (final m c (finite_of_pre m hpre c)), (h c).2⟩
  · refine (θ_run (Cert.Reference2Ideal.defs (F := Ideal)) _ _).mono (fun r h c => ?_)
      (Cert.Reference2Ideal.Value.run (F := Ideal) m' g')
    refine ⟨((h c).1.trans (Cert.Reference2Ideal.Read.val_main_v104_eq _ _)).trans ?_, (h c).2⟩
    rw [hargs c]

end Cert.PoolBwd

end
-- ==== Proof.Val20.lean ====
/- The value of the optimiser's step on a device's part of a memory projection: entry by entry the kernel and the reference
   compute the same expression of the weight, its gradient and the two moments. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise

@[expose] public section

noncomputable section

namespace Cert.Step20

open Cert.Kernel20Ideal Cert.Kernel20Ideal.Gen Idealize.ShloMosaic Idealize.ShloMosaic.TcCoe Idealize.SL.Sem

theorem G4_eq (x0 x1 x2 x3 : (⟨S256x512, .f32⟩ : BufTy).Contents (Elt Ideal)) :
    Value.G4 (F := Ideal) x0 x1 x2 x3 = Cert.Reference20Ideal.Read.val_main_v23 (F := Ideal) x0 x1 x2 x3 := by
  funext i
  rfl

theorem G5_eq (x1 x2 : (⟨S256x512, .f32⟩ : BufTy).Contents (Elt Ideal)) :
    Value.G5 (F := Ideal) x1 x2 = Cert.Reference20Ideal.Read.val_main_v4 (F := Ideal) x1 x2 := by
  funext i
  rfl

theorem G6_eq (x1 x3 : (⟨S256x512, .f32⟩ : BufTy).Contents (Elt Ideal)) :
    Value.G6 (F := Ideal) x1 x3 = Cert.Reference20Ideal.Read.val_main_v10 (F := Ideal) x1 x3 := by
  funext i
  rfl

/-- From equal arguments the kernel and the reference end with equal arrays, whatever the arguments are. -/
theorem algebraic : Cert.algebraic_Kernel20Ideal_Reference20Ideal
    (hKernel20Ideal := Cert.Kernel20Ideal.Gen.facts) (hReference20Ideal := Cert.Reference20Ideal.Gen.facts) := by
  intro m g m' g' _ hargs
  refine ⟨fun c => Cert.Reference20Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference20Ideal.Read.val_main_v4 (F := Ideal) (m ((c : Thread nD τ).loc main_arg1)) (m ((c : Thread nD τ).loc main_arg2)),
    fun c => Cert.Reference20Ideal.Read.val_main_v10 (F := Ideal) (m ((c : Thread nD τ).loc main_arg1)) (m ((c : Thread nD τ).loc main_arg3)), ?_, ?_⟩
  · refine (θ_run (Cert.Kernel20Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference20Ideal.defs (F := Ideal)) _ _).mono (fun r h c => ?_)
      (Cert.Reference20Ideal.Value.run (F := Ideal) m' g')
    obtain ⟨a, b, d, h⟩ := h c
    obtain ⟨e0, e1, e2, e3⟩ := hargs c
    refine ⟨(a.trans (Cert.Reference20Ideal.Read.val_main_v23_eq _ _ _ _)).trans ?_,
      (b.trans (Cert.Reference20Ideal.Read.val_main_v4_eq _ _)).trans ?_,
      (d.trans (Cert.Reference20Ideal.Read.val_main_v10_eq _ _)).trans ?_, h⟩
    · rw [e0, e1, e2, e3]
    · rw [e1, e2]
    · rw [e1, e3]

end Cert.Step20

end
-- ==== Proof.Val21.lean ====
/- The value of the optimiser's step on a device's part of a down projection: entry by entry the kernel and the reference
   compute the same expression of the weight, its gradient and the two moments. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise

@[expose] public section

noncomputable section

namespace Cert.Step21

open Cert.Kernel21Ideal Cert.Kernel21Ideal.Gen Idealize.ShloMosaic Idealize.ShloMosaic.TcCoe Idealize.SL.Sem

theorem G4_eq (x0 x1 x2 x3 : (⟨S704x1024, .f32⟩ : BufTy).Contents (Elt Ideal)) :
    Value.G4 (F := Ideal) x0 x1 x2 x3 = Cert.Reference21Ideal.Read.val_main_v23 (F := Ideal) x0 x1 x2 x3 := by
  funext i
  rfl

theorem G5_eq (x1 x2 : (⟨S704x1024, .f32⟩ : BufTy).Contents (Elt Ideal)) :
    Value.G5 (F := Ideal) x1 x2 = Cert.Reference21Ideal.Read.val_main_v4 (F := Ideal) x1 x2 := by
  funext i
  rfl

theorem G6_eq (x1 x3 : (⟨S704x1024, .f32⟩ : BufTy).Contents (Elt Ideal)) :
    Value.G6 (F := Ideal) x1 x3 = Cert.Reference21Ideal.Read.val_main_v10 (F := Ideal) x1 x3 := by
  funext i
  rfl

/-- From equal arguments the kernel and the reference end with equal arrays, whatever the arguments are. -/
theorem algebraic : Cert.algebraic_Kernel21Ideal_Reference21Ideal
    (hKernel21Ideal := Cert.Kernel21Ideal.Gen.facts) (hReference21Ideal := Cert.Reference21Ideal.Gen.facts) := by
  intro m g m' g' _ hargs
  refine ⟨fun c => Cert.Reference21Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference21Ideal.Read.val_main_v4 (F := Ideal) (m ((c : Thread nD τ).loc main_arg1)) (m ((c : Thread nD τ).loc main_arg2)),
    fun c => Cert.Reference21Ideal.Read.val_main_v10 (F := Ideal) (m ((c : Thread nD τ).loc main_arg1)) (m ((c : Thread nD τ).loc main_arg3)), ?_, ?_⟩
  · refine (θ_run (Cert.Kernel21Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference21Ideal.defs (F := Ideal)) _ _).mono (fun r h c => ?_)
      (Cert.Reference21Ideal.Value.run (F := Ideal) m' g')
    obtain ⟨a, b, d, h⟩ := h c
    obtain ⟨e0, e1, e2, e3⟩ := hargs c
    refine ⟨(a.trans (Cert.Reference21Ideal.Read.val_main_v23_eq _ _ _ _)).trans ?_,
      (b.trans (Cert.Reference21Ideal.Read.val_main_v4_eq _ _)).trans ?_,
      (d.trans (Cert.Reference21Ideal.Read.val_main_v10_eq _ _)).trans ?_, h⟩
    · rw [e0, e1, e2, e3]
    · rw [e1, e2]
    · rw [e1, e3]

end Cert.Step21

end
-- ==== Proof.Val22.lean ====
/- The value of the optimiser's step on a device's part of a gate and up projection: entry by entry the kernel and the reference
   compute the same expression of the weight, its gradient and the two moments. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise

@[expose] public section

noncomputable section

namespace Cert.Step22

open Cert.Kernel22Ideal Cert.Kernel22Ideal.Gen Idealize.ShloMosaic Idealize.ShloMosaic.TcCoe Idealize.SL.Sem

theorem G4_eq (x0 x1 x2 x3 : (⟨S1024x1408, .f32⟩ : BufTy).Contents (Elt Ideal)) :
    Value.G4 (F := Ideal) x0 x1 x2 x3 = Cert.Reference22Ideal.Read.val_main_v23 (F := Ideal) x0 x1 x2 x3 := by
  funext i
  rfl

theorem G5_eq (x1 x2 : (⟨S1024x1408, .f32⟩ : BufTy).Contents (Elt Ideal)) :
    Value.G5 (F := Ideal) x1 x2 = Cert.Reference22Ideal.Read.val_main_v4 (F := Ideal) x1 x2 := by
  funext i
  rfl

theorem G6_eq (x1 x3 : (⟨S1024x1408, .f32⟩ : BufTy).Contents (Elt Ideal)) :
    Value.G6 (F := Ideal) x1 x3 = Cert.Reference22Ideal.Read.val_main_v10 (F := Ideal) x1 x3 := by
  funext i
  rfl

/-- From equal arguments the kernel and the reference end with equal arrays, whatever the arguments are. -/
theorem algebraic : Cert.algebraic_Kernel22Ideal_Reference22Ideal
    (hKernel22Ideal := Cert.Kernel22Ideal.Gen.facts) (hReference22Ideal := Cert.Reference22Ideal.Gen.facts) := by
  intro m g m' g' _ hargs
  refine ⟨fun c => Cert.Reference22Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference22Ideal.Read.val_main_v4 (F := Ideal) (m ((c : Thread nD τ).loc main_arg1)) (m ((c : Thread nD τ).loc main_arg2)),
    fun c => Cert.Reference22Ideal.Read.val_main_v10 (F := Ideal) (m ((c : Thread nD τ).loc main_arg1)) (m ((c : Thread nD τ).loc main_arg3)), ?_, ?_⟩
  · refine (θ_run (Cert.Kernel22Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference22Ideal.defs (F := Ideal)) _ _).mono (fun r h c => ?_)
      (Cert.Reference22Ideal.Value.run (F := Ideal) m' g')
    obtain ⟨a, b, d, h⟩ := h c
    obtain ⟨e0, e1, e2, e3⟩ := hargs c
    refine ⟨(a.trans (Cert.Reference22Ideal.Read.val_main_v23_eq _ _ _ _)).trans ?_,
      (b.trans (Cert.Reference22Ideal.Read.val_main_v4_eq _ _)).trans ?_,
      (d.trans (Cert.Reference22Ideal.Read.val_main_v10_eq _ _)).trans ?_, h⟩
    · rw [e0, e1, e2, e3]
    · rw [e1, e2]
    · rw [e1, e3]

end Cert.Step22

end
-- ==== Proof.Val23.lean ====
/- The value of the optimiser's step on a device's part of the key and value projection: entry by entry the kernel and the reference
   compute the same expression of the weight, its gradient and the two moments. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise

@[expose] public section

noncomputable section

namespace Cert.Step23

open Cert.Kernel23Ideal Cert.Kernel23Ideal.Gen Idealize.ShloMosaic Idealize.ShloMosaic.TcCoe Idealize.SL.Sem

theorem G4_eq (x0 x1 x2 x3 : (⟨S1024x384, .f32⟩ : BufTy).Contents (Elt Ideal)) :
    Value.G4 (F := Ideal) x0 x1 x2 x3 = Cert.Reference23Ideal.Read.val_main_v23 (F := Ideal) x0 x1 x2 x3 := by
  funext i
  rfl

theorem G5_eq (x1 x2 : (⟨S1024x384, .f32⟩ : BufTy).Contents (Elt Ideal)) :
    Value.G5 (F := Ideal) x1 x2 = Cert.Reference23Ideal.Read.val_main_v4 (F := Ideal) x1 x2 := by
  funext i
  rfl

theorem G6_eq (x1 x3 : (⟨S1024x384, .f32⟩ : BufTy).Contents (Elt Ideal)) :
    Value.G6 (F := Ideal) x1 x3 = Cert.Reference23Ideal.Read.val_main_v10 (F := Ideal) x1 x3 := by
  funext i
  rfl

/-- From equal arguments the kernel and the reference end with equal arrays, whatever the arguments are. -/
theorem algebraic : Cert.algebraic_Kernel23Ideal_Reference23Ideal
    (hKernel23Ideal := Cert.Kernel23Ideal.Gen.facts) (hReference23Ideal := Cert.Reference23Ideal.Gen.facts) := by
  intro m g m' g' _ hargs
  refine ⟨fun c => Cert.Reference23Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference23Ideal.Read.val_main_v4 (F := Ideal) (m ((c : Thread nD τ).loc main_arg1)) (m ((c : Thread nD τ).loc main_arg2)),
    fun c => Cert.Reference23Ideal.Read.val_main_v10 (F := Ideal) (m ((c : Thread nD τ).loc main_arg1)) (m ((c : Thread nD τ).loc main_arg3)), ?_, ?_⟩
  · refine (θ_run (Cert.Kernel23Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference23Ideal.defs (F := Ideal)) _ _).mono (fun r h c => ?_)
      (Cert.Reference23Ideal.Value.run (F := Ideal) m' g')
    obtain ⟨a, b, d, h⟩ := h c
    obtain ⟨e0, e1, e2, e3⟩ := hargs c
    refine ⟨(a.trans (Cert.Reference23Ideal.Read.val_main_v23_eq _ _ _ _)).trans ?_,
      (b.trans (Cert.Reference23Ideal.Read.val_main_v4_eq _ _)).trans ?_,
      (d.trans (Cert.Reference23Ideal.Read.val_main_v10_eq _ _)).trans ?_, h⟩
    · rw [e0, e1, e2, e3]
    · rw [e1, e2]
    · rw [e1, e3]

end Cert.Step23

end
-- ==== Proof.Val24.lean ====
/- The value of the optimiser's step on the small weights, packed into one array: entry by entry the kernel and the reference
   compute the same expression of the weight, its gradient and the two moments. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise

@[expose] public section

noncomputable section

namespace Cert.Step24

open Cert.Kernel24Ideal Cert.Kernel24Ideal.Gen Idealize.ShloMosaic Idealize.ShloMosaic.TcCoe Idealize.SL.Sem

theorem G4_eq (x0 x1 x2 x3 : (⟨S152x1024, .f32⟩ : BufTy).Contents (Elt Ideal)) :
    Value.G4 (F := Ideal) x0 x1 x2 x3 = Cert.Reference24Ideal.Read.val_main_v23 (F := Ideal) x0 x1 x2 x3 := by
  funext i
  rfl

theorem G5_eq (x1 x2 : (⟨S152x1024, .f32⟩ : BufTy).Contents (Elt Ideal)) :
    Value.G5 (F := Ideal) x1 x2 = Cert.Reference24Ideal.Read.val_main_v4 (F := Ideal) x1 x2 := by
  funext i
  rfl

theorem G6_eq (x1 x3 : (⟨S152x1024, .f32⟩ : BufTy).Contents (Elt Ideal)) :
    Value.G6 (F := Ideal) x1 x3 = Cert.Reference24Ideal.Read.val_main_v10 (F := Ideal) x1 x3 := by
  funext i
  rfl

/-- From equal arguments the kernel and the reference end with equal arrays, whatever the arguments are. -/
theorem algebraic : Cert.algebraic_Kernel24Ideal_Reference24Ideal
    (hKernel24Ideal := Cert.Kernel24Ideal.Gen.facts) (hReference24Ideal := Cert.Reference24Ideal.Gen.facts) := by
  intro m g m' g' _ hargs
  refine ⟨fun c => Cert.Reference24Ideal.Read.val_main_v23 (F := Ideal) (m ((c : Thread nD τ).loc main_arg0)) (m ((c : Thread nD τ).loc main_arg1)) (m ((c : Thread nD τ).loc main_arg2)) (m ((c : Thread nD τ).loc main_arg3)),
    fun c => Cert.Reference24Ideal.Read.val_main_v4 (F := Ideal) (m ((c : Thread nD τ).loc main_arg1)) (m ((c : Thread nD τ).loc main_arg2)),
    fun c => Cert.Reference24Ideal.Read.val_main_v10 (F := Ideal) (m ((c : Thread nD τ).loc main_arg1)) (m ((c : Thread nD τ).loc main_arg3)), ?_, ?_⟩
  · refine (θ_run (Cert.Kernel24Ideal.defs (F := Ideal)) _ _).mono (fun r h c => ?_) (Value.run m g)
    obtain ⟨a, b, d, h⟩ := h c
    exact ⟨a.trans (G4_eq _ _ _ _), b.trans (G5_eq _ _), d.trans (G6_eq _ _), h⟩
  · refine (θ_run (Cert.Reference24Ideal.defs (F := Ideal)) _ _).mono (fun r h c => ?_)
      (Cert.Reference24Ideal.Value.run (F := Ideal) m' g')
    obtain ⟨a, b, d, h⟩ := h c
    obtain ⟨e0, e1, e2, e3⟩ := hargs c
    refine ⟨(a.trans (Cert.Reference24Ideal.Read.val_main_v23_eq _ _ _ _)).trans ?_,
      (b.trans (Cert.Reference24Ideal.Read.val_main_v4_eq _ _)).trans ?_,
      (d.trans (Cert.Reference24Ideal.Read.val_main_v10_eq _ _)).trans ?_, h⟩
    · rw [e0, e1, e2, e3]
    · rw [e1, e2]
    · rw [e1, e3]

end Cert.Step24

end
-- ==== Proof.Val25.lean ====
/- The value of the grouped product: the kernel multiplies by one matrix with the four groups' weights on its
   diagonal, the reference each group by its own weights. Off the diagonal every term is a product with zero. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise

@[expose] public section

noncomputable section

namespace Cert.Group

open Cert.Kernel25Ideal Cert.Kernel25Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`. -/
def row (t : Fin cfg0.N) (r : Fin 512) : Fin 4096 :=
  ⟨t.val * 512 + r.val, by have h : t.val < 8 := lt_of_lt_of_eq t.isLt N_0; omega⟩

/-! ## The block-diagonal weights -/

/-- The square of zeros that fills the blocks off the diagonal. -/
def zeros : S192x192.Idx → EReal := broadcastInDim S192x192 ![] bcast_S_S192x192 (constant (F := Ideal) S_ .bf16 0x0000#16)

/-- The weights of group 0. -/
def weight0 (w : S4x192x192.Idx → EReal) : S192x192.Idx → EReal :=
  shapeCast S192x192 (extractStridedSlice S1x192x192 ![0, 0, 0] w slices_S4x192x192_S1x192x192_0_0_0) shapeCasts_S1x192x192_S192x192

/-- The weights of group 1. -/
def weight1 (w : S4x192x192.Idx → EReal) : S192x192.Idx → EReal :=
  shapeCast S192x192 (extractStridedSlice S1x192x192 ![1, 0, 0] w slices_S4x192x192_S1x192x192_1_0_0) shapeCasts_S1x192x192_S192x192

/-- The weights of group 2. -/
def weight2 (w : S4x192x192.Idx → EReal) : S192x192.Idx → EReal :=
  shapeCast S192x192 (extractStridedSlice S1x192x192 ![2, 0, 0] w slices_S4x192x192_S1x192x192_2_0_0) shapeCasts_S1x192x192_S192x192

/-- The weights of group 3. -/
def weight3 (w : S4x192x192.Idx → EReal) : S192x192.Idx → EReal :=
  shapeCast S192x192 (extractStridedSlice S1x192x192 ![3, 0, 0] w slices_S4x192x192_S1x192x192_3_0_0) shapeCasts_S1x192x192_S192x192

/-- Four squares side by side. -/
def across (a b c d : S192x192.Idx → EReal) : S192x768.Idx → EReal :=
  concatenate S192x768 1 [⟨S192x192, a⟩, ⟨S192x192, b⟩, ⟨S192x192, c⟩, ⟨S192x192, d⟩]
    concatenates_S192x192_S192x192_S192x192_S192x192_S192x768_d1

/-- Four bands one under another. -/
def stack (a b c d : S192x768.Idx → EReal) : S768x768.Idx → EReal :=
  concatenate S768x768 0 [⟨S192x768, a⟩, ⟨S192x768, b⟩, ⟨S192x768, c⟩, ⟨S192x768, d⟩]
    concatenates_S192x768_S192x768_S192x768_S192x768_S768x768_d0

/-- The four groups' weights on the diagonal. -/
def diag (w : S4x192x192.Idx → EReal) : S768x768.Idx → EReal :=
  stack (across (weight0 w) zeros zeros zeros) (across zeros (weight1 w) zeros zeros)
    (across zeros zeros (weight2 w) zeros) (across zeros zeros zeros (weight3 w))

/-- The host's operations before the kernel leave the block-diagonal weights. -/
theorem V_diag (c : Dev nD) : V m c main_v13 = diag (m ((c : Thread nD τ).loc main_arg1)) := by
  show StableHlo.after hostOps0 _ _ = _
  after_results_simp
  dsimp only [Matrix.cons_val]
  try after_results_simp
  rfl

theorem zeros_apply (i : S192x192.Idx) : zeros i = 0 := by
  show Ideal.ofBits .bf16 0x0000#16 = 0
  simp [Ideal.ofBits, Ideal.ieee]

/-- An entry of four squares side by side. -/
theorem across_apply (q : Fin 4 → S192x192.Idx → EReal) (r : Fin 192) (s : Fin 768) :
    across (q 0) (q 1) (q 2) (q 3) (ix2 r s) = q ⟨s.val / 192, by omega⟩ (ix2 r ⟨s.val % 192, by omega⟩) := by
  have hs := s.isLt
  pointwise [across]
  split_ifs
  all_goals first
    | exact absurd rfl ‹¬ (_ : ℕ) = _›
    | (have e : (⟨s.val / 192, by omega⟩ : Fin 4) = 0 := Fin.ext (show s.val / 192 = 0 by omega); rw [e]; exact congrArg (q 0) (Shape.idx_ext₂ rfl (show s.val = s.val % 192 by omega)))
    | (have e : (⟨s.val / 192, by omega⟩ : Fin 4) = 1 := Fin.ext (show s.val / 192 = 1 by omega); rw [e]; exact congrArg (q 1) (Shape.idx_ext₂ rfl (show s.val - 192 = s.val % 192 by omega)))
    | (have e : (⟨s.val / 192, by omega⟩ : Fin 4) = 2 := Fin.ext (show s.val / 192 = 2 by omega); rw [e]; exact congrArg (q 2) (Shape.idx_ext₂ rfl (show s.val - 192 - 192 = s.val % 192 by omega)))
    | (have e : (⟨s.val / 192, by omega⟩ : Fin 4) = 3 := Fin.ext (show s.val / 192 = 3 by omega); rw [e]; exact congrArg (q 3) (Shape.idx_ext₂ rfl (show s.val - 192 - 192 - 192 = s.val % 192 by omega)))

/-- An entry of four bands one under another. -/
theorem stack_apply (q : Fin 4 → S192x768.Idx → EReal) (s b : Fin 768) :
    stack (q 0) (q 1) (q 2) (q 3) (ix2 s b) = q ⟨s.val / 192, by omega⟩ (ix2 ⟨s.val % 192, by omega⟩ b) := by
  have hs := s.isLt
  pointwise [stack]
  split_ifs
  all_goals first
    | exact absurd rfl ‹¬ (_ : ℕ) = _›
    | (have e : (⟨s.val / 192, by omega⟩ : Fin 4) = 0 := Fin.ext (show s.val / 192 = 0 by omega); rw [e]; exact congrArg (q 0) (Shape.idx_ext₂ (show s.val = s.val % 192 by omega) rfl))
    | (have e : (⟨s.val / 192, by omega⟩ : Fin 4) = 1 := Fin.ext (show s.val / 192 = 1 by omega); rw [e]; exact congrArg (q 1) (Shape.idx_ext₂ (show s.val - 192 = s.val % 192 by omega) rfl))
    | (have e : (⟨s.val / 192, by omega⟩ : Fin 4) = 2 := Fin.ext (show s.val / 192 = 2 by omega); rw [e]; exact congrArg (q 2) (Shape.idx_ext₂ (show s.val - 192 - 192 = s.val % 192 by omega) rfl))
    | (have e : (⟨s.val / 192, by omega⟩ : Fin 4) = 3 := Fin.ext (show s.val / 192 = 3 by omega); rw [e]; exact congrArg (q 3) (Shape.idx_ext₂ (show s.val - 192 - 192 - 192 = s.val % 192 by omega) rfl))

/-- The square in band `g` and column of squares `h`. -/
def part (w : S4x192x192.Idx → EReal) (g h : Fin 4) : S192x192.Idx → EReal :=
  fun i => if g = h then w (ix3 g (i 0) (i 1)) else 0

theorem zeros_eq (w : S4x192x192.Idx → EReal) (g h : Fin 4) (n : g ≠ h) : part w g h = zeros :=
  funext fun i => (if_neg n).trans (zeros_apply i).symm

theorem weight0_eq (w : S4x192x192.Idx → EReal) : part w 0 0 = weight0 w := by
  funext i
  obtain ⟨r, s, rfl⟩ : ∃ r s : Fin 192, i = ix2 r s := ⟨i 0, i 1, eq_ix2 i⟩
  pointwise [weight0]
  rfl

theorem weight1_eq (w : S4x192x192.Idx → EReal) : part w 1 1 = weight1 w := by
  funext i
  obtain ⟨r, s, rfl⟩ : ∃ r s : Fin 192, i = ix2 r s := ⟨i 0, i 1, eq_ix2 i⟩
  pointwise [weight1]
  rfl

theorem weight2_eq (w : S4x192x192.Idx → EReal) : part w 2 2 = weight2 w := by
  funext i
  obtain ⟨r, s, rfl⟩ : ∃ r s : Fin 192, i = ix2 r s := ⟨i 0, i 1, eq_ix2 i⟩
  pointwise [weight2]
  rfl

theorem weight3_eq (w : S4x192x192.Idx → EReal) : part w 3 3 = weight3 w := by
  funext i
  obtain ⟨r, s, rfl⟩ : ∃ r s : Fin 192, i = ix2 r s := ⟨i 0, i 1, eq_ix2 i⟩
  pointwise [weight3]
  rfl

theorem diag_eq (w : S4x192x192.Idx → EReal) :
    diag w = stack (across (part w 0 0) (part w 0 1) (part w 0 2) (part w 0 3)) (across (part w 1 0) (part w 1 1) (part w 1 2) (part w 1 3))
      (across (part w 2 0) (part w 2 1) (part w 2 2) (part w 2 3)) (across (part w 3 0) (part w 3 1) (part w 3 2) (part w 3 3)) := by
  rw [weight0_eq, weight1_eq, weight2_eq, weight3_eq, zeros_eq w 0 1 (by decide), zeros_eq w 0 2 (by decide), zeros_eq w 0 3 (by decide),
    zeros_eq w 1 0 (by decide), zeros_eq w 1 2 (by decide), zeros_eq w 1 3 (by decide), zeros_eq w 2 0 (by decide), zeros_eq w 2 1 (by decide),
    zeros_eq w 2 3 (by decide), zeros_eq w 3 0 (by decide), zeros_eq w 3 1 (by decide), zeros_eq w 3 2 (by decide)]
  rfl

/-- An entry of the block-diagonal weights. -/
theorem diag_apply (w : S4x192x192.Idx → EReal) (a b : Fin 768) :
    diag w (ix2 a b) = if a.val / 192 = b.val / 192 then w (ix3 ⟨b.val / 192, by omega⟩ ⟨a.val % 192, by omega⟩ ⟨b.val % 192, by omega⟩) else 0 := by
  rw [diag_eq, stack_apply (fun g => across (part w g 0) (part w g 1) (part w g 2) (part w g 3)), across_apply]
  unfold part
  by_cases h : a.val / 192 = b.val / 192
  · rw [if_pos (Fin.ext h), if_pos h]
    exact congrArg w (congr (congr (congrArg ix3 (Fin.ext h)) rfl) rfl)
  · rw [if_neg (fun e => h (Fin.val_eq_of_eq e)), if_neg h]

/-- Of a sum over the columns of all groups only one group's terms are not a product with zero. -/
theorem sum_group (s : Fin 768) (x f : Fin 768 → EReal) :
    ∑ k : Fin 768, x k * (if k.val / 192 = s.val / 192 then f k else 0)
      = ∑ l : Fin 192, x ⟨s.val / 192 * 192 + l.val, by omega⟩ * f ⟨s.val / 192 * 192 + l.val, by omega⟩ := by
  refine (Fintype.sum_of_injective (fun l : Fin 192 => (⟨s.val / 192 * 192 + l.val, by omega⟩ : Fin 768)) ?_ _ _ ?_ ?_).symm
  · intro l l' h
    have := Fin.val_eq_of_eq h
    exact Fin.ext (Nat.add_left_cancel this)
  · intro k hk
    rw [if_neg, mul_zero]
    intro h
    refine hk ⟨⟨k.val % 192, by omega⟩, Fin.ext ?_⟩
    show s.val / 192 * 192 + k.val % 192 = k.val
    omega
  · intro l
    rw [if_pos]
    show (s.val / 192 * 192 + l.val) / 192 = s.val / 192
    omega

/-! ## The kernel -/

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

theorem iblk0_apply (c : Dev nD) (t : Fin cfg0.N) (r : Fin 512) (k : Fin 768) :
    iblk m c 0 t (ix2 r k) = m ((c : Thread nD τ).loc main_arg0) (ix2 (row t r) k) := by
  obtain ⟨h0, h1, -⟩ := idx_facts t
  rw [← V_main_arg0 m c]
  show V m c main_arg0 ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r k : Fin 768) :
    iblk m c 1 t (ix2 r k) = diag (m ((c : Thread nD τ).loc main_arg1)) (ix2 r k) := by
  obtain ⟨-, -, h0, h1, -⟩ := idx_facts t
  rw [← V_diag m c]
  show V m c main_v13 ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- The block a point writes, entry by entry. -/
theorem out_apply (x0 : Vec Ideal S512x768 .bf16) (x1 : Vec Ideal S768x768 .bf16) (r : Fin 512) (s : Fin 768) :
    out0_2 x0 x1 (ix2 r s) = ∑ k : Fin 768, x0 (ix2 r k) * x1 (ix2 k s) := by
  have hz0 : (![0, 0] : Fin S512x768.rank → Nat) = fun _ => 0 := funext fun a => by fin_cases a <;> rfl
  have hz1 : (![0, 0] : Fin S768x768.rank → Nat) = fun _ => 0 := funext fun a => by fin_cases a <;> rfl
  unfold out0_2
  simp only [View.ld_unit_zero (S := S512x768) hz0, View.ld_unit_zero (S := S768x768) hz1, View.canon_unit_zero (S := S512x768) hz0]
  pointwise [k0_pay1]

/-! ## The reference, entry by entry -/

theorem ref_apply (x : (⟨Cert.Reference25Ideal.S4096x768, .bf16⟩ : BufTy).Contents (Elt Ideal))
    (w : (⟨Cert.Reference25Ideal.S4x192x192, .bf16⟩ : BufTy).Contents (Elt Ideal)) (i : Fin 4096) (s : Fin 768) :
    Cert.Reference25Ideal.Read.val_main_v6 (F := Ideal) x w (ix2 i s)
      = ∑ l : Fin 192, x (ix2 i ⟨s.val / 192 * 192 + l.val, by omega⟩) * w (ix3 ⟨s.val / 192, by omega⟩ l ⟨s.val % 192, by omega⟩) := by
  open Cert.Reference25Ideal.Read in pointwise [val_main_v6, val_main_v5, val_main_v4, val_main_v3, val_main_v2, val_main_v1, val_main_v0]
  exact Finset.sum_congr rfl fun l _ => mul_comm _ _

/-- The product with the block-diagonal weights, group by group. -/
theorem diag_sum (x : Fin 768 → EReal) (w : S4x192x192.Idx → EReal) (s : Fin 768) :
    ∑ k : Fin 768, x k * diag w (ix2 k s)
      = ∑ l : Fin 192, x ⟨s.val / 192 * 192 + l.val, by omega⟩ * w (ix3 ⟨s.val / 192, by omega⟩ l ⟨s.val % 192, by omega⟩) := by
  simp only [diag_apply]
  rw [sum_group s x fun k => w (ix3 ⟨s.val / 192, by omega⟩ ⟨k.val % 192, by omega⟩ ⟨s.val % 192, by omega⟩)]
  refine Finset.sum_congr rfl fun l _ => congrArg₂ (· * ·) rfl (congrArg w (congr (congr rfl (Fin.ext ?_)) rfl))
  show (s.val / 192 * 192 + l.val) % 192 = l.val
  omega

/-! ## Put together -/

/-- The array the reference leaves, of the kernel's arguments. -/
abbrev G (c : Dev nD) : Buf (Elt Ideal) ((c : Thread nD τ).loc main_v14) :=
  Cert.Reference25Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, e0, e1⟩ := idx_facts t
  funext y
  show out0_2 (iblk m c 0 t) (iblk m c 1 t) y = G m c ((win0_2.rect t).emb y)
  obtain ⟨r, s, rfl⟩ : ∃ (r : Fin 512) (s : Fin 768), y = ix2 r s := ⟨y 0, y 1, eq_ix2 y⟩
  have hemb : (win0_2.rect t).emb (ix2 r s) = ix2 (row t r) s := by
    refine Shape.idx_ext₂ ?_ ?_
    · rw [win0_2.rect_emb_val, e0]; rfl
    · rw [win0_2.rect_emb_val, e1]; exact (Nat.zero_mul _).symm ▸ Nat.zero_add _
  rw [hemb]
  unfold G
  rw [out_apply, ref_apply]
  simp only [iblk0_apply, iblk1_apply]
  exact diag_sum (fun k => m ((c : Thread nD τ).loc main_arg0) (ix2 (row t r) k)) _ s

theorem cover (i : S4096x768.Idx) : ∃ t : Fin cfg0.N, (cfg0.win 2).flush t = true ∧ i ∈ ((cfg0.win 2).blk t).view.set := by
  have h0 : (i 0 : Nat) < 4096 := (i 0).isLt
  have h1 : (i 1 : Nat) < 768 := (i 1).isLt
  have hN : cfg0.N = 8 := N_0
  refine ⟨⟨(i 0 : Nat) / 512, by omega⟩, flush0_2 _, ?_⟩
  set t : Fin cfg0.N := ⟨(i 0 : Nat) / 512, by omega⟩
  obtain ⟨-, -, -, -, e0, e1⟩ := idx_facts t
  show i ∈ ((View.whole main_v14).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 768 ≤ (i 1 : Nat) ∧ (i 1 : Nat) < win0_2.index t 1 * 768 + 768
    rw [e1]; omega

/-- From equal arguments the kernel and the reference end with equal arrays. -/
theorem algebraic : Cert.algebraic_Kernel25Ideal_Reference25Ideal
    (hKernel25Ideal := Cert.Kernel25Ideal.Gen.facts) (hReference25Ideal := Cert.Reference25Ideal.Gen.facts) := by
  intro m g m' g' _ hargs
  refine ⟨fun c => G m c, ?_, ?_⟩
  · refine (θ_run (Cert.Kernel25Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference25Ideal.defs (F := Ideal)) _ _).mono (fun r h c => ?_)
      (Cert.Reference25Ideal.Value.run (F := Ideal) m' g')
    refine ⟨((h c).1.trans (Cert.Reference25Ideal.Read.val_main_v6_eq _ _)).trans ?_, (h c).2⟩
    obtain ⟨e0, e1⟩ := hargs c
    rw [e0, e1]

end Cert.Group

end
-- ==== Proof.Val26.lean ====
/- The value of the gradient of the grouped product's input: the kernel multiplies by one matrix with the four groups' weights on its
   diagonal, the reference each group by its own weights. Off the diagonal every term is a product with zero. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise

@[expose] public section

noncomputable section

namespace Cert.GroupDx

open Cert.Kernel26Ideal Cert.Kernel26Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`. -/
def row (t : Fin cfg0.N) (r : Fin 512) : Fin 4096 :=
  ⟨t.val * 512 + r.val, by have h : t.val < 8 := lt_of_lt_of_eq t.isLt N_0; omega⟩

/-! ## The block-diagonal weights -/

/-- The square of zeros that fills the blocks off the diagonal. -/
def zeros : S192x192.Idx → EReal := broadcastInDim S192x192 ![] bcast_S_S192x192 (constant (F := Ideal) S_ .bf16 0x0000#16)

/-- The weights of group 0. -/
def weight0 (w : S4x192x192.Idx → EReal) : S192x192.Idx → EReal :=
  shapeCast S192x192 (extractStridedSlice S1x192x192 ![0, 0, 0] w slices_S4x192x192_S1x192x192_0_0_0) shapeCasts_S1x192x192_S192x192

/-- The weights of group 1. -/
def weight1 (w : S4x192x192.Idx → EReal) : S192x192.Idx → EReal :=
  shapeCast S192x192 (extractStridedSlice S1x192x192 ![1, 0, 0] w slices_S4x192x192_S1x192x192_1_0_0) shapeCasts_S1x192x192_S192x192

/-- The weights of group 2. -/
def weight2 (w : S4x192x192.Idx → EReal) : S192x192.Idx → EReal :=
  shapeCast S192x192 (extractStridedSlice S1x192x192 ![2, 0, 0] w slices_S4x192x192_S1x192x192_2_0_0) shapeCasts_S1x192x192_S192x192

/-- The weights of group 3. -/
def weight3 (w : S4x192x192.Idx → EReal) : S192x192.Idx → EReal :=
  shapeCast S192x192 (extractStridedSlice S1x192x192 ![3, 0, 0] w slices_S4x192x192_S1x192x192_3_0_0) shapeCasts_S1x192x192_S192x192

/-- Four squares side by side. -/
def across (a b c d : S192x192.Idx → EReal) : S192x768.Idx → EReal :=
  concatenate S192x768 1 [⟨S192x192, a⟩, ⟨S192x192, b⟩, ⟨S192x192, c⟩, ⟨S192x192, d⟩]
    concatenates_S192x192_S192x192_S192x192_S192x192_S192x768_d1

/-- Four bands one under another. -/
def stack (a b c d : S192x768.Idx → EReal) : S768x768.Idx → EReal :=
  concatenate S768x768 0 [⟨S192x768, a⟩, ⟨S192x768, b⟩, ⟨S192x768, c⟩, ⟨S192x768, d⟩]
    concatenates_S192x768_S192x768_S192x768_S192x768_S768x768_d0

/-- The four groups' weights on the diagonal. -/
def diag (w : S4x192x192.Idx → EReal) : S768x768.Idx → EReal :=
  stack (across (weight0 w) zeros zeros zeros) (across zeros (weight1 w) zeros zeros)
    (across zeros zeros (weight2 w) zeros) (across zeros zeros zeros (weight3 w))

/-- The host's operations before the kernel leave the block-diagonal weights. -/
theorem V_diag (c : Dev nD) : V m c main_v13 = diag (m ((c : Thread nD τ).loc main_arg1)) := by
  show StableHlo.after hostOps0 _ _ = _
  after_results_simp
  dsimp only [Matrix.cons_val]
  try after_results_simp
  rfl

theorem zeros_apply (i : S192x192.Idx) : zeros i = 0 := by
  show Ideal.ofBits .bf16 0x0000#16 = 0
  simp [Ideal.ofBits, Ideal.ieee]

/-- An entry of four squares side by side. -/
theorem across_apply (q : Fin 4 → S192x192.Idx → EReal) (r : Fin 192) (s : Fin 768) :
    across (q 0) (q 1) (q 2) (q 3) (ix2 r s) = q ⟨s.val / 192, by omega⟩ (ix2 r ⟨s.val % 192, by omega⟩) := by
  have hs := s.isLt
  pointwise [across]
  split_ifs
  all_goals first
    | exact absurd rfl ‹¬ (_ : ℕ) = _›
    | (have e : (⟨s.val / 192, by omega⟩ : Fin 4) = 0 := Fin.ext (show s.val / 192 = 0 by omega); rw [e]; exact congrArg (q 0) (Shape.idx_ext₂ rfl (show s.val = s.val % 192 by omega)))
    | (have e : (⟨s.val / 192, by omega⟩ : Fin 4) = 1 := Fin.ext (show s.val / 192 = 1 by omega); rw [e]; exact congrArg (q 1) (Shape.idx_ext₂ rfl (show s.val - 192 = s.val % 192 by omega)))
    | (have e : (⟨s.val / 192, by omega⟩ : Fin 4) = 2 := Fin.ext (show s.val / 192 = 2 by omega); rw [e]; exact congrArg (q 2) (Shape.idx_ext₂ rfl (show s.val - 192 - 192 = s.val % 192 by omega)))
    | (have e : (⟨s.val / 192, by omega⟩ : Fin 4) = 3 := Fin.ext (show s.val / 192 = 3 by omega); rw [e]; exact congrArg (q 3) (Shape.idx_ext₂ rfl (show s.val - 192 - 192 - 192 = s.val % 192 by omega)))

/-- An entry of four bands one under another. -/
theorem stack_apply (q : Fin 4 → S192x768.Idx → EReal) (s b : Fin 768) :
    stack (q 0) (q 1) (q 2) (q 3) (ix2 s b) = q ⟨s.val / 192, by omega⟩ (ix2 ⟨s.val % 192, by omega⟩ b) := by
  have hs := s.isLt
  pointwise [stack]
  split_ifs
  all_goals first
    | exact absurd rfl ‹¬ (_ : ℕ) = _›
    | (have e : (⟨s.val / 192, by omega⟩ : Fin 4) = 0 := Fin.ext (show s.val / 192 = 0 by omega); rw [e]; exact congrArg (q 0) (Shape.idx_ext₂ (show s.val = s.val % 192 by omega) rfl))
    | (have e : (⟨s.val / 192, by omega⟩ : Fin 4) = 1 := Fin.ext (show s.val / 192 = 1 by omega); rw [e]; exact congrArg (q 1) (Shape.idx_ext₂ (show s.val - 192 = s.val % 192 by omega) rfl))
    | (have e : (⟨s.val / 192, by omega⟩ : Fin 4) = 2 := Fin.ext (show s.val / 192 = 2 by omega); rw [e]; exact congrArg (q 2) (Shape.idx_ext₂ (show s.val - 192 - 192 = s.val % 192 by omega) rfl))
    | (have e : (⟨s.val / 192, by omega⟩ : Fin 4) = 3 := Fin.ext (show s.val / 192 = 3 by omega); rw [e]; exact congrArg (q 3) (Shape.idx_ext₂ (show s.val - 192 - 192 - 192 = s.val % 192 by omega) rfl))

/-- The square in band `g` and column of squares `h`. -/
def part (w : S4x192x192.Idx → EReal) (g h : Fin 4) : S192x192.Idx → EReal :=
  fun i => if g = h then w (ix3 g (i 0) (i 1)) else 0

theorem zeros_eq (w : S4x192x192.Idx → EReal) (g h : Fin 4) (n : g ≠ h) : part w g h = zeros :=
  funext fun i => (if_neg n).trans (zeros_apply i).symm

theorem weight0_eq (w : S4x192x192.Idx → EReal) : part w 0 0 = weight0 w := by
  funext i
  obtain ⟨r, s, rfl⟩ : ∃ r s : Fin 192, i = ix2 r s := ⟨i 0, i 1, eq_ix2 i⟩
  pointwise [weight0]
  rfl

theorem weight1_eq (w : S4x192x192.Idx → EReal) : part w 1 1 = weight1 w := by
  funext i
  obtain ⟨r, s, rfl⟩ : ∃ r s : Fin 192, i = ix2 r s := ⟨i 0, i 1, eq_ix2 i⟩
  pointwise [weight1]
  rfl

theorem weight2_eq (w : S4x192x192.Idx → EReal) : part w 2 2 = weight2 w := by
  funext i
  obtain ⟨r, s, rfl⟩ : ∃ r s : Fin 192, i = ix2 r s := ⟨i 0, i 1, eq_ix2 i⟩
  pointwise [weight2]
  rfl

theorem weight3_eq (w : S4x192x192.Idx → EReal) : part w 3 3 = weight3 w := by
  funext i
  obtain ⟨r, s, rfl⟩ : ∃ r s : Fin 192, i = ix2 r s := ⟨i 0, i 1, eq_ix2 i⟩
  pointwise [weight3]
  rfl

theorem diag_eq (w : S4x192x192.Idx → EReal) :
    diag w = stack (across (part w 0 0) (part w 0 1) (part w 0 2) (part w 0 3)) (across (part w 1 0) (part w 1 1) (part w 1 2) (part w 1 3))
      (across (part w 2 0) (part w 2 1) (part w 2 2) (part w 2 3)) (across (part w 3 0) (part w 3 1) (part w 3 2) (part w 3 3)) := by
  rw [weight0_eq, weight1_eq, weight2_eq, weight3_eq, zeros_eq w 0 1 (by decide), zeros_eq w 0 2 (by decide), zeros_eq w 0 3 (by decide),
    zeros_eq w 1 0 (by decide), zeros_eq w 1 2 (by decide), zeros_eq w 1 3 (by decide), zeros_eq w 2 0 (by decide), zeros_eq w 2 1 (by decide),
    zeros_eq w 2 3 (by decide), zeros_eq w 3 0 (by decide), zeros_eq w 3 1 (by decide), zeros_eq w 3 2 (by decide)]
  rfl

/-- An entry of the block-diagonal weights. -/
theorem diag_apply (w : S4x192x192.Idx → EReal) (a b : Fin 768) :
    diag w (ix2 a b) = if b.val / 192 = a.val / 192 then w (ix3 ⟨a.val / 192, by omega⟩ ⟨a.val % 192, by omega⟩ ⟨b.val % 192, by omega⟩) else 0 := by
  rw [diag_eq, stack_apply (fun g => across (part w g 0) (part w g 1) (part w g 2) (part w g 3)), across_apply]
  unfold part
  by_cases h : a.val / 192 = b.val / 192
  · rw [if_pos (Fin.ext h), if_pos h.symm]
    rfl
  · rw [if_neg (fun e => h (Fin.val_eq_of_eq e)), if_neg (fun e => h e.symm)]

/-- Of a sum over the columns of all groups only one group's terms are not a product with zero. -/
theorem sum_group (s : Fin 768) (x f : Fin 768 → EReal) :
    ∑ k : Fin 768, x k * (if k.val / 192 = s.val / 192 then f k else 0)
      = ∑ l : Fin 192, x ⟨s.val / 192 * 192 + l.val, by omega⟩ * f ⟨s.val / 192 * 192 + l.val, by omega⟩ := by
  refine (Fintype.sum_of_injective (fun l : Fin 192 => (⟨s.val / 192 * 192 + l.val, by omega⟩ : Fin 768)) ?_ _ _ ?_ ?_).symm
  · intro l l' h
    have := Fin.val_eq_of_eq h
    exact Fin.ext (Nat.add_left_cancel this)
  · intro k hk
    rw [if_neg, mul_zero]
    intro h
    refine hk ⟨⟨k.val % 192, by omega⟩, Fin.ext ?_⟩
    show s.val / 192 * 192 + k.val % 192 = k.val
    omega
  · intro l
    rw [if_pos]
    show (s.val / 192 * 192 + l.val) / 192 = s.val / 192
    omega

/-! ## The kernel -/

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

theorem iblk0_apply (c : Dev nD) (t : Fin cfg0.N) (r : Fin 512) (k : Fin 768) :
    iblk m c 0 t (ix2 r k) = m ((c : Thread nD τ).loc main_arg0) (ix2 (row t r) k) := by
  obtain ⟨h0, h1, -⟩ := idx_facts t
  rw [← V_main_arg0 m c]
  show V m c main_arg0 ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r k : Fin 768) :
    iblk m c 1 t (ix2 r k) = diag (m ((c : Thread nD τ).loc main_arg1)) (ix2 r k) := by
  obtain ⟨-, -, h0, h1, -⟩ := idx_facts t
  rw [← V_diag m c]
  show V m c main_v13 ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- The block a point writes, entry by entry. -/
theorem out_apply (x0 : Vec Ideal S512x768 .bf16) (x1 : Vec Ideal S768x768 .bf16) (r : Fin 512) (s : Fin 768) :
    out0_2 x0 x1 (ix2 r s) = ∑ k : Fin 768, x0 (ix2 r k) * x1 (ix2 s k) := by
  have hz0 : (![0, 0] : Fin S512x768.rank → Nat) = fun _ => 0 := funext fun a => by fin_cases a <;> rfl
  have hz1 : (![0, 0] : Fin S768x768.rank → Nat) = fun _ => 0 := funext fun a => by fin_cases a <;> rfl
  unfold out0_2
  simp only [View.ld_unit_zero (S := S512x768) hz0, View.ld_unit_zero (S := S768x768) hz1, View.canon_unit_zero (S := S512x768) hz0]
  pointwise [k0_pay1]

/-! ## The reference, entry by entry -/

theorem ref_apply (x : (⟨Cert.Reference26Ideal.S4096x768, .bf16⟩ : BufTy).Contents (Elt Ideal))
    (w : (⟨Cert.Reference26Ideal.S4x192x192, .bf16⟩ : BufTy).Contents (Elt Ideal)) (i : Fin 4096) (s : Fin 768) :
    Cert.Reference26Ideal.Read.val_main_v11 (F := Ideal) x w (ix2 i s)
      = ∑ l : Fin 192, x (ix2 i ⟨s.val / 192 * 192 + l.val, by omega⟩) * w (ix3 ⟨s.val / 192, by omega⟩ ⟨s.val % 192, by omega⟩ l) := by
  open Cert.Reference26Ideal.Read in pointwise [val_main_v6, val_main_v11, val_main_v10, val_main_v9, val_main_v8, val_main_v7, val_main_v1]

/-- The product with the block-diagonal weights, group by group. -/
theorem diag_sum (x : Fin 768 → EReal) (w : S4x192x192.Idx → EReal) (s : Fin 768) :
    ∑ k : Fin 768, x k * diag w (ix2 s k)
      = ∑ l : Fin 192, x ⟨s.val / 192 * 192 + l.val, by omega⟩ * w (ix3 ⟨s.val / 192, by omega⟩ ⟨s.val % 192, by omega⟩ l) := by
  simp only [diag_apply]
  rw [sum_group s x fun k => w (ix3 ⟨s.val / 192, by omega⟩ ⟨s.val % 192, by omega⟩ ⟨k.val % 192, by omega⟩)]
  refine Finset.sum_congr rfl fun l _ => congrArg₂ (· * ·) rfl (congrArg w (congr rfl (Fin.ext ?_)))
  show (s.val / 192 * 192 + l.val) % 192 = l.val
  omega

/-! ## Put together -/

/-- The array the reference leaves, of the kernel's arguments. -/
abbrev G (c : Dev nD) : Buf (Elt Ideal) ((c : Thread nD τ).loc main_v14) :=
  Cert.Reference26Ideal.Read.val_main_v11 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, e0, e1⟩ := idx_facts t
  funext y
  show out0_2 (iblk m c 0 t) (iblk m c 1 t) y = G m c ((win0_2.rect t).emb y)
  obtain ⟨r, s, rfl⟩ : ∃ (r : Fin 512) (s : Fin 768), y = ix2 r s := ⟨y 0, y 1, eq_ix2 y⟩
  have hemb : (win0_2.rect t).emb (ix2 r s) = ix2 (row t r) s := by
    refine Shape.idx_ext₂ ?_ ?_
    · rw [win0_2.rect_emb_val, e0]; rfl
    · rw [win0_2.rect_emb_val, e1]; exact (Nat.zero_mul _).symm ▸ Nat.zero_add _
  rw [hemb]
  unfold G
  rw [out_apply, ref_apply]
  simp only [iblk0_apply, iblk1_apply]
  exact diag_sum (fun k => m ((c : Thread nD τ).loc main_arg0) (ix2 (row t r) k)) _ s

theorem cover (i : S4096x768.Idx) : ∃ t : Fin cfg0.N, (cfg0.win 2).flush t = true ∧ i ∈ ((cfg0.win 2).blk t).view.set := by
  have h0 : (i 0 : Nat) < 4096 := (i 0).isLt
  have h1 : (i 1 : Nat) < 768 := (i 1).isLt
  have hN : cfg0.N = 8 := N_0
  refine ⟨⟨(i 0 : Nat) / 512, by omega⟩, flush0_2 _, ?_⟩
  set t : Fin cfg0.N := ⟨(i 0 : Nat) / 512, by omega⟩
  obtain ⟨-, -, -, -, e0, e1⟩ := idx_facts t
  show i ∈ ((View.whole main_v14).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 768 ≤ (i 1 : Nat) ∧ (i 1 : Nat) < win0_2.index t 1 * 768 + 768
    rw [e1]; omega

/-- From equal arguments the kernel and the reference end with equal arrays. -/
theorem algebraic : Cert.algebraic_Kernel26Ideal_Reference26Ideal
    (hKernel26Ideal := Cert.Kernel26Ideal.Gen.facts) (hReference26Ideal := Cert.Reference26Ideal.Gen.facts) := by
  intro m g m' g' _ hargs
  refine ⟨fun c => G m c, ?_, ?_⟩
  · refine (θ_run (Cert.Kernel26Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference26Ideal.defs (F := Ideal)) _ _).mono (fun r h c => ?_)
      (Cert.Reference26Ideal.Value.run (F := Ideal) m' g')
    refine ⟨((h c).1.trans (Cert.Reference26Ideal.Read.val_main_v11_eq _ _)).trans ?_, (h c).2⟩
    obtain ⟨e0, e1⟩ := hargs c
    rw [e0, e1]

end Cert.GroupDx

end
-- ==== Proof.Val27.lean ====
/- The value of the product whose diagonal blocks are the gradients of the group weights: the kernel's blocks of
   768 rows and 768 columns, put together, are the reference's array. -/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Math
public import Idealize.ShloMosaic.Lib.Pointwise

@[expose] public section

noncomputable section

namespace Cert.GroupDw

open Cert.Kernel27Ideal Cert.Kernel27Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 768) : Fin 768 :=
  ⟨t.val / 1 * 768 + r.val, by have h : t.val < 1 := lt_of_lt_of_eq t.isLt N_0; omega⟩
def col (t : Fin cfg0.N) (s : Fin 768) : Fin 768 :=
  ⟨t.val % 1 * 768 + s.val, by have h : t.val < 1 := lt_of_lt_of_eq t.isLt N_0; omega⟩

theorem idx_facts : ∀ t : Fin cfg0.N, win0_0.index t 0 = 0 ∧ win0_0.index t 1 = t.val / 1 ∧ win0_1.index t 0 = 0 ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0 ∧ win0_1.index t 1 = t.val % 1 ∧ win0_2.index t 0 = t.val / 1 ∧ win0_2.index t 1 = t.val % 1)

theorem iblk0_apply (c : Dev nD) (t : Fin cfg0.N) (k : Fin 4096) (r : Fin 768) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 4096) (s : Fin 768) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S4096x768 .bf16) (x1 : Vec Ideal S4096x768 .bf16) (r : Fin 768) (s : Fin 768) :
    out0_2 x0 x1 (ix2 r s) = ∑ k : Fin 4096, x0 (ix2 k r) * x1 (ix2 k s) := by
  have hz0 : (![0, 0] : Fin S4096x768.rank → Nat) = fun _ => 0 := funext fun a => by fin_cases a <;> rfl
  have hz1 : (![0, 0] : Fin S768x768.rank → Nat) = fun _ => 0 := funext fun a => by fin_cases a <;> rfl
  unfold out0_2
  simp only [View.ld_unit_zero (S := S4096x768) hz0, View.ld_unit_zero (S := S768x768) hz1, View.canon_unit_zero (S := S768x768) hz1]
  pointwise [k0_pay1]

/-- The reference's array, entry by entry. -/
theorem ref_apply (x0 : (⟨Cert.Reference27Ideal.S4096x768, .bf16⟩ : BufTy).Contents (Elt Ideal)) (x1 : (⟨Cert.Reference27Ideal.S4096x768, .bf16⟩ : BufTy).Contents (Elt Ideal)) (i : Fin 768) (j : Fin 768) :
    Cert.Reference27Ideal.Read.val_main_v5 (F := Ideal) x0 x1 (ix2 i j) = ∑ k : Fin 4096, x0 (ix2 k i) * x1 (ix2 k j) := by
  open Cert.Reference27Ideal.Read in pointwise [val_main_cst, val_main_v0, val_main_v1, val_main_v2, val_main_v3, val_main_v4, val_main_v5]
  exact Finset.sum_congr rfl fun k _ => mul_comm _ _

/-- The array the reference leaves, of the kernel's arguments. -/
abbrev G (c : Dev nD) : Buf (Elt Ideal) ((c : Thread nD τ).loc main_v0) :=
  Cert.Reference27Ideal.Read.val_main_v5 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 768) (s : Fin 768), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S768x768.Idx) : ∃ t : Fin cfg0.N, (cfg0.win 2).flush t = true ∧ i ∈ ((cfg0.win 2).blk t).view.set := by
  have b0 : (i 0 : Nat) < 768 := (i 0).isLt
  have b1 : (i 1 : Nat) < 768 := (i 1).isLt
  have hN : cfg0.N = 1 := N_0
  refine ⟨⟨(i 0 : Nat) / 768 * 1 + (i 1 : Nat) / 768, by omega⟩, flush0_2 _, ?_⟩
  set t : Fin cfg0.N := ⟨(i 0 : Nat) / 768 * 1 + (i 1 : Nat) / 768, by omega⟩ with ht
  have hv : t.val = (i 0 : Nat) / 768 * 1 + (i 1 : Nat) / 768 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 768 ≤ (i 0 : Nat) ∧ (i 0 : Nat) < win0_2.index t 0 * 768 + 768
    rw [h0, hv]; omega
  | ⟨1, _⟩ =>
    show win0_2.index t 1 * 768 ≤ (i 1 : Nat) ∧ (i 1 : Nat) < win0_2.index t 1 * 768 + 768
    rw [h1, hv]; omega

/-- From equal arguments the kernel and the reference end with equal arrays. -/
theorem algebraic : Cert.algebraic_Kernel27Ideal_Reference27Ideal
    (hKernel27Ideal := Cert.Kernel27Ideal.Gen.facts) (hReference27Ideal := Cert.Reference27Ideal.Gen.facts) := by
  intro m g m' g' _ hargs
  refine ⟨fun c => G m c, ?_, ?_⟩
  · refine (θ_run (Cert.Kernel27Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference27Ideal.defs (F := Ideal)) _ _).mono (fun r h c => ?_)
      (Cert.Reference27Ideal.Value.run (F := Ideal) m' g')
    refine ⟨((h c).1.trans (Cert.Reference27Ideal.Read.val_main_v5_eq _ _)).trans ?_, (h c).2⟩
    obtain ⟨e0, e1⟩ := hargs c
    rw [e0, e1]

end Cert.GroupDw

end
-- ==== Proof.Val28.lean ====
/- The value of the scaled grouped channels joined with the memory attention: the kernel's blocks of 512 rows, put together,
   are the reference's array. -/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise

@[expose] public section

noncomputable section

namespace Cert.Cat

open Cert.Kernel28Ideal Cert.Kernel28Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S512x768.rank → Nat) = fun _ => 0 := funext fun a => by fin_cases a <;> rfl
theorem hz1 : (![0, 0] : Fin S512x256.rank → Nat) = fun _ => 0 := funext fun a => by fin_cases a <;> rfl
theorem hz2 : (![0, 0] : Fin S1x768.rank → Nat) = fun _ => 0 := funext fun a => by fin_cases a <;> rfl
theorem hz3 : (![0, 0] : Fin S512x1024.rank → Nat) = fun _ => 0 := funext fun a => by fin_cases a <;> rfl

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

theorem iblk0_apply (c : Dev nD) (t : Fin cfg0.N) (r : Fin 512) (k : Fin 768) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 512) (k : Fin 256) :
    iblk m c 1 t (ix2 r k) = m ((c : Thread nD τ).loc main_arg1) (ix2 (row t r) k) := by
  obtain ⟨h0, h1⟩ := idx1 t
  show m ((c : Thread nD τ).loc main_arg1) ((win0_1.rect t).emb (ix2 r k)) = _
  refine congrArg _ (Shape.idx_ext₂ ?_ ?_)
  · rw [win0_1.rect_emb_val, h0]; rfl
  · rw [win0_1.rect_emb_val, h1]; exact (Nat.zero_mul _).symm ▸ Nat.zero_add _

theorem iblk2_apply (c : Dev nD) (t : Fin cfg0.N) (k : Fin 768) :
    iblk m c 2 t (ix2 0 k) = m ((c : Thread nD τ).loc main_arg2) (ix2 0 k) := by
  obtain ⟨h0, h1⟩ := idx2 t
  show m ((c : Thread nD τ).loc main_arg2) ((win0_2.rect t).emb (ix2 0 k)) = _
  refine congrArg _ (Shape.idx_ext₂ ?_ ?_)
  · rw [win0_2.rect_emb_val, h0]; exact (Nat.zero_mul _).symm ▸ Nat.zero_add _
  · rw [win0_2.rect_emb_val, h1]; exact (Nat.zero_mul _).symm ▸ Nat.zero_add _

/-- The block a point writes, entry by entry. -/
theorem out_apply (x0 : Vec Ideal S512x768 .bf16) (x1 : Vec Ideal S512x256 .bf16) (x2 : Vec Ideal S1x768 .f32) (r : Fin 512) (j : Fin 1024) :
    out0_3 x0 x1 x2 (ix2 r j) = if h : j.val < 768 then x0 (ix2 r ⟨j.val, h⟩) * x2 (ix2 0 ⟨j.val, h⟩) else x1 (ix2 r ⟨j.val - 768, by omega⟩) := by
  unfold out0_3
  simp only [View.ld_unit_zero (S := S512x768) hz0, View.ld_unit_zero (S := S512x256) hz1, View.ld_unit_zero (S := S1x768) hz2, View.canon_unit_zero (S := S512x1024) hz3]
  pointwise [k0_pay1]

/-- The reference, entry by entry. -/
theorem ref_apply (x0 : (⟨Cert.Reference28Ideal.S4096x768, .bf16⟩ : BufTy).Contents (Elt Ideal))
    (x1 : (⟨Cert.Reference28Ideal.S4096x256, .bf16⟩ : BufTy).Contents (Elt Ideal))
    (x2 : (⟨Cert.Reference28Ideal.S1x768, .f32⟩ : BufTy).Contents (Elt Ideal)) (r : Fin 4096) (j : Fin 1024) :
    Cert.Reference28Ideal.Read.val_main_v5 (F := Ideal) x0 x1 x2 (ix2 r j) = if h : j.val < 768 then x0 (ix2 r ⟨j.val, h⟩) * x2 (ix2 0 ⟨j.val, h⟩) else x1 (ix2 r ⟨j.val - 768, by omega⟩) := by
  open Cert.Reference28Ideal.Read in
  pointwise [val_main_v5, val_main_v4, val_main_v3, val_main_v2, val_main_v1, val_main_v0]

/-- The array the reference leaves, of the kernel's arguments. -/
abbrev G (c : Dev nD) : Buf (Elt Ideal) ((c : Thread nD τ).loc main_v0) :=
  Cert.Reference28Ideal.Read.val_main_v5 (F := Ideal) (m ((c : Thread nD τ).loc main_arg0)) (m ((c : Thread nD τ).loc main_arg1)) (m ((c : Thread nD τ).loc main_arg2))

theorem flushed3_eq (c : Dev nD) (t : Fin cfg0.N) :
    (dats m 0 c).flushed 3 t = ((cfg0.win 3).blk t).view.read (Elt Ideal) (G m c) := by
  rw [Value.flushed3]
  obtain ⟨e0, e1⟩ := idx3 t
  funext y
  show out0_3 (iblk m c 0 t) (iblk m c 1 t) (iblk m c 2 t) y = G m c ((win0_3.rect t).emb y)
  obtain ⟨r, j, rfl⟩ : ∃ (r : Fin 512) (j : Fin 1024), y = ix2 r j := ⟨y 0, y 1, eq_ix2 y⟩
  have hemb : (win0_3.rect t).emb (ix2 r j) = ix2 (row t r) j := by
    refine Shape.idx_ext₂ ?_ ?_
    · rw [win0_3.rect_emb_val, e0]; rfl
    · rw [win0_3.rect_emb_val, e1]; exact (Nat.zero_mul _).symm ▸ Nat.zero_add _
  rw [hemb]
  unfold G
  rw [out_apply, ref_apply]
  simp only [iblk0_apply, iblk1_apply, iblk2_apply]

theorem cover3 (i : S4096x1024.Idx) : ∃ t : Fin cfg0.N, (cfg0.win 3).flush t = true ∧ i ∈ ((cfg0.win 3).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_3 _, ?_⟩
  set t : Fin cfg0.N := ⟨(i 0 : Nat) / 512, by omega⟩
  obtain ⟨e0, e1⟩ := idx3 t
  show i ∈ ((View.whole main_v0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [e0]
    show (i 0 : Nat) / 512 * 512 ≤ (i 0 : Nat) ∧ (i 0 : Nat) < (i 0 : Nat) / 512 * 512 + 512
    omega
  | ⟨1, _⟩ =>
    show win0_3.index t 1 * 1024 ≤ (i 1 : Nat) ∧ (i 1 : Nat) < win0_3.index t 1 * 1024 + 1024
    rw [e1]; omega

/-! ## The claim -/

/-- From equal arguments the kernel and the reference end with equal arrays. -/
theorem algebraic : Cert.algebraic_Kernel28Ideal_Reference28Ideal
    (hKernel28Ideal := Cert.Kernel28Ideal.Gen.facts) (hReference28Ideal := Cert.Reference28Ideal.Gen.facts) := by
  intro m g m' g' _ hargs
  refine ⟨fun c => G m c, ?_, ?_⟩
  · refine (θ_run (Cert.Kernel28Ideal.defs (F := Ideal)) _ _).mono (fun r h c => ?_) (Value.run_blocks m g)
    obtain ⟨a, h⟩ := h c
    exact ⟨a.trans ((dats m 0 c).arrAt_eq_of_cover 3 (G m c) (fun t _ => flushed3_eq m c t) cover3), h⟩
  · refine (θ_run (Cert.Reference28Ideal.defs (F := Ideal)) _ _).mono (fun r h c => ?_)
      (Cert.Reference28Ideal.Value.run (F := Ideal) m' g')
    obtain ⟨a, h⟩ := h c
    obtain ⟨e0, e1, e2⟩ := hargs c
    refine ⟨(a.trans (Cert.Reference28Ideal.Read.val_main_v5_eq _ _ _)).trans ?_, h⟩
    · rw [e0, e1, e2]

end Cert.Cat

end
-- ==== Proof.Val29.lean ====
/- The value of the gradient of the grouped channels' scale and of its argument: eight blocks of 512 rows, and one row summed
   up over them. -/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Math
public import Idealize.ShloMosaic.Lib.Pointwise

@[expose] public section

noncomputable section

namespace Cert.ScaleBwd

open Cert.Kernel29Ideal Cert.Kernel29Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S512x768.rank → Nat) = fun _ => 0 := funext fun a => by fin_cases a <;> rfl
theorem hz1 : (![0, 0] : Fin S1x768.rank → Nat) = fun _ => 0 := funext fun a => by fin_cases a <;> rfl

/-- What a point leaves of the gradient of the grouped channels. -/
theorem outs_dx (c : Dev nD) (t : Fin cfg0.N) : (outsAt0 m c t.val t.isLt).1 = k0_pay2 (X0_0 m c t) (iblk m c 2 t) := by
  by_cases h0 : t.val % 8 = 0
  · rw [outsAt0_A m c t h0]
    dsimp only
    unfold out0_A_3
    refine (View.read_writes_eq_canon _ _ _ fun y => cover0_A_3 ..).trans ?_
    unfold kernelRun0_A
    dsimp only
    sl_unfold_words
    simp only [View.readAt_eq_ld, (hs0_0 t).read_unread, (hs0_1 t).read_unread, (hs0_2 t).read_unread, View.ld_unit_zero (S := S512x768) hz0, View.ld_unit_zero (S := S1x768) hz1, View.canon_unit_zero (S := S512x768) hz0]
  · rw [outsAt0_B m c t h0]
    dsimp only
    unfold out0_B_3
    refine (View.read_writes_eq_canon _ _ _ fun y => cover0_B_3 ..).trans ?_
    unfold kernelRun0_B
    dsimp only
    sl_unfold_words
    simp only [View.readAt_eq_ld, (hs0_0 t).read_unread, (hs0_1 t).read_unread, (hs0_2 t).read_unread, View.ld_unit_zero (S := S512x768) hz0, View.ld_unit_zero (S := S1x768) hz1, View.canon_unit_zero (S := S512x768) hz0]

/-- The first point starts the sum from zero. -/
theorem outs_dg_first (c : Dev nD) (t : Fin cfg0.N) (h0 : t.val % 8 = 0) :
    (outsAt0 m c t.val t.isLt).2 = k0_pay4 (X0_0 m c t) (iblk m c 1 t) (k0_pay3 (F := Ideal)) := by
  rw [outsAt0_A m c t h0]
  dsimp only
  unfold out0_A_4
  refine (View.read_writes_eq_canon _ _ _ fun y => cover0_A_4 ..).trans ?_
  unfold kernelRun0_A
  dsimp only
  sl_unfold_words
  simp only [View.readAt_eq_ld, (hs0_0 t).read_unread, (hs0_1 t).read_unread, (hs0_2 t).read_unread, View.ld_unit_zero (S := S512x768) hz0, View.ld_unit_zero (S := S1x768) hz1,
    View.canon_cons_unit_zero (S := S1x768) hz1, View.readCov_unit_zero (S := S1x768) _ hz1]

/-- A later point adds its rows to what the point before left. -/
theorem outs_dg_next (c : Dev nD) (t : Fin cfg0.N) (h0 : ¬ t.val % 8 = 0) :
    (outsAt0 m c t.val t.isLt).2 = k0_pay4 (X0_0 m c t) (iblk m c 1 t) (outsAt0 m c (t.val - 1) (Nat.lt_of_le_of_lt (Nat.sub_le _ _) t.isLt)).2 := by
  rw [outsAt0_B m c t h0]
  dsimp only
  unfold out0_B_4
  refine (View.read_writes_eq_canon _ _ _ fun y => cover0_B_4 ..).trans ?_
  unfold kernelRun0_B
  dsimp only
  sl_unfold_words
  simp only [View.readAt_eq_ld, (hs0_0 t).read_unread, (hs0_1 t).read_unread, (hs0_2 t).read_unread, (hs0_4 t).read_unread, View.ld_unit_zero (S := S512x768) hz0, View.ld_unit_zero (S := S1x768) hz1,
    View.canon_cons_unit_zero (S := S1x768) hz1, View.readCov_unit_zero (S := S1x768) _ hz1]

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem iblk0_apply (c : Dev nD) (t : Fin cfg0.N) (r : Fin 512) (k : Fin 768) :
    X0_0 m c t (ix2 r k) = m ((c : Thread nD τ).loc main_arg0) (ix2 (row t r) ⟨k.val, by omega⟩) := by
  obtain ⟨h0, h1⟩ := idx0 t
  unfold X0_0 Pipeline.Window.fill
  rw [dif_pos (moved0_0 t _)]
  show m ((c : Thread nD τ).loc main_arg0) ((win0_0.rect t).emb _) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 512) (k : Fin 768) :
    iblk m c 1 t (ix2 r k) = m ((c : Thread nD τ).loc main_arg1) (ix2 (row t r) k) := by
  obtain ⟨h0, h1⟩ := idx1 t
  show m ((c : Thread nD τ).loc main_arg1) ((win0_1.rect t).emb (ix2 r k)) = _
  refine congrArg _ (Shape.idx_ext₂ ?_ ?_)
  · rw [win0_1.rect_emb_val, h0]; rfl
  · rw [win0_1.rect_emb_val, h1]; exact (Nat.zero_mul _).symm ▸ Nat.zero_add _

theorem iblk2_apply (c : Dev nD) (t : Fin cfg0.N) (k : Fin 768) :
    iblk m c 2 t (ix2 0 k) = m ((c : Thread nD τ).loc main_arg2) (ix2 0 k) := by
  obtain ⟨h0, h1⟩ := idx2 t
  show m ((c : Thread nD τ).loc main_arg2) ((win0_2.rect t).emb (ix2 0 k)) = _
  refine congrArg _ (Shape.idx_ext₂ ?_ ?_)
  · rw [win0_2.rect_emb_val, h0]; exact (Nat.zero_mul _).symm ▸ Nat.zero_add _
  · rw [win0_2.rect_emb_val, h1]; exact (Nat.zero_mul _).symm ▸ Nat.zero_add _

theorem dx_apply (x0 : Vec Ideal S512x768 .bf16) (x2 : Vec Ideal S1x768 .f32) (r : Fin 512) (j : Fin 768) :
    k0_pay2 x0 x2 (ix2 r j) = x0 (ix2 r j) * x2 (ix2 0 j) := by
  pointwise [k0_pay2, k0_pay1]

theorem dg_zero (j : Fin 768) : k0_pay3 (F := Ideal) (ix2 0 j) = 0 := by
  pointwise [k0_pay3]

theorem dg_apply (x0 x1 : Vec Ideal S512x768 .bf16) (x : Vec Ideal S1x768 .f32) (j : Fin 768) :
    k0_pay4 x0 x1 x (ix2 0 j) = x (ix2 0 j) + ∑ r : Fin 512, x0 (ix2 r j) * x1 (ix2 r j) := by
  pointwise [k0_pay4, k0_pay1]

theorem ref_dx (x0 : (⟨Cert.Reference29Ideal.S4096x1024, .bf16⟩ : BufTy).Contents (Elt Ideal)) (x2 : (⟨Cert.Reference29Ideal.S1x768, .f32⟩ : BufTy).Contents (Elt Ideal)) (r : Fin 4096) (j : Fin 768) :
    Cert.Reference29Ideal.Read.val_main_v14 (F := Ideal) x0 x2 (ix2 r j) = x0 (ix2 r ⟨j.val, by omega⟩) * x2 (ix2 0 j) := by
  open Cert.Reference29Ideal.Read in
  pointwise [val_main_v14, val_main_v13, val_main_v12, val_main_v7, val_main_v6]
  all_goals first | rfl | (congr 2; exact Shape.idx_ext₂ rfl (Nat.zero_add _))

/-- What one row adds to the gradient of the scale's entry `j`. -/
def rowTerm (x0 : (⟨Cert.Reference29Ideal.S4096x1024, .bf16⟩ : BufTy).Contents (Elt Ideal)) (x1 : (⟨Cert.Reference29Ideal.S4096x768, .bf16⟩ : BufTy).Contents (Elt Ideal)) (j : Fin 768) (R : Fin 4096) : EReal :=
  @HMul.hMul EReal EReal EReal _ (x0 (ix2 R ⟨j.val, by omega⟩)) (x1 (ix2 R j))

theorem ref_dg (x0 : (⟨Cert.Reference29Ideal.S4096x1024, .bf16⟩ : BufTy).Contents (Elt Ideal)) (x1 : (⟨Cert.Reference29Ideal.S4096x768, .bf16⟩ : BufTy).Contents (Elt Ideal)) (j : Fin 768) :
    Cert.Reference29Ideal.Read.val_main_v11 (F := Ideal) x0 x1 (ix2 0 j) = ∑ R : Fin 4096, rowTerm x0 x1 j R := by
  refine Eq.trans ?_ (Finset.sum_congr rfl fun R _ => mul_comm _ _)
  open Cert.Reference29Ideal.Read in
  pointwise [val_main_v11, val_main_v10, val_main_v9, val_main_v7, val_main_v6, val_main_v0, val_main_cst_1]

/-- The same of a row's number; nothing beyond the last row. -/
def dgRow (x0 : (⟨Cert.Reference29Ideal.S4096x1024, .bf16⟩ : BufTy).Contents (Elt Ideal)) (x1 : (⟨Cert.Reference29Ideal.S4096x768, .bf16⟩ : BufTy).Contents (Elt Ideal)) (j : Fin 768) (R : ℕ) : EReal :=
  if h : R < 4096 then rowTerm x0 x1 j ⟨R, h⟩ else 0

/-! The arrays the reference leaves, of the kernel's arguments. -/

abbrev G3 (c : Dev nD) : Buf (Elt Ideal) ((c : Thread nD τ).loc main_v0_0) :=
  Cert.Reference29Ideal.Read.val_main_v14 (F := Ideal) (m ((c : Thread nD τ).loc main_arg0)) (m ((c : Thread nD τ).loc main_arg2))

abbrev G4 (c : Dev nD) : Buf (Elt Ideal) ((c : Thread nD τ).loc main_v0_1) :=
  Cert.Reference29Ideal.Read.val_main_v11 (F := Ideal) (m ((c : Thread nD τ).loc main_arg0)) (m ((c : Thread nD τ).loc main_arg1))

theorem flushed3_eq (c : Dev nD) (t : Fin cfg0.N) :
    (dats m 0 c).flushed 3 t = ((cfg0.win 3).blk t).view.read (Elt Ideal) (G3 m c) := by
  rw [Value.flushed3]
  obtain ⟨e0, e1⟩ := idx3 t
  funext y
  show (outsAt0 m c t.val t.isLt).1 y = G3 m c ((win0_3.rect t).emb y)
  obtain ⟨r, j, rfl⟩ : ∃ (r : Fin 512) (j : Fin 768), y = ix2 r j := ⟨y 0, y 1, eq_ix2 y⟩
  have hemb : (win0_3.rect t).emb (ix2 r j) = ix2 (row t r) j := by
    refine Shape.idx_ext₂ ?_ ?_
    · rw [win0_3.rect_emb_val, e0]; rfl
    · rw [win0_3.rect_emb_val, e1]; exact (Nat.zero_mul _).symm ▸ Nat.zero_add _
  rw [hemb]
  unfold G3
  rw [outs_dx, dx_apply, ref_dx]
  simp only [iblk0_apply, iblk2_apply]

theorem cover3 (i : S4096x768.Idx) : ∃ t : Fin cfg0.N, (cfg0.win 3).flush t = true ∧ i ∈ ((cfg0.win 3).blk t).view.set := by
  have h0 : (i 0 : Nat) < 4096 := (i 0).isLt
  have h1 : (i 1 : Nat) < 768 := (i 1).isLt
  have hN : cfg0.N = 8 := N_0
  refine ⟨⟨(i 0 : Nat) / 512, by omega⟩, flush0_3 _, ?_⟩
  set t : Fin cfg0.N := ⟨(i 0 : Nat) / 512, by omega⟩
  obtain ⟨e0, e1⟩ := idx3 t
  show i ∈ ((View.whole main_v0_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [e0]
    show (i 0 : Nat) / 512 * 512 ≤ (i 0 : Nat) ∧ (i 0 : Nat) < (i 0 : Nat) / 512 * 512 + 512
    omega
  | ⟨1, _⟩ =>
    show win0_3.index t 1 * 768 ≤ (i 1 : Nat) ∧ (i 1 : Nat) < win0_3.index t 1 * 768 + 768
    rw [e1]; omega

/-- What one block adds. -/
theorem dg_block (c : Dev nD) (t : Fin cfg0.N) (x : Vec Ideal S1x768 .f32) (j : Fin 768) :
    k0_pay4 (F := Ideal) (X0_0 m c t) (iblk m c 1 t) x (ix2 0 j)
      = x (ix2 0 j) + ∑ r : Fin 512, dgRow (m ((c : Thread nD τ).loc main_arg0)) (m ((c : Thread nD τ).loc main_arg1)) j (t.val * 512 + r.val) := by
  rw [dg_apply]
  refine congrArg _ (Finset.sum_congr rfl fun r _ => ?_)
  rw [iblk0_apply, iblk1_apply]
  unfold dgRow
  rw [dif_pos (show t.val * 512 + r.val < 4096 from (row t r).isLt)]
  rfl

theorem dg_acc (c : Dev nD) (j : Fin 768) : ∀ (n : ℕ) (hn : n < cfg0.N),
    (outsAt0 m c n hn).2 (ix2 0 j) = ∑ R ∈ Finset.range ((n + 1) * 512), dgRow (m ((c : Thread nD τ).loc main_arg0)) (m ((c : Thread nD τ).loc main_arg1)) j R
  | 0, hn => by
    rw [outs_dg_first m c ⟨0, hn⟩ rfl, dg_block, dg_zero, Cert.Math.sum_range_block]
    rw [Nat.zero_mul, Finset.range_zero, Finset.sum_empty]
  | n + 1, hn => by
    have hN : cfg0.N = 8 := N_0
    rw [outs_dg_next m c ⟨n + 1, hn⟩ (by show ¬ (n + 1) % 8 = 0; omega), dg_block, Cert.Math.sum_range_block]
    exact congrArg (· + _) (dg_acc c j n (by omega))

theorem flushed4_eq (c : Dev nD) (t : Fin cfg0.N) (hf : (cfg0.win 4).flush t = true) :
    (dats m 0 c).flushed 4 t = ((cfg0.win 4).blk t).view.read (Elt Ideal) (G4 m c) := by
  rw [Value.flushed4]
  obtain ⟨e0, e1⟩ := idx4 t
  have hN : t.val < 8 := lt_of_lt_of_eq t.isLt N_0
  have hlast : t.val = 7 := by have := (flush0_4 t).mp hf; omega
  funext y
  show (outsAt0 m c t.val t.isLt).2 y = G4 m c ((win0_4.rect t).emb y)
  obtain ⟨j, rfl⟩ : ∃ j : Fin 768, y = ix2 0 j :=
    ⟨y 1, (eq_ix2 y).trans (congrArg (fun a => ix2 a (y 1)) (Subsingleton.elim (α := Fin 1) _ _))⟩
  have hemb : (win0_4.rect t).emb (ix2 0 j) = ix2 0 j := by
    refine Shape.idx_ext₂ ?_ ?_
    · rw [win0_4.rect_emb_val, e0]; exact (Nat.zero_mul _).symm ▸ Nat.zero_add _
    · rw [win0_4.rect_emb_val, e1]; exact (Nat.zero_mul _).symm ▸ Nat.zero_add _
  rw [hemb]
  rw [dg_acc]
  unfold G4
  rw [ref_dg, hlast, Finset.sum_range (fun R => dgRow (m ((c : Thread nD τ).loc main_arg0)) (m ((c : Thread nD τ).loc main_arg1)) j R)]
  exact Finset.sum_congr rfl fun R _ => by unfold dgRow; rw [dif_pos R.isLt]

theorem cover4 (i : S1x768.Idx) : ∃ t : Fin cfg0.N, (cfg0.win 4).flush t = true ∧ i ∈ ((cfg0.win 4).blk t).view.set := by
  have h0 : (i 0 : Nat) < 1 := (i 0).isLt
  have h1 : (i 1 : Nat) < 768 := (i 1).isLt
  have hN : cfg0.N = 8 := N_0
  refine ⟨⟨7, by omega⟩, (flush0_4 _).mpr rfl, ?_⟩
  set t : Fin cfg0.N := ⟨7, by omega⟩
  obtain ⟨e0, e1⟩ := idx4 t
  show i ∈ ((View.whole main_v0_1).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [e0]; omega
  | ⟨1, _⟩ =>
    show win0_4.index t 1 * 768 ≤ (i 1 : Nat) ∧ (i 1 : Nat) < win0_4.index t 1 * 768 + 768
    rw [e1]; omega

/-! ## The claim -/

/-- From equal arguments the kernel and the reference end with equal arrays. -/
theorem algebraic : Cert.algebraic_Kernel29Ideal_Reference29Ideal
    (hKernel29Ideal := Cert.Kernel29Ideal.Gen.facts) (hReference29Ideal := Cert.Reference29Ideal.Gen.facts) := by
  intro m g m' g' _ hargs
  refine ⟨fun c => G3 m c, fun c => G4 m c, ?_, ?_⟩
  · refine (θ_run (Cert.Kernel29Ideal.defs (F := Ideal)) _ _).mono (fun r h c => ?_) (Value.run_blocks m g)
    obtain ⟨a, b, h⟩ := h c
    exact ⟨a.trans ((dats m 0 c).arrAt_eq_of_cover 3 (G3 m c) (fun t _ => flushed3_eq m c t) cover3),
      b.trans ((dats m 0 c).arrAt_eq_of_cover 4 (G4 m c) (fun t hf => flushed4_eq m c t hf) cover4), h⟩
  · refine (θ_run (Cert.Reference29Ideal.defs (F := Ideal)) _ _).mono (fun r h c => ?_)
      (Cert.Reference29Ideal.Value.run (F := Ideal) m' g')
    obtain ⟨a, b, h⟩ := h c
    obtain ⟨e0, e1, e2⟩ := hargs c
    refine ⟨(a.trans (Cert.Reference29Ideal.Read.val_main_v14_eq _ _)).trans ?_, (b.trans (Cert.Reference29Ideal.Read.val_main_v11_eq _ _)).trans ?_, h⟩
    · rw [e0, e2]
    · rw [e0, e1]

end Cert.ScaleBwd

end
-- ==== Proof.Val3.lean ====
/- The value of the gradient of the gated unit and of its down projection: the kernel's sixteen blocks of 256 rows, put
   together, are the reference's array, wherever the gradient, the weights and the up branch are finite. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Math
public import Idealize.ShloMosaic.Lib.Pointwise

@[expose] public section

noncomputable section

namespace Cert.DownDx

open Cert.Kernel3Ideal Cert.Kernel3Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`. -/
def row (t : Fin cfg0.N) (r : Fin 256) : Fin 4096 :=
  ⟨t.val * 256 + r.val, by have h : t.val < 16 := lt_of_lt_of_eq t.isLt N_0; omega⟩

/-- Column `j` of the gate's half of the result, and of the up branch's half. -/
def lo (j : Fin 2816) : Fin 5632 := ⟨j.val, by omega⟩
def hi (j : Fin 2816) : Fin 5632 := ⟨2816 + j.val, by omega⟩

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = t.val ∧ win0_4.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = t.val ∧ win0_4.index t 1 = 0)

theorem iblk0_apply (c : Dev nD) (t : Fin cfg0.N) (r : Fin 256) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 2816) (k : Fin 1024) :
    iblk m c 1 t (ix2 r k) = m ((c : Thread nD τ).loc main_arg1) (ix2 r k) := by
  obtain ⟨-, -, h0, h1, -⟩ := idx_facts t
  show m ((c : Thread nD τ).loc main_arg1) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (r : Fin 256) (k : Fin 2816) :
    iblk m c 2 t (ix2 r k) = m ((c : Thread nD τ).loc main_arg2) (ix2 (row t r) k) := by
  obtain ⟨-, -, -, -, h0, h1, -⟩ := idx_facts t
  show m ((c : Thread nD τ).loc main_arg2) ((win0_2.rect t).emb (ix2 r k)) = _
  refine congrArg _ (Shape.idx_ext₂ ?_ ?_)
  · rw [win0_2.rect_emb_val, h0]; rfl
  · rw [win0_2.rect_emb_val, h1]; exact (Nat.zero_mul _).symm ▸ Nat.zero_add _

theorem iblk3_apply (c : Dev nD) (t : Fin cfg0.N) (r : Fin 256) (k : Fin 2816) :
    iblk m c 3 t (ix2 r k) = m ((c : Thread nD τ).loc main_arg3) (ix2 (row t r) k) := by
  obtain ⟨-, -, -, -, -, -, h0, h1, -⟩ := idx_facts t
  show m ((c : Thread nD τ).loc main_arg3) ((win0_3.rect t).emb (ix2 r k)) = _
  refine congrArg _ (Shape.idx_ext₂ ?_ ?_)
  · rw [win0_3.rect_emb_val, h0]; rfl
  · rw [win0_3.rect_emb_val, h1]; exact (Nat.zero_mul _).symm ▸ Nat.zero_add _

/-- The gate's gradient, one entry of one block. -/
theorem dgate_apply (x0 : Vec Ideal S256x1024 .bf16) (x1 : Vec Ideal S2816x1024 .bf16) (x2 x3 : Vec Ideal S256x2816 .bf16)
    (r : Fin 256) (j : Fin 2816) :
    k0_pay5 x0 x1 x2 x3 (ix2 r j)
      = ((∑ k : Fin 1024, x0 (ix2 r k) * x1 (ix2 j k)) * x3 (ix2 r j))
        * (Ideal.logistic (x2 (ix2 r j))
          + x2 (ix2 r j) * Ideal.logistic (x2 (ix2 r j)) * (1 - Ideal.logistic (x2 (ix2 r j)))) := by
  pointwise [k0_pay5, k0_pay4, k0_pay3, k0_pay2, k0_pay1]

/-- The up branch's gradient, one entry of one block. -/
theorem dup_apply (x0 : Vec Ideal S256x1024 .bf16) (x1 : Vec Ideal S2816x1024 .bf16) (x2 : Vec Ideal S256x2816 .bf16)
    (r : Fin 256) (j : Fin 2816) :
    k0_pay6 x0 x1 x2 (ix2 r j)
      = (∑ k : Fin 1024, x0 (ix2 r k) * x1 (ix2 j k)) * (x2 (ix2 r j) * Ideal.logistic (x2 (ix2 r j))) := by
  pointwise [k0_pay6, k0_pay4, k0_pay3, k0_pay2, k0_pay1]

/-- The block a point writes: the gate's gradient in its first 2816 columns, the up branch's in the rest. -/
theorem out_left (x0 : Vec Ideal S256x1024 .bf16) (x1 : Vec Ideal S2816x1024 .bf16) (x2 x3 : Vec Ideal S256x2816 .bf16)
    (r : Fin 256) (j : Fin 2816) :
    out0_4 x0 x1 x2 x3 (ix2 r (lo j)) = k0_pay5 x0 x1 x2 x3 (ix2 r j) := by
  have hz0 : (![0, 0] : Fin S256x1024.rank → Nat) = fun _ => 0 := funext fun a => by fin_cases a <;> rfl
  have hz1 : (![0, 0] : Fin S2816x1024.rank → Nat) = fun _ => 0 := funext fun a => by fin_cases a <;> rfl
  have hz2 : (![0, 0] : Fin S256x2816.rank → Nat) = fun _ => 0 := funext fun a => by fin_cases a <;> rfl
  unfold out0_4
  rw [View.ld_unit_zero hz0, View.ld_unit_zero hz1, View.ld_unit_zero hz2, View.ld_unit_zero hz2]
  rw [View.canon_cons_of_not_mem]
  · have e : (ix2 r (lo j) : S256x5632.Idx) = r0_3.emb (ix2 r j) :=
      Shape.idx_ext₂ (by show r.val = 0 + 1 * r.val; omega) (by show j.val = 0 + 1 * j.val; omega)
    rw [e, View.canon_cons_emb]
  · rw [Rect.mem_set_unit]
    intro h
    have := (h 1).1
    have hj := j.isLt
    have : (2816 : Nat) ≤ j.val := this
    omega

theorem out_right (x0 : Vec Ideal S256x1024 .bf16) (x1 : Vec Ideal S2816x1024 .bf16) (x2 x3 : Vec Ideal S256x2816 .bf16)
    (r : Fin 256) (j : Fin 2816) :
    out0_4 x0 x1 x2 x3 (ix2 r (hi j)) = k0_pay6 x0 x1 x2 (ix2 r j) := by
  have hz0 : (![0, 0] : Fin S256x1024.rank → Nat) = fun _ => 0 := funext fun a => by fin_cases a <;> rfl
  have hz1 : (![0, 0] : Fin S2816x1024.rank → Nat) = fun _ => 0 := funext fun a => by fin_cases a <;> rfl
  have hz2 : (![0, 0] : Fin S256x2816.rank → Nat) = fun _ => 0 := funext fun a => by fin_cases a <;> rfl
  unfold out0_4
  rw [View.ld_unit_zero hz0, View.ld_unit_zero hz1, View.ld_unit_zero hz2, View.ld_unit_zero hz2]
  have e : (ix2 r (hi j) : S256x5632.Idx) = r0_4.emb (ix2 r j) :=
    Shape.idx_ext₂ (by show r.val = 0 + 1 * r.val; omega) (by show 2816 + j.val = 2816 + 1 * j.val; omega)
  rw [e, View.canon_cons_emb]

/-! ## The reference, entry by entry -/

section Reference
open Cert.Reference3Ideal.Read

variable (x0 : (⟨S4096x1024, .bf16⟩ : BufTy).Contents (Elt Ideal)) (x1 : (⟨S2816x1024, .bf16⟩ : BufTy).Contents (Elt Ideal))
variable (x2 x3 : (⟨S4096x2816, .bf16⟩ : BufTy).Contents (Elt Ideal))

/-- The gradient before the gate, one entry. -/
theorem ref_dact (r : Fin 4096) (j : Fin 2816) :
    val_main_v7 (F := Ideal) x0 x1 (ix2 r j) = ∑ k : Fin 1024, x0 (ix2 r k) * x1 (ix2 j k) := by
  rw [val_main_v7_apply]
  exact Finset.sum_congr rfl fun k _ => congrArg₂ (· * ·) (congrArg x0 (Shape.idx_ext₂ rfl rfl))
    (congrArg x1 (Shape.idx_ext₂ rfl rfl))

/-- The reference spells the logistic by an exponential. -/
theorem ref_sg (r : Fin 4096) (j : Fin 2816) :
    val_main_v3_2 (F := Ideal) x2 (ix2 r j) = Ideal.logistic (x2 (ix2 r j)) := by
  pointwise [val_main_v3_2, val_main_call0_v4, val_main_call0_cst_0, val_main_call0_v3, val_main_call0_v2,
    val_main_call0_cst, val_main_call0_v1, val_main_call0_v0, val_main_v1]
  rfl

/-- The gate's gradient by the reference, one entry. -/
theorem ref_left (r : Fin 4096) (j : Fin 2816) :
    val_main_v12 (F := Ideal) x0 x1 x2 x3 (ix2 r (lo j))
      = ((∑ k : Fin 1024, x0 (ix2 r k) * x1 (ix2 j k)) * x3 (ix2 r j)) * Ideal.logistic (x2 (ix2 r j))
        + x2 (ix2 r j) * ((∑ k : Fin 1024, x0 (ix2 r k) * x1 (ix2 j k)) * x3 (ix2 r j))
          * (Ideal.logistic (x2 (ix2 r j)) * (1 - Ideal.logistic (x2 (ix2 r j)))) := by
  rw [← ref_dact, ← ref_sg x2, val_main_v12_apply]
  unfold val_main_v11
  rw [concatenate_pair_apply_left (t := S4096x5632) (s₁ := S4096x2816) (s₂ := S4096x2816) 1 _ _ _ (ix2 r (lo j)) rfl (ix2 r j) (fun b => by fin_cases b <;> rfl)]
  pointwise [val_main_v10, val_main_call1_v1, val_main_call1_v2, val_main_call1_v0, val_main_v9, val_main_v2, val_main_v1,
    val_main_v3_1, val_main_call0_v7, val_main_call0_v6, val_main_call0_cst_1]

/-- The up branch's gradient by the reference, one entry. -/
theorem ref_right (r : Fin 4096) (j : Fin 2816) :
    val_main_v12 (F := Ideal) x0 x1 x2 x3 (ix2 r (hi j))
      = (x2 (ix2 r j) * Ideal.logistic (x2 (ix2 r j))) * ∑ k : Fin 1024, x0 (ix2 r k) * x1 (ix2 j k) := by
  rw [← ref_dact, ← ref_sg x2, val_main_v12_apply]
  unfold val_main_v11
  rw [concatenate_pair_apply_right (t := S4096x5632) (s₁ := S4096x2816) (s₂ := S4096x2816) 1 _ _ _ (ix2 r (hi j)) rfl rfl (ix2 r j)
    (fun b hb => by match b with | ⟨0, _⟩ => rfl | ⟨1, _⟩ => exact absurd rfl hb) (Nat.add_comm _ _)]
  pointwise [val_main_v8, val_main_v3_0, val_main_v1]

end Reference

/-- The gate's two forms agree where the gradient before the gate is finite. -/
theorem gate_eq (a : ℝ) (g : EReal) :
    (a : EReal) * (Ideal.logistic g + g * Ideal.logistic g * (1 - Ideal.logistic g))
      = (a : EReal) * Ideal.logistic g + g * (a : EReal) * (Ideal.logistic g * (1 - Ideal.logistic g)) := by
  induction g using EReal.rec with
  | bot => simp
  | top =>
    have h : (1 : EReal) - 1 = 0 := by rw [← EReal.coe_one, ← EReal.coe_sub, sub_self, EReal.coe_zero]
    simp [h]
  | coe g =>
    rw [Ideal.logistic_coe]
    norm_cast
    ring

/-! ## Put together -/

/-- The array the reference leaves, of the kernel's arguments. -/
abbrev G (c : Dev nD) : Buf (Elt Ideal) ((c : Thread nD τ).loc main_v0) :=
  Cert.Reference3Ideal.Read.val_main_v12 (F := Ideal) (m ((c : Thread nD τ).loc main_arg0))
    (m ((c : Thread nD τ).loc main_arg1)) (m ((c : Thread nD τ).loc main_arg2)) (m ((c : Thread nD τ).loc main_arg3))

/-- Every entry of the gradient, of the weights and of the up branch is a real number. -/
structure Finite (c : Dev nD) : Prop where
  h0 : ∀ i : S4096x1024.Idx, ∃ r : ℝ, m ((c : Thread nD τ).loc main_arg0) i = (r : EReal)
  h1 : ∀ i : S2816x1024.Idx, ∃ r : ℝ, m ((c : Thread nD τ).loc main_arg1) i = (r : EReal)
  h3 : ∀ i : S4096x2816.Idx, ∃ r : ℝ, m ((c : Thread nD τ).loc main_arg3) i = (r : EReal)

theorem flushed_eq (c : Dev nD) (hf : Finite m c) (t : Fin cfg0.N) :
    (dats m 0 c).flushed 4 t = ((cfg0.win 4).blk t).view.read (Elt Ideal) (G m c) := by
  rw [Value.flushed4]
  obtain ⟨-, -, -, -, -, -, -, -, e0, e1⟩ := idx_facts t
  funext y
  show out0_4 (iblk m c 0 t) (iblk m c 1 t) (iblk m c 2 t) (iblk m c 3 t) y = G m c ((win0_4.rect t).emb y)
  obtain ⟨r, j, rfl⟩ : ∃ (r : Fin 256) (j : Fin 5632), y = ix2 r j := ⟨y 0, y 1, eq_ix2 y⟩
  have hemb : (win0_4.rect t).emb (ix2 r j) = ix2 (row t r) j := by
    refine Shape.idx_ext₂ ?_ ?_
    · rw [win0_4.rect_emb_val, e0]; rfl
    · rw [win0_4.rect_emb_val, e1]; exact (Nat.zero_mul _).symm ▸ Nat.zero_add _
  rw [hemb]
  unfold G
  by_cases hj : j.val < 2816
  · obtain ⟨j', rfl⟩ : ∃ j' : Fin 2816, j = lo j' := ⟨⟨j.val, hj⟩, rfl⟩
    rw [out_left, dgate_apply, ref_left]
    simp only [iblk0_apply, iblk1_apply, iblk2_apply, iblk3_apply]
    choose a ha using hf.h0
    choose w hw using hf.h1
    choose u hu using hf.h3
    simp only [ha, hw, hu, ← EReal.coe_mul, Cert.Math.sum_coe]
    exact gate_eq _ _
  · obtain ⟨j', rfl⟩ : ∃ j' : Fin 2816, j = hi j' :=
      ⟨⟨j.val - 2816, by omega⟩, Fin.ext (by show j.val = 2816 + (j.val - 2816); omega)⟩
    rw [out_right, dup_apply, ref_right]
    simp only [iblk0_apply, iblk1_apply, iblk2_apply]
    exact mul_comm _ _

theorem cover (i : S4096x5632.Idx) : ∃ t : Fin cfg0.N, (cfg0.win 4).flush t = true ∧ i ∈ ((cfg0.win 4).blk t).view.set := by
  have h0 : (i 0 : Nat) < 4096 := (i 0).isLt
  have h1 : (i 1 : Nat) < 5632 := (i 1).isLt
  have hN : cfg0.N = 16 := N_0
  refine ⟨⟨(i 0 : Nat) / 256, by omega⟩, flush0_4 _, ?_⟩
  set t : Fin cfg0.N := ⟨(i 0 : Nat) / 256, by omega⟩
  obtain ⟨-, -, -, -, -, -, -, -, e0, e1⟩ := idx_facts t
  show i ∈ ((View.whole main_v0).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [e0]
    show (i 0 : Nat) / 256 * 256 ≤ (i 0 : Nat) ∧ (i 0 : Nat) < (i 0 : Nat) / 256 * 256 + 256
    omega
  | ⟨1, _⟩ =>
    show win0_4.index t 1 * 5632 ≤ (i 1 : Nat) ∧ (i 1 : Nat) < win0_4.index t 1 * 5632 + 5632
    rw [e1]; omega

theorem final (c : Dev nD) (hf : Finite m c) : (dats m 0 c).arrAt 4 cfg0.N = G m c :=
  (dats m 0 c).arrAt_eq_of_cover 4 (G m c) (fun t _ => flushed_eq m c hf t) cover

/-! ## The claim -/

theorem pre_facts : Cert.Pre_finite_down_dx.Facts := by constructor <;> decide

theorem finite_of_pre (h : Cert.Pre_Kernel3Ideal_finite_down_dx (hPre_finite_down_dx := pre_facts) m) (c : Dev nD) :
    Finite m c where
  h0 i := Cert.Math.exists_coe_of_cmp (congrFun (h c).1 i)
  h1 i := Cert.Math.exists_coe_of_cmp (congrFun (h c).2.1 i)
  h3 i := Cert.Math.exists_coe_of_cmp (congrFun (h c).2.2 i)

/-- From equal arguments, finite but for the gate, the kernel and the reference end with equal arrays. -/
theorem algebraic : Cert.algebraic_Kernel3Ideal_Reference3Ideal_pre_finite_down_dx
    (hKernel3Ideal := Cert.Kernel3Ideal.Gen.facts) (hReference3Ideal := Cert.Reference3Ideal.Gen.facts)
    (hPre_finite_down_dx := pre_facts) := by
  intro m g m' g' hpre hargs
  refine ⟨fun c => G m c, ?_, ?_⟩
  · refine (θ_run (Cert.Kernel3Ideal.defs (F := Ideal)) _ _).mono (fun r h c => ?_) (Value.run_blocks m g)
    exact ⟨(h c).1.trans (final m c (finite_of_pre m hpre c)), (h c).2⟩
  · refine (θ_run (Cert.Reference3Ideal.defs (F := Ideal)) _ _).mono (fun r h c => ?_)
      (Cert.Reference3Ideal.Value.run (F := Ideal) m' g')
    refine ⟨((h c).1.trans (Cert.Reference3Ideal.Read.val_main_v12_eq _ _ _ _)).trans ?_, (h c).2⟩
    obtain ⟨e0, e1, e2, e3⟩ := hargs c
    rw [e0, e1, e2, e3]

end Cert.DownDx

end
-- ==== Proof.Val30.lean ====
/- The value of the memory attention: eight blocks of 512 rows, each two pairs of heads. A pair's two heads share 128
   lanes; a mask keeps one head's lanes in a product and sets the others to zero. -/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Val1
public import Idealize.ShloMosaic.Lib.Pointwise

@[expose] public section

noncomputable section

namespace Cert.MemFwd

open Cert.Kernel30Ideal Cert.Kernel30Ideal.Gen Idealize.ShloMosaic Idealize.ShloMosaic.TcCoe Idealize.SL.Sem
open Idealize.ShloMosaic.Pipeline (Dat Window)
open Cert.MemBwd (lane prob head col kcol vcol qcol sum_lo sum_hi lt_lane0 lt_lane1 ge_lane0 ge_lane1 select_one select_zero
  ofBits_eighth ofBits_bot ld_cols canon_hit canon_miss host_max ext3 col_cases)

variable (m : (ℓ : Loc nD τ sig) → Buf (Elt Ideal) ℓ)

/-! ## One pair of heads -/

section Pair

/-- The scores of row `r` of head `b` of a pair. -/
def lgt (q : Vec Ideal S512x128 .bf16) (k : Vec Ideal S256x128 .bf16) (b : Fin 2) (r : Fin 512) (j : Fin 256) : EReal :=
  (∑ d : Fin 64, (q (ix2 r (lane b d)) : EReal) * (k (ix2 j (lane b d)) : EReal)) * ((1 / 8 : ℝ) : EReal)

variable (q : Vec Ideal S512x128 .bf16) (k v : Vec Ideal S256x128 .bf16) (r : Fin 512)

theorem pay6_apply (b : Fin 2) (e : Fin 64) :
    k0_pay6 q k v (ix2 r (lane b e)) = if b = 0 then ∑ x, prob (lgt q k 0 r) x * v (ix2 x (lane b e)) else 0 := by
  pointwise [k0_pay6, k0_pay2, k0_pay4]
  simp only [sum_lo, ofBits_eighth, ofBits_bot]
  obtain rfl | rfl : b = 0 ∨ b = 1 := by omega
  · simp only [lt_lane0, select_one, if_true]
    rfl
  · simp only [lt_lane1, select_zero, mul_zero, Finset.sum_const_zero]
    rfl

theorem pay9_apply (b : Fin 2) (e : Fin 64) :
    k0_pay9 k0_pay2 k0_pay4 q k v (ix2 r (lane b e)) = if b = 0 then ∑ x, prob (lgt q k 0 r) x * v (ix2 x (lane b e)) else 0 := by
  pointwise [k0_pay9, k0_pay2, k0_pay4]
  simp only [sum_lo, ofBits_eighth, ofBits_bot]
  obtain rfl | rfl : b = 0 ∨ b = 1 := by omega
  · simp only [lt_lane0, select_one, if_true]
    rfl
  · simp only [lt_lane1, select_zero, mul_zero, Finset.sum_const_zero]
    rfl

/-- What a point writes for the first pair of heads … -/
theorem pair0 (b : Fin 2) (e : Fin 64) :
    k0_pay8 k0_pay5 v (k0_pay6 q k v) (k0_pay7 q k) (ix2 r (lane b e)) = ∑ x, prob (lgt q k b r) x * v (ix2 x (lane b e)) := by
  have h := pay6_apply q k v r b e
  generalize k0_pay6 q k v = y at h ⊢
  pointwise [k0_pay8, k0_pay7, k0_pay3, k0_pay5]
  simp only [sum_hi, ofBits_eighth, ofBits_bot, h]
  obtain rfl | rfl : b = 0 ∨ b = 1 := by omega
  · simp only [ge_lane0, select_zero, mul_zero, Finset.sum_const_zero, add_zero, if_true]
  · simp only [ge_lane1, select_one, one_ne_zero, if_false, zero_add]
    rfl

/-- … and for the second. -/
theorem pair1 (b : Fin 2) (e : Fin 64) :
    k0_pay1 k0_pay3 k0_pay5 q k v (k0_pay9 k0_pay2 k0_pay4 q k v) (ix2 r (lane b e))
      = ∑ x, prob (lgt q k b r) x * v (ix2 x (lane b e)) := by
  have h := pay9_apply q k v r b e
  generalize k0_pay9 k0_pay2 k0_pay4 q k v = y at h ⊢
  pointwise [k0_pay1, k0_pay3, k0_pay5]
  simp only [sum_hi, ofBits_eighth, ofBits_bot, h]
  obtain rfl | rfl : b = 0 ∨ b = 1 := by omega
  · simp only [ge_lane0, select_zero, mul_zero, Finset.sum_const_zero, add_zero, if_true]
  · simp only [ge_lane1, select_one, one_ne_zero, if_false, zero_add]
    rfl

end Pair

/-! ## The blocks -/

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 3 :=
  (by decide +kernel : ∀ t : Fin grid0.N, win0_0.index t 0 = t.val ∧ win0_0.index t 1 = 3)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem iblk0_apply (c : Dev nD) (t : Fin cfg0.N) (r : Fin 512) (h : Fin 4) (e : Fin 64) :
    iblk m c 0 t (ix2 r (col h e)) = m ((c : Thread nD τ).loc main_arg0) (ix2 (row t r) (qcol h e)) := by
  obtain ⟨h0, h1⟩ := idx0 t
  show m ((c : Thread nD τ).loc main_arg0) ((win0_0.rect t).emb (ix2 r (col h e))) = _
  refine congrArg _ (Shape.idx_ext₂ ?_ ?_)
  · rw [win0_0.rect_emb_val, h0]; rfl
  · rw [win0_0.rect_emb_val, h1]; rfl

theorem iblk1_apply (c : Dev nD) (t : Fin cfg0.N) (r : Fin 256) (k : Fin 512) :
    iblk m c 1 t (ix2 r k) = m ((c : Thread nD τ).loc main_arg1) (ix2 r k) := by
  obtain ⟨h0, h1⟩ := idx1 t
  show m ((c : Thread nD τ).loc main_arg1) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- The two arrays. -/
abbrev Arr (s : Shape) := (⟨s, .bf16⟩ : BufTy).Contents (Elt Ideal)

/-- The scores of row `R` of head `h`. -/
def score (x0 : Arr S4096x1024) (x1 : Arr S256x512) (h : Fin 4) (R : Fin 4096) (j : Fin 256) : EReal :=
  (∑ e : Fin 64, (x0 (ix2 R (qcol h e)) : EReal) * (x1 (ix2 j (kcol h e)) : EReal)) * ((1 / 8 : ℝ) : EReal)

/-- The arguments on device `c`. -/
abbrev a0 (c : Dev nD) : Arr S4096x1024 := m ((c : Thread nD τ).loc main_arg0)
abbrev a1 (c : Dev nD) : Arr S256x512 := m ((c : Thread nD τ).loc main_arg1)

theorem lgt_eq (c : Dev nD) (t : Fin cfg0.N) (p b : Fin 2) (r : Fin 512) (q : Vec Ideal S512x128 .bf16) (k : Vec Ideal S256x128 .bf16)
    (hq : ∀ r b e, q (ix2 r (lane b e)) = a0 m c (ix2 (row t r) (qcol (head p b) e)))
    (hk : ∀ j b e, k (ix2 j (lane b e)) = a1 m c (ix2 j (kcol (head p b) e))) :
    lgt q k b r = score (a0 m c) (a1 m c) (head p b) (row t r) := by
  funext j
  unfold lgt score
  simp only [hq, hk]

theorem ld_q (c : Dev nD) (t : Fin cfg0.N) (p : Fin 2) (o : ℕ) (ho : o = 128 * p.val) (inb) (r : Fin 512) (b : Fin 2) (e : Fin 64) :
    View.ld (iblk m c 0 t) (Rect.unit (s := S512x256) ![0, o] S512x128.size inb) (ix2 r (lane b e)) = a0 m c (ix2 (row t r) (qcol (head p b) e)) :=
  (ld_cols (n := 512) (k := 256) (φ := .bf16) (iblk m c 0 t) o inb r (lane b e) (col (head p b) e)
    (by subst ho; simp only [col, head, lane]; omega)).trans (iblk0_apply m c t r _ e)

theorem ld_k (c : Dev nD) (t : Fin cfg0.N) (p : Fin 2) (o : ℕ) (ho : o = 128 * p.val) (inb) (r : Fin 256) (b : Fin 2) (e : Fin 64) :
    View.ld (iblk m c 1 t) (Rect.unit (s := S256x512) ![0, o] S256x128.size inb) (ix2 r (lane b e)) = a1 m c (ix2 r (kcol (head p b) e)) :=
  (ld_cols (n := 256) (k := 512) (φ := .bf16) (iblk m c 1 t) o inb r (lane b e) (kcol (head p b) e)
    (by subst ho; simp only [kcol, head, lane]; omega)).trans (iblk1_apply m c t r _)

theorem ld_v (c : Dev nD) (t : Fin cfg0.N) (p : Fin 2) (o : ℕ) (ho : o = 256 + 128 * p.val) (inb) (r : Fin 256) (b : Fin 2) (e : Fin 64) :
    View.ld (iblk m c 1 t) (Rect.unit (s := S256x512) ![0, o] S256x128.size inb) (ix2 r (lane b e)) = a1 m c (ix2 r (vcol (head p b) e)) :=
  (ld_cols (n := 256) (k := 512) (φ := .bf16) (iblk m c 1 t) o inb r (lane b e) (vcol (head p b) e)
    (by subst ho; simp only [vcol, head, lane]; omega)).trans (iblk1_apply m c t r _)

/-- What a point writes, of the arguments. -/
theorem outs_eq (c : Dev nD) (t : Fin cfg0.N) (r : Fin 512) (p b : Fin 2) (e : Fin 64) :
    out0_2 (iblk m c 0 t) (iblk m c 1 t) (ix2 r (col (head p b) e))
      = ∑ x, prob (score (a0 m c) (a1 m c) (head p b) (row t r)) x * a1 m c (ix2 x (vcol (head p b) e)) := by
  have key : ∀ (q : Vec Ideal S512x128 .bf16) (k v : Vec Ideal S256x128 .bf16)
    (hq : ∀ r b e, q (ix2 r (lane b e)) = a0 m c (ix2 (row t r) (qcol (head p b) e)))
    (hk : ∀ j b e, k (ix2 j (lane b e)) = a1 m c (ix2 j (kcol (head p b) e)))
    (hv : ∀ j b e, v (ix2 j (lane b e)) = a1 m c (ix2 j (vcol (head p b) e))),
      ∑ x, prob (lgt q k b r) x * v (ix2 x (lane b e))
        = ∑ x, prob (score (a0 m c) (a1 m c) (head p b) (row t r)) x * a1 m c (ix2 x (vcol (head p b) e)) := by
    intro q k v hq hk hv
    simp only [lgt_eq m c t p b r q k hq hk, hv]
  unfold out0_2
  obtain rfl | rfl : p = 0 ∨ p = 1 := by omega
  · refine (canon_miss (n := 512) (k := 256) (φ := .bf16) 128 _ _ _ r _ (.inl (by simp only [col, head]; omega))).trans ?_
    refine (canon_hit (n := 512) (k := 256) (φ := .bf16) 0 _ _ _ r (lane b e) _ (by simp only [col, head, lane]; omega)).trans ?_
    exact (pair0 _ _ _ r b e).trans (key _ _ _ (ld_q m c t 0 0 rfl _) (ld_k m c t 0 0 rfl _) (ld_v m c t 0 256 rfl _))
  · refine (canon_hit (n := 512) (k := 256) (φ := .bf16) 128 _ _ _ r (lane b e) _ (by simp only [col, head, lane]; omega)).trans ?_
    exact (pair1 _ _ _ r b e).trans (key _ _ _ (ld_q m c t 1 128 rfl _) (ld_k m c t 1 128 rfl _) (ld_v m c t 1 384 rfl _))

/-! ## The reference, entry by entry -/

open Cert.Reference30Ideal.Read

section Ref
variable (x0 : Arr S4096x1024) (x1 : Arr S256x512)

theorem ref_q (R : Fin 4096) (h : Fin 4) (e : Fin 64) : val_main_v5 (F := Ideal) x0 (ix3 R h e) = x0 (ix2 R (qcol h e)) := by
  rw [val_main_v5_apply, val_main_v2_apply, val_main_v1_apply]
  refine congrArg x0 (Shape.idx_ext₂ ?_ ?_)
  · show ((R.val * 4 + h.val) * 64 + e.val) / 256 = R.val; omega
  · show 768 + ((R.val * 4 + h.val) * 64 + e.val) % 256 = 768 + (64 * h.val + e.val); omega

theorem ref_k (j : Fin 256) (h : Fin 4) (e : Fin 64) : val_main_v6 (F := Ideal) x1 (ix3 j h e) = x1 (ix2 j (kcol h e)) := by
  rw [val_main_v6_apply, val_main_v3_apply, val_main_v0_apply]
  refine congrArg x1 (Shape.idx_ext₂ ?_ ?_)
  · show ((j.val * 4 + h.val) * 64 + e.val) / 256 = j.val; omega
  · show ((j.val * 4 + h.val) * 64 + e.val) % 256 = 64 * h.val + e.val; omega

theorem ref_v (j : Fin 256) (h : Fin 4) (e : Fin 64) : val_main_v21 (F := Ideal) x1 (ix3 j h e) = x1 (ix2 j (vcol h e)) := by
  rw [val_main_v21_apply, val_main_v4_apply, val_main_v0_apply]
  refine congrArg x1 (Shape.idx_ext₂ ?_ ?_)
  · show ((j.val * 4 + h.val) * 64 + e.val) / 256 = j.val; omega
  · show 256 + ((j.val * 4 + h.val) * 64 + e.val) % 256 = 256 + (64 * h.val + e.val); omega

theorem ref_score (h : Fin 4) (R : Fin 4096) (j : Fin 256) :
    val_main_v9 (F := Ideal) x0 x1 (ix3 h R j) = score x0 x1 h R j := by
  have h7 : val_main_v7 (F := Ideal) x0 x1 (ix3 h R j) = ∑ e : Fin 64, x0 (ix2 R (qcol h e)) * x1 (ix2 j (kcol h e)) := by
    rw [val_main_v7_apply]
    exact Finset.sum_congr rfl fun e _ => congrArg₂ (· * ·) (ref_q x0 R h e) (ref_k x1 j h e)
  pointwise [val_main_v9, val_main_v8, val_main_cst]
  rw [h7, ofBits_eighth]
  rfl

theorem ref_max (h : Fin 4) (R : Fin 4096) :
    val_main_v12 (F := Ideal) x0 x1 (ix2 h R) = Finset.fold max ⊥ (score x0 x1 h R) Finset.univ := by
  have hs := fun x => ref_score x0 x1 h R x
  have hr : Cert.Reference30Ideal.S4x4096x256.Reduces [2] Cert.Reference30Ideal.S4x4096 := by decide
  have e : val_main_v10 (F := Ideal) x0 x1 (ix2 h R) = Finset.fold max ⊥ (score x0 x1 h R) Finset.univ := by
    unfold val_main_v10 val_main_cst_0
    rw [host_max _ _ _ hr]
    refine (congrArg (fun z => Finset.fold max z _ Finset.univ) ofBits_bot).trans (Finset.fold_congr fun x _ => ?_)
    rw [← hs x]
    refine congrArg (val_main_v9 (F := Ideal) x0 x1) (funext fun c => ?_)
    match c with
    | ⟨0, _⟩ => rfl
    | ⟨1, _⟩ => rfl
    | ⟨2, _⟩ => rfl
  rw [val_main_v12_apply, e, val_main_v11_apply, val_main_cst_1_apply]
  show max (Ideal.ofBits .f32 0xFF800000#32) _ = _
  rw [ofBits_bot, max_bot_left]

theorem ref_exp (h : Fin 4) (R : Fin 4096) (j : Fin 256) : val_main_v16 (F := Ideal) x0 x1 (ix3 h R j)
    = Ideal.exp (score x0 x1 h R j - val_main_v12 (F := Ideal) x0 x1 (ix2 h R)) := by
  rw [← ref_score]
  pointwise [val_main_v16, val_main_v15, val_main_v14, val_main_v13]

theorem ref_sum (h : Fin 4) (R : Fin 4096) : val_main_v17 (F := Ideal) x0 x1 (ix2 h R)
    = ∑ x, val_main_v16 (F := Ideal) x0 x1 (ix3 h R x) := by
  pointwise [val_main_v17, val_main_cst_2]

theorem ref_prob (h : Fin 4) (R : Fin 4096) (j : Fin 256) :
    val_main_v20 (F := Ideal) x0 x1 (ix3 h R j) = prob (score x0 x1 h R) j := by
  have e : val_main_v20 (F := Ideal) x0 x1 (ix3 h R j)
      = Ideal.div (val_main_v16 (F := Ideal) x0 x1 (ix3 h R j)) (val_main_v17 (F := Ideal) x0 x1 (ix2 h R)) := by
    pointwise [val_main_v20, val_main_v19, val_main_v18]
  rw [e, ref_sum]
  simp only [ref_exp, ref_max]
  rfl

theorem ref_out (R : Fin 4096) (h : Fin 4) (e : Fin 64) :
    val_main_v25 (F := Ideal) x0 x1 (ix2 R (col h e)) = ∑ x, prob (score x0 x1 h R) x * x1 (ix2 x (vcol h e)) := by
  have e1 : val_main_v25 (F := Ideal) x0 x1 (ix2 R (col h e)) = val_main_v22 (F := Ideal) x0 x1 (ix3 h e R) := by
    rw [val_main_v25_apply]
    show val_main_v24 (F := Ideal) x0 x1 (ix2 R (col h e)) = _
    rw [val_main_v24_apply, val_main_v23_apply]
    refine congrArg _ (ext3 ?_ ?_ ?_)
    · show (R.val * 256 + (64 * h.val + e.val)) / 64 % 4 = h.val; omega
    · show (R.val * 256 + (64 * h.val + e.val)) % 64 = e.val; omega
    · show (R.val * 256 + (64 * h.val + e.val)) / 256 = R.val; omega
  rw [e1, val_main_v22_apply]
  refine Finset.sum_congr rfl fun x _ => ?_
  rw [show lidx_main_v22 (ix3 h e R) x = ix3 x h e from ext3 rfl rfl rfl,
    show ridx_main_v22 (ix3 h e R) x = ix3 h R x from ext3 rfl rfl rfl, ref_v, ref_prob, mul_comm]

end Ref

/-! ## Put together -/

/-- The array the reference leaves, of the kernel's arguments. -/
abbrev G (c : Dev nD) : Buf (Elt Ideal) ((c : Thread nD τ).loc main_v0) :=
  Cert.Reference30Ideal.Read.val_main_v25 (F := Ideal) (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (G m c) := by
  rw [Value.flushed2]
  obtain ⟨e0, e1⟩ := idx2 t
  funext y
  show out0_2 (iblk m c 0 t) (iblk m c 1 t) y = G m c ((win0_2.rect t).emb y)
  obtain ⟨r, z, rfl⟩ : ∃ (r : Fin 512) (z : Fin 256), y = ix2 r z := ⟨y 0, y 1, eq_ix2 y⟩
  obtain ⟨p, b, e, rfl⟩ := col_cases z
  have hemb : (win0_2.rect t).emb (ix2 r (col (head p b) e)) = ix2 (row t r) (col (head p b) e) := by
    refine Shape.idx_ext₂ ?_ ?_
    · rw [win0_2.rect_emb_val, e0]; rfl
    · rw [win0_2.rect_emb_val, e1]; exact (Nat.zero_mul _).symm ▸ Nat.zero_add _
  rw [hemb, outs_eq]
  exact (ref_out (a0 m c) (a1 m c) (row t r) (head p b) e).symm

theorem cover2 (i : S4096x256.Idx) : ∃ t : Fin cfg0.N, (cfg0.win 2).flush t = true ∧ i ∈ ((cfg0.win 2).blk t).view.set := by
  have h0 : (i 0 : Nat) < 4096 := (i 0).isLt
  have h1 : (i 1 : Nat) < 256 := (i 1).isLt
  have hN : cfg0.N = 8 := N_0
  refine ⟨⟨(i 0 : Nat) / 512, by omega⟩, flush0_2 _, ?_⟩
  set t : Fin cfg0.N := ⟨(i 0 : Nat) / 512, by omega⟩
  obtain ⟨e0, e1⟩ := idx2 t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 256 ≤ (i 1 : Nat) ∧ (i 1 : Nat) < win0_2.index t 1 * 256 + 256
    rw [e1]; omega

/-! ## The claim -/

/-- From equal arguments the kernel and the reference end with equal arrays. -/
theorem algebraic : Cert.algebraic_Kernel30Ideal_Reference30Ideal
    (hKernel30Ideal := Cert.Kernel30Ideal.Gen.facts) (hReference30Ideal := Cert.Reference30Ideal.Gen.facts) := by
  intro m g m' g' _ hargs
  refine ⟨fun c => G m c, ?_, ?_⟩
  · refine (θ_run (Cert.Kernel30Ideal.defs (F := Ideal)) _ _).mono (fun r h c => ?_) (Value.run_blocks m g)
    obtain ⟨a, h⟩ := h c
    exact ⟨a.trans ((dats m 0 c).arrAt_eq_of_cover 2 (G m c) (fun t _ => flushed2_eq m c t) cover2), h⟩
  · refine (θ_run (Cert.Reference30Ideal.defs (F := Ideal)) _ _).mono (fun r h c => ?_)
      (Cert.Reference30Ideal.Value.run (F := Ideal) m' g')
    obtain ⟨a, h⟩ := h c
    obtain ⟨e0, e1⟩ := hargs c
    refine ⟨(a.trans (Cert.Reference30Ideal.Read.val_main_v25_eq _ _)).trans ?_, h⟩
    · rw [e0, e1]

end Cert.MemFwd

end
-- ==== Proof.Val31.lean ====
/- The value of the keys and values of the memory: the kernel's blocks of
   256 rows and 512 columns, put together, are the reference's array. -/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Math
public import Idealize.ShloMosaic.Lib.Pointwise

@[expose] public section

noncomputable section

namespace Cert.MemKv

open Cert.Kernel31Ideal Cert.Kernel31Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 256) : Fin 256 :=
  ⟨t.val / 1 * 256 + r.val, by have h : t.val < 1 := lt_of_lt_of_eq t.isLt N_0; omega⟩
def col (t : Fin cfg0.N) (s : Fin 512) : Fin 512 :=
  ⟨t.val % 1 * 512 + s.val, by have h : t.val < 1 := lt_of_lt_of_eq t.isLt N_0; omega⟩

theorem idx_facts : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0 ∧ win0_1.index t 1 = t.val % 1 ∧ win0_2.index t 0 = t.val / 1 ∧ win0_2.index t 1 = t.val % 1)

theorem iblk0_apply (c : Dev nD) (t : Fin cfg0.N) (r : Fin 256) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) (s : Fin 512) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S256x1024 .bf16) (x1 : Vec Ideal S1024x512 .bf16) (r : Fin 256) (s : Fin 512) :
    out0_2 x0 x1 (ix2 r s) = ∑ k : Fin 1024, x0 (ix2 r k) * x1 (ix2 k s) := by
  have hz0 : (![0, 0] : Fin S256x1024.rank → Nat) = fun _ => 0 := funext fun a => by fin_cases a <;> rfl
  have hz1 : (![0, 0] : Fin S1024x512.rank → Nat) = fun _ => 0 := funext fun a => by fin_cases a <;> rfl
  have hz2 : (![0, 0] : Fin S256x512.rank → Nat) = fun _ => 0 := funext fun a => by fin_cases a <;> rfl
  unfold out0_2
  simp only [View.ld_unit_zero (S := S256x1024) hz0, View.ld_unit_zero (S := S1024x512) hz1, View.ld_unit_zero (S := S256x512) hz2, View.canon_unit_zero (S := S256x512) hz2]
  pointwise [k0_pay1]

/-- The reference's array, entry by entry. -/
theorem ref_apply (x0 : (⟨Cert.Reference31Ideal.S256x1024, .bf16⟩ : BufTy).Contents (Elt Ideal)) (x1 : (⟨Cert.Reference31Ideal.S1024x512, .bf16⟩ : BufTy).Contents (Elt Ideal)) (i : Fin 256) (j : Fin 512) :
    Cert.Reference31Ideal.Read.val_main_v3 (F := Ideal) x0 x1 (ix2 i j) = ∑ k : Fin 1024, x0 (ix2 i k) * x1 (ix2 k j) := by
  open Cert.Reference31Ideal.Read in pointwise [val_main_v0, val_main_v1, val_main_v2, val_main_v3]

/-- The array the reference leaves, of the kernel's arguments. -/
abbrev G (c : Dev nD) : Buf (Elt Ideal) ((c : Thread nD τ).loc main_v0) :=
  Cert.Reference31Ideal.Read.val_main_v3 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 256) (s : Fin 512), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S256x512.Idx) : ∃ t : Fin cfg0.N, (cfg0.win 2).flush t = true ∧ i ∈ ((cfg0.win 2).blk t).view.set := by
  have b0 : (i 0 : Nat) < 256 := (i 0).isLt
  have b1 : (i 1 : Nat) < 512 := (i 1).isLt
  have hN : cfg0.N = 1 := N_0
  refine ⟨⟨(i 0 : Nat) / 256 * 1 + (i 1 : Nat) / 512, by omega⟩, flush0_2 _, ?_⟩
  set t : Fin cfg0.N := ⟨(i 0 : Nat) / 256 * 1 + (i 1 : Nat) / 512, by omega⟩ with ht
  have hv : t.val = (i 0 : Nat) / 256 * 1 + (i 1 : Nat) / 512 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [h0, hv]; omega
  | ⟨1, _⟩ =>
    show win0_2.index t 1 * 512 ≤ (i 1 : Nat) ∧ (i 1 : Nat) < win0_2.index t 1 * 512 + 512
    rw [h1, hv]; omega

/-- From equal arguments the kernel and the reference end with equal arrays. -/
theorem algebraic : Cert.algebraic_Kernel31Ideal_Reference31Ideal
    (hKernel31Ideal := Cert.Kernel31Ideal.Gen.facts) (hReference31Ideal := Cert.Reference31Ideal.Gen.facts) := by
  intro m g m' g' _ hargs
  refine ⟨fun c => G m c, ?_, ?_⟩
  · refine (θ_run (Cert.Kernel31Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference31Ideal.defs (F := Ideal)) _ _).mono (fun r h c => ?_)
      (Cert.Reference31Ideal.Value.run (F := Ideal) m' g')
    refine ⟨((h c).1.trans (Cert.Reference31Ideal.Read.val_main_v3_eq _ _)).trans ?_, (h c).2⟩
    obtain ⟨e0, e1⟩ := hargs c
    rw [e0, e1]

end Cert.MemKv

end
-- ==== Proof.Val32.lean ====
/- The value of the gradient of the weights of the memory's keys and values: the kernel's blocks of
   512 rows and 512 columns, put together, are the reference's array. -/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Math
public import Idealize.ShloMosaic.Lib.Pointwise

@[expose] public section

noncomputable section

namespace Cert.MemKvDw

open Cert.Kernel32Ideal Cert.Kernel32Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 512) : Fin 1024 :=
  ⟨t.val / 1 * 512 + r.val, by have h : t.val < 2 := lt_of_lt_of_eq t.isLt N_0; omega⟩
def col (t : Fin cfg0.N) (s : Fin 512) : Fin 512 :=
  ⟨t.val % 1 * 512 + s.val, by have h : t.val < 2 := lt_of_lt_of_eq t.isLt N_0; omega⟩

theorem idx_facts : ∀ t : Fin cfg0.N, win0_0.index t 0 = 0 ∧ win0_0.index t 1 = t.val / 1 ∧ win0_1.index t 0 = 0 ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0 ∧ win0_1.index t 1 = t.val % 1 ∧ win0_2.index t 0 = t.val / 1 ∧ win0_2.index t 1 = t.val % 1)

theorem iblk0_apply (c : Dev nD) (t : Fin cfg0.N) (k : Fin 256) (r : Fin 512) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 256) (s : Fin 512) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S256x512 .bf16) (x1 : Vec Ideal S256x512 .bf16) (r : Fin 512) (s : Fin 512) :
    out0_2 x0 x1 (ix2 r s) = ∑ k : Fin 256, x0 (ix2 k r) * x1 (ix2 k s) := by
  have hz0 : (![0, 0] : Fin S256x512.rank → Nat) = fun _ => 0 := funext fun a => by fin_cases a <;> rfl
  have hz1 : (![0, 0] : Fin S512x512.rank → Nat) = fun _ => 0 := funext fun a => by fin_cases a <;> rfl
  unfold out0_2
  simp only [View.ld_unit_zero (S := S256x512) hz0, View.ld_unit_zero (S := S512x512) hz1, View.canon_unit_zero (S := S512x512) hz1]
  pointwise [k0_pay1]

/-- The reference's array, entry by entry. -/
theorem ref_apply (x0 : (⟨Cert.Reference32Ideal.S256x1024, .bf16⟩ : BufTy).Contents (Elt Ideal)) (x1 : (⟨Cert.Reference32Ideal.S256x512, .bf16⟩ : BufTy).Contents (Elt Ideal)) (i : Fin 1024) (j : Fin 512) :
    Cert.Reference32Ideal.Read.val_main_v6 (F := Ideal) x0 x1 (ix2 i j) = ∑ k : Fin 256, x0 (ix2 k i) * x1 (ix2 k j) := by
  open Cert.Reference32Ideal.Read in pointwise [val_main_cst, val_main_v0, val_main_v1, val_main_v2, val_main_v3, val_main_v4, val_main_v5, val_main_v6]
  exact Finset.sum_congr rfl fun k _ => mul_comm _ _

/-- The array the reference leaves, of the kernel's arguments. -/
abbrev G (c : Dev nD) : Buf (Elt Ideal) ((c : Thread nD τ).loc main_v0) :=
  Cert.Reference32Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 512) (s : Fin 512), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S1024x512.Idx) : ∃ t : Fin cfg0.N, (cfg0.win 2).flush t = true ∧ i ∈ ((cfg0.win 2).blk t).view.set := by
  have b0 : (i 0 : Nat) < 1024 := (i 0).isLt
  have b1 : (i 1 : Nat) < 512 := (i 1).isLt
  have hN : cfg0.N = 2 := N_0
  refine ⟨⟨(i 0 : Nat) / 512 * 1 + (i 1 : Nat) / 512, by omega⟩, flush0_2 _, ?_⟩
  set t : Fin cfg0.N := ⟨(i 0 : Nat) / 512 * 1 + (i 1 : Nat) / 512, by omega⟩ with ht
  have hv : t.val = (i 0 : Nat) / 512 * 1 + (i 1 : Nat) / 512 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [h0, hv]; omega
  | ⟨1, _⟩ =>
    show win0_2.index t 1 * 512 ≤ (i 1 : Nat) ∧ (i 1 : Nat) < win0_2.index t 1 * 512 + 512
    rw [h1, hv]; omega

/-- From equal arguments the kernel and the reference end with equal arrays. -/
theorem algebraic : Cert.algebraic_Kernel32Ideal_Reference32Ideal
    (hKernel32Ideal := Cert.Kernel32Ideal.Gen.facts) (hReference32Ideal := Cert.Reference32Ideal.Gen.facts) := by
  intro m g m' g' _ hargs
  refine ⟨fun c => G m c, ?_, ?_⟩
  · refine (θ_run (Cert.Kernel32Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference32Ideal.defs (F := Ideal)) _ _).mono (fun r h c => ?_)
      (Cert.Reference32Ideal.Value.run (F := Ideal) m' g')
    refine ⟨((h c).1.trans (Cert.Reference32Ideal.Read.val_main_v6_eq _ _)).trans ?_, (h c).2⟩
    obtain ⟨e0, e1⟩ := hargs c
    rw [e0, e1]

end Cert.MemKvDw

end
-- ==== Proof.Val33.lean ====
/- The value of the gradient of the normalised memory: the kernel's blocks of
   256 rows and 512 columns, put together, are the reference's array. -/
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.Math
public import Idealize.ShloMosaic.Lib.Pointwise

@[expose] public section

noncomputable section

namespace Cert.MemKvDx

open Cert.Kernel33Ideal Cert.Kernel33Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 256) : Fin 256 :=
  ⟨t.val / 2 * 256 + r.val, by have h : t.val < 2 := lt_of_lt_of_eq t.isLt N_0; omega⟩
def col (t : Fin cfg0.N) (s : Fin 512) : Fin 1024 :=
  ⟨t.val % 2 * 512 + s.val, by have h : t.val < 2 := lt_of_lt_of_eq t.isLt N_0; omega⟩

theorem idx_facts : ∀ t : Fin cfg0.N, win0_0.index t 0 = t.val / 2 ∧ win0_0.index t 1 = 0 ∧ win0_1.index t 0 = t.val % 2 ∧ win0_1.index t 1 = 0 ∧ win0_2.index t 0 = t.val / 2 ∧ win0_2.index t 1 = t.val % 2 :=
  (by decide +kernel : ∀ t : Fin grid0.N, win0_0.index t 0 = t.val / 2 ∧ win0_0.index t 1 = 0 ∧ win0_1.index t 0 = t.val % 2 ∧ win0_1.index t 1 = 0 ∧ win0_2.index t 0 = t.val / 2 ∧ win0_2.index t 1 = t.val % 2)

theorem iblk0_apply (c : Dev nD) (t : Fin cfg0.N) (r : Fin 256) (k : Fin 512) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (s : Fin 512) (k : Fin 512) :
    iblk m c 1 t (ix2 s k) = m ((c : Thread nD τ).loc main_arg1) (ix2 (col t s) k) := by
  obtain ⟨-, -, h0, h1, -⟩ := idx_facts t
  show m ((c : Thread nD τ).loc main_arg1) ((win0_1.rect t).emb (ix2 s k)) = _
  refine congrArg _ (Shape.idx_ext₂ ?_ ?_)
  · rw [win0_1.rect_emb_val, h0]; rfl
  · rw [win0_1.rect_emb_val, h1]; exact (Nat.zero_mul _).symm ▸ Nat.zero_add _

/-- The block a point writes, entry by entry. -/
theorem out_apply (x0 : Vec Ideal S256x512 .bf16) (x1 : Vec Ideal S512x512 .bf16) (r : Fin 256) (s : Fin 512) :
    out0_2 x0 x1 (ix2 r s) = ∑ k : Fin 512, x0 (ix2 r k) * x1 (ix2 s k) := by
  have hz0 : (![0, 0] : Fin S256x512.rank → Nat) = fun _ => 0 := funext fun a => by fin_cases a <;> rfl
  have hz1 : (![0, 0] : Fin S512x512.rank → Nat) = fun _ => 0 := funext fun a => by fin_cases a <;> rfl
  unfold out0_2
  simp only [View.ld_unit_zero (S := S256x512) hz0, View.ld_unit_zero (S := S512x512) hz1, View.canon_unit_zero (S := S256x512) hz0]
  pointwise [k0_pay1]

/-- The reference's array, entry by entry. -/
theorem ref_apply (x0 : (⟨Cert.Reference33Ideal.S256x512, .bf16⟩ : BufTy).Contents (Elt Ideal)) (x1 : (⟨Cert.Reference33Ideal.S1024x512, .bf16⟩ : BufTy).Contents (Elt Ideal)) (i : Fin 256) (j : Fin 1024) :
    Cert.Reference33Ideal.Read.val_main_v4 (F := Ideal) x0 x1 (ix2 i j) = ∑ k : Fin 512, x0 (ix2 i k) * x1 (ix2 j k) := by
  open Cert.Reference33Ideal.Read in pointwise [val_main_cst, val_main_v0, val_main_v1, val_main_v2, val_main_v3, val_main_v4]

/-- The array the reference leaves, of the kernel's arguments. -/
abbrev G (c : Dev nD) : Buf (Elt Ideal) ((c : Thread nD τ).loc main_v0) :=
  Cert.Reference33Ideal.Read.val_main_v4 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 256) (s : Fin 512), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S256x1024.Idx) : ∃ t : Fin cfg0.N, (cfg0.win 2).flush t = true ∧ i ∈ ((cfg0.win 2).blk t).view.set := by
  have b0 : (i 0 : Nat) < 256 := (i 0).isLt
  have b1 : (i 1 : Nat) < 1024 := (i 1).isLt
  have hN : cfg0.N = 2 := N_0
  refine ⟨⟨(i 0 : Nat) / 256 * 2 + (i 1 : Nat) / 512, by omega⟩, flush0_2 _, ?_⟩
  set t : Fin cfg0.N := ⟨(i 0 : Nat) / 256 * 2 + (i 1 : Nat) / 512, by omega⟩ with ht
  have hv : t.val = (i 0 : Nat) / 256 * 2 + (i 1 : Nat) / 512 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [h0, hv]; omega
  | ⟨1, _⟩ =>
    show win0_2.index t 1 * 512 ≤ (i 1 : Nat) ∧ (i 1 : Nat) < win0_2.index t 1 * 512 + 512
    rw [h1, hv]; omega

/-- From equal arguments the kernel and the reference end with equal arrays. -/
theorem algebraic : Cert.algebraic_Kernel33Ideal_Reference33Ideal
    (hKernel33Ideal := Cert.Kernel33Ideal.Gen.facts) (hReference33Ideal := Cert.Reference33Ideal.Gen.facts) := by
  intro m g m' g' _ hargs
  refine ⟨fun c => G m c, ?_, ?_⟩
  · refine (θ_run (Cert.Kernel33Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference33Ideal.defs (F := Ideal)) _ _).mono (fun r h c => ?_)
      (Cert.Reference33Ideal.Value.run (F := Ideal) m' g')
    refine ⟨((h c).1.trans (Cert.Reference33Ideal.Read.val_main_v4_eq _ _)).trans ?_, (h c).2⟩
    obtain ⟨e0, e1⟩ := hargs c
    rw [e0, e1]

end Cert.MemKvDx

end
-- ==== Proof.Val34.lean ====
/- The value of the gradient of the memory norm's scale: one block, summed up over its 256 rows. -/
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pointwise

@[expose] public section

noncomputable section

namespace Cert.MemNormBwd

open Cert.Kernel34Ideal Cert.Kernel34Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S256x1024.rank → Nat) = fun _ => 0 := funext fun a => by fin_cases a <;> rfl
theorem hz1 : (![0, 0] : Fin S1x1024.rank → Nat) = fun _ => 0 := funext fun a => by fin_cases a <;> rfl
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

theorem iblk0_apply (c : Dev nD) (t : Fin cfg0.N) (r : Fin 256) (k : Fin 1024) :
    iblk m c 0 t (ix2 r k) = m ((c : Thread nD τ).loc main_arg0) (ix2 r k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; exact (Nat.zero_mul _).symm ▸ Nat.zero_add _
  · rw [win0_0.rect_emb_val, h1]; exact (Nat.zero_mul _).symm ▸ Nat.zero_add _

theorem iblk1_apply (c : Dev nD) (t : Fin cfg0.N) (r : Fin 256) (k : Fin 1024) :
    iblk m c 1 t (ix2 r k) = m ((c : Thread nD τ).loc main_arg2) (ix2 r k) := by
  obtain ⟨h0, h1⟩ := idx1 t
  show m ((c : Thread nD τ).loc main_arg2) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- What the one point leaves. -/
theorem outs_eq (c : Dev nD) (t : Fin cfg0.N) :
    outsAt0 m c t = k0_pay2 (iblk m c 0 t) (iblk m c 1 t) (k0_pay1 (F := Ideal)) := by
  unfold outsAt0 out0_A_3
  refine (View.read_writes_eq_canon _ _ _ fun y => cover0_A_3 ..).trans ?_
  unfold kernelRun0_A
  dsimp only
  sl_unfold_words
  simp only [View.readAt_eq_ld, (hs0_0 t).read_unread, (hs0_1 t).read_unread, (hs0_2 t).read_unread, View.ld_unit_zero (S := S256x1024) hz0, View.ld_unit_zero (S := S1x1024) hz1,
    View.canon_cons_unit_zero (S := S1x1024) hz1, View.readCov_unit_zero (S := S1x1024) _ hz1]

theorem out_apply (x0 x1 : Vec Ideal S256x1024 .f32) (j : Fin 1024) :
    k0_pay2 x0 x1 (k0_pay1 (F := Ideal)) (ix2 0 j) = ∑ r : Fin 256, x1 (ix2 r j) * (x0 (ix2 r j) * Ideal.rsqrt (Ideal.div (∑ k : Fin 1024, x0 (ix2 r k) * x0 (ix2 r k))
        (Ideal.ofBits .f32 0x44800000#32) + Ideal.ofBits .f32 0x358637BD#32)) := by
  have hz : k0_pay1 (F := Ideal) (ix2 0 j) = 0 := by pointwise [k0_pay1]
  refine Eq.trans ?_ (zero_add _)
  rw [← hz]
  pointwise [k0_pay2]

theorem ref_apply (x0 x2 : (⟨Cert.Reference34Ideal.S256x1024, .f32⟩ : BufTy).Contents (Elt Ideal)) (j : Fin 1024) :
    Cert.Reference34Ideal.Read.val_main_v14 (F := Ideal) x0 x2 (ix2 0 j) = ∑ r : Fin 256, x2 (ix2 r j) * (x0 (ix2 r j) * Ideal.rsqrt (Ideal.div (∑ k : Fin 1024, x0 (ix2 r k) * x0 (ix2 r k))
        (Ideal.ofBits .f32 0x44800000#32) + Ideal.ofBits .f32 0x358637BD#32)) := by
  refine Eq.trans ?_ (Finset.sum_congr rfl fun r _ => mul_comm _ _)
  open Cert.Reference34Ideal.Read in
  pointwise [val_main_v14, val_main_v13, val_main_v12, val_main_v9, val_main_v8, val_main_v7, val_main_v6, val_main_v5, val_main_v4,
    val_main_v3, val_main_v2, val_main_v1, val_main_v0, val_main_cst, val_main_cst_0, val_main_cst_1, val_main_cst_2]

/-- The array the reference leaves, of the kernel's arguments. -/
abbrev G (c : Dev nD) : Buf (Elt Ideal) ((c : Thread nD τ).loc main_v0) :=
  Cert.Reference34Ideal.Read.val_main_v14 (F := Ideal) (m ((c : Thread nD τ).loc main_arg0)) (m ((c : Thread nD τ).loc main_arg2))

theorem flushed3_eq (c : Dev nD) (t : Fin cfg0.N) :
    (dats m 0 c).flushed 3 t = ((cfg0.win 3).blk t).view.read (Elt Ideal) (G m c) := by
  rw [Value.flushed3]
  obtain ⟨e0, e1⟩ := idx3 t
  funext y
  show outsAt0 m c t y = G m c ((win0_3.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_3.rect t).emb (ix2 0 j) = ix2 0 j := by
    refine Shape.idx_ext₂ ?_ ?_
    · rw [win0_3.rect_emb_val, e0]; exact (Nat.zero_mul _).symm ▸ Nat.zero_add _
    · rw [win0_3.rect_emb_val, e1]; exact (Nat.zero_mul _).symm ▸ Nat.zero_add _
  rw [hemb]
  unfold G
  rw [outs_eq, out_apply, ref_apply]
  simp only [iblk0_apply, iblk1_apply]

theorem cover3 (i : S1x1024.Idx) : ∃ t : Fin cfg0.N, (cfg0.win 3).flush t = true ∧ i ∈ ((cfg0.win 3).blk t).view.set := by
  have h0 : (i 0 : Nat) < 1 := (i 0).isLt
  have h1 : (i 1 : Nat) < 1024 := (i 1).isLt
  have hN : cfg0.N = 1 := N_0
  refine ⟨⟨0, by omega⟩, flush0_3 _, ?_⟩
  set t : Fin cfg0.N := ⟨0, by omega⟩
  obtain ⟨e0, e1⟩ := idx3 t
  show i ∈ ((View.whole main_v0).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [e0]; omega
  | ⟨1, _⟩ =>
    show win0_3.index t 1 * 1024 ≤ (i 1 : Nat) ∧ (i 1 : Nat) < win0_3.index t 1 * 1024 + 1024
    rw [e1]; omega

/-! ## The claim -/

/-- From equal arguments the kernel and the reference end with equal arrays. -/
theorem algebraic : Cert.algebraic_Kernel34Ideal_Reference34Ideal
    (hKernel34Ideal := Cert.Kernel34Ideal.Gen.facts) (hReference34Ideal := Cert.Reference34Ideal.Gen.facts) := by
  intro m g m' g' _ hargs
  refine ⟨fun c => G m c, ?_, ?_⟩
  · refine (θ_run (Cert.Kernel34Ideal.defs (F := Ideal)) _ _).mono (fun r h c => ?_) (Value.run_blocks m g)
    obtain ⟨a, h⟩ := h c
    exact ⟨a.trans ((dats m 0 c).arrAt_eq_of_cover 3 (G m c) (fun t _ => flushed3_eq m c t) cover3), h⟩
  · refine (θ_run (Cert.Reference34Ideal.defs (F := Ideal)) _ _).mono (fun r h c => ?_)
      (Cert.Reference34Ideal.Value.run (F := Ideal) m' g')
    obtain ⟨a, h⟩ := h c
    obtain ⟨e0, e1, e2⟩ := hargs c
    refine ⟨(a.trans (Cert.Reference34Ideal.Read.val_main_v14_eq _ _)).trans ?_, h⟩
    · rw [e0, e2]

end Cert.MemNormBwd

end
-- ==== Proof.Val35.lean ====
/- The value of a norm: the kernel's blocks of 512 rows, put together, are the reference's array. -/
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pointwise

@[expose] public section

noncomputable section

namespace Cert.Norm

open Cert.Kernel35Ideal Cert.Kernel35Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S512x1024.rank → Nat) = fun _ => 0 := funext fun a => by fin_cases a <;> rfl
theorem hz1 : (![0, 0] : Fin S1x1024.rank → Nat) = fun _ => 0 := funext fun a => by fin_cases a <;> rfl

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem iblk0_apply (c : Dev nD) (t : Fin cfg0.N) (r : Fin 512) (k : Fin 1024) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) :
    iblk m c 1 t (ix2 0 k) = m ((c : Thread nD τ).loc main_arg1) (ix2 0 k) := by
  obtain ⟨h0, h1⟩ := idx1 t
  show m ((c : Thread nD τ).loc main_arg1) ((win0_1.rect t).emb (ix2 0 k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- The block a point writes, entry by entry. -/
theorem out_apply (x0 : Vec Ideal S512x1024 .f32) (x1 : Vec Ideal S1x1024 .f32) (r : Fin 512) (j : Fin 1024) :
    out0_2 x0 x1 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  unfold out0_2
  simp only [View.ld_unit_zero (S := S512x1024) hz0, View.ld_unit_zero (S := S1x1024) hz1, View.canon_unit_zero (S := S512x1024) hz0]
  pointwise [k0_pay1]

/-- The reference, entry by entry. -/
theorem ref_apply (x0 : (⟨Cert.Reference35Ideal.S4096x1024, .f32⟩ : BufTy).Contents (Elt Ideal))
    (x1 : (⟨Cert.Reference35Ideal.S1x1024, .f32⟩ : BufTy).Contents (Elt Ideal)) (r : Fin 4096) (j : Fin 1024) :
    Cert.Reference35Ideal.Read.val_main_v12 (F := Ideal) x0 x1 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  open Cert.Reference35Ideal.Read in
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The array the reference leaves, of the kernel's arguments. -/
abbrev G (c : Dev nD) : Buf (Elt Ideal) ((c : Thread nD τ).loc main_v0) :=
  Cert.Reference35Ideal.Read.val_main_v12 (F := Ideal) (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (G m c) := by
  rw [Value.flushed2]
  obtain ⟨e0, e1⟩ := idx2 t
  funext y
  show out0_2 (iblk m c 0 t) (iblk m c 1 t) y = G m c ((win0_2.rect t).emb y)
  obtain ⟨r, j, rfl⟩ : ∃ (r : Fin 512) (j : Fin 1024), y = ix2 r j := ⟨y 0, y 1, eq_ix2 y⟩
  have hemb : (win0_2.rect t).emb (ix2 r j) = ix2 (row t r) j := by
    refine Shape.idx_ext₂ ?_ ?_
    · rw [win0_2.rect_emb_val, e0]; rfl
    · rw [win0_2.rect_emb_val, e1]; exact (Nat.zero_mul _).symm ▸ Nat.zero_add _
  rw [hemb]
  unfold G
  rw [out_apply, ref_apply]
  simp only [iblk0_apply, iblk1_apply]

theorem cover2 (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_2 _, ?_⟩
  set t : Fin cfg0.N := ⟨(i 0 : Nat) / 512, by omega⟩
  obtain ⟨e0, e1⟩ := idx2 t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 1024 ≤ (i 1 : Nat) ∧ (i 1 : Nat) < win0_2.index t 1 * 1024 + 1024
    rw [e1]; omega

/-! ## The claim -/

/-- From equal arguments the kernel and the reference end with equal arrays. -/
theorem algebraic : Cert.algebraic_Kernel35Ideal_Reference35Ideal
    (hKernel35Ideal := Cert.Kernel35Ideal.Gen.facts) (hReference35Ideal := Cert.Reference35Ideal.Gen.facts) := by
  intro m g m' g' _ hargs
  refine ⟨fun c => G m c, ?_, ?_⟩
  · refine (θ_run (Cert.Kernel35Ideal.defs (F := Ideal)) _ _).mono (fun r h c => ?_) (Value.run_blocks m g)
    obtain ⟨a, h⟩ := h c
    exact ⟨a.trans ((dats m 0 c).arrAt_eq_of_cover 2 (G m c) (fun t _ => flushed2_eq m c t) cover2), h⟩
  · refine (θ_run (Cert.Reference35Ideal.defs (F := Ideal)) _ _).mono (fun r h c => ?_)
      (Cert.Reference35Ideal.Value.run (F := Ideal) m' g')
    obtain ⟨a, h⟩ := h c
    obtain ⟨e0, e1⟩ := hargs c
    refine ⟨(a.trans (Cert.Reference35Ideal.Read.val_main_v12_eq _ _)).trans ?_, h⟩
    · rw [e0, e1]

end Cert.Norm

end
-- ==== Proof.Val36.lean ====
/- The value of the memory's norm: the kernel's blocks of 256 rows, put together, are the reference's array. -/
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import Idealize.ShloMosaic.Lib.Pointwise

@[expose] public section

noncomputable section

namespace Cert.MemNorm

open Cert.Kernel36Ideal Cert.Kernel36Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S256x1024.rank → Nat) = fun _ => 0 := funext fun a => by fin_cases a <;> rfl
theorem hz1 : (![0, 0] : Fin S1x1024.rank → Nat) = fun _ => 0 := funext fun a => by fin_cases a <;> rfl

/-- Row `r` of the one block. -/
def row (_t : Fin cfg0.N) (r : Fin 256) : Fin 256 := r

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

theorem iblk0_apply (c : Dev nD) (t : Fin cfg0.N) (r : Fin 256) (k : Fin 1024) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; exact (Nat.zero_mul _).symm ▸ Nat.zero_add _
  · rw [win0_0.rect_emb_val, h1]; exact (Nat.zero_mul _).symm ▸ Nat.zero_add _

theorem iblk1_apply (c : Dev nD) (t : Fin cfg0.N) (k : Fin 1024) :
    iblk m c 1 t (ix2 0 k) = m ((c : Thread nD τ).loc main_arg1) (ix2 0 k) := by
  obtain ⟨h0, h1⟩ := idx1 t
  show m ((c : Thread nD τ).loc main_arg1) ((win0_1.rect t).emb (ix2 0 k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

/-- The block a point writes, entry by entry. -/
theorem out_apply (x0 : Vec Ideal S256x1024 .f32) (x1 : Vec Ideal S1x1024 .f32) (r : Fin 256) (j : Fin 1024) :
    out0_2 x0 x1 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  unfold out0_2
  simp only [View.ld_unit_zero (S := S256x1024) hz0, View.ld_unit_zero (S := S1x1024) hz1, View.canon_unit_zero (S := S256x1024) hz0]
  pointwise [k0_pay1]

/-- The reference, entry by entry. -/
theorem ref_apply (x0 : (⟨Cert.Reference36Ideal.S256x1024, .f32⟩ : BufTy).Contents (Elt Ideal))
    (x1 : (⟨Cert.Reference36Ideal.S1x1024, .f32⟩ : BufTy).Contents (Elt Ideal)) (r : Fin 256) (j : Fin 1024) :
    Cert.Reference36Ideal.Read.val_main_v12 (F := Ideal) x0 x1 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  open Cert.Reference36Ideal.Read in
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The array the reference leaves, of the kernel's arguments. -/
abbrev G (c : Dev nD) : Buf (Elt Ideal) ((c : Thread nD τ).loc main_v0) :=
  Cert.Reference36Ideal.Read.val_main_v12 (F := Ideal) (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (G m c) := by
  rw [Value.flushed2]
  obtain ⟨e0, e1⟩ := idx2 t
  funext y
  show out0_2 (iblk m c 0 t) (iblk m c 1 t) y = G m c ((win0_2.rect t).emb y)
  obtain ⟨r, j, rfl⟩ : ∃ (r : Fin 256) (j : Fin 1024), y = ix2 r j := ⟨y 0, y 1, eq_ix2 y⟩
  have hemb : (win0_2.rect t).emb (ix2 r j) = ix2 (row t r) j := by
    refine Shape.idx_ext₂ ?_ ?_
    · rw [win0_2.rect_emb_val, e0]; exact (Nat.zero_mul _).symm ▸ Nat.zero_add _
    · rw [win0_2.rect_emb_val, e1]; exact (Nat.zero_mul _).symm ▸ Nat.zero_add _
  rw [hemb]
  unfold G
  rw [out_apply, ref_apply]
  simp only [iblk0_apply, iblk1_apply]

theorem cover2 (i : S256x1024.Idx) : ∃ t : Fin cfg0.N, (cfg0.win 2).flush t = true ∧ i ∈ ((cfg0.win 2).blk t).view.set := by
  have h0 : (i 0 : Nat) < 256 := (i 0).isLt
  have h1 : (i 1 : Nat) < 1024 := (i 1).isLt
  have hN : cfg0.N = 1 := N_0
  refine ⟨⟨0, by omega⟩, flush0_2 _, ?_⟩
  set t : Fin cfg0.N := ⟨0, by omega⟩
  obtain ⟨e0, e1⟩ := idx2 t
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [e0]
    omega
  | ⟨1, _⟩ =>
    show win0_2.index t 1 * 1024 ≤ (i 1 : Nat) ∧ (i 1 : Nat) < win0_2.index t 1 * 1024 + 1024
    rw [e1]; omega

/-! ## The claim -/

/-- From equal arguments the kernel and the reference end with equal arrays. -/
theorem algebraic : Cert.algebraic_Kernel36Ideal_Reference36Ideal
    (hKernel36Ideal := Cert.Kernel36Ideal.Gen.facts) (hReference36Ideal := Cert.Reference36Ideal.Gen.facts) := by
  intro m g m' g' _ hargs
  refine ⟨fun c => G m c, ?_, ?_⟩
  · refine (θ_run (Cert.Kernel36Ideal.defs (F := Ideal)) _ _).mono (fun r h c => ?_) (Value.run_blocks m g)
    obtain ⟨a, h⟩ := h c
    exact ⟨a.trans ((dats m 0 c).arrAt_eq_of_cover 2 (G m c) (fun t _ => flushed2_eq m c t) cover2), h⟩
  · refine (θ_run (Cert.Reference36Ideal.defs (F := Ideal)) _ _).mono (fun r h c => ?_)
      (Cert.Reference36Ideal.Value.run (F := Ideal) m' g')
    obtain ⟨a, h⟩ := h c
    obtain ⟨e0, e1⟩ := hargs c
    refine ⟨(a.trans (Cert.Reference36Ideal.Read.val_main_v12_eq _ _)).trans ?_, h⟩
    · rw [e0, e1]

end Cert.MemNorm

end
-- ==== Proof.Val37.lean ====
/- The value of two norms of one argument: the kernel's blocks of 512 rows, put together, are the reference's two arrays. -/
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import Idealize.ShloMosaic.Lib.Pointwise

@[expose] public section

noncomputable section

namespace Cert.TwoNorms

open Cert.Kernel37Ideal Cert.Kernel37Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S512x1024.rank → Nat) = fun _ => 0 := funext fun a => by fin_cases a <;> rfl
theorem hz1 : (![0, 0] : Fin S1x1024.rank → Nat) = fun _ => 0 := funext fun a => by fin_cases a <;> rfl

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

theorem iblk0_apply (c : Dev nD) (t : Fin cfg0.N) (r : Fin 512) (k : Fin 1024) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (k : Fin 1024) :
    iblk m c 1 t (ix2 0 k) = m ((c : Thread nD τ).loc main_arg1) (ix2 0 k) := by
  obtain ⟨h0, h1⟩ := idx1 t
  show m ((c : Thread nD τ).loc main_arg1) ((win0_1.rect t).emb (ix2 0 k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (k : Fin 1024) :
    iblk m c 2 t (ix2 0 k) = m ((c : Thread nD τ).loc main_arg2) (ix2 0 k) := by
  obtain ⟨h0, h1⟩ := idx2 t
  show m ((c : Thread nD τ).loc main_arg2) ((win0_2.rect t).emb (ix2 0 k)) = _
  refine congrArg _ (Shape.idx_ext₂ ?_ ?_)
  · rw [win0_2.rect_emb_val, h0]; exact (Nat.zero_mul _).symm ▸ Nat.zero_add _
  · rw [win0_2.rect_emb_val, h1]; exact (Nat.zero_mul _).symm ▸ Nat.zero_add _

theorem out3_apply (x0 : Vec Ideal S512x1024 .f32) (x1 x2 : Vec Ideal S1x1024 .f32) (r : Fin 512) (j : Fin 1024) :
    out0_3 x0 x1 x2 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  unfold out0_3
  simp only [View.ld_unit_zero (S := S512x1024) hz0, View.ld_unit_zero (S := S1x1024) hz1, View.canon_unit_zero (S := S512x1024) hz0]
  pointwise [k0_pay2, k0_pay1]

theorem out4_apply (x0 : Vec Ideal S512x1024 .f32) (x1 x2 : Vec Ideal S1x1024 .f32) (r : Fin 512) (j : Fin 1024) :
    out0_4 x0 x1 x2 (ix2 r j) = x0 (ix2 r j) * Ideal.rsqrt (Ideal.div (∑ k : Fin 1024, x0 (ix2 r k) * x0 (ix2 r k))
        (Ideal.ofBits .f32 0x44800000#32) + Ideal.ofBits .f32 0x358637BD#32) * x2 (ix2 0 j) := by
  unfold out0_4
  simp only [View.ld_unit_zero (S := S512x1024) hz0, View.ld_unit_zero (S := S1x1024) hz1, View.canon_unit_zero (S := S512x1024) hz0]
  pointwise [k0_pay3, k0_pay1]

theorem ref_v12 (x0 : (⟨Cert.Reference37Ideal.S4096x1024, .f32⟩ : BufTy).Contents (Elt Ideal))
    (x1 : (⟨Cert.Reference37Ideal.S1x1024, .f32⟩ : BufTy).Contents (Elt Ideal)) (r : Fin 4096) (j : Fin 1024) :
    Cert.Reference37Ideal.Read.val_main_v12 (F := Ideal) x0 x1 (ix2 r j) = x0 (ix2 r j) * Ideal.rsqrt (Ideal.div (∑ k : Fin 1024, x0 (ix2 r k) * x0 (ix2 r k))
        (Ideal.ofBits .f32 0x44800000#32) + Ideal.ofBits .f32 0x358637BD#32) * x1 (ix2 0 j) := by
  open Cert.Reference37Ideal.Read in
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_v25 (x0 : (⟨Cert.Reference37Ideal.S4096x1024, .f32⟩ : BufTy).Contents (Elt Ideal))
    (x2 : (⟨Cert.Reference37Ideal.S1x1024, .f32⟩ : BufTy).Contents (Elt Ideal)) (r : Fin 4096) (j : Fin 1024) :
    Cert.Reference37Ideal.Read.val_main_v25 (F := Ideal) x0 x2 (ix2 r j) = x0 (ix2 r j) * Ideal.rsqrt (Ideal.div (∑ k : Fin 1024, x0 (ix2 r k) * x0 (ix2 r k))
        (Ideal.ofBits .f32 0x44800000#32) + Ideal.ofBits .f32 0x358637BD#32) * x2 (ix2 0 j) := by
  open Cert.Reference37Ideal.Read in
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]

/-! The arrays the reference leaves, of the kernel's arguments. -/

abbrev G3 (c : Dev nD) : Buf (Elt Ideal) ((c : Thread nD τ).loc main_v0_0) :=
  Cert.Reference37Ideal.Read.val_main_v12 (F := Ideal) (m ((c : Thread nD τ).loc main_arg0)) (m ((c : Thread nD τ).loc main_arg1))

abbrev G4 (c : Dev nD) : Buf (Elt Ideal) ((c : Thread nD τ).loc main_v0_1) :=
  Cert.Reference37Ideal.Read.val_main_v25 (F := Ideal) (m ((c : Thread nD τ).loc main_arg0)) (m ((c : Thread nD τ).loc main_arg2))

theorem flushed3_eq (c : Dev nD) (t : Fin cfg0.N) :
    (dats m 0 c).flushed 3 t = ((cfg0.win 3).blk t).view.read (Elt Ideal) (G3 m c) := by
  rw [Value.flushed3]
  obtain ⟨e0, e1⟩ := idx3 t
  funext y
  show out0_3 (iblk m c 0 t) (iblk m c 1 t) (iblk m c 2 t) y = G3 m c ((win0_3.rect t).emb y)
  obtain ⟨r, j, rfl⟩ : ∃ (r : Fin 512) (j : Fin 1024), y = ix2 r j := ⟨y 0, y 1, eq_ix2 y⟩
  have hemb : (win0_3.rect t).emb (ix2 r j) = ix2 (row t r) j := by
    refine Shape.idx_ext₂ ?_ ?_
    · rw [win0_3.rect_emb_val, e0]; rfl
    · rw [win0_3.rect_emb_val, e1]; exact (Nat.zero_mul _).symm ▸ Nat.zero_add _
  rw [hemb]
  unfold G3
  rw [out3_apply, ref_v12]
  simp only [iblk0_apply, iblk1_apply]

theorem cover3 (i : S4096x1024.Idx) : ∃ t : Fin cfg0.N, (cfg0.win 3).flush t = true ∧ i ∈ ((cfg0.win 3).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_3 _, ?_⟩
  set t : Fin cfg0.N := ⟨(i 0 : Nat) / 512, by omega⟩
  obtain ⟨e0, e1⟩ := idx3 t
  show i ∈ ((View.whole main_v0_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [e0]
    show (i 0 : Nat) / 512 * 512 ≤ (i 0 : Nat) ∧ (i 0 : Nat) < (i 0 : Nat) / 512 * 512 + 512
    omega
  | ⟨1, _⟩ =>
    show win0_3.index t 1 * 1024 ≤ (i 1 : Nat) ∧ (i 1 : Nat) < win0_3.index t 1 * 1024 + 1024
    rw [e1]; omega

theorem flushed4_eq (c : Dev nD) (t : Fin cfg0.N) :
    (dats m 0 c).flushed 4 t = ((cfg0.win 4).blk t).view.read (Elt Ideal) (G4 m c) := by
  rw [Value.flushed4]
  obtain ⟨e0, e1⟩ := idx4 t
  funext y
  show out0_4 (iblk m c 0 t) (iblk m c 1 t) (iblk m c 2 t) y = G4 m c ((win0_4.rect t).emb y)
  obtain ⟨r, j, rfl⟩ : ∃ (r : Fin 512) (j : Fin 1024), y = ix2 r j := ⟨y 0, y 1, eq_ix2 y⟩
  have hemb : (win0_4.rect t).emb (ix2 r j) = ix2 (row t r) j := by
    refine Shape.idx_ext₂ ?_ ?_
    · rw [win0_4.rect_emb_val, e0]; rfl
    · rw [win0_4.rect_emb_val, e1]; exact (Nat.zero_mul _).symm ▸ Nat.zero_add _
  rw [hemb]
  unfold G4
  rw [out4_apply, ref_v25]
  simp only [iblk0_apply, iblk2_apply]

theorem cover4 (i : S4096x1024.Idx) : ∃ t : Fin cfg0.N, (cfg0.win 4).flush t = true ∧ i ∈ ((cfg0.win 4).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_4 _, ?_⟩
  set t : Fin cfg0.N := ⟨(i 0 : Nat) / 512, by omega⟩
  obtain ⟨e0, e1⟩ := idx4 t
  show i ∈ ((View.whole main_v0_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [e0]
    show (i 0 : Nat) / 512 * 512 ≤ (i 0 : Nat) ∧ (i 0 : Nat) < (i 0 : Nat) / 512 * 512 + 512
    omega
  | ⟨1, _⟩ =>
    show win0_4.index t 1 * 1024 ≤ (i 1 : Nat) ∧ (i 1 : Nat) < win0_4.index t 1 * 1024 + 1024
    rw [e1]; omega

/-! ## The claim -/

/-- From equal arguments the kernel and the reference end with equal arrays. -/
theorem algebraic : Cert.algebraic_Kernel37Ideal_Reference37Ideal
    (hKernel37Ideal := Cert.Kernel37Ideal.Gen.facts) (hReference37Ideal := Cert.Reference37Ideal.Gen.facts) := by
  intro m g m' g' _ hargs
  refine ⟨fun c => G3 m c, fun c => G4 m c, ?_, ?_⟩
  · refine (θ_run (Cert.Kernel37Ideal.defs (F := Ideal)) _ _).mono (fun r h c => ?_) (Value.run_blocks m g)
    obtain ⟨a, b, h⟩ := h c
    exact ⟨a.trans ((dats m 0 c).arrAt_eq_of_cover 3 (G3 m c) (fun t _ => flushed3_eq m c t) cover3),
      b.trans ((dats m 0 c).arrAt_eq_of_cover 4 (G4 m c) (fun t _ => flushed4_eq m c t) cover4), h⟩
  · refine (θ_run (Cert.Reference37Ideal.defs (F := Ideal)) _ _).mono (fun r h c => ?_)
      (Cert.Reference37Ideal.Value.run (F := Ideal) m' g')
    obtain ⟨a, b, h⟩ := h c
    obtain ⟨e0, e1, e2⟩ := hargs c
    refine ⟨(a.trans (Cert.Reference37Ideal.Read.val_main_v12_eq _ _)).trans ?_, (b.trans (Cert.Reference37Ideal.Read.val_main_v25_eq _ _)).trans ?_, h⟩
    · rw [e0, e1]
    · rw [e0, e2]

end Cert.TwoNorms

end
-- ==== Proof.Val38.lean ====
/- The value of the last norm, the loss and their gradients: eight blocks of 512 rows for the gradient of the norm's
   argument, in both widths; the gradient of the norm's scale and the loss, one row each, summed up over the blocks. -/
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.Math
public import Idealize.ShloMosaic.Lib.Pointwise

@[expose] public section

noncomputable section

namespace Cert.LossHead

open Cert.Kernel38Ideal Cert.Kernel38Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S512x1024.rank → Nat) = fun _ => 0 := funext fun a => by fin_cases a <;> rfl
theorem hz1 : (![0, 0] : Fin S1x1024.rank → Nat) = fun _ => 0 := funext fun a => by fin_cases a <;> rfl
theorem hz2 : (![0, 0] : Fin S1x128.rank → Nat) = fun _ => 0 := funext fun a => by fin_cases a <;> rfl

/-- What a point leaves of the gradient of the norm's argument. -/
theorem outs_dx (c : Dev nD) (t : Fin cfg0.N) : (outsAt0 m c t.val t.isLt).1 = k0_pay11 (iblk m c 0 t) (iblk m c 1 t) (iblk m c 2 t) := by
  by_cases h0 : t.val % 8 = 0
  · rw [outsAt0_A m c t h0 h0]
    dsimp only
    unfold out0_A_3
    refine (View.read_writes_eq_canon _ _ _ fun y => cover0_A_3 ..).trans ?_
    unfold kernelRun0_A
    dsimp only
    sl_unfold_words
    simp only [View.readAt_eq_ld, (hs0_0 t).read_unread, (hs0_1 t).read_unread, (hs0_2 t).read_unread, View.ld_unit_zero (S := S512x1024) hz0, View.ld_unit_zero (S := S1x1024) hz1, View.canon_unit_zero (S := S512x1024) hz0]
  · rw [outsAt0_B m c t h0 h0]
    dsimp only
    unfold out0_B_3
    refine (View.read_writes_eq_canon _ _ _ fun y => cover0_B_3 ..).trans ?_
    unfold kernelRun0_B
    dsimp only
    sl_unfold_words
    simp only [View.readAt_eq_ld, (hs0_0 t).read_unread, (hs0_1 t).read_unread, (hs0_2 t).read_unread, View.ld_unit_zero (S := S512x1024) hz0, View.ld_unit_zero (S := S1x1024) hz1, View.canon_unit_zero (S := S512x1024) hz0]

/-- The same, narrowed. -/
theorem outs_bf (c : Dev nD) (t : Fin cfg0.N) : (outsAt0 m c t.val t.isLt).2.1 = k0_pay1 (k0_pay11 (iblk m c 0 t) (iblk m c 1 t) (iblk m c 2 t)) := by
  by_cases h0 : t.val % 8 = 0
  · rw [outsAt0_A m c t h0 h0]
    dsimp only
    unfold out0_A_4
    refine (View.read_writes_eq_canon _ _ _ fun y => cover0_A_4 ..).trans ?_
    unfold kernelRun0_A
    dsimp only
    sl_unfold_words
    simp only [View.readAt_eq_ld, (hs0_0 t).read_unread, (hs0_1 t).read_unread, (hs0_2 t).read_unread, View.ld_unit_zero (S := S512x1024) hz0, View.ld_unit_zero (S := S1x1024) hz1, View.canon_unit_zero (S := S512x1024) hz0]
  · rw [outsAt0_B m c t h0 h0]
    dsimp only
    unfold out0_B_4
    refine (View.read_writes_eq_canon _ _ _ fun y => cover0_B_4 ..).trans ?_
    unfold kernelRun0_B
    dsimp only
    sl_unfold_words
    simp only [View.readAt_eq_ld, (hs0_0 t).read_unread, (hs0_1 t).read_unread, (hs0_2 t).read_unread, View.ld_unit_zero (S := S512x1024) hz0, View.ld_unit_zero (S := S1x1024) hz1, View.canon_unit_zero (S := S512x1024) hz0]

/-- The first point starts the sum from zero. -/
theorem outs_dg_first (c : Dev nD) (t : Fin cfg0.N) (h0 : t.val % 8 = 0) :
    (outsAt0 m c t.val t.isLt).2.2.1 = k0_pay3 (k0_pay12 (iblk m c 0 t) (iblk m c 1 t) (iblk m c 2 t)) (k0_pay2 (F := Ideal)) := by
  rw [outsAt0_A m c t h0 h0]
  dsimp only
  unfold out0_A_5
  refine (View.read_writes_eq_canon _ _ _ fun y => cover0_A_5 ..).trans ?_
  unfold kernelRun0_A
  dsimp only
  sl_unfold_words
  simp only [View.readAt_eq_ld, (hs0_0 t).read_unread, (hs0_1 t).read_unread, (hs0_2 t).read_unread, View.ld_unit_zero (S := S512x1024) hz0, View.ld_unit_zero (S := S1x1024) hz1, View.ld_unit_zero (S := S1x128) hz2,
    View.canon_cons_unit_zero (S := S1x1024) hz1, View.readCov_unit_zero (S := S1x1024) _ hz1]

/-- A later point adds its rows to what the point before left. -/
theorem outs_dg_next (c : Dev nD) (t : Fin cfg0.N) (h0 : ¬ t.val % 8 = 0) :
    (outsAt0 m c t.val t.isLt).2.2.1 = k0_pay3 (k0_pay12 (iblk m c 0 t) (iblk m c 1 t) (iblk m c 2 t)) (outsAt0 m c (t.val - 1) (Nat.lt_of_le_of_lt (Nat.sub_le _ _) t.isLt)).2.2.1 := by
  rw [outsAt0_B m c t h0 h0]
  dsimp only
  unfold out0_B_5
  refine (View.read_writes_eq_canon _ _ _ fun y => cover0_B_5 ..).trans ?_
  unfold kernelRun0_B
  dsimp only
  sl_unfold_words
  simp only [View.readAt_eq_ld, (hs0_0 t).read_unread, (hs0_1 t).read_unread, (hs0_2 t).read_unread, (hs0_5 t).read_unread, View.ld_unit_zero (S := S512x1024) hz0, View.ld_unit_zero (S := S1x1024) hz1, View.ld_unit_zero (S := S1x128) hz2,
    View.canon_cons_unit_zero (S := S1x1024) hz1, View.readCov_unit_zero (S := S1x1024) _ hz1]

/-- The first point starts the sum from zero. -/
theorem outs_loss_first (c : Dev nD) (t : Fin cfg0.N) (h0 : t.val % 8 = 0) :
    (outsAt0 m c t.val t.isLt).2.2.2 = k0_pay5 (k0_pay9 (iblk m c 0 t) (iblk m c 1 t) (iblk m c 2 t)) (k0_pay4 (F := Ideal)) := by
  rw [outsAt0_A m c t h0 h0]
  dsimp only
  unfold out0_A_6
  refine (View.read_writes_eq_canon _ _ _ fun y => cover0_A_6 ..).trans ?_
  unfold kernelRun0_A
  dsimp only
  sl_unfold_words
  simp only [View.readAt_eq_ld, (hs0_0 t).read_unread, (hs0_1 t).read_unread, (hs0_2 t).read_unread, View.ld_unit_zero (S := S512x1024) hz0, View.ld_unit_zero (S := S1x1024) hz1, View.ld_unit_zero (S := S1x128) hz2,
    View.canon_cons_unit_zero (S := S1x128) hz2, View.readCov_unit_zero (S := S1x128) _ hz2]

/-- A later point adds its rows to what the point before left. -/
theorem outs_loss_next (c : Dev nD) (t : Fin cfg0.N) (h0 : ¬ t.val % 8 = 0) :
    (outsAt0 m c t.val t.isLt).2.2.2 = k0_pay5 (k0_pay9 (iblk m c 0 t) (iblk m c 1 t) (iblk m c 2 t)) (outsAt0 m c (t.val - 1) (Nat.lt_of_le_of_lt (Nat.sub_le _ _) t.isLt)).2.2.2 := by
  rw [outsAt0_B m c t h0 h0]
  dsimp only
  unfold out0_B_6
  refine (View.read_writes_eq_canon _ _ _ fun y => cover0_B_6 ..).trans ?_
  unfold kernelRun0_B
  dsimp only
  sl_unfold_words
  simp only [View.readAt_eq_ld, (hs0_0 t).read_unread, (hs0_1 t).read_unread, (hs0_2 t).read_unread, (hs0_6 t).read_unread, View.ld_unit_zero (S := S512x1024) hz0, View.ld_unit_zero (S := S1x1024) hz1, View.ld_unit_zero (S := S1x128) hz2,
    View.canon_cons_unit_zero (S := S1x128) hz2, View.readCov_unit_zero (S := S1x128) _ hz2]

/-- Row `r` of block `t`. -/
def row (t : Fin cfg0.N) (r : Fin 512) : Fin 4096 :=
  ⟨t.val * 512 + r.val, by have h : t.val < 8 := lt_of_lt_of_eq t.isLt N_0; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem iblk0_apply (c : Dev nD) (t : Fin cfg0.N) (r : Fin 512) (k : Fin 1024) :
    iblk m c 0 t (ix2 r k) = m ((c : Thread nD τ).loc main_arg0) (ix2 (row t r) k) := by
  obtain ⟨h0, h1⟩ := idx0 t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 512) (k : Fin 1024) :
    iblk m c 1 t (ix2 r k) = m ((c : Thread nD τ).loc main_arg1) (ix2 (row t r) k) := by
  obtain ⟨h0, h1⟩ := idx1 t
  show m ((c : Thread nD τ).loc main_arg1) ((win0_1.rect t).emb (ix2 r k)) = _
  refine congrArg _ (Shape.idx_ext₂ ?_ ?_)
  · rw [win0_1.rect_emb_val, h0]; rfl
  · rw [win0_1.rect_emb_val, h1]; exact (Nat.zero_mul _).symm ▸ Nat.zero_add _

theorem iblk2_apply (c : Dev nD) (t : Fin cfg0.N) (k : Fin 1024) :
    iblk m c 2 t (ix2 0 k) = m ((c : Thread nD τ).loc main_arg2) (ix2 0 k) := by
  obtain ⟨h0, h1⟩ := idx2 t
  show m ((c : Thread nD τ).loc main_arg2) ((win0_2.rect t).emb (ix2 0 k)) = _
  refine congrArg _ (Shape.idx_ext₂ ?_ ?_)
  · rw [win0_2.rect_emb_val, h0]; exact (Nat.zero_mul _).symm ▸ Nat.zero_add _
  · rw [win0_2.rect_emb_val, h1]; exact (Nat.zero_mul _).symm ▸ Nat.zero_add _

/-! ## Constants -/

theorem half_eq : Ideal.ofBits .f32 0x3F000000#32 = ((1 / 2 : ℝ) : EReal) := by
  simp [Ideal.ofBits, Ideal.ieee]; rw [← EReal.coe_mul]; norm_num

theorem one_eq : Ideal.ofBits .f32 0x3F800000#32 = ((1 : ℝ) : EReal) := by
  simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

/-- The square's derivative under the mean and the half: the error over the row's length. -/
theorem back_eq (e : EReal) : Ideal.div (Ideal.ofBits .f32 0x3F000000#32 * Ideal.ofBits .f32 0x3F800000#32) (Ideal.ofBits .f32 0x44800000#32) * (Ideal.ofBits .f32 0x40000000#32 * e)
    = Ideal.div e (Ideal.ofBits .f32 0x44800000#32) := by
  rw [half_eq, one_eq, two_eq, Cert.Math.ofBits_1024, Ideal.div_coe (by norm_num), Ideal.div_coe (by norm_num), ← mul_assoc, mul_comm e]
  refine congrArg (· * e) ?_
  norm_cast
  norm_num

/-- Half a block's sum over the row's length, row by row. -/
theorem half_sum (f : Fin 512 → EReal) : Ideal.div (Ideal.ofBits .f32 0x3F000000#32 * ∑ r, f r) (Ideal.ofBits .f32 0x44800000#32) = ∑ r, Ideal.ofBits .f32 0x3F000000#32 * Ideal.div (f r) (Ideal.ofBits .f32 0x44800000#32) := by
  rw [half_eq, Cert.Math.ofBits_1024, Ideal.div_coe (by norm_num), mul_comm, ← mul_assoc, ← EReal.coe_mul, Cert.Math.coe_mul_sum _ (by norm_num)]
  refine Finset.sum_congr rfl fun r _ => ?_
  rw [Ideal.div_coe (by norm_num), mul_comm (f r), ← mul_assoc, ← EReal.coe_mul, mul_comm (1 / 1024 : ℝ)]

/-! ## The kernel, entry by entry -/

section Kernel

variable (x0 x1 : Vec Ideal S512x1024 .f32) (x2 : Vec Ideal S1x1024 .f32)

theorem rstd_apply (r : Fin 512) :
    k0_pay6 x0 (ix2 r 0) = Ideal.rsqrt (Ideal.div (∑ k : Fin 1024, x0 (ix2 r k) * x0 (ix2 r k)) (Ideal.ofBits .f32 0x44800000#32)
      + Ideal.ofBits .f32 0x358637BD#32) := by
  pointwise [k0_pay6]

theorem xhat_apply (r : Fin 512) (j : Fin 1024) : k0_pay7 x0 (ix2 r j) = x0 (ix2 r j) * k0_pay6 x0 (ix2 r 0) := by
  pointwise [k0_pay7]

theorem err_apply (r : Fin 512) (j : Fin 1024) :
    k0_pay8 x0 x1 x2 (ix2 r j) = x0 (ix2 r j) * k0_pay6 x0 (ix2 r 0) * x2 (ix2 0 j) - x1 (ix2 r j) := by
  pointwise [k0_pay8, k0_pay7]

theorem dy_apply (r : Fin 512) (j : Fin 1024) : k0_pay10 x0 x1 x2 (ix2 r j) = Ideal.div (k0_pay8 x0 x1 x2 (ix2 r j)) (Ideal.ofBits .f32 0x44800000#32) := by
  pointwise [k0_pay10]

theorem dx_apply (r : Fin 512) (j : Fin 1024) :
    k0_pay11 x0 x1 x2 (ix2 r j)
      = k0_pay6 x0 (ix2 r 0) * (k0_pay10 x0 x1 x2 (ix2 r j) * x2 (ix2 0 j)
          - x0 (ix2 r j) * k0_pay6 x0 (ix2 r 0)
            * Ideal.div (∑ k : Fin 1024, (k0_pay10 x0 x1 x2 (ix2 r k) * x2 (ix2 0 k)) * (x0 (ix2 r k) * k0_pay6 x0 (ix2 r 0))) (Ideal.ofBits .f32 0x44800000#32)) := by
  pointwise [k0_pay11, k0_pay7]

theorem bf_apply (y : Vec Ideal S512x1024 .f32) (r : Fin 512) (j : Fin 1024) : k0_pay1 (F := Ideal) y (ix2 r j) = y (ix2 r j) := by
  pointwise [k0_pay1]

theorem dg_zero (j : Fin 1024) : k0_pay2 (F := Ideal) (ix2 0 j) = 0 := by
  pointwise [k0_pay2]

theorem dg_apply (x : Vec Ideal S1x1024 .f32) (j : Fin 1024) :
    k0_pay3 (k0_pay12 x0 x1 x2) x (ix2 0 j)
      = x (ix2 0 j) + ∑ r : Fin 512, k0_pay10 x0 x1 x2 (ix2 r j) * (x0 (ix2 r j) * k0_pay6 x0 (ix2 r 0)) := by
  pointwise [k0_pay3, k0_pay12, k0_pay7]

theorem loss_zero (j : Fin 128) : k0_pay4 (F := Ideal) (ix2 0 j) = 0 := by
  pointwise [k0_pay4]

theorem loss_apply (x : Vec Ideal S1x128 .f32) (j : Fin 128) :
    k0_pay5 (k0_pay9 x0 x1 x2) x (ix2 0 j)
      = x (ix2 0 j) + Ideal.div (Ideal.ofBits .f32 0x3F000000#32
          * ∑ r : Fin 512, ∑ k : Fin 1024, k0_pay8 x0 x1 x2 (ix2 r k) * k0_pay8 x0 x1 x2 (ix2 r k)) (Ideal.ofBits .f32 0x44800000#32) := by
  pointwise [k0_pay5, k0_pay9]

end Kernel

/-! ## The reference, entry by entry -/

section Reference
open Cert.Reference38Ideal.Read

variable (x0 x1 : (⟨S4096x1024, .f32⟩ : BufTy).Contents (Elt Ideal)) (x2 : (⟨S1x1024, .f32⟩ : BufTy).Contents (Elt Ideal))

/-- A row's mean square and the small constant. -/
theorem ref_ms (r : Fin 4096) :
    val_main_v6 (F := Ideal) x0 (ix2 r 0) = Ideal.div (∑ k : Fin 1024, x0 (ix2 r k) * x0 (ix2 r k))
      (Ideal.ofBits .f32 0x44800000#32) + Ideal.ofBits .f32 0x358637BD#32 := by
  pointwise [val_main_v6, val_main_v5, val_main_v4, val_main_v3, val_main_v2, val_main_v1, val_main_v0, val_main_cst,
    val_main_cst_0, val_main_cst_1]

theorem ref_rstd (r : Fin 4096) :
    val_main_v7 (F := Ideal) x0 (ix2 r 0) = Ideal.rsqrt (val_main_v6 (F := Ideal) x0 (ix2 r 0)) := by
  pointwise [val_main_v7]

theorem ref_err (r : Fin 4096) (j : Fin 1024) :
    val_main_v15 (F := Ideal) x0 x1 x2 (ix2 r j)
      = x0 (ix2 r j) * val_main_v7 (F := Ideal) x0 (ix2 r 0) * x2 (ix2 0 j) - x1 (ix2 r j) := by
  pointwise [val_main_v15, val_main_v14, val_main_v13, val_main_v12, val_main_v11]

theorem ref_dy (r : Fin 4096) (j : Fin 1024) :
    val_main_v29 (F := Ideal) x0 x1 x2 (ix2 r j) = Ideal.div (val_main_v15 (F := Ideal) x0 x1 x2 (ix2 r j)) (Ideal.ofBits .f32 0x44800000#32) := by
  rw [← back_eq]
  pointwise [val_main_v29, val_main_v28, val_main_v27, val_main_v26, val_main_v25, val_main_v24, val_main_v18, val_main_v17,
    val_main_cst_3, val_main_cst_8, val_main_cst_9, val_main_cst_10]

/-- What a row's own spread sends back through its mean square, for one entry's factor. -/
theorem ref_back (r : Fin 4096) :
    val_main_v42 (F := Ideal) x0 x1 x2 (ix2 r 0)
      = Ideal.div ((∑ k : Fin 1024, x0 (ix2 r k) * (val_main_v29 (F := Ideal) x0 x1 x2 (ix2 r k) * x2 (ix2 0 k)))
          * (Ideal.ofBits .f32 0xBF000000#32 * Ideal.div (val_main_v7 (F := Ideal) x0 (ix2 r 0)) (val_main_v6 (F := Ideal) x0 (ix2 r 0))))
        (Ideal.ofBits .f32 0x44800000#32) := by
  pointwise [val_main_v42, val_main_v41, val_main_v40, val_main_v37, val_main_v36, val_main_v35, val_main_v34, val_main_v33,
    val_main_v10, val_main_v9, val_main_v8, val_main_cst_2, val_main_cst_12, val_main_cst_13]

theorem ref_dx (r : Fin 4096) (j : Fin 1024) :
    val_main_v48 (F := Ideal) x0 x1 x2 (ix2 r j)
      = (val_main_v29 (F := Ideal) x0 x1 x2 (ix2 r j) * x2 (ix2 0 j)) * val_main_v7 (F := Ideal) x0 (ix2 r 0)
        + x0 (ix2 r j) * val_main_v42 (F := Ideal) x0 x1 x2 (ix2 r 0)
        + val_main_v42 (F := Ideal) x0 x1 x2 (ix2 r 0) * x0 (ix2 r j) := by
  pointwise [val_main_v48, val_main_v47, val_main_v46, val_main_v45, val_main_v44, val_main_v43, val_main_v39, val_main_v38,
    val_main_v34, val_main_v33, val_main_cst_14]
  rw [Fin.sum_univ_one]

theorem ref_bf (r : Fin 4096) (j : Fin 1024) :
    val_main_v49 (F := Ideal) x0 x1 x2 (ix2 r j) = val_main_v48 (F := Ideal) x0 x1 x2 (ix2 r j) := by
  pointwise [val_main_v49]

/-- What one row adds to the gradient of the scale's entry `j`. -/
def rowTerm (j : Fin 1024) (r : Fin 4096) : EReal :=
  x0 (ix2 r j) * val_main_v7 (F := Ideal) x0 (ix2 r 0) * val_main_v29 (F := Ideal) x0 x1 x2 (ix2 r j)

theorem ref_dg (j : Fin 1024) : val_main_v32 (F := Ideal) x0 x1 x2 (ix2 0 j) = ∑ r : Fin 4096, rowTerm x0 x1 x2 j r := by
  unfold rowTerm
  pointwise [val_main_v32, val_main_v31, val_main_v30, val_main_v12, val_main_v11, val_main_cst_11]

/-- What one row adds to the loss. -/
def rowLoss (r : Fin 4096) : EReal :=
  Ideal.ofBits .f32 0x3F000000#32 * Ideal.div (∑ k : Fin 1024, val_main_v15 (F := Ideal) x0 x1 x2 (ix2 r k) * val_main_v15 (F := Ideal) x0 x1 x2 (ix2 r k)) (Ideal.ofBits .f32 0x44800000#32)

theorem ref_mean (r : Fin 4096) : val_main_v21 (F := Ideal) x0 x1 x2 (ix1 r)
    = Ideal.div (∑ k : Fin 1024, val_main_v15 (F := Ideal) x0 x1 x2 (ix2 r k) * val_main_v15 (F := Ideal) x0 x1 x2 (ix2 r k)) (Ideal.ofBits .f32 0x44800000#32) := by
  pointwise [val_main_v21, val_main_v20, val_main_v19, val_main_v16, val_main_cst_4, val_main_cst_5]

theorem ref_loss (j : Fin 128) : val_main_v50 (F := Ideal) x0 x1 x2 (ix2 0 j) = ∑ r : Fin 4096, rowLoss x0 x1 x2 r := by
  unfold rowLoss
  rw [half_eq, ← Cert.Math.coe_mul_sum _ (by norm_num)]
  simp only [← ref_mean]
  pointwise [val_main_v50, val_main_v23, val_main_v22, val_main_cst_6, val_main_cst_7]
  rw [half_eq]

/-- The two terms of a row's number; nothing beyond the last row. -/
def dgRow (j : Fin 1024) (R : ℕ) : EReal := if h : R < 4096 then rowTerm x0 x1 x2 j ⟨R, h⟩ else 0

def lossRow (R : ℕ) : EReal := if h : R < 4096 then rowLoss x0 x1 x2 ⟨R, h⟩ else 0

end Reference

/-! ## Put together -/

open Cert.Reference38Ideal.Read

/-! The arrays the reference leaves, of the kernel's arguments. -/

abbrev G3 (c : Dev nD) : Buf (Elt Ideal) ((c : Thread nD τ).loc main_v0_0) :=
  Cert.Reference38Ideal.Read.val_main_v48 (F := Ideal) (m ((c : Thread nD τ).loc main_arg0)) (m ((c : Thread nD τ).loc main_arg1)) (m ((c : Thread nD τ).loc main_arg2))

abbrev G4 (c : Dev nD) : Buf (Elt Ideal) ((c : Thread nD τ).loc main_v0_1) :=
  Cert.Reference38Ideal.Read.val_main_v49 (F := Ideal) (m ((c : Thread nD τ).loc main_arg0)) (m ((c : Thread nD τ).loc main_arg1)) (m ((c : Thread nD τ).loc main_arg2))

abbrev G5 (c : Dev nD) : Buf (Elt Ideal) ((c : Thread nD τ).loc main_v0_2) :=
  Cert.Reference38Ideal.Read.val_main_v32 (F := Ideal) (m ((c : Thread nD τ).loc main_arg0)) (m ((c : Thread nD τ).loc main_arg1)) (m ((c : Thread nD τ).loc main_arg2))

abbrev G6 (c : Dev nD) : Buf (Elt Ideal) ((c : Thread nD τ).loc main_v0_3) :=
  Cert.Reference38Ideal.Read.val_main_v50 (F := Ideal) (m ((c : Thread nD τ).loc main_arg0)) (m ((c : Thread nD τ).loc main_arg1)) (m ((c : Thread nD τ).loc main_arg2))

theorem rstd_eq (c : Dev nD) (t : Fin cfg0.N) (r : Fin 512) :
    k0_pay6 (iblk m c 0 t) (ix2 r 0) = val_main_v7 (F := Ideal) (m ((c : Thread nD τ).loc main_arg0)) (ix2 (row t r) 0) := by
  rw [rstd_apply, ref_rstd, ref_ms]
  simp only [iblk0_apply]

theorem err_eq (c : Dev nD) (t : Fin cfg0.N) (r : Fin 512) (j : Fin 1024) :
    k0_pay8 (iblk m c 0 t) (iblk m c 1 t) (iblk m c 2 t) (ix2 r j) = val_main_v15 (F := Ideal) (m ((c : Thread nD τ).loc main_arg0)) (m ((c : Thread nD τ).loc main_arg1)) (m ((c : Thread nD τ).loc main_arg2)) (ix2 (row t r) j) := by
  rw [err_apply, ref_err]
  simp only [rstd_eq, iblk0_apply, iblk1_apply, iblk2_apply]

theorem dy_eq (c : Dev nD) (t : Fin cfg0.N) (r : Fin 512) (j : Fin 1024) :
    k0_pay10 (iblk m c 0 t) (iblk m c 1 t) (iblk m c 2 t) (ix2 r j) = val_main_v29 (F := Ideal) (m ((c : Thread nD τ).loc main_arg0)) (m ((c : Thread nD τ).loc main_arg1)) (m ((c : Thread nD τ).loc main_arg2)) (ix2 (row t r) j) := by
  rw [dy_apply, ref_dy, err_eq]

/-- The gradient of the norm's argument: the kernel's form of a row and the derivative's agree. -/
theorem dx_eq (c : Dev nD) (t : Fin cfg0.N) (r : Fin 512) (j : Fin 1024) :
    k0_pay11 (iblk m c 0 t) (iblk m c 1 t) (iblk m c 2 t) (ix2 r j) = G3 m c (ix2 (row t r) j) := by
  unfold G3
  rw [dx_apply, ref_dx, ref_back]
  simp only [dy_eq, rstd_eq, iblk0_apply, iblk2_apply]
  obtain ⟨e, he, hee⟩ := Cert.Math.ofBits_eps
  have hv := ref_ms (m ((c : Thread nD τ).loc main_arg0)) (row t r)
  have hs := ref_rstd (m ((c : Thread nD τ).loc main_arg0)) (row t r)
  rw [Cert.Math.ofBits_1024, hee] at hv
  rw [Cert.Math.ofBits_1024, Cert.Math.ofBits_neg_half]
  exact Cert.Math.rms_row (fun k : Fin 1024 => (m ((c : Thread nD τ).loc main_arg0)) (ix2 (row t r) k))
    (fun k => val_main_v29 (F := Ideal) (m ((c : Thread nD τ).loc main_arg0)) (m ((c : Thread nD τ).loc main_arg1)) (m ((c : Thread nD τ).loc main_arg2)) (ix2 (row t r) k) * (m ((c : Thread nD τ).loc main_arg2)) (ix2 0 k)) 1024 e (by norm_num) he j _ _ hv hs

theorem flushed3_eq (c : Dev nD) (t : Fin cfg0.N) :
    (dats m 0 c).flushed 3 t = ((cfg0.win 3).blk t).view.read (Elt Ideal) (G3 m c) := by
  rw [Value.flushed3]
  obtain ⟨e0, e1⟩ := idx3 t
  funext y
  show (outsAt0 m c t.val t.isLt).1 y = G3 m c ((win0_3.rect t).emb y)
  obtain ⟨r, j, rfl⟩ : ∃ (r : Fin 512) (j : Fin 1024), y = ix2 r j := ⟨y 0, y 1, eq_ix2 y⟩
  have hemb : (win0_3.rect t).emb (ix2 r j) = ix2 (row t r) j := by
    refine Shape.idx_ext₂ ?_ ?_
    · rw [win0_3.rect_emb_val, e0]; rfl
    · rw [win0_3.rect_emb_val, e1]; exact (Nat.zero_mul _).symm ▸ Nat.zero_add _
  rw [hemb]
  rw [outs_dx, dx_eq]

theorem flushed4_eq (c : Dev nD) (t : Fin cfg0.N) :
    (dats m 0 c).flushed 4 t = ((cfg0.win 4).blk t).view.read (Elt Ideal) (G4 m c) := by
  rw [Value.flushed4]
  obtain ⟨e0, e1⟩ := idx4 t
  funext y
  show (outsAt0 m c t.val t.isLt).2.1 y = G4 m c ((win0_4.rect t).emb y)
  obtain ⟨r, j, rfl⟩ : ∃ (r : Fin 512) (j : Fin 1024), y = ix2 r j := ⟨y 0, y 1, eq_ix2 y⟩
  have hemb : (win0_4.rect t).emb (ix2 r j) = ix2 (row t r) j := by
    refine Shape.idx_ext₂ ?_ ?_
    · rw [win0_4.rect_emb_val, e0]; rfl
    · rw [win0_4.rect_emb_val, e1]; exact (Nat.zero_mul _).symm ▸ Nat.zero_add _
  rw [hemb]
  unfold G4
  rw [outs_bf, bf_apply, dx_eq, ref_bf]

theorem cover3 (i : S4096x1024.Idx) : ∃ t : Fin cfg0.N, (cfg0.win 3).flush t = true ∧ i ∈ ((cfg0.win 3).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_3 _, ?_⟩
  set t : Fin cfg0.N := ⟨(i 0 : Nat) / 512, by omega⟩
  obtain ⟨e0, e1⟩ := idx3 t
  show i ∈ ((View.whole main_v0_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [e0]
    show (i 0 : Nat) / 512 * 512 ≤ (i 0 : Nat) ∧ (i 0 : Nat) < (i 0 : Nat) / 512 * 512 + 512
    omega
  | ⟨1, _⟩ =>
    show win0_3.index t 1 * 1024 ≤ (i 1 : Nat) ∧ (i 1 : Nat) < win0_3.index t 1 * 1024 + 1024
    rw [e1]; omega

theorem cover4 (i : S4096x1024.Idx) : ∃ t : Fin cfg0.N, (cfg0.win 4).flush t = true ∧ i ∈ ((cfg0.win 4).blk t).view.set := by
  have h0 : (i 0 : Nat) < 4096 := (i 0).isLt
  have h1 : (i 1 : Nat) < 1024 := (i 1).isLt
  have hN : cfg0.N = 8 := N_0
  refine ⟨⟨(i 0 : Nat) / 512, by omega⟩, flush0_4 _, ?_⟩
  set t : Fin cfg0.N := ⟨(i 0 : Nat) / 512, by omega⟩
  obtain ⟨e0, e1⟩ := idx4 t
  show i ∈ ((View.whole main_v0_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [e0]
    show (i 0 : Nat) / 512 * 512 ≤ (i 0 : Nat) ∧ (i 0 : Nat) < (i 0 : Nat) / 512 * 512 + 512
    omega
  | ⟨1, _⟩ =>
    show win0_4.index t 1 * 1024 ≤ (i 1 : Nat) ∧ (i 1 : Nat) < win0_4.index t 1 * 1024 + 1024
    rw [e1]; omega

/-- What one block adds to the gradient of the scale. -/
theorem dg_block (c : Dev nD) (t : Fin cfg0.N) (x : Vec Ideal S1x1024 .f32) (j : Fin 1024) :
    k0_pay3 (k0_pay12 (iblk m c 0 t) (iblk m c 1 t) (iblk m c 2 t)) x (ix2 0 j) = x (ix2 0 j) + ∑ r : Fin 512, dgRow (m ((c : Thread nD τ).loc main_arg0)) (m ((c : Thread nD τ).loc main_arg1)) (m ((c : Thread nD τ).loc main_arg2)) j (t.val * 512 + r.val) := by
  rw [dg_apply]
  refine congrArg _ (Finset.sum_congr rfl fun r _ => ?_)
  rw [dy_eq, rstd_eq, iblk0_apply, mul_comm]
  unfold dgRow
  rw [dif_pos (show t.val * 512 + r.val < 4096 from (row t r).isLt)]
  rfl

theorem dg_acc (c : Dev nD) (j : Fin 1024) : ∀ (n : ℕ) (hn : n < cfg0.N),
    (outsAt0 m c n hn).2.2.1 (ix2 0 j) = ∑ R ∈ Finset.range ((n + 1) * 512), dgRow (m ((c : Thread nD τ).loc main_arg0)) (m ((c : Thread nD τ).loc main_arg1)) (m ((c : Thread nD τ).loc main_arg2)) j R
  | 0, hn => by
    rw [outs_dg_first m c ⟨0, hn⟩ rfl, dg_block, dg_zero, Cert.Math.sum_range_block]
    rw [Nat.zero_mul, Finset.range_zero, Finset.sum_empty]
  | n + 1, hn => by
    have hN : cfg0.N = 8 := N_0
    rw [outs_dg_next m c ⟨n + 1, hn⟩ (by show ¬ (n + 1) % 8 = 0; omega), dg_block, Cert.Math.sum_range_block]
    exact congrArg (· + _) (dg_acc c j n (by omega))

/-- What one block adds to the loss. -/
theorem loss_block (c : Dev nD) (t : Fin cfg0.N) (x : Vec Ideal S1x128 .f32) (j : Fin 128) :
    k0_pay5 (k0_pay9 (iblk m c 0 t) (iblk m c 1 t) (iblk m c 2 t)) x (ix2 0 j) = x (ix2 0 j) + ∑ r : Fin 512, lossRow (m ((c : Thread nD τ).loc main_arg0)) (m ((c : Thread nD τ).loc main_arg1)) (m ((c : Thread nD τ).loc main_arg2)) (t.val * 512 + r.val) := by
  rw [loss_apply, half_sum]
  refine congrArg _ (Finset.sum_congr rfl fun r _ => ?_)
  simp only [err_eq]
  unfold lossRow
  rw [dif_pos (show t.val * 512 + r.val < 4096 from (row t r).isLt)]
  rfl

theorem loss_acc (c : Dev nD) (j : Fin 128) : ∀ (n : ℕ) (hn : n < cfg0.N),
    (outsAt0 m c n hn).2.2.2 (ix2 0 j) = ∑ R ∈ Finset.range ((n + 1) * 512), lossRow (m ((c : Thread nD τ).loc main_arg0)) (m ((c : Thread nD τ).loc main_arg1)) (m ((c : Thread nD τ).loc main_arg2)) R
  | 0, hn => by
    rw [outs_loss_first m c ⟨0, hn⟩ rfl, loss_block, loss_zero, Cert.Math.sum_range_block]
    rw [Nat.zero_mul, Finset.range_zero, Finset.sum_empty]
  | n + 1, hn => by
    have hN : cfg0.N = 8 := N_0
    rw [outs_loss_next m c ⟨n + 1, hn⟩ (by show ¬ (n + 1) % 8 = 0; omega), loss_block, Cert.Math.sum_range_block]
    exact congrArg (· + _) (loss_acc c j n (by omega))

theorem flushed5_eq (c : Dev nD) (t : Fin cfg0.N) (hf : (cfg0.win 5).flush t = true) :
    (dats m 0 c).flushed 5 t = ((cfg0.win 5).blk t).view.read (Elt Ideal) (G5 m c) := by
  rw [Value.flushed5]
  obtain ⟨e0, e1⟩ := idx5 t
  have hN : t.val < 8 := lt_of_lt_of_eq t.isLt N_0
  have hlast : t.val = 7 := by have := (flush0_5 t).mp hf; omega
  funext y
  show (outsAt0 m c t.val t.isLt).2.2.1 y = G5 m c ((win0_5.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_5.rect t).emb (ix2 0 j) = ix2 0 j := by
    refine Shape.idx_ext₂ ?_ ?_
    · rw [win0_5.rect_emb_val, e0]; exact (Nat.zero_mul _).symm ▸ Nat.zero_add _
    · rw [win0_5.rect_emb_val, e1]; exact (Nat.zero_mul _).symm ▸ Nat.zero_add _
  rw [hemb]
  rw [dg_acc]
  unfold G5
  rw [ref_dg, hlast, Finset.sum_range (fun R => dgRow (m ((c : Thread nD τ).loc main_arg0)) (m ((c : Thread nD τ).loc main_arg1)) (m ((c : Thread nD τ).loc main_arg2)) j R)]
  exact Finset.sum_congr rfl fun R _ => by unfold dgRow; rw [dif_pos R.isLt]

theorem flushed6_eq (c : Dev nD) (t : Fin cfg0.N) (hf : (cfg0.win 6).flush t = true) :
    (dats m 0 c).flushed 6 t = ((cfg0.win 6).blk t).view.read (Elt Ideal) (G6 m c) := by
  rw [Value.flushed6]
  obtain ⟨e0, e1⟩ := idx6 t
  have hN : t.val < 8 := lt_of_lt_of_eq t.isLt N_0
  have hlast : t.val = 7 := by have := (flush0_6 t).mp hf; omega
  funext y
  show (outsAt0 m c t.val t.isLt).2.2.2 y = G6 m c ((win0_6.rect t).emb y)
  obtain ⟨j, rfl⟩ : ∃ j : Fin 128, y = ix2 0 j :=
    ⟨y 1, (eq_ix2 y).trans (congrArg (fun a => ix2 a (y 1)) (Subsingleton.elim (α := Fin 1) _ _))⟩
  have hemb : (win0_6.rect t).emb (ix2 0 j) = ix2 0 j := by
    refine Shape.idx_ext₂ ?_ ?_
    · rw [win0_6.rect_emb_val, e0]; exact (Nat.zero_mul _).symm ▸ Nat.zero_add _
    · rw [win0_6.rect_emb_val, e1]; exact (Nat.zero_mul _).symm ▸ Nat.zero_add _
  rw [hemb]
  rw [loss_acc]
  unfold G6
  rw [ref_loss, hlast, Finset.sum_range (fun R => lossRow (m ((c : Thread nD τ).loc main_arg0)) (m ((c : Thread nD τ).loc main_arg1)) (m ((c : Thread nD τ).loc main_arg2)) R)]
  exact Finset.sum_congr rfl fun R _ => by unfold lossRow; rw [dif_pos R.isLt]

theorem cover5 (i : S1x1024.Idx) : ∃ t : Fin cfg0.N, (cfg0.win 5).flush t = true ∧ i ∈ ((cfg0.win 5).blk t).view.set := by
  have h0 : (i 0 : Nat) < 1 := (i 0).isLt
  have h1 : (i 1 : Nat) < 1024 := (i 1).isLt
  have hN : cfg0.N = 8 := N_0
  refine ⟨⟨7, by omega⟩, (flush0_5 _).mpr rfl, ?_⟩
  set t : Fin cfg0.N := ⟨7, by omega⟩
  obtain ⟨e0, e1⟩ := idx5 t
  show i ∈ ((View.whole main_v0_2).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [e0]; omega
  | ⟨1, _⟩ =>
    show win0_5.index t 1 * 1024 ≤ (i 1 : Nat) ∧ (i 1 : Nat) < win0_5.index t 1 * 1024 + 1024
    rw [e1]; omega

theorem cover6 (i : S1x128.Idx) : ∃ t : Fin cfg0.N, (cfg0.win 6).flush t = true ∧ i ∈ ((cfg0.win 6).blk t).view.set := by
  have h0 : (i 0 : Nat) < 1 := (i 0).isLt
  have h1 : (i 1 : Nat) < 128 := (i 1).isLt
  have hN : cfg0.N = 8 := N_0
  refine ⟨⟨7, by omega⟩, (flush0_6 _).mpr rfl, ?_⟩
  set t : Fin cfg0.N := ⟨7, by omega⟩
  obtain ⟨e0, e1⟩ := idx6 t
  show i ∈ ((View.whole main_v0_3).slice (win0_6.rect t)).set
  rw [View.set_slice_whole, Rect.mem_set_unit]
  intro a
  match a with
  | ⟨0, _⟩ =>
    show win0_6.index t 0 * 1 ≤ (i 0 : Nat) ∧ (i 0 : Nat) < win0_6.index t 0 * 1 + 1
    rw [e0]; omega
  | ⟨1, _⟩ =>
    show win0_6.index t 1 * 128 ≤ (i 1 : Nat) ∧ (i 1 : Nat) < win0_6.index t 1 * 128 + 128
    rw [e1]; omega

/-! ## The claim -/

/-- From equal arguments the kernel and the reference end with equal arrays. -/
theorem algebraic : Cert.algebraic_Kernel38Ideal_Reference38Ideal
    (hKernel38Ideal := Cert.Kernel38Ideal.Gen.facts) (hReference38Ideal := Cert.Reference38Ideal.Gen.facts) := by
  intro m g m' g' _ hargs
  refine ⟨fun c => G3 m c, fun c => G4 m c, fun c => G5 m c, fun c => G6 m c, ?_, ?_⟩
  · refine (θ_run (Cert.Kernel38Ideal.defs (F := Ideal)) _ _).mono (fun r h c => ?_) (Value.run_blocks m g)
    obtain ⟨a, b, d, e, h⟩ := h c
    exact ⟨a.trans ((dats m 0 c).arrAt_eq_of_cover 3 (G3 m c) (fun t _ => flushed3_eq m c t) cover3),
      b.trans ((dats m 0 c).arrAt_eq_of_cover 4 (G4 m c) (fun t _ => flushed4_eq m c t) cover4),
      d.trans ((dats m 0 c).arrAt_eq_of_cover 5 (G5 m c) (fun t hf => flushed5_eq m c t hf) cover5),
      e.trans ((dats m 0 c).arrAt_eq_of_cover 6 (G6 m c) (fun t hf => flushed6_eq m c t hf) cover6), h⟩
  · refine (θ_run (Cert.Reference38Ideal.defs (F := Ideal)) _ _).mono (fun r h c => ?_)
      (Cert.Reference38Ideal.Value.run (F := Ideal) m' g')
    obtain ⟨a, b, d, e, h⟩ := h c
    obtain ⟨e0, e1, e2⟩ := hargs c
    refine ⟨(a.trans (Cert.Reference38Ideal.Read.val_main_v48_eq _ _)).trans ?_, (b.trans (Cert.Reference38Ideal.Read.val_main_v49_eq _ _)).trans ?_, (d.trans (Cert.Reference38Ideal.Read.val_main_v32_eq _ _ _)).trans ?_, (e.trans (Cert.Reference38Ideal.Read.val_main_v50_eq _ _ _)).trans ?_, h⟩
    · rw [e0, e1, e2]
    · rw [e0, e1, e2]
    · rw [e0, e1, e2]
    · rw [e0, e1, e2]

end Cert.LossHead

end
-- ==== Proof.Val39.lean ====
/- The value of the multi-scale pooling: the kernel's eight blocks of 512 rows, put together, are the reference's array.
   The kernel adds each window by doubling: pairs, fours, eights, sixteens, of a block and the sixteen rows before it. The
   reference takes a running sum and subtracts from it the running sum a window earlier. -/
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import proofs.«01_k».proof.Proof.Math
public import proofs.«01_k».proof.Proof.Pool
public import Idealize.ShloMosaic.Lib.Pointwise
public import Idealize.ShloMosaic.Lib.KernelVsHost

@[expose] public section

noncomputable section

namespace Cert.PoolFwd

open Cert.Kernel39Ideal Cert.Kernel39Ideal.Gen Idealize.ShloMosaic Idealize.ShloMosaic.TcCoe Idealize.SL.Sem
open Idealize.ShloMosaic.Pipeline (Dat Window)
open Cert.Pool

variable (m : (ℓ : Loc nD τ sig) → Buf (Elt Ideal) ℓ)

theorem lt_N (t : Fin cfg0.N) : t.val < 8 := lt_of_lt_of_eq t.isLt N_0

/-- Row `r` of block `t`. -/
def row (t : Fin cfg0.N) (r : Fin 512) : Fin 4096 := ⟨t.val * 512 + r.val, by have := lt_N t; omega⟩

/-- A pooled channel among all channels. -/
def wide (k : Fin 768) : Fin 1024 := ⟨k.val, by omega⟩

theorem idx_facts : ∀ t : Fin cfg0.N, win0_0.index t 0 = t.val ∧ win0_0.index t 1 = 0
    ∧ (0 < t.val → win0_1.index t 0 + 1 = t.val * 32) ∧ win0_1.index t 1 = 0
    ∧ win0_2.index t 0 = t.val ∧ win0_2.index t 1 = 0 ∧ ((grid0.coords t) 0).val = t.val :=
  (by decide +kernel : ∀ t : Fin grid0.N, win0_0.index t 0 = t.val ∧ win0_0.index t 1 = 0
    ∧ (0 < t.val → win0_1.index t 0 + 1 = t.val * 32) ∧ win0_1.index t 1 = 0
    ∧ win0_2.index t 0 = t.val ∧ win0_2.index t 1 = 0 ∧ ((grid0.coords t) 0).val = t.val)

theorem iblk0_apply (c : Dev nD) (t : Fin cfg0.N) (r : Fin 512) (k : Fin 768) :
    X0_0 m c t (ix2 r k) = m ((c : Thread nD τ).loc main_arg0) (ix2 (row t r) (wide k)) := by
  obtain ⟨h0, h1, -⟩ := idx_facts t
  unfold X0_0 Pipeline.Window.fill
  rw [dif_pos (moved0_0 t _)]
  show m ((c : Thread nD τ).loc main_arg0) ((win0_0.rect t).emb _) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (ht : 0 < t.val) (r : Fin 16) (k : Fin 768) :
    X0_1 m c t (ix2 r k)
      = m ((c : Thread nD τ).loc main_arg0) (ix2 ⟨t.val * 512 + r.val - 16, by have := lt_N t; omega⟩ (wide k)) := by
  obtain ⟨-, -, h0, h1, -⟩ := idx_facts t
  have h0 := h0 ht
  unfold X0_1 Pipeline.Window.fill
  rw [dif_pos (moved0_1 t _)]
  show m ((c : Thread nD τ).loc main_arg0) ((win0_1.rect t).emb _) = _
  refine congrArg _ (Shape.idx_ext₂ ?_ ?_)
  · rw [win0_1.rect_emb_val]
    show win0_1.index t 0 * 16 + r.val = t.val * 512 + r.val - 16
    omega
  · rw [win0_1.rect_emb_val, h1]; show 0 * 768 + k.val = k.val; omega

/-! ## Windows and running sums of one channel -/

section Sums

/-- A channel's entries, and nothing after the last row. -/
def entry (ρ : Fin 4096 → Fin 768 → ℝ) (c : Fin 768) (n : ℕ) : ℝ := if h : n < 4096 then ρ ⟨n, h⟩ c else 0

/-- The same with sixteen empty rows before the first. -/
def late (ρ : Fin 4096 → Fin 768 → ℝ) (c : Fin 768) (n : ℕ) : ℝ := if 16 ≤ n then entry ρ c (n - 16) else 0

/-- The sum of the first `n` entries. -/
def total (ρ : Fin 4096 → Fin 768 → ℝ) (c : Fin 768) (n : ℕ) : ℝ := ∑ i ∈ Finset.range n, entry ρ c i

variable (ρ : Fin 4096 → Fin 768 → ℝ) (c : Fin 768)

/-- A window is the difference of two running sums. -/
theorem window_eq (R w : ℕ) (hw : w ≤ 16) :
    total ρ c (R + 1) - total ρ c (R + 1 - w) = ∑ k ∈ Finset.range w, late ρ c (R + 16 - k) := by
  induction w with
  | zero => simp
  | succ w ih =>
    rw [Finset.sum_range_succ, ← ih (by omega)]
    unfold late
    by_cases h : w ≤ R
    · rw [if_pos (by omega)]
      have e : R + 1 - w = (R + 1 - (w + 1)) + 1 := by omega
      have e' : R + 16 - w - 16 = R + 1 - (w + 1) := by omega
      rw [e, e']
      unfold total
      generalize R + 1 - (w + 1) = d
      rw [Finset.sum_range_succ _ d]
      ring
    · rw [if_neg (by omega), show R + 1 - w = 0 by omega, show R + 1 - (w + 1) = 0 by omega, add_zero]

end Sums

/-! ## The kernel -/

section Kernel

theorem width_word : ∀ c : Fin 768,
    Scalar.select (IntOp.cmpi .slt (BitVec.ofNat 32 c.val) 192#32) 2#32
      (Scalar.select (IntOp.cmpi .slt (BitVec.ofNat 32 c.val) 384#32) 4#32
        (Scalar.select (IntOp.cmpi .slt (BitVec.ofNat 32 c.val) 576#32) 8#32 16#32)) = word c := by
  decide +kernel

theorem column_apply (n : Fin 528) (c : Fin 768) :
    iota .tc S528x768 32 [1] iota_S528x768_d1_w32 (ix2 n c) = BitVec.ofNat 32 c.val := by
  show BitVec.ofNat 32 (0 * 768 + c.val) = _
  rw [Nat.zero_mul, Nat.zero_add]

theorem row_apply (n : Fin 528) (c : Fin 768) :
    iota .tc S528x768 32 [0] iota_S528x768_d0_w32 (ix2 n c) = BitVec.ofNat 32 n.val := by
  show BitVec.ofNat 32 (0 * 528 + n.val) = _
  rw [Nat.zero_mul, Nat.zero_add]

theorem pay2_apply (n : Fin 528) (c : Fin 768) : k0_pay2 (ix2 n c) = word c := by
  rw [← width_word c, ← column_apply n c]
  rfl

/-- The sixteen rows before a block, then the block. -/
def ext (i : grid0.Coords) (v0 : Vec Ideal S512x768 .f32) (v2 : Vec Ideal S16x768 .f32) : FVec Ideal S528x768 .f32 :=
  concatenate S528x768 0 [⟨S16x768, Scalar.select (Scalar.cmpi .eq (BitVec.ofNat 32 (i 0).val) 0#32)
    (broadcast S16x768 (Scalar.ofBits (F := Ideal) .f32 0x00000000#32)) v2⟩, ⟨S512x768, v0⟩]
    concatenates_S16x768_S512x768_S528x768_d0

/-- Sums of two, four, eight and sixteen rows. -/
def two (x : FVec Ideal S528x768 .f32) : FVec Ideal S528x768 .f32 := addf x (dynamicRotate 0 1#32 none x rotates_S528x768_d0)
def four (x : FVec Ideal S528x768 .f32) : FVec Ideal S528x768 .f32 :=
  addf (two x) (dynamicRotate 0 2#32 none (two x) rotates_S528x768_d0)
def eight (x : FVec Ideal S528x768 .f32) : FVec Ideal S528x768 .f32 :=
  addf (four x) (dynamicRotate 0 4#32 none (four x) rotates_S528x768_d0)
def sixteen (x : FVec Ideal S528x768 .f32) : FVec Ideal S528x768 .f32 :=
  addf (eight x) (dynamicRotate 0 8#32 none (eight x) rotates_S528x768_d0)

theorem pay3_eq (i : grid0.Coords) (v0 : Vec Ideal S512x768 .f32) (v2 : Vec Ideal S16x768 .f32) :
    k0_pay3 i v0 v2 = select (cmpi .eq k0_pay2 (broadcast S528x768 2#32)) (two (ext i v0 v2))
      (select (cmpi .eq k0_pay2 (broadcast S528x768 4#32)) (four (ext i v0 v2))
        (select (cmpi .eq k0_pay2 (broadcast S528x768 8#32)) (eight (ext i v0 v2)) (sixteen (ext i v0 v2)))) := rfl

/-- A rotation by `k` rows reads `k` rows back. -/
theorem rotate_apply (sb : BitVec 32) (k : ℕ) (hsb : sb.toNat = k) (x : S528x768.Idx → EReal)
    (h : S528x768.Rotates 0 none) (n : Fin 528) (hn : k ≤ n.val) (c : Fin 768) :
    dynamicRotate (0 : Fin 2) sb none x h (ix2 n c) = x (ix2 ⟨n.val - k, by omega⟩ c) := by
  refine dynamicRotate_apply (s := S528x768) 0 sb x h _ _ fun b => ?_
  match b with
  | ⟨0, _⟩ =>
    show n.val - k = (n.val + 528 - sb.toNat % 528) % 528
    rw [hsb, Nat.mod_eq_of_lt (by omega : k < 528), show n.val + 528 - k = n.val - k + 528 by omega, Nat.add_mod_right,
      Nat.mod_eq_of_lt (by omega)]
  | ⟨1, _⟩ => rfl

theorem ext_apply (c : Dev nD) (t : Fin cfg0.N) (ρ : Fin 4096 → Fin 768 → ℝ)
    (hρ : ∀ R k, m ((c : Thread nD τ).loc main_arg0) (ix2 R (wide k)) = (ρ R k : EReal)) (n : Fin 528) (j : Fin 768) :
    ext (grid0.coords t) (X0_0 m c t) (X0_1 m c t) (ix2 n j) = (late ρ j (t.val * 512 + n.val) : EReal) := by
  have ht := lt_N t
  obtain ⟨-, -, -, -, -, -, hc⟩ := idx_facts t
  unfold ext late
  by_cases hn : n.val < 16
  · rw [concatenate_pair_apply_left (t := S528x768) (s₁ := S16x768) (s₂ := S512x768) 0 _ _ _ (ix2 n j) rfl (ix2 ⟨n.val, hn⟩ j)
      (fun b => by match b with | ⟨0, _⟩ => rfl | ⟨1, _⟩ => rfl), hc]
    by_cases h0 : t.val = 0
    · have e : Scalar.select (α := Vec Ideal S16x768 .f32) (Scalar.cmpi .eq (BitVec.ofNat 32 t.val) 0#32)
          (broadcast S16x768 (Scalar.ofBits (F := Ideal) .f32 0x00000000#32)) (X0_1 m c t)
          = broadcast S16x768 (Scalar.ofBits (F := Ideal) .f32 0x00000000#32) := by rw [h0]; rfl
      rw [e, if_neg (by omega)]
      show Ideal.ofBits .f32 0x00000000#32 = _
      simp [Ideal.ofBits, Ideal.ieee]
    · have e : Scalar.select (α := Vec Ideal S16x768 .f32) (Scalar.cmpi .eq (BitVec.ofNat 32 t.val) 0#32)
          (broadcast S16x768 (Scalar.ofBits (F := Ideal) .f32 0x00000000#32)) (X0_1 m c t) = X0_1 m c t := by
        have : ∀ t : Fin 8, t.val ≠ 0 → Scalar.cmpi .eq (BitVec.ofNat 32 t.val) 0#32 = 0#1 := by decide
        rw [show Scalar.cmpi .eq (BitVec.ofNat 32 t.val) 0#32 = 0#1 from this ⟨t.val, by omega⟩ h0]
        rfl
      rw [e, iblk1_apply m c t (by omega), if_pos (by omega), hρ]
      unfold entry
      rw [dif_pos (by omega)]
  · rw [concatenate_pair_apply_right (t := S528x768) (s₁ := S16x768) (s₂ := S512x768) 0 _ _ _ (ix2 n j) rfl rfl
      (ix2 ⟨n.val - 16, by omega⟩ j)
      (fun b hb => by match b with | ⟨0, _⟩ => exact absurd rfl hb | ⟨1, _⟩ => rfl)
      (by show n.val - 16 + 16 = n.val; omega), iblk0_apply, hρ, if_pos (by omega)]
    unfold entry
    rw [dif_pos (by omega)]
    refine congrArg (fun R => (ρ R j : EReal)) (Fin.ext ?_)
    show t.val * 512 + (n.val - 16) = t.val * 512 + n.val - 16
    omega

variable (x : FVec Ideal S528x768 .f32) (z : ℕ → ℝ) (b : ℕ) (j : Fin 768) (hz : ∀ n : Fin 528, x (ix2 n j) = (z (b + n.val) : EReal))
include hz

theorem two_apply (n : Fin 528) (hn : 1 ≤ n.val) :
    two x (ix2 n j) = ((∑ k ∈ Finset.range 2, z (b + n.val - k) : ℝ) : EReal) := by
  show x (ix2 n j) + dynamicRotate 0 1#32 none x rotates_S528x768_d0 (ix2 n j) = _
  rw [rotate_apply 1#32 1 rfl _ _ n hn, hz, hz, ← EReal.coe_add, Finset.sum_range_succ, Finset.sum_range_one]
  show ((z (b + n.val) + z (b + (n.val - 1)) : ℝ) : EReal) = _
  rw [← Nat.add_sub_assoc hn, Nat.sub_zero]

theorem four_apply (n : Fin 528) (hn : 3 ≤ n.val) :
    four x (ix2 n j) = ((∑ k ∈ Finset.range 4, z (b + n.val - k) : ℝ) : EReal) := by
  show two x (ix2 n j) + dynamicRotate 0 2#32 none (two x) rotates_S528x768_d0 (ix2 n j) = _
  rw [rotate_apply 2#32 2 rfl _ _ n (by omega), two_apply x z b j hz n (by omega),
    two_apply x z b j hz _ (by show 1 ≤ n.val - 2; omega), ← EReal.coe_add, Finset.sum_range_add _ 2 2]
  have e : ∀ k, b + (n.val - 2) - k = b + n.val - (2 + k) := fun k => by omega
  simp only [e]

theorem eight_apply (n : Fin 528) (hn : 7 ≤ n.val) :
    eight x (ix2 n j) = ((∑ k ∈ Finset.range 8, z (b + n.val - k) : ℝ) : EReal) := by
  show four x (ix2 n j) + dynamicRotate 0 4#32 none (four x) rotates_S528x768_d0 (ix2 n j) = _
  rw [rotate_apply 4#32 4 rfl _ _ n (by omega), four_apply x z b j hz n (by omega),
    four_apply x z b j hz _ (by show 3 ≤ n.val - 4; omega), ← EReal.coe_add, Finset.sum_range_add _ 4 4]
  have e : ∀ k, b + (n.val - 4) - k = b + n.val - (4 + k) := fun k => by omega
  simp only [e]

theorem sixteen_apply (n : Fin 528) (hn : 15 ≤ n.val) :
    sixteen x (ix2 n j) = ((∑ k ∈ Finset.range 16, z (b + n.val - k) : ℝ) : EReal) := by
  show eight x (ix2 n j) + dynamicRotate 0 8#32 none (eight x) rotates_S528x768_d0 (ix2 n j) = _
  rw [rotate_apply 8#32 8 rfl _ _ n (by omega), eight_apply x z b j hz n (by omega),
    eight_apply x z b j hz _ (by show 7 ≤ n.val - 8; omega), ← EReal.coe_add, Finset.sum_range_add _ 8 8]
  have e : ∀ k, b + (n.val - 8) - k = b + n.val - (8 + k) := fun k => by omega
  simp only [e]

end Kernel

/-- The pooled entry: the window's sum over the number of its rows, less the entry. -/
def pooled (ρ : Fin 4096 → Fin 768 → ℝ) (R : ℕ) (j : Fin 768) (x : EReal) : EReal :=
  Ideal.div ((∑ k ∈ Finset.range (width j), late ρ j (R + 16 - k) : ℝ) : EReal)
    ((((count (word j) R).toInt : ℤ) : ℝ) : EReal) - x

theorem pay1_apply (i : grid0.Coords) (v0 : Vec Ideal S512x768 .f32) (v2 : Vec Ideal S16x768 .f32) (ρ : Fin 4096 → Fin 768 → ℝ)
    (b : ℕ) (hb : (i 0).val * 512 = b) (j : Fin 768) (hz : ∀ n : Fin 528, ext i v0 v2 (ix2 n j) = (late ρ j (b + n.val) : EReal))
    (r : Fin 512) :
    k0_pay1 (BitVec.ofNat 32 (i 0).val) v0 (iota .tc S528x768 32 [0] iota_S528x768_d0_w32) k0_pay2 (k0_pay3 i v0 v2) 512#32 (ix2 r j)
      = pooled ρ (b + r.val) j (v0 (ix2 r j)) := by
  have hn : r.val + 16 < 528 := by omega
  have e3 : k0_pay3 i v0 v2 (ix2 ⟨r.val + 16, hn⟩ j)
      = ((∑ k ∈ Finset.range (width j), late ρ j (b + r.val + 16 - k) : ℝ) : EReal) := by
    rw [pay3_eq]
    show Scalar.select (IntOp.cmpi .eq (k0_pay2 (ix2 ⟨r.val + 16, hn⟩ j)) 2#32) (two (ext i v0 v2) (ix2 ⟨r.val + 16, hn⟩ j))
      (Scalar.select (IntOp.cmpi .eq (k0_pay2 (ix2 ⟨r.val + 16, hn⟩ j)) 4#32) (four (ext i v0 v2) (ix2 ⟨r.val + 16, hn⟩ j))
        (Scalar.select (IntOp.cmpi .eq (k0_pay2 (ix2 ⟨r.val + 16, hn⟩ j)) 8#32) (eight (ext i v0 v2) (ix2 ⟨r.val + 16, hn⟩ j))
          (sixteen (ext i v0 v2) (ix2 ⟨r.val + 16, hn⟩ j)))) = _
    rw [pay2_apply, two_apply _ _ b j hz _ (by show 1 ≤ r.val + 16; omega), four_apply _ _ b j hz _ (by show 3 ≤ r.val + 16; omega),
      eight_apply _ _ b j hz _ (by show 7 ≤ r.val + 16; omega), sixteen_apply _ _ b j hz _ (by show 15 ≤ r.val + 16; omega)]
    simp only [← Nat.add_assoc]
    unfold word width
    split_ifs <;> rfl
  have hcnt : IntOp.minsi (BitVec.ofNat 32 (i 0).val * 512#32
      + iota .tc S528x768 32 [0] iota_S528x768_d0_w32 (ix2 ⟨r.val + 16, hn⟩ j) - 16#32 + 1#32) (k0_pay2 (ix2 ⟨r.val + 16, hn⟩ j))
      = count (word j) (b + r.val) := by
    rw [pay2_apply, row_apply]
    unfold Pool.count
    congr 1
    show BitVec.ofNat 32 (i 0).val * 512#32 + BitVec.ofNat 32 (r.val + 16) - 16#32 + 1#32 = _
    rw [BitVec.ofNat_add, ← BitVec.add_assoc, BitVec.add_sub_cancel, ← hb, BitVec.ofNat_add, BitVec.ofNat_add, BitVec.ofNat_mul]
  have e : k0_pay1 (BitVec.ofNat 32 (i 0).val) v0 (iota .tc S528x768 32 [0] iota_S528x768_d0_w32) k0_pay2 (k0_pay3 i v0 v2) 512#32
        (ix2 r j)
      = Ideal.div (k0_pay3 i v0 v2 (ix2 ⟨r.val + 16, hn⟩ j))
        ((((IntOp.minsi (BitVec.ofNat 32 (i 0).val * 512#32
          + iota .tc S528x768 32 [0] iota_S528x768_d0_w32 (ix2 ⟨r.val + 16, hn⟩ j) - 16#32 + 1#32)
            (k0_pay2 (ix2 ⟨r.val + 16, hn⟩ j))).toInt : ℤ) : ℝ) : EReal) - v0 (ix2 r j) := by
    have hs : ∀ {α : Type} (y : S528x768.Idx → α) (h), extractStridedSlice S512x768 ![16, 0] y h (ix2 r j)
        = y (ix2 ⟨r.val + 16, hn⟩ j) := fun y h => congrArg y (Shape.idx_ext₂ (Nat.add_comm _ _) (Nat.zero_add _))
    rw [← hs k0_pay2 slices_S528x768_o16_0_S512x768, ← hs (k0_pay3 i v0 v2) slices_S528x768_o16_0_S512x768,
      ← hs (iota .tc S528x768 32 [0] iota_S528x768_d0_w32) slices_S528x768_o16_0_S512x768]
    rfl
  rw [e, e3, hcnt]
  rfl

/-- What a point writes. -/
theorem outs_eq (c : Dev nD) (t : Fin cfg0.N) : outsAt0 m c t
    = k0_pay1 (BitVec.ofNat 32 ((grid0.coords t) 0).val) (X0_0 m c t) (iota .tc S528x768 32 [0] iota_S528x768_d0_w32) k0_pay2
      (k0_pay3 (grid0.coords t) (X0_0 m c t) (X0_1 m c t)) 512#32 := by
  have hz0 : (![0, 0] : Fin S512x768.rank → Nat) = fun _ => 0 := funext fun a => by fin_cases a <;> rfl
  have hz1 : (![0, 0] : Fin S16x768.rank → Nat) = fun _ => 0 := funext fun a => by fin_cases a <;> rfl
  unfold outsAt0 out0_A_2
  refine (View.read_writes_eq_canon _ _ _ fun y => cover0_A_2 ..).trans ?_
  unfold kernelRun0_A
  dsimp only
  sl_unfold_words
  simp only [View.readAt_eq_ld, (hs0_0 t).read_unread, (hs0_1 t).read_unread, View.ld_unit_zero (S := S512x768) hz0,
    View.ld_unit_zero (S := S16x768) hz1, View.canon_unit_zero (S := S512x768) hz0]

/-! ## The reference, entry by entry -/

section Reference
open Cert.Reference39Ideal.Read

variable (ρ : Fin 4096 → Fin 768 → ℝ)

theorem zero_bits : Ideal.ofBits .f32 0x00000000#32 = (0 : EReal) := by simp [Ideal.ofBits, Ideal.ieee]

variable (x0 : (⟨S4096x1024, .f32⟩ : BufTy).Contents (Elt Ideal)) (hρ : ∀ R k, x0 (ix2 R (wide k)) = (ρ R k : EReal))

theorem ref_slice (R : Fin 4096) (c : Fin 768) : val_main_v0 (F := Ideal) x0 (ix2 R c) = x0 (ix2 R (wide c)) := by
  rw [val_main_v0_apply]
  exact congrArg x0 (Shape.idx_ext₂ rfl rfl)

include hρ

/-- The running sum. -/
theorem ref_total (R : Fin 4096) (c : Fin 768) : val_main_v1 (F := Ideal) x0 (ix2 R c) = (total ρ c (R.val + 1) : EReal) := by
  unfold val_main_v1
  rw [Pool.prefix_sum _ _ _ _ zero_bits]
  have e : ∀ n : Fin 4096, (if h : 4095 ≤ R.val + n.val then
      val_main_v0 (F := Ideal) x0 (ix2 ⟨R.val + n.val - 4095, by omega⟩ c) else (0 : EReal))
      = ((if 4095 ≤ R.val + n.val then entry ρ c (R.val + n.val - 4095) else 0 : ℝ) : EReal) := fun n => by
    by_cases h : 4095 ≤ R.val + n.val
    · rw [dif_pos h, if_pos h, ref_slice, hρ, entry, dif_pos (by omega)]
    · rw [dif_neg h, if_neg h, EReal.coe_zero]
  simp only [e]
  rw [Fin.sum_univ_eq_sum_range (fun n => ((if 4095 ≤ R.val + n then entry ρ c (R.val + n - 4095) else 0 : ℝ) : EReal)),
    Cert.Math.sum_coe]
  refine congrArg _ ?_
  obtain ⟨d, hd⟩ : ∃ d, d + (R.val + 1) = 4096 := ⟨4096 - (R.val + 1), by omega⟩
  have key : ∀ r : ℕ, d + (r + 1) = 4096 →
      (∑ n ∈ Finset.range 4096, if 4095 ≤ r + n then entry ρ c (r + n - 4095) else 0) = total ρ c (r + 1) := by
    intro r hd
    rw [← hd, Finset.sum_range_add, Finset.sum_eq_zero (fun k hk => if_neg (by have := Finset.mem_range.mp hk; omega)), zero_add]
    refine Finset.sum_congr rfl fun k _ => ?_
    rw [if_pos (by omega)]
    exact congrArg _ (by omega)
  exact key R.val hd

/-- The group of columns from 0 on, whose windows hold 2 rows. -/
theorem ref_sum2 (R : Fin 4096) (j : Fin 192) :
    val_main_v3 (F := Ideal) x0 (ix2 R j) = (total ρ ⟨0 + j.val, by omega⟩ (R.val + 1) : EReal) := by
  rw [val_main_v3_apply, ← ref_total ρ x0 hρ]
  exact congrArg _ (Shape.idx_ext₂ rfl (Nat.zero_add _).symm)

theorem ref_prev2 (R : Fin 4096) (j : Fin 192) :
    val_main_v6 (F := Ideal) x0 (ix2 R j) = (total ρ ⟨0 + j.val, by omega⟩ (R.val + 1 - 2) : EReal) := by
  unfold val_main_v6
  by_cases h : R.val < 2
  · rw [concatenate_pair_apply_left (t := Cert.Reference39Ideal.S4096x192) (s₁ := Cert.Reference39Ideal.S2x192)
      (s₂ := Cert.Reference39Ideal.S4094x192) 0 _ _ _ (ix2 R j) rfl (ix2 ⟨R.val, h⟩ j)
      (fun b => by match b with | ⟨0, _⟩ => rfl | ⟨1, _⟩ => rfl), show R.val + 1 - 2 = 0 by omega]
    show Ideal.ofBits .f32 0x00000000#32 = _
    rw [zero_bits]
    rfl
  · rw [concatenate_pair_apply_right (t := Cert.Reference39Ideal.S4096x192) (s₁ := Cert.Reference39Ideal.S2x192)
      (s₂ := Cert.Reference39Ideal.S4094x192) 0 _ _ _ (ix2 R j) rfl rfl (ix2 ⟨R.val - 2, by omega⟩ j)
      (fun b hb => by match b with | ⟨0, _⟩ => exact absurd rfl hb | ⟨1, _⟩ => rfl)
      (by show R.val - 2 + 2 = R.val; omega), val_main_v5_apply,
      show R.val + 1 - 2 = R.val - 2 + 1 by omega, ← ref_sum2 ρ x0 hρ ⟨R.val - 2, by omega⟩ j]
    exact congrArg _ (Shape.idx_ext₂ rfl rfl)

theorem ref_mean2 (R : Fin 4096) (j : Fin 192) :
    val_main_v15 (F := Ideal) x0 (ix2 R j)
      = Ideal.div ((∑ k ∈ Finset.range 2, late ρ ⟨0 + j.val, by omega⟩ (R.val + 16 - k) : ℝ) : EReal)
        ((((count 2#32 R.val).toInt : ℤ) : ℝ) : EReal) := by
  have hc : val_main_v14 (F := Ideal) (ix2 R j) = ((((count 2#32 R.val).toInt : ℤ) : ℝ) : EReal) := by
    unfold Pool.count
    rw [BitVec.ofNat_add]
    rfl
  rw [val_main_v15_apply, hc, val_main_v13_apply, ref_sum2 ρ x0 hρ, ref_prev2 ρ x0 hρ, ← window_eq ρ _ _ 2 (by omega), EReal.coe_sub]
  rfl

/-- The group of columns from 192 on, whose windows hold 4 rows. -/
theorem ref_sum4 (R : Fin 4096) (j : Fin 192) :
    val_main_v16 (F := Ideal) x0 (ix2 R j) = (total ρ ⟨192 + j.val, by omega⟩ (R.val + 1) : EReal) := by
  rw [val_main_v16_apply, ← ref_total ρ x0 hρ]
  exact congrArg _ (Shape.idx_ext₂ rfl rfl)

theorem ref_prev4 (R : Fin 4096) (j : Fin 192) :
    val_main_v19 (F := Ideal) x0 (ix2 R j) = (total ρ ⟨192 + j.val, by omega⟩ (R.val + 1 - 4) : EReal) := by
  unfold val_main_v19
  by_cases h : R.val < 4
  · rw [concatenate_pair_apply_left (t := Cert.Reference39Ideal.S4096x192) (s₁ := Cert.Reference39Ideal.S4x192)
      (s₂ := Cert.Reference39Ideal.S4092x192) 0 _ _ _ (ix2 R j) rfl (ix2 ⟨R.val, h⟩ j)
      (fun b => by match b with | ⟨0, _⟩ => rfl | ⟨1, _⟩ => rfl), show R.val + 1 - 4 = 0 by omega]
    show Ideal.ofBits .f32 0x00000000#32 = _
    rw [zero_bits]
    rfl
  · rw [concatenate_pair_apply_right (t := Cert.Reference39Ideal.S4096x192) (s₁ := Cert.Reference39Ideal.S4x192)
      (s₂ := Cert.Reference39Ideal.S4092x192) 0 _ _ _ (ix2 R j) rfl rfl (ix2 ⟨R.val - 4, by omega⟩ j)
      (fun b hb => by match b with | ⟨0, _⟩ => exact absurd rfl hb | ⟨1, _⟩ => rfl)
      (by show R.val - 4 + 4 = R.val; omega), val_main_v18_apply,
      show R.val + 1 - 4 = R.val - 4 + 1 by omega, ← ref_sum4 ρ x0 hρ ⟨R.val - 4, by omega⟩ j]
    exact congrArg _ (Shape.idx_ext₂ rfl rfl)

theorem ref_mean4 (R : Fin 4096) (j : Fin 192) :
    val_main_v28 (F := Ideal) x0 (ix2 R j)
      = Ideal.div ((∑ k ∈ Finset.range 4, late ρ ⟨192 + j.val, by omega⟩ (R.val + 16 - k) : ℝ) : EReal)
        ((((count 4#32 R.val).toInt : ℤ) : ℝ) : EReal) := by
  have hc : val_main_v27 (F := Ideal) (ix2 R j) = ((((count 4#32 R.val).toInt : ℤ) : ℝ) : EReal) := by
    unfold Pool.count
    rw [BitVec.ofNat_add]
    rfl
  rw [val_main_v28_apply, hc, val_main_v26_apply, ref_sum4 ρ x0 hρ, ref_prev4 ρ x0 hρ, ← window_eq ρ _ _ 4 (by omega), EReal.coe_sub]
  rfl

/-- The group of columns from 384 on, whose windows hold 8 rows. -/
theorem ref_sum8 (R : Fin 4096) (j : Fin 192) :
    val_main_v29 (F := Ideal) x0 (ix2 R j) = (total ρ ⟨384 + j.val, by omega⟩ (R.val + 1) : EReal) := by
  rw [val_main_v29_apply, ← ref_total ρ x0 hρ]
  exact congrArg _ (Shape.idx_ext₂ rfl rfl)

theorem ref_prev8 (R : Fin 4096) (j : Fin 192) :
    val_main_v32 (F := Ideal) x0 (ix2 R j) = (total ρ ⟨384 + j.val, by omega⟩ (R.val + 1 - 8) : EReal) := by
  unfold val_main_v32
  by_cases h : R.val < 8
  · rw [concatenate_pair_apply_left (t := Cert.Reference39Ideal.S4096x192) (s₁ := Cert.Reference39Ideal.S8x192)
      (s₂ := Cert.Reference39Ideal.S4088x192) 0 _ _ _ (ix2 R j) rfl (ix2 ⟨R.val, h⟩ j)
      (fun b => by match b with | ⟨0, _⟩ => rfl | ⟨1, _⟩ => rfl), show R.val + 1 - 8 = 0 by omega]
    show Ideal.ofBits .f32 0x00000000#32 = _
    rw [zero_bits]
    rfl
  · rw [concatenate_pair_apply_right (t := Cert.Reference39Ideal.S4096x192) (s₁ := Cert.Reference39Ideal.S8x192)
      (s₂ := Cert.Reference39Ideal.S4088x192) 0 _ _ _ (ix2 R j) rfl rfl (ix2 ⟨R.val - 8, by omega⟩ j)
      (fun b hb => by match b with | ⟨0, _⟩ => exact absurd rfl hb | ⟨1, _⟩ => rfl)
      (by show R.val - 8 + 8 = R.val; omega), val_main_v31_apply,
      show R.val + 1 - 8 = R.val - 8 + 1 by omega, ← ref_sum8 ρ x0 hρ ⟨R.val - 8, by omega⟩ j]
    exact congrArg _ (Shape.idx_ext₂ rfl rfl)

theorem ref_mean8 (R : Fin 4096) (j : Fin 192) :
    val_main_v41 (F := Ideal) x0 (ix2 R j)
      = Ideal.div ((∑ k ∈ Finset.range 8, late ρ ⟨384 + j.val, by omega⟩ (R.val + 16 - k) : ℝ) : EReal)
        ((((count 8#32 R.val).toInt : ℤ) : ℝ) : EReal) := by
  have hc : val_main_v40 (F := Ideal) (ix2 R j) = ((((count 8#32 R.val).toInt : ℤ) : ℝ) : EReal) := by
    unfold Pool.count
    rw [BitVec.ofNat_add]
    rfl
  rw [val_main_v41_apply, hc, val_main_v39_apply, ref_sum8 ρ x0 hρ, ref_prev8 ρ x0 hρ, ← window_eq ρ _ _ 8 (by omega), EReal.coe_sub]
  rfl

/-- The group of columns from 576 on, whose windows hold 16 rows. -/
theorem ref_sum16 (R : Fin 4096) (j : Fin 192) :
    val_main_v42 (F := Ideal) x0 (ix2 R j) = (total ρ ⟨576 + j.val, by omega⟩ (R.val + 1) : EReal) := by
  rw [val_main_v42_apply, ← ref_total ρ x0 hρ]
  exact congrArg _ (Shape.idx_ext₂ rfl rfl)

theorem ref_prev16 (R : Fin 4096) (j : Fin 192) :
    val_main_v45 (F := Ideal) x0 (ix2 R j) = (total ρ ⟨576 + j.val, by omega⟩ (R.val + 1 - 16) : EReal) := by
  unfold val_main_v45
  by_cases h : R.val < 16
  · rw [concatenate_pair_apply_left (t := Cert.Reference39Ideal.S4096x192) (s₁ := Cert.Reference39Ideal.S16x192)
      (s₂ := Cert.Reference39Ideal.S4080x192) 0 _ _ _ (ix2 R j) rfl (ix2 ⟨R.val, h⟩ j)
      (fun b => by match b with | ⟨0, _⟩ => rfl | ⟨1, _⟩ => rfl), show R.val + 1 - 16 = 0 by omega]
    show Ideal.ofBits .f32 0x00000000#32 = _
    rw [zero_bits]
    rfl
  · rw [concatenate_pair_apply_right (t := Cert.Reference39Ideal.S4096x192) (s₁ := Cert.Reference39Ideal.S16x192)
      (s₂ := Cert.Reference39Ideal.S4080x192) 0 _ _ _ (ix2 R j) rfl rfl (ix2 ⟨R.val - 16, by omega⟩ j)
      (fun b hb => by match b with | ⟨0, _⟩ => exact absurd rfl hb | ⟨1, _⟩ => rfl)
      (by show R.val - 16 + 16 = R.val; omega), val_main_v44_apply,
      show R.val + 1 - 16 = R.val - 16 + 1 by omega, ← ref_sum16 ρ x0 hρ ⟨R.val - 16, by omega⟩ j]
    exact congrArg _ (Shape.idx_ext₂ rfl rfl)

theorem ref_mean16 (R : Fin 4096) (j : Fin 192) :
    val_main_v54 (F := Ideal) x0 (ix2 R j)
      = Ideal.div ((∑ k ∈ Finset.range 16, late ρ ⟨576 + j.val, by omega⟩ (R.val + 16 - k) : ℝ) : EReal)
        ((((count 16#32 R.val).toInt : ℤ) : ℝ) : EReal) := by
  have hc : val_main_v53 (F := Ideal) (ix2 R j) = ((((count 16#32 R.val).toInt : ℤ) : ℝ) : EReal) := by
    unfold Pool.count
    rw [BitVec.ofNat_add]
    rfl
  rw [val_main_v54_apply, hc, val_main_v52_apply, ref_sum16 ρ x0 hρ, ref_prev16 ρ x0 hρ, ← window_eq ρ _ _ 16 (by omega), EReal.coe_sub]
  rfl

/-- The four groups side by side. -/
theorem ref_mean (R : Fin 4096) (c : Fin 768) :
    val_main_v55 (F := Ideal) x0 (ix2 R c)
      = Ideal.div ((∑ k ∈ Finset.range (width c), late ρ c (R.val + 16 - k) : ℝ) : EReal)
        ((((count (word c) R.val).toInt : ℤ) : ℝ) : EReal) := by
  have hc := c.isLt
  have h2 := ref_mean2 ρ x0 hρ R
  have h4 := ref_mean4 ρ x0 hρ R
  have h8 := ref_mean8 ρ x0 hρ R
  have h16 := ref_mean16 ρ x0 hρ R
  unfold val_main_v55
  generalize val_main_v15 (F := Ideal) x0 = q2 at h2 ⊢
  generalize val_main_v28 (F := Ideal) x0 = q4 at h4 ⊢
  generalize val_main_v41 (F := Ideal) x0 = q8 at h8 ⊢
  generalize val_main_v54 (F := Ideal) x0 = q16 at h16 ⊢
  have e : concatenate Cert.Reference39Ideal.S4096x768 1 [⟨Cert.Reference39Ideal.S4096x192, q2⟩, ⟨Cert.Reference39Ideal.S4096x192, q4⟩,
      ⟨Cert.Reference39Ideal.S4096x192, q8⟩, ⟨Cert.Reference39Ideal.S4096x192, q16⟩]
        Cert.Reference39Ideal.Facts₀.concatenates_S4096x192_S4096x192_S4096x192_S4096x192_S4096x768_d1 (ix2 R c)
      = if h0 : c.val < 192 then q2 (ix2 R ⟨c.val, h0⟩) else if h1 : c.val < 384 then q4 (ix2 R ⟨c.val - 192, by omega⟩)
        else if h2 : c.val < 576 then q8 (ix2 R ⟨c.val - 384, by omega⟩) else q16 (ix2 R ⟨c.val - 576, by omega⟩) := by
    pointwise []
    split_ifs
    all_goals first
      | exact absurd rfl ‹¬ (_ : ℕ) = _›
      | omega
      | exact congrArg q2 (Shape.idx_ext₂ rfl rfl)
      | (rw [dif_pos (show c.val < 384 by omega)])
      | (rw [dif_neg (show ¬ c.val < 384 by omega), dif_pos (show c.val < 576 by omega)]; exact congrArg q8 (Shape.idx_ext₂ rfl (show c.val - 192 - 192 = c.val - 384 by omega)))
      | (rw [dif_neg (show ¬ c.val < 384 by omega), dif_neg (show ¬ c.val < 576 by omega)]; exact congrArg q16 (Shape.idx_ext₂ rfl (show c.val - 192 - 192 - 192 = c.val - 576 by omega)))
  refine e.trans ?_
  unfold width word
  by_cases h0 : c.val < 192
  · simp only [dif_pos h0, if_pos h0]
    rw [h2, show (⟨0 + c.val, by omega⟩ : Fin 768) = c from Fin.ext (Nat.zero_add _)]
  · by_cases h1 : c.val < 384
    · simp only [dif_neg h0, if_neg h0, dif_pos h1, if_pos h1]
      rw [h4, show (⟨192 + (c.val - 192), by omega⟩ : Fin 768) = c from Fin.ext (by show 192 + (c.val - 192) = c.val; omega)]
    · by_cases h3 : c.val < 576
      · simp only [dif_neg h0, if_neg h0, dif_neg h1, if_neg h1, dif_pos h3, if_pos h3]
        rw [h8, show (⟨384 + (c.val - 384), by omega⟩ : Fin 768) = c from Fin.ext (by show 384 + (c.val - 384) = c.val; omega)]
      · simp only [dif_neg h0, if_neg h0, dif_neg h1, if_neg h1, dif_neg h3, if_neg h3]
        rw [h16, show (⟨576 + (c.val - 576), by omega⟩ : Fin 768) = c from Fin.ext (by show 576 + (c.val - 576) = c.val; omega)]

theorem ref_apply (R : Fin 4096) (c : Fin 768) :
    val_main_v57 (F := Ideal) x0 (ix2 R c) = pooled ρ R.val c (x0 (ix2 R (wide c))) := by
  rw [val_main_v57_apply, val_main_v56_apply, ref_mean ρ x0 hρ, ref_slice]
  rfl

end Reference

/-! ## Put together -/

/-- The array the reference leaves, of the kernel's argument. -/
abbrev G (c : Dev nD) : Buf (Elt Ideal) ((c : Thread nD τ).loc main_v0) :=
  Cert.Reference39Ideal.Read.val_main_v57 (F := Ideal) (m ((c : Thread nD τ).loc main_arg0))

/-- Every pooled entry is a real number. -/
def Finite (c : Dev nD) : Prop :=
  ∀ R k, ∃ r : ℝ, m ((c : Thread nD τ).loc main_arg0) (ix2 (R : Fin 4096) (wide k)) = (r : EReal)

theorem flushed_eq (c : Dev nD) (hf : Finite m c) (t : Fin cfg0.N) :
    (dats m 0 c).flushed 2 t = ((cfg0.win 2).blk t).view.read (Elt Ideal) (G m c) := by
  rw [Value.flushed2]
  obtain ⟨-, -, -, -, e0, e1, hc⟩ := idx_facts t
  choose ρ hρ using hf
  funext y
  show outsAt0 m c t y = G m c ((win0_2.rect t).emb y)
  obtain ⟨r, j, rfl⟩ : ∃ (r : Fin 512) (j : Fin 768), y = ix2 r j := ⟨y 0, y 1, eq_ix2 y⟩
  have hemb : (win0_2.rect t).emb (ix2 r j) = ix2 (row t r) j := by
    refine Shape.idx_ext₂ ?_ ?_
    · rw [win0_2.rect_emb_val, e0]; rfl
    · rw [win0_2.rect_emb_val, e1]; exact (Nat.zero_mul _).symm ▸ Nat.zero_add _
  rw [hemb]
  unfold G
  rw [ref_apply ρ _ hρ, outs_eq,
    pay1_apply (grid0.coords t) _ _ ρ (t.val * 512) (by rw [hc]) j (fun n => ext_apply m c t ρ hρ n j) r, iblk0_apply]
  rfl

theorem cover (i : S4096x768.Idx) : ∃ t : Fin cfg0.N, (cfg0.win 2).flush t = true ∧ i ∈ ((cfg0.win 2).blk t).view.set := by
  have h0 : (i 0 : Nat) < 4096 := (i 0).isLt
  have h1 : (i 1 : Nat) < 768 := (i 1).isLt
  have hN : cfg0.N = 8 := N_0
  refine ⟨⟨(i 0 : Nat) / 512, by omega⟩, flush0_2 _, ?_⟩
  set t : Fin cfg0.N := ⟨(i 0 : Nat) / 512, by omega⟩
  obtain ⟨-, -, -, -, e0, e1, -⟩ := idx_facts t
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [e0]
    show (i 0 : Nat) / 512 * 512 ≤ (i 0 : Nat) ∧ (i 0 : Nat) < (i 0 : Nat) / 512 * 512 + 512
    omega
  | ⟨1, _⟩ =>
    show win0_2.index t 1 * 768 ≤ (i 1 : Nat) ∧ (i 1 : Nat) < win0_2.index t 1 * 768 + 768
    rw [e1]; omega

theorem final (c : Dev nD) (hf : Finite m c) : (dats m 0 c).arrAt 2 cfg0.N = G m c :=
  (dats m 0 c).arrAt_eq_of_cover 2 (G m c) (fun t _ => flushed_eq m c hf t) cover

/-! ## The claim -/

theorem pre_facts : Cert.Pre_finite_pooled.Facts := by constructor <;> decide

theorem finite_of_pre (h : Cert.Pre_Kernel39Ideal_finite_pooled (hPre_finite_pooled := pre_facts) m) (c : Dev nD) :
    Finite m c := fun R k => by
  obtain ⟨x, hx⟩ := Cert.Math.exists_coe_of_cmp (congrFun (h c) (ix2 R k))
  refine ⟨x, hx ▸ ?_⟩
  exact congrArg (m ((c : Thread nD τ).loc main_arg0)) (Shape.idx_ext₂ (by show R.val = 0 + R.val; omega) (by show k.val = 0 + k.val; omega))

/-- From equal finite arguments, the kernel and the reference end with equal arrays. -/
theorem algebraic : Cert.algebraic_Kernel39Ideal_Reference39Ideal_pre_finite_pooled
    (hKernel39Ideal := Cert.Kernel39Ideal.Gen.facts) (hReference39Ideal := Cert.Reference39Ideal.Gen.facts)
    (hPre_finite_pooled := pre_facts) := by
  intro m g m' g' hpre hargs
  refine ⟨fun c => G m c, ?_, ?_⟩
  · refine (θ_run (Cert.Kernel39Ideal.defs (F := Ideal)) _ _).mono (fun r h c => ?_) (Value.run_blocks m g)
    exact ⟨(h c).1.trans (final m c (finite_of_pre m hpre c)), (h c).2⟩
  · refine (θ_run (Cert.Reference39Ideal.defs (F := Ideal)) _ _).mono (fun r h c => ?_)
      (Cert.Reference39Ideal.Value.run (F := Ideal) m' g')
    refine ⟨((h c).1.trans (Cert.Reference39Ideal.Read.val_main_v57_eq _ _)).trans ?_, (h c).2⟩
    rw [hargs c]

end Cert.PoolFwd

end
-- ==== Proof.Val4.lean ====
/- The value of the gradient of the gate and up projection and of the norm before it: sixteen blocks of 256 rows for the
   gradient of the norm's argument, and one row summed up over the blocks for the gradient of the norm's scale. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Math
public import Idealize.ShloMosaic.Lib.Pointwise

@[expose] public section

noncomputable section

namespace Cert.GuDx

open Cert.Kernel4Ideal Cert.Kernel4Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S256x5632.rank → Nat) = fun _ => 0 := funext fun a => by fin_cases a <;> rfl
theorem hz1 : (![0, 0] : Fin S1024x5632.rank → Nat) = fun _ => 0 := funext fun a => by fin_cases a <;> rfl
theorem hz2 : (![0, 0] : Fin S256x1024.rank → Nat) = fun _ => 0 := funext fun a => by fin_cases a <;> rfl
theorem hz3 : (![0, 0] : Fin S1x1024.rank → Nat) = fun _ => 0 := funext fun a => by fin_cases a <;> rfl

/-- What a point leaves of the gradient of the norm's argument. -/
theorem outs_dx (c : Dev nD) (t : Fin cfg0.N) :
    (outsAt0 m c t.val t.isLt).1 = k0_pay6 (iblk m c 0 t) (iblk m c 1 t) (iblk m c 2 t) (iblk m c 4 t) (iblk m c 3 t) := by
  by_cases h0 : t.val % 16 = 0
  · rw [outsAt0_A m c t h0]
    dsimp only
    unfold out0_A_5
    refine (View.read_writes_eq_canon _ _ _ fun y => cover0_A_5 ..).trans ?_
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S256x5632) hz0, View.ld_unit_zero (S := S1024x5632) hz1, View.ld_unit_zero (S := S256x1024) hz2,
      View.ld_unit_zero (S := S1x1024) hz3, View.canon_unit_zero (S := S256x1024) hz2]
  · rw [outsAt0_B m c t h0]
    dsimp only
    unfold out0_B_5
    refine (View.read_writes_eq_canon _ _ _ fun y => cover0_B_5 ..).trans ?_
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S256x5632) hz0, View.ld_unit_zero (S := S1024x5632) hz1, View.ld_unit_zero (S := S256x1024) hz2,
      View.ld_unit_zero (S := S1x1024) hz3, View.canon_unit_zero (S := S256x1024) hz2]

/-- What a point leaves of the same gradient, cast. -/
theorem outs_bf (c : Dev nD) (t : Fin cfg0.N) :
    (outsAt0 m c t.val t.isLt).2.1 = k0_pay7 (iblk m c 0 t) (iblk m c 1 t) (iblk m c 2 t) (iblk m c 4 t) (iblk m c 3 t) := by
  by_cases h0 : t.val % 16 = 0
  · rw [outsAt0_A m c t h0]
    dsimp only
    unfold out0_A_6
    refine (View.read_writes_eq_canon _ _ _ fun y => cover0_A_6 ..).trans ?_
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S256x5632) hz0, View.ld_unit_zero (S := S1024x5632) hz1, View.ld_unit_zero (S := S256x1024) hz2,
      View.ld_unit_zero (S := S1x1024) hz3, View.canon_unit_zero (S := S256x1024) hz2]
  · rw [outsAt0_B m c t h0]
    dsimp only
    unfold out0_B_6
    refine (View.read_writes_eq_canon _ _ _ fun y => cover0_B_6 ..).trans ?_
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S256x5632) hz0, View.ld_unit_zero (S := S1024x5632) hz1, View.ld_unit_zero (S := S256x1024) hz2,
      View.ld_unit_zero (S := S1x1024) hz3, View.canon_unit_zero (S := S256x1024) hz2]

/-- The first point starts the sum of the norm scale's gradient from zero. -/
theorem outs_dg_first (c : Dev nD) (t : Fin cfg0.N) (h0 : t.val % 16 = 0) :
    (outsAt0 m c t.val t.isLt).2.2
      = k0_pay2 (k0_pay3 (iblk m c 0 t) (iblk m c 1 t)) (k0_pay5 (iblk m c 2 t)) (k0_pay1 (F := Ideal)) := by
  rw [outsAt0_A m c t h0]
  dsimp only
  unfold out0_A_7
  refine (View.read_writes_eq_canon _ _ _ fun y => cover0_A_7 ..).trans ?_
  unfold kernelRun0_A
  dsimp only
  sl_unfold_words
  simp only [View.readAt_eq_ld, (hs0_0 t).read_unread, (hs0_1 t).read_unread, (hs0_2 t).read_unread,
      (hs0_3 t).read_unread, (hs0_4 t).read_unread, View.ld_unit_zero (S := S256x5632) hz0, View.ld_unit_zero (S := S1024x5632) hz1, View.ld_unit_zero (S := S256x1024) hz2,
      View.ld_unit_zero (S := S1x1024) hz3, View.canon_cons_unit_zero (S := S1x1024) hz3, View.readCov_unit_zero (S := S1x1024) _ hz3]

/-- A later point adds its rows to what the point before left. -/
theorem outs_dg_next (c : Dev nD) (t : Fin cfg0.N) (h0 : ¬ t.val % 16 = 0) :
    (outsAt0 m c t.val t.isLt).2.2
      = k0_pay2 (k0_pay3 (iblk m c 0 t) (iblk m c 1 t)) (k0_pay5 (iblk m c 2 t))
          (outsAt0 m c (t.val - 1) (Nat.lt_of_le_of_lt (Nat.sub_le _ _) t.isLt)).2.2 := by
  rw [outsAt0_B m c t h0]
  dsimp only
  unfold out0_B_7
  refine (View.read_writes_eq_canon _ _ _ fun y => cover0_B_7 ..).trans ?_
  unfold kernelRun0_B
  dsimp only
  sl_unfold_words
  simp only [View.readAt_eq_ld, (hs0_0 t).read_unread, (hs0_1 t).read_unread, (hs0_2 t).read_unread,
      (hs0_3 t).read_unread, (hs0_4 t).read_unread, (hs0_7 t).read_unread, View.ld_unit_zero (S := S256x5632) hz0, View.ld_unit_zero (S := S1024x5632) hz1,
      View.ld_unit_zero (S := S256x1024) hz2, View.ld_unit_zero (S := S1x1024) hz3, View.canon_cons_unit_zero (S := S1x1024) hz3, View.readCov_unit_zero (S := S1x1024) _ hz3]

/-! ## The kernel, entry by entry -/

/-- Row `r` of block `t`. -/
def row (t : Fin cfg0.N) (r : Fin 256) : Fin 4096 :=
  ⟨t.val * 256 + r.val, by have h : t.val < 16 := lt_of_lt_of_eq t.isLt N_0; omega⟩

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = 0 ∧ win0_4.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = 0 ∧ win0_4.index t 1 = 0)

theorem idx_facts_out : ∀ t : Fin cfg0.N, win0_5.index t 0 = t.val ∧ win0_5.index t 1 = 0 ∧ win0_6.index t 0 = t.val
    ∧ win0_6.index t 1 = 0 ∧ win0_7.index t 0 = 0 ∧ win0_7.index t 1 = 0 :=
  (by decide +kernel : ∀ t : Fin grid0.N, win0_5.index t 0 = t.val ∧ win0_5.index t 1 = 0 ∧ win0_6.index t 0 = t.val
    ∧ win0_6.index t 1 = 0 ∧ win0_7.index t 0 = 0 ∧ win0_7.index t 1 = 0)

theorem iblk0_apply (c : Dev nD) (t : Fin cfg0.N) (r : Fin 256) (k : Fin 5632) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 1024) (k : Fin 5632) :
    iblk m c 1 t (ix2 r k) = m ((c : Thread nD τ).loc main_arg1) (ix2 r k) := by
  obtain ⟨-, -, h0, h1, -⟩ := idx_facts t
  show m ((c : Thread nD τ).loc main_arg1) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (r : Fin 256) (k : Fin 1024) :
    iblk m c 2 t (ix2 r k) = m ((c : Thread nD τ).loc main_arg2) (ix2 (row t r) k) := by
  obtain ⟨-, -, -, -, h0, h1, -⟩ := idx_facts t
  show m ((c : Thread nD τ).loc main_arg2) ((win0_2.rect t).emb (ix2 r k)) = _
  refine congrArg _ (Shape.idx_ext₂ ?_ ?_)
  · rw [win0_2.rect_emb_val, h0]; rfl
  · rw [win0_2.rect_emb_val, h1]; exact (Nat.zero_mul _).symm ▸ Nat.zero_add _

theorem iblk3_apply (c : Dev nD) (t : Fin cfg0.N) (r : Fin 256) (k : Fin 1024) :
    iblk m c 3 t (ix2 r k) = m ((c : Thread nD τ).loc main_arg4) (ix2 (row t r) k) := by
  obtain ⟨-, -, -, -, -, -, h0, h1, -⟩ := idx_facts t
  show m ((c : Thread nD τ).loc main_arg4) ((win0_3.rect t).emb (ix2 r k)) = _
  refine congrArg _ (Shape.idx_ext₂ ?_ ?_)
  · rw [win0_3.rect_emb_val, h0]; rfl
  · rw [win0_3.rect_emb_val, h1]; exact (Nat.zero_mul _).symm ▸ Nat.zero_add _

theorem iblk4_apply (c : Dev nD) (t : Fin cfg0.N) (k : Fin 1024) :
    iblk m c 4 t (ix2 0 k) = m ((c : Thread nD τ).loc main_arg3) (ix2 0 k) := by
  obtain ⟨-, -, -, -, -, -, -, -, h0, h1⟩ := idx_facts t
  show m ((c : Thread nD τ).loc main_arg3) ((win0_4.rect t).emb (ix2 0 k)) = _
  refine congrArg _ (Shape.idx_ext₂ ?_ ?_)
  · rw [win0_4.rect_emb_val, h0]; exact (Nat.zero_mul _).symm ▸ Nat.zero_add _
  · rw [win0_4.rect_emb_val, h1]; exact (Nat.zero_mul _).symm ▸ Nat.zero_add _

section Kernel
variable (x0 : Vec Ideal S256x5632 .bf16) (x1 : Vec Ideal S1024x5632 .bf16) (x2 x4 : Vec Ideal S256x1024 .f32)
variable (x3 : Vec Ideal S1x1024 .f32)

/-- The gradient of the normed and scaled row, one entry. -/
theorem dh_apply (r : Fin 256) (j : Fin 1024) :
    k0_pay3 x0 x1 (ix2 r j) = ∑ k : Fin 5632, x0 (ix2 r k) * x1 (ix2 j k) := by
  pointwise [k0_pay3]

/-- The reciprocal root of a row's mean square. -/
theorem rstd_apply (r : Fin 256) :
    k0_pay4 x2 (ix2 r 0) = Ideal.rsqrt (Ideal.div (∑ k : Fin 1024, x2 (ix2 r k) * x2 (ix2 r k))
      (Ideal.ofBits .f32 0x44800000#32) + Ideal.ofBits .f32 0x358637BD#32) := by
  pointwise [k0_pay4]

theorem xhat_apply (r : Fin 256) (j : Fin 1024) :
    k0_pay5 x2 (ix2 r j) = x2 (ix2 r j) * k0_pay4 x2 (ix2 r 0) := by
  pointwise [k0_pay5]

theorem dx_apply (r : Fin 256) (j : Fin 1024) :
    k0_pay6 x0 x1 x2 x3 x4 (ix2 r j)
      = k0_pay4 x2 (ix2 r 0) * (k0_pay3 x0 x1 (ix2 r j) * x3 (ix2 0 j)
          - x2 (ix2 r j) * k0_pay4 x2 (ix2 r 0)
            * Ideal.div (∑ k : Fin 1024, (k0_pay3 x0 x1 (ix2 r k) * x3 (ix2 0 k)) * (x2 (ix2 r k) * k0_pay4 x2 (ix2 r 0)))
              (Ideal.ofBits .f32 0x44800000#32))
        + x4 (ix2 r j) := by
  pointwise [k0_pay6, k0_pay5]

theorem bf_apply (r : Fin 256) (j : Fin 1024) :
    k0_pay7 x0 x1 x2 x3 x4 (ix2 r j) = k0_pay6 x0 x1 x2 x3 x4 (ix2 r j) := by
  pointwise [k0_pay7]

theorem dg_zero (j : Fin 1024) : k0_pay1 (F := Ideal) (ix2 0 j) = 0 := by
  pointwise [k0_pay1]

theorem dg_apply (y z : Vec Ideal S256x1024 .f32) (x : Vec Ideal S1x1024 .f32) (j : Fin 1024) :
    k0_pay2 (F := Ideal) y z x (ix2 0 j) = x (ix2 0 j) + ∑ r : Fin 256, y (ix2 r j) * z (ix2 r j) := by
  pointwise [k0_pay2]

end Kernel

/-! ## The reference, entry by entry -/

section Reference
open Cert.Reference4Ideal.Read

variable (x0 : (⟨S4096x5632, .bf16⟩ : BufTy).Contents (Elt Ideal)) (x1 : (⟨S1024x5632, .bf16⟩ : BufTy).Contents (Elt Ideal))
variable (x2 x4 : (⟨S4096x1024, .f32⟩ : BufTy).Contents (Elt Ideal)) (x3 : (⟨S1x1024, .f32⟩ : BufTy).Contents (Elt Ideal))

theorem ref_dh (r : Fin 4096) (j : Fin 1024) :
    val_main_v18 (F := Ideal) x0 x1 (ix2 r j) = ∑ k : Fin 5632, x0 (ix2 r k) * x1 (ix2 j k) := by
  rw [val_main_v18_apply]
  exact Finset.sum_congr rfl fun k _ => congrArg₂ (· * ·) (congrArg x0 (Shape.idx_ext₂ rfl rfl))
    (congrArg x1 (Shape.idx_ext₂ rfl rfl))

/-- A row's mean square and the small constant. -/
theorem ref_ms (r : Fin 4096) :
    val_main_v7 (F := Ideal) x2 (ix2 r 0) = Ideal.div (∑ k : Fin 1024, x2 (ix2 r k) * x2 (ix2 r k))
      (Ideal.ofBits .f32 0x44800000#32) + Ideal.ofBits .f32 0x358637BD#32 := by
  pointwise [val_main_v7, val_main_v6, val_main_v5, val_main_v4, val_main_v3, val_main_v2, val_main_v1, val_main_cst,
    val_main_cst_0, val_main_cst_1]

theorem ref_rstd (r : Fin 4096) :
    val_main_v8 (F := Ideal) x2 (ix2 r 0) = Ideal.rsqrt (val_main_v7 (F := Ideal) x2 (ix2 r 0)) := by
  pointwise [val_main_v8]

/-- What a row's own spread sends back through its mean square, for one entry's factor. -/
theorem ref_back (r : Fin 4096) :
    val_main_v31 (F := Ideal) x0 x1 x2 x3 (ix2 r 0)
      = Ideal.div ((∑ k : Fin 1024, x2 (ix2 r k) * (val_main_v18 (F := Ideal) x0 x1 (ix2 r k) * x3 (ix2 0 k)))
          * (Ideal.ofBits .f32 0xBF000000#32 * Ideal.div (val_main_v8 (F := Ideal) x2 (ix2 r 0)) (val_main_v7 (F := Ideal) x2 (ix2 r 0))))
        (Ideal.ofBits .f32 0x44800000#32) := by
  pointwise [val_main_v31, val_main_v30, val_main_v29, val_main_v26, val_main_v25, val_main_v24, val_main_v23, val_main_v22,
    val_main_v11, val_main_v10, val_main_v9, val_main_cst_2, val_main_cst_4, val_main_cst_5]

theorem ref_dx (r : Fin 4096) (j : Fin 1024) :
    val_main_v38 (F := Ideal) x0 x1 x2 x3 x4 (ix2 r j)
      = (val_main_v18 (F := Ideal) x0 x1 (ix2 r j) * x3 (ix2 0 j)) * val_main_v8 (F := Ideal) x2 (ix2 r 0)
        + x2 (ix2 r j) * val_main_v31 (F := Ideal) x0 x1 x2 x3 (ix2 r 0)
        + val_main_v31 (F := Ideal) x0 x1 x2 x3 (ix2 r 0) * x2 (ix2 r j) + x4 (ix2 r j) := by
  pointwise [val_main_v38, val_main_v37, val_main_v36, val_main_v35, val_main_v34, val_main_v33, val_main_v32, val_main_v28,
    val_main_v27, val_main_v23, val_main_v22, val_main_cst_6]
  rw [Fin.sum_univ_one]

theorem ref_bf (r : Fin 4096) (j : Fin 1024) :
    val_main_v39 (F := Ideal) x0 x1 x2 x3 x4 (ix2 r j) = val_main_v38 (F := Ideal) x0 x1 x2 x3 x4 (ix2 r j) := by
  pointwise [val_main_v39]

theorem ref_dg (j : Fin 1024) :
    val_main_v21 (F := Ideal) x0 x1 x2 (ix2 0 j)
      = ∑ r : Fin 4096, x2 (ix2 r j) * val_main_v8 (F := Ideal) x2 (ix2 r 0) * val_main_v18 (F := Ideal) x0 x1 (ix2 r j) := by
  pointwise [val_main_v21, val_main_v20, val_main_v19, val_main_v13, val_main_v12, val_main_cst_3]

end Reference

/-! ## Put together -/

open Cert.Reference4Ideal.Read

/-- The arrays the reference leaves, of the kernel's arguments. -/
abbrev G5 (c : Dev nD) : Buf (Elt Ideal) ((c : Thread nD τ).loc main_v0_0) :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev G6 (c : Dev nD) : Buf (Elt Ideal) ((c : Thread nD τ).loc main_v0_1) :=
  val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev G7 (c : Dev nD) : Buf (Elt Ideal) ((c : Thread nD τ).loc main_v0_2) :=
  val_main_v21 (F := Ideal) (m ((c : Thread nD τ).loc main_arg0)) (m ((c : Thread nD τ).loc main_arg1))
    (m ((c : Thread nD τ).loc main_arg2))

theorem rstd_eq (c : Dev nD) (t : Fin cfg0.N) (r : Fin 256) :
    k0_pay4 (iblk m c 2 t) (ix2 r 0) = val_main_v8 (F := Ideal) (m ((c : Thread nD τ).loc main_arg2)) (ix2 (row t r) 0) := by
  rw [rstd_apply, ref_rstd, ref_ms]
  simp only [iblk2_apply]

theorem dh_eq (c : Dev nD) (t : Fin cfg0.N) (r : Fin 256) (j : Fin 1024) :
    k0_pay3 (iblk m c 0 t) (iblk m c 1 t) (ix2 r j)
      = val_main_v18 (F := Ideal) (m ((c : Thread nD τ).loc main_arg0)) (m ((c : Thread nD τ).loc main_arg1)) (ix2 (row t r) j) := by
  rw [dh_apply, ref_dh]
  simp only [iblk0_apply, iblk1_apply]

/-- The gradient of the norm's argument: the kernel's form of a row and the derivative's agree. -/
theorem dx_eq (c : Dev nD) (t : Fin cfg0.N) (r : Fin 256) (j : Fin 1024) :
    k0_pay6 (iblk m c 0 t) (iblk m c 1 t) (iblk m c 2 t) (iblk m c 4 t) (iblk m c 3 t) (ix2 r j) = G5 m c (ix2 (row t r) j) := by
  unfold G5
  rw [dx_apply, ref_dx, ref_back]
  simp only [dh_eq, rstd_eq, iblk2_apply, iblk3_apply, iblk4_apply]
  obtain ⟨e, he, hee⟩ := Cert.Math.ofBits_eps
  have hv := ref_ms (m ((c : Thread nD τ).loc main_arg2)) (row t r)
  have hs := ref_rstd (m ((c : Thread nD τ).loc main_arg2)) (row t r)
  rw [Cert.Math.ofBits_1024, hee] at hv
  rw [Cert.Math.ofBits_1024, Cert.Math.ofBits_neg_half]
  exact congrArg (· + _) (Cert.Math.rms_row (fun k : Fin 1024 => m ((c : Thread nD τ).loc main_arg2) (ix2 (row t r) k))
    (fun k => val_main_v18 (F := Ideal) (m ((c : Thread nD τ).loc main_arg0)) (m ((c : Thread nD τ).loc main_arg1)) (ix2 (row t r) k)
      * m ((c : Thread nD τ).loc main_arg3) (ix2 0 k)) 1024 e (by norm_num) he j _ _ hv hs)

theorem flushed5_eq (c : Dev nD) (t : Fin cfg0.N) :
    (dats m 0 c).flushed 5 t = ((cfg0.win 5).blk t).view.read (Elt Ideal) (G5 m c) := by
  rw [Value.flushed5]
  obtain ⟨e0, e1, -⟩ := idx_facts_out t
  funext y
  show (outsAt0 m c t.val t.isLt).1 y = G5 m c ((win0_5.rect t).emb y)
  obtain ⟨r, j, rfl⟩ : ∃ (r : Fin 256) (j : Fin 1024), y = ix2 r j := ⟨y 0, y 1, eq_ix2 y⟩
  have hemb : (win0_5.rect t).emb (ix2 r j) = ix2 (row t r) j := by
    refine Shape.idx_ext₂ ?_ ?_
    · rw [win0_5.rect_emb_val, e0]; rfl
    · rw [win0_5.rect_emb_val, e1]; exact (Nat.zero_mul _).symm ▸ Nat.zero_add _
  rw [hemb, outs_dx, dx_eq]

theorem flushed6_eq (c : Dev nD) (t : Fin cfg0.N) :
    (dats m 0 c).flushed 6 t = ((cfg0.win 6).blk t).view.read (Elt Ideal) (G6 m c) := by
  rw [Value.flushed6]
  obtain ⟨-, -, e0, e1, -⟩ := idx_facts_out t
  funext y
  show (outsAt0 m c t.val t.isLt).2.1 y = G6 m c ((win0_6.rect t).emb y)
  obtain ⟨r, j, rfl⟩ : ∃ (r : Fin 256) (j : Fin 1024), y = ix2 r j := ⟨y 0, y 1, eq_ix2 y⟩
  have hemb : (win0_6.rect t).emb (ix2 r j) = ix2 (row t r) j := by
    refine Shape.idx_ext₂ ?_ ?_
    · rw [win0_6.rect_emb_val, e0]; rfl
    · rw [win0_6.rect_emb_val, e1]; exact (Nat.zero_mul _).symm ▸ Nat.zero_add _
  rw [hemb, outs_bf, bf_apply, dx_eq]
  unfold G6
  rw [ref_bf]

theorem cover5 (i : S4096x1024.Idx) : ∃ t : Fin cfg0.N, (cfg0.win 5).flush t = true ∧ i ∈ ((cfg0.win 5).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_5 _, ?_⟩
  set t : Fin cfg0.N := ⟨(i 0 : Nat) / 256, by omega⟩
  obtain ⟨e0, e1, -⟩ := idx_facts_out t
  show i ∈ ((View.whole main_v0_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [e0]
    show (i 0 : Nat) / 256 * 256 ≤ (i 0 : Nat) ∧ (i 0 : Nat) < (i 0 : Nat) / 256 * 256 + 256
    omega
  | ⟨1, _⟩ =>
    show win0_5.index t 1 * 1024 ≤ (i 1 : Nat) ∧ (i 1 : Nat) < win0_5.index t 1 * 1024 + 1024
    rw [e1]; omega

theorem cover6 (i : S4096x1024.Idx) : ∃ t : Fin cfg0.N, (cfg0.win 6).flush t = true ∧ i ∈ ((cfg0.win 6).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_6 _, ?_⟩
  set t : Fin cfg0.N := ⟨(i 0 : Nat) / 256, by omega⟩
  obtain ⟨-, -, e0, e1, -⟩ := idx_facts_out t
  show i ∈ ((View.whole main_v0_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [e0]
    show (i 0 : Nat) / 256 * 256 ≤ (i 0 : Nat) ∧ (i 0 : Nat) < (i 0 : Nat) / 256 * 256 + 256
    omega
  | ⟨1, _⟩ =>
    show win0_6.index t 1 * 1024 ≤ (i 1 : Nat) ∧ (i 1 : Nat) < win0_6.index t 1 * 1024 + 1024
    rw [e1]; omega

/-! ## The row summed up over the blocks -/

/-- What one row adds to the gradient of the scale's entry `j`. -/
def rowTerm (x0 : (⟨S4096x5632, .bf16⟩ : BufTy).Contents (Elt Ideal)) (x1 : (⟨S1024x5632, .bf16⟩ : BufTy).Contents (Elt Ideal))
    (x2 : (⟨S4096x1024, .f32⟩ : BufTy).Contents (Elt Ideal)) (j : Fin 1024) (R : Fin 4096) : EReal :=
  x2 (ix2 R j) * val_main_v8 (F := Ideal) x2 (ix2 R 0) * val_main_v18 (F := Ideal) x0 x1 (ix2 R j)

/-- The same of a row's number; nothing beyond the last row. -/
def dgRow (c : Dev nD) (j : Fin 1024) (R : ℕ) : EReal :=
  if h : R < 4096 then
    rowTerm (m ((c : Thread nD τ).loc main_arg0)) (m ((c : Thread nD τ).loc main_arg1)) (m ((c : Thread nD τ).loc main_arg2)) j ⟨R, h⟩
  else 0

/-- What one block adds. -/
theorem dg_block (c : Dev nD) (t : Fin cfg0.N) (x : Vec Ideal S1x1024 .f32) (j : Fin 1024) :
    k0_pay2 (F := Ideal) (k0_pay3 (iblk m c 0 t) (iblk m c 1 t)) (k0_pay5 (iblk m c 2 t)) x (ix2 0 j)
      = x (ix2 0 j) + ∑ r : Fin 256, dgRow m c j (t.val * 256 + r.val) := by
  rw [dg_apply]
  refine congrArg _ (Finset.sum_congr rfl fun r _ => ?_)
  rw [xhat_apply, dh_eq, rstd_eq, iblk2_apply, mul_comm]
  unfold dgRow
  rw [dif_pos (show t.val * 256 + r.val < 4096 from (row t r).isLt)]
  rfl

theorem dg_acc (c : Dev nD) (j : Fin 1024) : ∀ (n : ℕ) (hn : n < cfg0.N),
    (outsAt0 m c n hn).2.2 (ix2 0 j) = ∑ R ∈ Finset.range ((n + 1) * 256), dgRow m c j R
  | 0, hn => by
    rw [outs_dg_first m c ⟨0, hn⟩ rfl, dg_block, dg_zero, Cert.Math.sum_range_block]
    rw [Nat.zero_mul, Finset.range_zero, Finset.sum_empty]
  | n + 1, hn => by
    have hN : cfg0.N = 16 := N_0
    rw [outs_dg_next m c ⟨n + 1, hn⟩ (by show ¬ (n + 1) % 16 = 0; omega), dg_block, Cert.Math.sum_range_block]
    exact congrArg (· + _) (dg_acc c j n (by omega))

theorem flushed7_eq (c : Dev nD) (t : Fin cfg0.N) (hf : (cfg0.win 7).flush t = true) :
    (dats m 0 c).flushed 7 t = ((cfg0.win 7).blk t).view.read (Elt Ideal) (G7 m c) := by
  rw [Value.flushed7]
  obtain ⟨-, -, -, -, e0, e1⟩ := idx_facts_out t
  have hN : t.val < 16 := lt_of_lt_of_eq t.isLt N_0
  have h15 : t.val = 15 := by have := (flush0_7 t).mp hf; omega
  funext y
  show (outsAt0 m c t.val t.isLt).2.2 y = G7 m c ((win0_7.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_7.rect t).emb (ix2 0 j) = ix2 0 j := by
    refine Shape.idx_ext₂ ?_ ?_
    · rw [win0_7.rect_emb_val, e0]; exact (Nat.zero_mul _).symm ▸ Nat.zero_add _
    · rw [win0_7.rect_emb_val, e1]; exact (Nat.zero_mul _).symm ▸ Nat.zero_add _
  rw [hemb, dg_acc]
  unfold G7
  rw [ref_dg, h15, Finset.sum_range (fun R => dgRow m c j R)]
  exact Finset.sum_congr rfl fun R _ => by unfold dgRow; rw [dif_pos R.isLt]; rfl

theorem cover7 (i : S1x1024.Idx) : ∃ t : Fin cfg0.N, (cfg0.win 7).flush t = true ∧ i ∈ ((cfg0.win 7).blk t).view.set := by
  have h0 : (i 0 : Nat) < 1 := (i 0).isLt
  have h1 : (i 1 : Nat) < 1024 := (i 1).isLt
  have hN : cfg0.N = 16 := N_0
  refine ⟨⟨15, by omega⟩, (flush0_7 _).mpr rfl, ?_⟩
  set t : Fin cfg0.N := ⟨15, by omega⟩
  obtain ⟨-, -, -, -, e0, e1⟩ := idx_facts_out t
  show i ∈ ((View.whole main_v0_2).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + 1
    rw [e0]; omega
  | ⟨1, _⟩ =>
    show win0_7.index t 1 * 1024 ≤ (i 1 : Nat) ∧ (i 1 : Nat) < win0_7.index t 1 * 1024 + 1024
    rw [e1]; omega

/-! ## The claim -/

/-- From equal arguments the kernel and the reference end with equal arrays, whatever the arguments are. -/
theorem algebraic : Cert.algebraic_Kernel4Ideal_Reference4Ideal
    (hKernel4Ideal := Cert.Kernel4Ideal.Gen.facts) (hReference4Ideal := Cert.Reference4Ideal.Gen.facts) := by
  intro m g m' g' hpre hargs
  refine ⟨fun c => G5 m c, fun c => G6 m c, fun c => G7 m c, ?_, ?_⟩
  · refine (θ_run (Cert.Kernel4Ideal.defs (F := Ideal)) _ _).mono (fun r h c => ?_) (Value.run_blocks m g)
    obtain ⟨a, b, d, h⟩ := h c
    exact ⟨a.trans ((dats m 0 c).arrAt_eq_of_cover 5 (G5 m c) (fun t _ => flushed5_eq m c t) cover5),
      b.trans ((dats m 0 c).arrAt_eq_of_cover 6 (G6 m c) (fun t _ => flushed6_eq m c t) cover6),
      d.trans ((dats m 0 c).arrAt_eq_of_cover 7 (G7 m c) (fun t hf => flushed7_eq m c t hf) cover7), h⟩
  · refine (θ_run (Cert.Reference4Ideal.defs (F := Ideal)) _ _).mono (fun r h c => ?_)
      (Cert.Reference4Ideal.Value.run (F := Ideal) m' g')
    obtain ⟨a, b, d, h⟩ := h c
    obtain ⟨e0, e1, e2, e3, e4⟩ := hargs c
    refine ⟨(a.trans (val_main_v38_eq _ _)).trans ?_, (b.trans (val_main_v39_eq _ _)).trans ?_,
      (d.trans (val_main_v21_eq _ _ _)).trans ?_, h⟩
    · rw [e0, e1, e2, e3, e4]
    · rw [e0, e1, e2, e3, e4]
    · rw [e0, e1, e2]

end Cert.GuDx

end
-- ==== Proof.Val5.lean ====
/- The value of the gradient of the input projection of the attention layer and of the norm before it: sixteen blocks of 256 rows for the
   gradient of the norm's argument, and one row summed up over the blocks for the gradient of the norm's scale. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Math
public import Idealize.ShloMosaic.Lib.Pointwise

@[expose] public section

noncomputable section

namespace Cert.InDx

open Cert.Kernel5Ideal Cert.Kernel5Ideal.Gen Idealize.ShloMosaic Idealize.ShloMosaic.TcCoe Idealize.SL.Sem
open Idealize.ShloMosaic.Pipeline (Dat Window)

variable (m : (ℓ : Loc nD τ sig) → Buf (Elt Ideal) ℓ)

theorem hz0 : (![0, 0] : Fin S256x1024.rank → Nat) = fun _ => 0 := funext fun a => by fin_cases a <;> rfl
theorem hz1 : (![0, 0] : Fin S1024x1024.rank → Nat) = fun _ => 0 := funext fun a => by fin_cases a <;> rfl
theorem hz2 : (![0, 0] : Fin S256x1024.rank → Nat) = fun _ => 0 := funext fun a => by fin_cases a <;> rfl
theorem hz3 : (![0, 0] : Fin S1x1024.rank → Nat) = fun _ => 0 := funext fun a => by fin_cases a <;> rfl

/-- What a point leaves of the gradient of the norm's argument. -/
theorem outs_dx (c : Dev nD) (t : Fin cfg0.N) :
    (outsAt0 m c t.val t.isLt).1 = k0_pay6 (iblk m c 0 t) (iblk m c 1 t) (iblk m c 2 t) (iblk m c 4 t) (iblk m c 3 t) := by
  by_cases h0 : t.val % 16 = 0
  · rw [outsAt0_A m c t h0]
    dsimp only
    unfold out0_A_5
    refine (View.read_writes_eq_canon _ _ _ fun y => cover0_A_5 ..).trans ?_
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S256x1024) hz0, View.ld_unit_zero (S := S1024x1024) hz1, View.ld_unit_zero (S := S256x1024) hz2,
      View.ld_unit_zero (S := S1x1024) hz3, View.canon_unit_zero (S := S256x1024) hz2]
  · rw [outsAt0_B m c t h0]
    dsimp only
    unfold out0_B_5
    refine (View.read_writes_eq_canon _ _ _ fun y => cover0_B_5 ..).trans ?_
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S256x1024) hz0, View.ld_unit_zero (S := S1024x1024) hz1, View.ld_unit_zero (S := S256x1024) hz2,
      View.ld_unit_zero (S := S1x1024) hz3, View.canon_unit_zero (S := S256x1024) hz2]

/-- What a point leaves of the same gradient, cast. -/
theorem outs_bf (c : Dev nD) (t : Fin cfg0.N) :
    (outsAt0 m c t.val t.isLt).2.1 = k0_pay7 (iblk m c 0 t) (iblk m c 1 t) (iblk m c 2 t) (iblk m c 4 t) (iblk m c 3 t) := by
  by_cases h0 : t.val % 16 = 0
  · rw [outsAt0_A m c t h0]
    dsimp only
    unfold out0_A_6
    refine (View.read_writes_eq_canon _ _ _ fun y => cover0_A_6 ..).trans ?_
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S256x1024) hz0, View.ld_unit_zero (S := S1024x1024) hz1, View.ld_unit_zero (S := S256x1024) hz2,
      View.ld_unit_zero (S := S1x1024) hz3, View.canon_unit_zero (S := S256x1024) hz2]
  · rw [outsAt0_B m c t h0]
    dsimp only
    unfold out0_B_6
    refine (View.read_writes_eq_canon _ _ _ fun y => cover0_B_6 ..).trans ?_
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S256x1024) hz0, View.ld_unit_zero (S := S1024x1024) hz1, View.ld_unit_zero (S := S256x1024) hz2,
      View.ld_unit_zero (S := S1x1024) hz3, View.canon_unit_zero (S := S256x1024) hz2]

/-- The first point starts the sum of the norm scale's gradient from zero. -/
theorem outs_dg_first (c : Dev nD) (t : Fin cfg0.N) (h0 : t.val % 16 = 0) :
    (outsAt0 m c t.val t.isLt).2.2
      = k0_pay2 (k0_pay3 (iblk m c 0 t) (iblk m c 1 t)) (k0_pay5 (iblk m c 2 t)) (k0_pay1 (F := Ideal)) := by
  rw [outsAt0_A m c t h0]
  dsimp only
  unfold out0_A_7
  refine (View.read_writes_eq_canon _ _ _ fun y => cover0_A_7 ..).trans ?_
  unfold kernelRun0_A
  dsimp only
  sl_unfold_words
  simp only [View.readAt_eq_ld, (hs0_0 t).read_unread, (hs0_1 t).read_unread, (hs0_2 t).read_unread,
      (hs0_3 t).read_unread, (hs0_4 t).read_unread, View.ld_unit_zero (S := S256x1024) hz0, View.ld_unit_zero (S := S1024x1024) hz1, View.ld_unit_zero (S := S256x1024) hz2,
      View.ld_unit_zero (S := S1x1024) hz3, View.canon_cons_unit_zero (S := S1x1024) hz3, View.readCov_unit_zero (S := S1x1024) _ hz3]

/-- A later point adds its rows to what the point before left. -/
theorem outs_dg_next (c : Dev nD) (t : Fin cfg0.N) (h0 : ¬ t.val % 16 = 0) :
    (outsAt0 m c t.val t.isLt).2.2
      = k0_pay2 (k0_pay3 (iblk m c 0 t) (iblk m c 1 t)) (k0_pay5 (iblk m c 2 t))
          (outsAt0 m c (t.val - 1) (Nat.lt_of_le_of_lt (Nat.sub_le _ _) t.isLt)).2.2 := by
  rw [outsAt0_B m c t h0]
  dsimp only
  unfold out0_B_7
  refine (View.read_writes_eq_canon _ _ _ fun y => cover0_B_7 ..).trans ?_
  unfold kernelRun0_B
  dsimp only
  sl_unfold_words
  simp only [View.readAt_eq_ld, (hs0_0 t).read_unread, (hs0_1 t).read_unread, (hs0_2 t).read_unread,
      (hs0_3 t).read_unread, (hs0_4 t).read_unread, (hs0_7 t).read_unread, View.ld_unit_zero (S := S256x1024) hz0, View.ld_unit_zero (S := S1024x1024) hz1,
      View.ld_unit_zero (S := S256x1024) hz2, View.ld_unit_zero (S := S1x1024) hz3, View.canon_cons_unit_zero (S := S1x1024) hz3, View.readCov_unit_zero (S := S1x1024) _ hz3]

/-! ## The kernel, entry by entry -/

/-- Row `r` of block `t`. -/
def row (t : Fin cfg0.N) (r : Fin 256) : Fin 4096 :=
  ⟨t.val * 256 + r.val, by have h : t.val < 16 := lt_of_lt_of_eq t.isLt N_0; omega⟩

theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = 0 ∧ win0_4.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val
    ∧ win0_3.index t 1 = 0 ∧ win0_4.index t 0 = 0 ∧ win0_4.index t 1 = 0)

theorem idx_facts_out : ∀ t : Fin cfg0.N, win0_5.index t 0 = t.val ∧ win0_5.index t 1 = 0 ∧ win0_6.index t 0 = t.val
    ∧ win0_6.index t 1 = 0 ∧ win0_7.index t 0 = 0 ∧ win0_7.index t 1 = 0 :=
  (by decide +kernel : ∀ t : Fin grid0.N, win0_5.index t 0 = t.val ∧ win0_5.index t 1 = 0 ∧ win0_6.index t 0 = t.val
    ∧ win0_6.index t 1 = 0 ∧ win0_7.index t 0 = 0 ∧ win0_7.index t 1 = 0)

theorem iblk0_apply (c : Dev nD) (t : Fin cfg0.N) (r : Fin 256) (k : Fin 1024) :
    iblk m c 0 t (ix2 r k) = m ((c : Thread nD τ).loc main_arg0) (ix2 (row t r) k) := by
  obtain ⟨h0, h1, -⟩ := idx_facts t
  show m ((c : Thread nD τ).loc main_arg0) ((win0_0.rect t).emb (ix2 r k)) = _
  refine congrArg _ (Shape.idx_ext₂ ?_ ?_)
  · rw [win0_0.rect_emb_val, h0]; rfl
  · rw [win0_0.rect_emb_val, h1]; exact (Nat.zero_mul _).symm ▸ Nat.zero_add _

theorem iblk1_apply (c : Dev nD) (t : Fin cfg0.N) (r : Fin 1024) (k : Fin 1024) :
    iblk m c 1 t (ix2 r k) = m ((c : Thread nD τ).loc main_arg1) (ix2 r k) := by
  obtain ⟨-, -, h0, h1, -⟩ := idx_facts t
  show m ((c : Thread nD τ).loc main_arg1) ((win0_1.rect t).emb (ix2 r k)) = _
  refine congrArg _ (Shape.idx_ext₂ ?_ ?_)
  · rw [win0_1.rect_emb_val, h0]; exact (Nat.zero_mul _).symm ▸ Nat.zero_add _
  · rw [win0_1.rect_emb_val, h1]; exact (Nat.zero_mul _).symm ▸ Nat.zero_add _

theorem iblk2_apply (c : Dev nD) (t : Fin cfg0.N) (r : Fin 256) (k : Fin 1024) :
    iblk m c 2 t (ix2 r k) = m ((c : Thread nD τ).loc main_arg2) (ix2 (row t r) k) := by
  obtain ⟨-, -, -, -, h0, h1, -⟩ := idx_facts t
  show m ((c : Thread nD τ).loc main_arg2) ((win0_2.rect t).emb (ix2 r k)) = _
  refine congrArg _ (Shape.idx_ext₂ ?_ ?_)
  · rw [win0_2.rect_emb_val, h0]; rfl
  · rw [win0_2.rect_emb_val, h1]; exact (Nat.zero_mul _).symm ▸ Nat.zero_add _

theorem iblk3_apply (c : Dev nD) (t : Fin cfg0.N) (r : Fin 256) (k : Fin 1024) :
    iblk m c 3 t (ix2 r k) = m ((c : Thread nD τ).loc main_arg4) (ix2 (row t r) k) := by
  obtain ⟨-, -, -, -, -, -, h0, h1, -⟩ := idx_facts t
  show m ((c : Thread nD τ).loc main_arg4) ((win0_3.rect t).emb (ix2 r k)) = _
  refine congrArg _ (Shape.idx_ext₂ ?_ ?_)
  · rw [win0_3.rect_emb_val, h0]; rfl
  · rw [win0_3.rect_emb_val, h1]; exact (Nat.zero_mul _).symm ▸ Nat.zero_add _

theorem iblk4_apply (c : Dev nD) (t : Fin cfg0.N) (k : Fin 1024) :
    iblk m c 4 t (ix2 0 k) = m ((c : Thread nD τ).loc main_arg3) (ix2 0 k) := by
  obtain ⟨-, -, -, -, -, -, -, -, h0, h1⟩ := idx_facts t
  show m ((c : Thread nD τ).loc main_arg3) ((win0_4.rect t).emb (ix2 0 k)) = _
  refine congrArg _ (Shape.idx_ext₂ ?_ ?_)
  · rw [win0_4.rect_emb_val, h0]; exact (Nat.zero_mul _).symm ▸ Nat.zero_add _
  · rw [win0_4.rect_emb_val, h1]; exact (Nat.zero_mul _).symm ▸ Nat.zero_add _

section Kernel
variable (x0 : Vec Ideal S256x1024 .bf16) (x1 : Vec Ideal S1024x1024 .bf16) (x2 x4 : Vec Ideal S256x1024 .f32)
variable (x3 : Vec Ideal S1x1024 .f32)

/-- The gradient of the normed and scaled row, one entry. -/
theorem dh_apply (r : Fin 256) (j : Fin 1024) :
    k0_pay3 x0 x1 (ix2 r j) = ∑ k : Fin 1024, x0 (ix2 r k) * x1 (ix2 j k) := by
  pointwise [k0_pay3]

/-- The reciprocal root of a row's mean square. -/
theorem rstd_apply (r : Fin 256) :
    k0_pay4 x2 (ix2 r 0) = Ideal.rsqrt (Ideal.div (∑ k : Fin 1024, x2 (ix2 r k) * x2 (ix2 r k))
      (Ideal.ofBits .f32 0x44800000#32) + Ideal.ofBits .f32 0x358637BD#32) := by
  pointwise [k0_pay4]

theorem xhat_apply (r : Fin 256) (j : Fin 1024) :
    k0_pay5 x2 (ix2 r j) = x2 (ix2 r j) * k0_pay4 x2 (ix2 r 0) := by
  pointwise [k0_pay5]

theorem dx_apply (r : Fin 256) (j : Fin 1024) :
    k0_pay6 x0 x1 x2 x3 x4 (ix2 r j)
      = k0_pay4 x2 (ix2 r 0) * (k0_pay3 x0 x1 (ix2 r j) * x3 (ix2 0 j)
          - x2 (ix2 r j) * k0_pay4 x2 (ix2 r 0)
            * Ideal.div (∑ k : Fin 1024, (k0_pay3 x0 x1 (ix2 r k) * x3 (ix2 0 k)) * (x2 (ix2 r k) * k0_pay4 x2 (ix2 r 0)))
              (Ideal.ofBits .f32 0x44800000#32))
        + x4 (ix2 r j) := by
  pointwise [k0_pay6, k0_pay5]

theorem bf_apply (r : Fin 256) (j : Fin 1024) :
    k0_pay7 x0 x1 x2 x3 x4 (ix2 r j) = k0_pay6 x0 x1 x2 x3 x4 (ix2 r j) := by
  pointwise [k0_pay7]

theorem dg_zero (j : Fin 1024) : k0_pay1 (F := Ideal) (ix2 0 j) = 0 := by
  pointwise [k0_pay1]

theorem dg_apply (y z : Vec Ideal S256x1024 .f32) (x : Vec Ideal S1x1024 .f32) (j : Fin 1024) :
    k0_pay2 (F := Ideal) y z x (ix2 0 j) = x (ix2 0 j) + ∑ r : Fin 256, y (ix2 r j) * z (ix2 r j) := by
  pointwise [k0_pay2]

end Kernel

/-! ## The reference, entry by entry -/

section Reference
open Cert.Reference5Ideal.Read

variable (x0 : (⟨S4096x1024, .bf16⟩ : BufTy).Contents (Elt Ideal)) (x1 : (⟨S1024x1024, .bf16⟩ : BufTy).Contents (Elt Ideal))
variable (x2 x4 : (⟨S4096x1024, .f32⟩ : BufTy).Contents (Elt Ideal)) (x3 : (⟨S1x1024, .f32⟩ : BufTy).Contents (Elt Ideal))

theorem ref_dh (r : Fin 4096) (j : Fin 1024) :
    val_main_v18 (F := Ideal) x0 x1 (ix2 r j) = ∑ k : Fin 1024, x0 (ix2 r k) * x1 (ix2 j k) := by
  rw [val_main_v18_apply]
  exact Finset.sum_congr rfl fun k _ => congrArg₂ (· * ·) (congrArg x0 (Shape.idx_ext₂ rfl rfl))
    (congrArg x1 (Shape.idx_ext₂ rfl rfl))

/-- A row's mean square and the small constant. -/
theorem ref_ms (r : Fin 4096) :
    val_main_v7 (F := Ideal) x2 (ix2 r 0) = Ideal.div (∑ k : Fin 1024, x2 (ix2 r k) * x2 (ix2 r k))
      (Ideal.ofBits .f32 0x44800000#32) + Ideal.ofBits .f32 0x358637BD#32 := by
  pointwise [val_main_v7, val_main_v6, val_main_v5, val_main_v4, val_main_v3, val_main_v2, val_main_v1, val_main_cst,
    val_main_cst_0, val_main_cst_1]

theorem ref_rstd (r : Fin 4096) :
    val_main_v8 (F := Ideal) x2 (ix2 r 0) = Ideal.rsqrt (val_main_v7 (F := Ideal) x2 (ix2 r 0)) := by
  pointwise [val_main_v8]

/-- What a row's own spread sends back through its mean square, for one entry's factor. -/
theorem ref_back (r : Fin 4096) :
    val_main_v31 (F := Ideal) x0 x1 x2 x3 (ix2 r 0)
      = Ideal.div ((∑ k : Fin 1024, x2 (ix2 r k) * (val_main_v18 (F := Ideal) x0 x1 (ix2 r k) * x3 (ix2 0 k)))
          * (Ideal.ofBits .f32 0xBF000000#32 * Ideal.div (val_main_v8 (F := Ideal) x2 (ix2 r 0)) (val_main_v7 (F := Ideal) x2 (ix2 r 0))))
        (Ideal.ofBits .f32 0x44800000#32) := by
  pointwise [val_main_v31, val_main_v30, val_main_v29, val_main_v26, val_main_v25, val_main_v24, val_main_v23, val_main_v22,
    val_main_v11, val_main_v10, val_main_v9, val_main_cst_2, val_main_cst_4, val_main_cst_5]

theorem ref_dx (r : Fin 4096) (j : Fin 1024) :
    val_main_v38 (F := Ideal) x0 x1 x2 x3 x4 (ix2 r j)
      = (val_main_v18 (F := Ideal) x0 x1 (ix2 r j) * x3 (ix2 0 j)) * val_main_v8 (F := Ideal) x2 (ix2 r 0)
        + x2 (ix2 r j) * val_main_v31 (F := Ideal) x0 x1 x2 x3 (ix2 r 0)
        + val_main_v31 (F := Ideal) x0 x1 x2 x3 (ix2 r 0) * x2 (ix2 r j) + x4 (ix2 r j) := by
  pointwise [val_main_v38, val_main_v37, val_main_v36, val_main_v35, val_main_v34, val_main_v33, val_main_v32, val_main_v28,
    val_main_v27, val_main_v23, val_main_v22, val_main_cst_6]
  rw [Fin.sum_univ_one]

theorem ref_bf (r : Fin 4096) (j : Fin 1024) :
    val_main_v39 (F := Ideal) x0 x1 x2 x3 x4 (ix2 r j) = val_main_v38 (F := Ideal) x0 x1 x2 x3 x4 (ix2 r j) := by
  pointwise [val_main_v39]

theorem ref_dg (j : Fin 1024) :
    val_main_v21 (F := Ideal) x0 x1 x2 (ix2 0 j)
      = ∑ r : Fin 4096, x2 (ix2 r j) * val_main_v8 (F := Ideal) x2 (ix2 r 0) * val_main_v18 (F := Ideal) x0 x1 (ix2 r j) := by
  pointwise [val_main_v21, val_main_v20, val_main_v19, val_main_v13, val_main_v12, val_main_cst_3]

end Reference

/-! ## Put together -/

open Cert.Reference5Ideal.Read

/-- The arrays the reference leaves, of the kernel's arguments. -/
abbrev G5 (c : Dev nD) : Buf (Elt Ideal) ((c : Thread nD τ).loc main_v0_0) :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev G6 (c : Dev nD) : Buf (Elt Ideal) ((c : Thread nD τ).loc main_v0_1) :=
  val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev G7 (c : Dev nD) : Buf (Elt Ideal) ((c : Thread nD τ).loc main_v0_2) :=
  val_main_v21 (F := Ideal) (m ((c : Thread nD τ).loc main_arg0)) (m ((c : Thread nD τ).loc main_arg1))
    (m ((c : Thread nD τ).loc main_arg2))

theorem rstd_eq (c : Dev nD) (t : Fin cfg0.N) (r : Fin 256) :
    k0_pay4 (iblk m c 2 t) (ix2 r 0) = val_main_v8 (F := Ideal) (m ((c : Thread nD τ).loc main_arg2)) (ix2 (row t r) 0) := by
  rw [rstd_apply, ref_rstd, ref_ms]
  simp only [iblk2_apply]

theorem dh_eq (c : Dev nD) (t : Fin cfg0.N) (r : Fin 256) (j : Fin 1024) :
    k0_pay3 (iblk m c 0 t) (iblk m c 1 t) (ix2 r j)
      = val_main_v18 (F := Ideal) (m ((c : Thread nD τ).loc main_arg0)) (m ((c : Thread nD τ).loc main_arg1)) (ix2 (row t r) j) := by
  rw [dh_apply, ref_dh]
  simp only [iblk0_apply, iblk1_apply]

/-- The gradient of the norm's argument: the kernel's form of a row and the derivative's agree. -/
theorem dx_eq (c : Dev nD) (t : Fin cfg0.N) (r : Fin 256) (j : Fin 1024) :
    k0_pay6 (iblk m c 0 t) (iblk m c 1 t) (iblk m c 2 t) (iblk m c 4 t) (iblk m c 3 t) (ix2 r j) = G5 m c (ix2 (row t r) j) := by
  unfold G5
  rw [dx_apply, ref_dx, ref_back]
  simp only [dh_eq, rstd_eq, iblk2_apply, iblk3_apply, iblk4_apply]
  obtain ⟨e, he, hee⟩ := Cert.Math.ofBits_eps
  have hv := ref_ms (m ((c : Thread nD τ).loc main_arg2)) (row t r)
  have hs := ref_rstd (m ((c : Thread nD τ).loc main_arg2)) (row t r)
  rw [Cert.Math.ofBits_1024, hee] at hv
  rw [Cert.Math.ofBits_1024, Cert.Math.ofBits_neg_half]
  exact congrArg (· + _) (Cert.Math.rms_row (fun k : Fin 1024 => m ((c : Thread nD τ).loc main_arg2) (ix2 (row t r) k))
    (fun k => val_main_v18 (F := Ideal) (m ((c : Thread nD τ).loc main_arg0)) (m ((c : Thread nD τ).loc main_arg1)) (ix2 (row t r) k)
      * m ((c : Thread nD τ).loc main_arg3) (ix2 0 k)) 1024 e (by norm_num) he j _ _ hv hs)

theorem flushed5_eq (c : Dev nD) (t : Fin cfg0.N) :
    (dats m 0 c).flushed 5 t = ((cfg0.win 5).blk t).view.read (Elt Ideal) (G5 m c) := by
  rw [Value.flushed5]
  obtain ⟨e0, e1, -⟩ := idx_facts_out t
  funext y
  show (outsAt0 m c t.val t.isLt).1 y = G5 m c ((win0_5.rect t).emb y)
  obtain ⟨r, j, rfl⟩ : ∃ (r : Fin 256) (j : Fin 1024), y = ix2 r j := ⟨y 0, y 1, eq_ix2 y⟩
  have hemb : (win0_5.rect t).emb (ix2 r j) = ix2 (row t r) j := by
    refine Shape.idx_ext₂ ?_ ?_
    · rw [win0_5.rect_emb_val, e0]; rfl
    · rw [win0_5.rect_emb_val, e1]; exact (Nat.zero_mul _).symm ▸ Nat.zero_add _
  rw [hemb, outs_dx, dx_eq]

theorem flushed6_eq (c : Dev nD) (t : Fin cfg0.N) :
    (dats m 0 c).flushed 6 t = ((cfg0.win 6).blk t).view.read (Elt Ideal) (G6 m c) := by
  rw [Value.flushed6]
  obtain ⟨-, -, e0, e1, -⟩ := idx_facts_out t
  funext y
  show (outsAt0 m c t.val t.isLt).2.1 y = G6 m c ((win0_6.rect t).emb y)
  obtain ⟨r, j, rfl⟩ : ∃ (r : Fin 256) (j : Fin 1024), y = ix2 r j := ⟨y 0, y 1, eq_ix2 y⟩
  have hemb : (win0_6.rect t).emb (ix2 r j) = ix2 (row t r) j := by
    refine Shape.idx_ext₂ ?_ ?_
    · rw [win0_6.rect_emb_val, e0]; rfl
    · rw [win0_6.rect_emb_val, e1]; exact (Nat.zero_mul _).symm ▸ Nat.zero_add _
  rw [hemb, outs_bf, bf_apply, dx_eq]
  unfold G6
  rw [ref_bf]

theorem cover5 (i : S4096x1024.Idx) : ∃ t : Fin cfg0.N, (cfg0.win 5).flush t = true ∧ i ∈ ((cfg0.win 5).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_5 _, ?_⟩
  set t : Fin cfg0.N := ⟨(i 0 : Nat) / 256, by omega⟩
  obtain ⟨e0, e1, -⟩ := idx_facts_out t
  show i ∈ ((View.whole main_v0_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [e0]
    show (i 0 : Nat) / 256 * 256 ≤ (i 0 : Nat) ∧ (i 0 : Nat) < (i 0 : Nat) / 256 * 256 + 256
    omega
  | ⟨1, _⟩ =>
    show win0_5.index t 1 * 1024 ≤ (i 1 : Nat) ∧ (i 1 : Nat) < win0_5.index t 1 * 1024 + 1024
    rw [e1]; omega

theorem cover6 (i : S4096x1024.Idx) : ∃ t : Fin cfg0.N, (cfg0.win 6).flush t = true ∧ i ∈ ((cfg0.win 6).blk t).view.set := by
  have h0 : (i 0 : Nat) < 4096 := (i 0).isLt
  have h1 : (i 1 : Nat) < 1024 := (i 1).isLt
  have hN : cfg0.N = 16 := N_0
  refine ⟨⟨(i 0 : Nat) / 256, by omega⟩, flush0_6 _, ?_⟩
  set t : Fin cfg0.N := ⟨(i 0 : Nat) / 256, by omega⟩
  obtain ⟨-, -, e0, e1, -⟩ := idx_facts_out t
  show i ∈ ((View.whole main_v0_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [e0]
    show (i 0 : Nat) / 256 * 256 ≤ (i 0 : Nat) ∧ (i 0 : Nat) < (i 0 : Nat) / 256 * 256 + 256
    omega
  | ⟨1, _⟩ =>
    show win0_6.index t 1 * 1024 ≤ (i 1 : Nat) ∧ (i 1 : Nat) < win0_6.index t 1 * 1024 + 1024
    rw [e1]; omega

/-! ## The row summed up over the blocks -/

/-- What one row adds to the gradient of the scale's entry `j`. -/
def rowTerm (x0 : (⟨S4096x1024, .bf16⟩ : BufTy).Contents (Elt Ideal)) (x1 : (⟨S1024x1024, .bf16⟩ : BufTy).Contents (Elt Ideal))
    (x2 : (⟨S4096x1024, .f32⟩ : BufTy).Contents (Elt Ideal)) (j : Fin 1024) (R : Fin 4096) : EReal :=
  x2 (ix2 R j) * val_main_v8 (F := Ideal) x2 (ix2 R 0) * val_main_v18 (F := Ideal) x0 x1 (ix2 R j)

/-- The same of a row's number; nothing beyond the last row. -/
def dgRow (c : Dev nD) (j : Fin 1024) (R : ℕ) : EReal :=
  if h : R < 4096 then
    rowTerm (m ((c : Thread nD τ).loc main_arg0)) (m ((c : Thread nD τ).loc main_arg1)) (m ((c : Thread nD τ).loc main_arg2)) j ⟨R, h⟩
  else 0

/-- What one block adds. -/
theorem dg_block (c : Dev nD) (t : Fin cfg0.N) (x : Vec Ideal S1x1024 .f32) (j : Fin 1024) :
    k0_pay2 (F := Ideal) (k0_pay3 (iblk m c 0 t) (iblk m c 1 t)) (k0_pay5 (iblk m c 2 t)) x (ix2 0 j)
      = x (ix2 0 j) + ∑ r : Fin 256, dgRow m c j (t.val * 256 + r.val) := by
  rw [dg_apply]
  refine congrArg _ (Finset.sum_congr rfl fun r _ => ?_)
  rw [xhat_apply, dh_eq, rstd_eq, iblk2_apply, mul_comm]
  unfold dgRow
  rw [dif_pos (show t.val * 256 + r.val < 4096 from (row t r).isLt)]
  rfl

theorem dg_acc (c : Dev nD) (j : Fin 1024) : ∀ (n : ℕ) (hn : n < cfg0.N),
    (outsAt0 m c n hn).2.2 (ix2 0 j) = ∑ R ∈ Finset.range ((n + 1) * 256), dgRow m c j R
  | 0, hn => by
    rw [outs_dg_first m c ⟨0, hn⟩ rfl, dg_block, dg_zero, Cert.Math.sum_range_block]
    rw [Nat.zero_mul, Finset.range_zero, Finset.sum_empty]
  | n + 1, hn => by
    have hN : cfg0.N = 16 := N_0
    rw [outs_dg_next m c ⟨n + 1, hn⟩ (by show ¬ (n + 1) % 16 = 0; omega), dg_block, Cert.Math.sum_range_block]
    exact congrArg (· + _) (dg_acc c j n (by omega))

theorem flushed7_eq (c : Dev nD) (t : Fin cfg0.N) (hf : (cfg0.win 7).flush t = true) :
    (dats m 0 c).flushed 7 t = ((cfg0.win 7).blk t).view.read (Elt Ideal) (G7 m c) := by
  rw [Value.flushed7]
  obtain ⟨-, -, -, -, e0, e1⟩ := idx_facts_out t
  have hN : t.val < 16 := lt_of_lt_of_eq t.isLt N_0
  have h15 : t.val = 15 := by have := (flush0_7 t).mp hf; omega
  funext y
  show (outsAt0 m c t.val t.isLt).2.2 y = G7 m c ((win0_7.rect t).emb y)
  obtain ⟨j, rfl⟩ : ∃ j : Fin 1024, y = ix2 0 j :=
    ⟨y 1, (eq_ix2 y).trans (congrArg (fun a => ix2 a (y 1)) (Subsingleton.elim (α := Fin 1) _ _))⟩
  have hemb : (win0_7.rect t).emb (ix2 0 j) = ix2 0 j := by
    refine Shape.idx_ext₂ ?_ ?_
    · rw [win0_7.rect_emb_val, e0]; exact (Nat.zero_mul _).symm ▸ Nat.zero_add _
    · rw [win0_7.rect_emb_val, e1]; exact (Nat.zero_mul _).symm ▸ Nat.zero_add _
  rw [hemb, dg_acc]
  unfold G7
  rw [ref_dg, h15, Finset.sum_range (fun R => dgRow m c j R)]
  exact Finset.sum_congr rfl fun R _ => by unfold dgRow; rw [dif_pos R.isLt]; rfl

theorem cover7 (i : S1x1024.Idx) : ∃ t : Fin cfg0.N, (cfg0.win 7).flush t = true ∧ i ∈ ((cfg0.win 7).blk t).view.set := by
  have h0 : (i 0 : Nat) < 1 := (i 0).isLt
  have h1 : (i 1 : Nat) < 1024 := (i 1).isLt
  have hN : cfg0.N = 16 := N_0
  refine ⟨⟨15, by omega⟩, (flush0_7 _).mpr rfl, ?_⟩
  set t : Fin cfg0.N := ⟨15, by omega⟩
  obtain ⟨-, -, -, -, e0, e1⟩ := idx_facts_out t
  show i ∈ ((View.whole main_v0_2).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + 1
    rw [e0]; omega
  | ⟨1, _⟩ =>
    show win0_7.index t 1 * 1024 ≤ (i 1 : Nat) ∧ (i 1 : Nat) < win0_7.index t 1 * 1024 + 1024
    rw [e1]; omega

/-! ## The claim -/

/-- From equal arguments the kernel and the reference end with equal arrays, whatever the arguments are. -/
theorem algebraic : Cert.algebraic_Kernel5Ideal_Reference5Ideal
    (hKernel5Ideal := Cert.Kernel5Ideal.Gen.facts) (hReference5Ideal := Cert.Reference5Ideal.Gen.facts) := by
  intro m g m' g' hpre hargs
  refine ⟨fun c => G5 m c, fun c => G6 m c, fun c => G7 m c, ?_, ?_⟩
  · refine (θ_run (Cert.Kernel5Ideal.defs (F := Ideal)) _ _).mono (fun r h c => ?_) (Value.run_blocks m g)
    obtain ⟨a, b, d, h⟩ := h c
    exact ⟨a.trans ((dats m 0 c).arrAt_eq_of_cover 5 (G5 m c) (fun t _ => flushed5_eq m c t) cover5),
      b.trans ((dats m 0 c).arrAt_eq_of_cover 6 (G6 m c) (fun t _ => flushed6_eq m c t) cover6),
      d.trans ((dats m 0 c).arrAt_eq_of_cover 7 (G7 m c) (fun t hf => flushed7_eq m c t hf) cover7), h⟩
  · refine (θ_run (Cert.Reference5Ideal.defs (F := Ideal)) _ _).mono (fun r h c => ?_)
      (Cert.Reference5Ideal.Value.run (F := Ideal) m' g')
    obtain ⟨a, b, d, h⟩ := h c
    obtain ⟨e0, e1, e2, e3, e4⟩ := hargs c
    refine ⟨(a.trans (val_main_v38_eq _ _)).trans ?_, (b.trans (val_main_v39_eq _ _)).trans ?_,
      (d.trans (val_main_v21_eq _ _ _)).trans ?_, h⟩
    · rw [e0, e1, e2, e3, e4]
    · rw [e0, e1, e2, e3, e4]
    · rw [e0, e1, e2]

end Cert.InDx

end
-- ==== Proof.Val6.lean ====
/- The value of the gradient of the down projection's weights: the kernel's blocks of
   256 rows and 1024 columns, put together, are the reference's array. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Math
public import Idealize.ShloMosaic.Lib.Pointwise

@[expose] public section

noncomputable section

namespace Cert.DownDw

open Cert.Kernel6Ideal Cert.Kernel6Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 256) : Fin 2816 :=
  ⟨t.val / 1 * 256 + r.val, by have h : t.val < 11 := lt_of_lt_of_eq t.isLt N_0; omega⟩
def col (t : Fin cfg0.N) (s : Fin 1024) : Fin 1024 :=
  ⟨t.val % 1 * 1024 + s.val, by have h : t.val < 11 := lt_of_lt_of_eq t.isLt N_0; omega⟩

theorem idx_facts : ∀ t : Fin cfg0.N, win0_0.index t 0 = 0 ∧ win0_0.index t 1 = t.val / 1 ∧ win0_1.index t 0 = 0 ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0 ∧ win0_1.index t 1 = t.val % 1 ∧ win0_2.index t 0 = t.val / 1 ∧ win0_2.index t 1 = t.val % 1)

theorem iblk0_apply (c : Dev nD) (t : Fin cfg0.N) (k : Fin 4096) (r : Fin 256) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 4096) (s : Fin 1024) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S4096x256 .bf16) (x1 : Vec Ideal S4096x1024 .bf16) (r : Fin 256) (s : Fin 1024) :
    out0_2 x0 x1 (ix2 r s) = ∑ k : Fin 4096, x0 (ix2 k r) * x1 (ix2 k s) := by
  have hz0 : (![0, 0] : Fin S4096x256.rank → Nat) = fun _ => 0 := funext fun a => by fin_cases a <;> rfl
  have hz1 : (![0, 0] : Fin S4096x1024.rank → Nat) = fun _ => 0 := funext fun a => by fin_cases a <;> rfl
  have hz2 : (![0, 0] : Fin S256x1024.rank → Nat) = fun _ => 0 := funext fun a => by fin_cases a <;> rfl
  unfold out0_2
  simp only [View.ld_unit_zero (S := S4096x256) hz0, View.ld_unit_zero (S := S4096x1024) hz1, View.ld_unit_zero (S := S256x1024) hz2, View.canon_unit_zero (S := S256x1024) hz2]
  pointwise [k0_pay1]

/-- The reference's array, entry by entry. -/
theorem ref_apply (x0 : (⟨Cert.Reference6Ideal.S4096x2816, .bf16⟩ : BufTy).Contents (Elt Ideal)) (x1 : (⟨Cert.Reference6Ideal.S4096x1024, .bf16⟩ : BufTy).Contents (Elt Ideal)) (i : Fin 2816) (j : Fin 1024) :
    Cert.Reference6Ideal.Read.val_main_v6 (F := Ideal) x0 x1 (ix2 i j) = ∑ k : Fin 4096, x0 (ix2 k i) * x1 (ix2 k j) := by
  open Cert.Reference6Ideal.Read in pointwise [val_main_cst, val_main_v0, val_main_v1, val_main_v2, val_main_v3, val_main_v4, val_main_v5, val_main_v6]
  exact Finset.sum_congr rfl fun k _ => mul_comm _ _

/-- The array the reference leaves, of the kernel's arguments. -/
abbrev G (c : Dev nD) : Buf (Elt Ideal) ((c : Thread nD τ).loc main_v0) :=
  Cert.Reference6Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 256) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S2816x1024.Idx) : ∃ t : Fin cfg0.N, (cfg0.win 2).flush t = true ∧ i ∈ ((cfg0.win 2).blk t).view.set := by
  have b0 : (i 0 : Nat) < 2816 := (i 0).isLt
  have b1 : (i 1 : Nat) < 1024 := (i 1).isLt
  have hN : cfg0.N = 11 := N_0
  refine ⟨⟨(i 0 : Nat) / 256 * 1 + (i 1 : Nat) / 1024, by omega⟩, flush0_2 _, ?_⟩
  set t : Fin cfg0.N := ⟨(i 0 : Nat) / 256 * 1 + (i 1 : Nat) / 1024, by omega⟩ with ht
  have hv : t.val = (i 0 : Nat) / 256 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel6Ideal_Reference6Ideal
    (hKernel6Ideal := Cert.Kernel6Ideal.Gen.facts) (hReference6Ideal := Cert.Reference6Ideal.Gen.facts) := by
  intro m g m' g' _ hargs
  refine ⟨fun c => G m c, ?_, ?_⟩
  · refine (θ_run (Cert.Kernel6Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference6Ideal.defs (F := Ideal)) _ _).mono (fun r h c => ?_)
      (Cert.Reference6Ideal.Value.run (F := Ideal) m' g')
    refine ⟨((h c).1.trans (Cert.Reference6Ideal.Read.val_main_v6_eq _ _)).trans ?_, (h c).2⟩
    obtain ⟨e0, e1⟩ := hargs c
    rw [e0, e1]

end Cert.DownDw

end
-- ==== Proof.Val7.lean ====
/- The value of the gradient of the gate and up projection's weights: the kernel's blocks of
   1024 rows and 512 columns, put together, are the reference's array. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Math
public import Idealize.ShloMosaic.Lib.Pointwise

@[expose] public section

noncomputable section

namespace Cert.GuDw

open Cert.Kernel7Ideal Cert.Kernel7Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 1024) : Fin 1024 :=
  ⟨t.val / 11 * 1024 + r.val, by have h : t.val < 11 := lt_of_lt_of_eq t.isLt N_0; omega⟩
def col (t : Fin cfg0.N) (s : Fin 512) : Fin 5632 :=
  ⟨t.val % 11 * 512 + s.val, by have h : t.val < 11 := lt_of_lt_of_eq t.isLt N_0; omega⟩

theorem idx_facts : ∀ t : Fin cfg0.N, win0_0.index t 0 = 0 ∧ win0_0.index t 1 = t.val / 11 ∧ win0_1.index t 0 = 0 ∧ win0_1.index t 1 = t.val % 11 ∧ win0_2.index t 0 = t.val / 11 ∧ win0_2.index t 1 = t.val % 11 :=
  (by decide +kernel : ∀ t : Fin grid0.N, win0_0.index t 0 = 0 ∧ win0_0.index t 1 = t.val / 11 ∧ win0_1.index t 0 = 0 ∧ win0_1.index t 1 = t.val % 11 ∧ win0_2.index t 0 = t.val / 11 ∧ win0_2.index t 1 = t.val % 11)

theorem iblk0_apply (c : Dev nD) (t : Fin cfg0.N) (k : Fin 4096) (r : Fin 1024) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 4096) (s : Fin 512) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S4096x1024 .bf16) (x1 : Vec Ideal S4096x512 .bf16) (r : Fin 1024) (s : Fin 512) :
    out0_2 x0 x1 (ix2 r s) = ∑ k : Fin 4096, x0 (ix2 k r) * x1 (ix2 k s) := by
  have hz0 : (![0, 0] : Fin S4096x1024.rank → Nat) = fun _ => 0 := funext fun a => by fin_cases a <;> rfl
  have hz1 : (![0, 0] : Fin S4096x512.rank → Nat) = fun _ => 0 := funext fun a => by fin_cases a <;> rfl
  have hz2 : (![0, 0] : Fin S1024x512.rank → Nat) = fun _ => 0 := funext fun a => by fin_cases a <;> rfl
  unfold out0_2
  simp only [View.ld_unit_zero (S := S4096x1024) hz0, View.ld_unit_zero (S := S4096x512) hz1, View.ld_unit_zero (S := S1024x512) hz2, View.canon_unit_zero (S := S1024x512) hz2]
  pointwise [k0_pay1]

/-- The reference's array, entry by entry. -/
theorem ref_apply (x0 : (⟨Cert.Reference7Ideal.S4096x1024, .bf16⟩ : BufTy).Contents (Elt Ideal)) (x1 : (⟨Cert.Reference7Ideal.S4096x5632, .bf16⟩ : BufTy).Contents (Elt Ideal)) (i : Fin 1024) (j : Fin 5632) :
    Cert.Reference7Ideal.Read.val_main_v6 (F := Ideal) x0 x1 (ix2 i j) = ∑ k : Fin 4096, x0 (ix2 k i) * x1 (ix2 k j) := by
  open Cert.Reference7Ideal.Read in pointwise [val_main_cst, val_main_v0, val_main_v1, val_main_v2, val_main_v3, val_main_v4, val_main_v5, val_main_v6]
  exact Finset.sum_congr rfl fun k _ => mul_comm _ _

/-- The array the reference leaves, of the kernel's arguments. -/
abbrev G (c : Dev nD) : Buf (Elt Ideal) ((c : Thread nD τ).loc main_v0) :=
  Cert.Reference7Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 1024) (s : Fin 512), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S1024x5632.Idx) : ∃ t : Fin cfg0.N, (cfg0.win 2).flush t = true ∧ i ∈ ((cfg0.win 2).blk t).view.set := by
  have b0 : (i 0 : Nat) < 1024 := (i 0).isLt
  have b1 : (i 1 : Nat) < 5632 := (i 1).isLt
  have hN : cfg0.N = 11 := N_0
  refine ⟨⟨(i 0 : Nat) / 1024 * 11 + (i 1 : Nat) / 512, by omega⟩, flush0_2 _, ?_⟩
  set t : Fin cfg0.N := ⟨(i 0 : Nat) / 1024 * 11 + (i 1 : Nat) / 512, by omega⟩ with ht
  have hv : t.val = (i 0 : Nat) / 1024 * 11 + (i 1 : Nat) / 512 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [h0, hv]; omega
  | ⟨1, _⟩ =>
    show win0_2.index t 1 * 512 ≤ (i 1 : Nat) ∧ (i 1 : Nat) < win0_2.index t 1 * 512 + 512
    rw [h1, hv]; omega

/-- From equal arguments the kernel and the reference end with equal arrays. -/
theorem algebraic : Cert.algebraic_Kernel7Ideal_Reference7Ideal
    (hKernel7Ideal := Cert.Kernel7Ideal.Gen.facts) (hReference7Ideal := Cert.Reference7Ideal.Gen.facts) := by
  intro m g m' g' _ hargs
  refine ⟨fun c => G m c, ?_, ?_⟩
  · refine (θ_run (Cert.Kernel7Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference7Ideal.defs (F := Ideal)) _ _).mono (fun r h c => ?_)
      (Cert.Reference7Ideal.Value.run (F := Ideal) m' g')
    refine ⟨((h c).1.trans (Cert.Reference7Ideal.Read.val_main_v6_eq _ _)).trans ?_, (h c).2⟩
    obtain ⟨e0, e1⟩ := hargs c
    rw [e0, e1]

end Cert.GuDw

end
-- ==== Proof.Val8.lean ====
/- The value of the gradient of the weights of a square projection: the kernel's blocks of
   1024 rows and 1024 columns, put together, are the reference's array. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Math
public import Idealize.ShloMosaic.Lib.Pointwise

@[expose] public section

noncomputable section

namespace Cert.SquareDw

open Cert.Kernel8Ideal Cert.Kernel8Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 1024) : Fin 1024 :=
  ⟨t.val / 1 * 1024 + r.val, by have h : t.val < 1 := lt_of_lt_of_eq t.isLt N_0; omega⟩
def col (t : Fin cfg0.N) (s : Fin 1024) : Fin 1024 :=
  ⟨t.val % 1 * 1024 + s.val, by have h : t.val < 1 := lt_of_lt_of_eq t.isLt N_0; omega⟩

theorem idx_facts : ∀ t : Fin cfg0.N, win0_0.index t 0 = 0 ∧ win0_0.index t 1 = t.val / 1 ∧ win0_1.index t 0 = 0 ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0 ∧ win0_1.index t 1 = t.val % 1 ∧ win0_2.index t 0 = t.val / 1 ∧ win0_2.index t 1 = t.val % 1)

theorem iblk0_apply (c : Dev nD) (t : Fin cfg0.N) (k : Fin 4096) (r : Fin 1024) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 4096) (s : Fin 1024) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S4096x1024 .bf16) (x1 : Vec Ideal S4096x1024 .bf16) (r : Fin 1024) (s : Fin 1024) :
    out0_2 x0 x1 (ix2 r s) = ∑ k : Fin 4096, x0 (ix2 k r) * x1 (ix2 k s) := by
  have hz0 : (![0, 0] : Fin S4096x1024.rank → Nat) = fun _ => 0 := funext fun a => by fin_cases a <;> rfl
  have hz1 : (![0, 0] : Fin S1024x1024.rank → Nat) = fun _ => 0 := funext fun a => by fin_cases a <;> rfl
  unfold out0_2
  simp only [View.ld_unit_zero (S := S4096x1024) hz0, View.ld_unit_zero (S := S1024x1024) hz1, View.canon_unit_zero (S := S1024x1024) hz1]
  pointwise [k0_pay1]

/-- The reference's array, entry by entry. -/
theorem ref_apply (x0 : (⟨Cert.Reference8Ideal.S4096x1024, .bf16⟩ : BufTy).Contents (Elt Ideal)) (x1 : (⟨Cert.Reference8Ideal.S4096x1024, .bf16⟩ : BufTy).Contents (Elt Ideal)) (i : Fin 1024) (j : Fin 1024) :
    Cert.Reference8Ideal.Read.val_main_v6 (F := Ideal) x0 x1 (ix2 i j) = ∑ k : Fin 4096, x0 (ix2 k i) * x1 (ix2 k j) := by
  open Cert.Reference8Ideal.Read in pointwise [val_main_cst, val_main_v0, val_main_v1, val_main_v2, val_main_v3, val_main_v4, val_main_v5, val_main_v6]
  exact Finset.sum_congr rfl fun k _ => mul_comm _ _

/-- The array the reference leaves, of the kernel's arguments. -/
abbrev G (c : Dev nD) : Buf (Elt Ideal) ((c : Thread nD τ).loc main_v0) :=
  Cert.Reference8Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 1024) (s : Fin 1024), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S1024x1024.Idx) : ∃ t : Fin cfg0.N, (cfg0.win 2).flush t = true ∧ i ∈ ((cfg0.win 2).blk t).view.set := by
  have b0 : (i 0 : Nat) < 1024 := (i 0).isLt
  have b1 : (i 1 : Nat) < 1024 := (i 1).isLt
  have hN : cfg0.N = 1 := N_0
  refine ⟨⟨(i 0 : Nat) / 1024 * 1 + (i 1 : Nat) / 1024, by omega⟩, flush0_2 _, ?_⟩
  set t : Fin cfg0.N := ⟨(i 0 : Nat) / 1024 * 1 + (i 1 : Nat) / 1024, by omega⟩ with ht
  have hv : t.val = (i 0 : Nat) / 1024 * 1 + (i 1 : Nat) / 1024 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [h0, hv]; omega
  | ⟨1, _⟩ =>
    show win0_2.index t 1 * 1024 ≤ (i 1 : Nat) ∧ (i 1 : Nat) < win0_2.index t 1 * 1024 + 1024
    rw [h1, hv]; omega

/-- From equal arguments the kernel and the reference end with equal arrays. -/
theorem algebraic : Cert.algebraic_Kernel8Ideal_Reference8Ideal
    (hKernel8Ideal := Cert.Kernel8Ideal.Gen.facts) (hReference8Ideal := Cert.Reference8Ideal.Gen.facts) := by
  intro m g m' g' _ hargs
  refine ⟨fun c => G m c, ?_, ?_⟩
  · refine (θ_run (Cert.Kernel8Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference8Ideal.defs (F := Ideal)) _ _).mono (fun r h c => ?_)
      (Cert.Reference8Ideal.Value.run (F := Ideal) m' g')
    refine ⟨((h c).1.trans (Cert.Reference8Ideal.Read.val_main_v6_eq _ _)).trans ?_, (h c).2⟩
    obtain ⟨e0, e1⟩ := hargs c
    rw [e0, e1]

end Cert.SquareDw

end
-- ==== Proof.Val9.lean ====
/- The value of the gradient of the weights of the key and value projection: the kernel's blocks of
   1024 rows and 512 columns, put together, are the reference's array. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Math
public import Idealize.ShloMosaic.Lib.Pointwise

@[expose] public section

noncomputable section

namespace Cert.KvDw

open Cert.Kernel9Ideal Cert.Kernel9Ideal.Gen Idealize.ShloMosaic Idealize.ShloMosaic.TcCoe Idealize.SL.Sem
open Idealize.ShloMosaic.Pipeline (Dat Window)

variable (m : (ℓ : Loc nD τ sig) → Buf (Elt Ideal) ℓ)

/-- Row `r` of block `t`, and its column `s`. -/
def row (t : Fin cfg0.N) (r : Fin 1024) : Fin 1024 :=
  ⟨t.val / 3 * 1024 + r.val, by have h : t.val < 3 := lt_of_lt_of_eq t.isLt N_0; omega⟩
def col (t : Fin cfg0.N) (s : Fin 512) : Fin 1536 :=
  ⟨t.val % 3 * 512 + s.val, by have h : t.val < 3 := lt_of_lt_of_eq t.isLt N_0; omega⟩

theorem idx_facts : ∀ t : Fin cfg0.N, win0_0.index t 0 = 0 ∧ win0_0.index t 1 = t.val / 3 ∧ win0_1.index t 0 = 0 ∧ win0_1.index t 1 = t.val % 3 ∧ win0_2.index t 0 = t.val / 3 ∧ win0_2.index t 1 = t.val % 3 :=
  (by decide +kernel : ∀ t : Fin grid0.N, win0_0.index t 0 = 0 ∧ win0_0.index t 1 = t.val / 3 ∧ win0_1.index t 0 = 0 ∧ win0_1.index t 1 = t.val % 3 ∧ win0_2.index t 0 = t.val / 3 ∧ win0_2.index t 1 = t.val % 3)

theorem iblk0_apply (c : Dev nD) (t : Fin cfg0.N) (k : Fin 4096) (r : Fin 1024) :
    iblk m c 0 t (ix2 k r) = m ((c : Thread nD τ).loc main_arg0) (ix2 k (row t r)) := by
  obtain ⟨h0, h1, -⟩ := idx_facts t
  show m ((c : Thread nD τ).loc main_arg0) ((win0_0.rect t).emb (ix2 k r)) = _
  refine congrArg _ (Shape.idx_ext₂ ?_ ?_)
  · rw [win0_0.rect_emb_val, h0]; exact (Nat.zero_mul _).symm ▸ Nat.zero_add _
  · rw [win0_0.rect_emb_val, h1]; rfl

theorem iblk1_apply (c : Dev nD) (t : Fin cfg0.N) (k : Fin 4096) (s : Fin 512) :
    iblk m c 1 t (ix2 k s) = m ((c : Thread nD τ).loc main_arg1) (ix2 k (col t s)) := by
  obtain ⟨-, -, h0, h1, -⟩ := idx_facts t
  show m ((c : Thread nD τ).loc main_arg1) ((win0_1.rect t).emb (ix2 k s)) = _
  refine congrArg _ (Shape.idx_ext₂ ?_ ?_)
  · rw [win0_1.rect_emb_val, h0]; exact (Nat.zero_mul _).symm ▸ Nat.zero_add _
  · rw [win0_1.rect_emb_val, h1]; rfl

/-- The block a point writes, entry by entry. -/
theorem out_apply (x0 : Vec Ideal S4096x1024 .bf16) (x1 : Vec Ideal S4096x512 .bf16) (r : Fin 1024) (s : Fin 512) :
    out0_2 x0 x1 (ix2 r s) = ∑ k : Fin 4096, x0 (ix2 k r) * x1 (ix2 k s) := by
  have hz0 : (![0, 0] : Fin S4096x1024.rank → Nat) = fun _ => 0 := funext fun a => by fin_cases a <;> rfl
  have hz1 : (![0, 0] : Fin S4096x512.rank → Nat) = fun _ => 0 := funext fun a => by fin_cases a <;> rfl
  have hz2 : (![0, 0] : Fin S1024x512.rank → Nat) = fun _ => 0 := funext fun a => by fin_cases a <;> rfl
  unfold out0_2
  simp only [View.ld_unit_zero (S := S4096x1024) hz0, View.ld_unit_zero (S := S4096x512) hz1, View.ld_unit_zero (S := S1024x512) hz2, View.canon_unit_zero (S := S1024x512) hz2]
  pointwise [k0_pay1]

/-- The reference's array, entry by entry. -/
theorem ref_apply (x0 : (⟨Cert.Reference9Ideal.S4096x1024, .bf16⟩ : BufTy).Contents (Elt Ideal)) (x1 : (⟨Cert.Reference9Ideal.S4096x1536, .bf16⟩ : BufTy).Contents (Elt Ideal)) (i : Fin 1024) (j : Fin 1536) :
    Cert.Reference9Ideal.Read.val_main_v6 (F := Ideal) x0 x1 (ix2 i j) = ∑ k : Fin 4096, x0 (ix2 k i) * x1 (ix2 k j) := by
  open Cert.Reference9Ideal.Read in pointwise [val_main_cst, val_main_v0, val_main_v1, val_main_v2, val_main_v3, val_main_v4, val_main_v5, val_main_v6]
  exact Finset.sum_congr rfl fun k _ => mul_comm _ _

/-- The array the reference leaves, of the kernel's arguments. -/
abbrev G (c : Dev nD) : Buf (Elt Ideal) ((c : Thread nD τ).loc main_v0) :=
  Cert.Reference9Ideal.Read.val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (G m c) := by
  rw [Value.flushed2]
  obtain ⟨-, -, -, -, h0, h1⟩ := idx_facts t
  funext y
  show out0_2 (iblk m c 0 t) (iblk m c 1 t) y = G m c ((win0_2.rect t).emb y)
  obtain ⟨r, s, rfl⟩ : ∃ (r : Fin 1024) (s : Fin 512), y = ix2 r s := ⟨y 0, y 1, eq_ix2 y⟩
  have hemb : (win0_2.rect t).emb (ix2 r s) = ix2 (row t r) (col t s) := by
    refine Shape.idx_ext₂ ?_ ?_
    · rw [win0_2.rect_emb_val, h0]; rfl
    · rw [win0_2.rect_emb_val, h1]; rfl
  rw [hemb]
  unfold G
  rw [out_apply, ref_apply]
  simp only [iblk0_apply, iblk1_apply]

theorem cover (i : S1024x1536.Idx) : ∃ t : Fin cfg0.N, (cfg0.win 2).flush t = true ∧ i ∈ ((cfg0.win 2).blk t).view.set := by
  have b0 : (i 0 : Nat) < 1024 := (i 0).isLt
  have b1 : (i 1 : Nat) < 1536 := (i 1).isLt
  have hN : cfg0.N = 3 := N_0
  refine ⟨⟨(i 0 : Nat) / 1024 * 3 + (i 1 : Nat) / 512, by omega⟩, flush0_2 _, ?_⟩
  set t : Fin cfg0.N := ⟨(i 0 : Nat) / 1024 * 3 + (i 1 : Nat) / 512, by omega⟩ with ht
  have hv : t.val = (i 0 : Nat) / 1024 * 3 + (i 1 : Nat) / 512 := rfl
  obtain ⟨-, -, -, -, h0, h1⟩ := idx_facts t
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [h0, hv]; omega
  | ⟨1, _⟩ =>
    show win0_2.index t 1 * 512 ≤ (i 1 : Nat) ∧ (i 1 : Nat) < win0_2.index t 1 * 512 + 512
    rw [h1, hv]; omega

/-- From equal arguments the kernel and the reference end with equal arrays. -/
theorem algebraic : Cert.algebraic_Kernel9Ideal_Reference9Ideal
    (hKernel9Ideal := Cert.Kernel9Ideal.Gen.facts) (hReference9Ideal := Cert.Reference9Ideal.Gen.facts) := by
  intro m g m' g' _ hargs
  refine ⟨fun c => G m c, ?_, ?_⟩
  · refine (θ_run (Cert.Kernel9Ideal.defs (F := Ideal)) _ _).mono (fun r h c => ?_) (Value.run_blocks m g)
    exact ⟨(h c).1.trans ((dats m 0 c).arrAt_eq_of_cover 2 (G m c) (fun t _ => flushed_eq m c t) cover), (h c).2⟩
  · refine (θ_run (Cert.Reference9Ideal.defs (F := Ideal)) _ _).mono (fun r h c => ?_)
      (Cert.Reference9Ideal.Value.run (F := Ideal) m' g')
    refine ⟨((h c).1.trans (Cert.Reference9Ideal.Read.val_main_v6_eq _ _)).trans ?_, (h c).2⟩
    obtain ⟨e0, e1⟩ := hargs c
    rw [e0, e1]

end Cert.KvDw

end
-- ==== Proof.Val40.lean ====
/- The value of the first layer's memory attention. It differs from the second layer's (`Val30`) in the type of its
   projection alone, which over the reals is no difference: both blocks and both references are the same functions. -/
module

public import proofs.«01_k».proof.Proof.Val30
public import proofs.«01_k».proof.Proof.Gen.Kernel40Ideal.Value
public import proofs.«01_k».proof.Proof.Gen.Reference40Ideal.Run
public import proofs.«01_k».proof.Proof.Gen.Reference40Ideal.Read

@[expose] public section

noncomputable section

namespace Cert.MemFwdA

open Cert.Kernel40Ideal Cert.Kernel40Ideal.Gen Idealize.ShloMosaic Idealize.ShloMosaic.TcCoe Idealize.SL.Sem
open Idealize.ShloMosaic.Pipeline (Dat Window)

variable (m : (ℓ : Loc nD τ sig) → Buf (Elt Ideal) ℓ)

/-- A point of the two kernels writes the same block … -/
theorem out_eq (x0 : Vec Ideal S512x256 .f32) (x1 : Vec Ideal S256x512 .bf16) :
    out0_2 (F := Ideal) x0 x1 = Cert.Kernel30Ideal.Gen.out0_2 (F := Ideal) x0 x1 := rfl

/-- … and the two references compute the same array. -/
theorem ref_eq (x0 : (⟨S4096x1024, .f32⟩ : BufTy).Contents (Elt Ideal)) (x1 : (⟨S256x512, .bf16⟩ : BufTy).Contents (Elt Ideal)) :
    Cert.Reference40Ideal.Read.val_main_v24 (F := Ideal) x0 x1 = Cert.Reference30Ideal.Read.val_main_v25 (F := Ideal) x0 x1 := rfl

theorem nonempty_elt : ∀ e : EltTy, Nonempty (Elt Ideal e) := by
  intro e
  cases e <;> first | exact ⟨(0 : EReal)⟩ | exact ⟨0#_⟩

/-- A memory of the second layer's kernel that holds given arguments. -/
theorem exists_mem (c : Dev Cert.Kernel30Ideal.nD) (x0 : Cert.MemFwd.Arr Cert.Kernel30Ideal.S4096x1024)
    (x1 : Cert.MemFwd.Arr Cert.Kernel30Ideal.S256x512) :
    ∃ m : (ℓ : Loc Cert.Kernel30Ideal.nD Cert.Kernel30Ideal.τ Cert.Kernel30Ideal.sig) → Buf (Elt Ideal) ℓ,
      Cert.MemFwd.a0 m c = x0 ∧ Cert.MemFwd.a1 m c = x1 := by
  refine ⟨Function.update (Function.update (fun ℓ _ => (nonempty_elt _).some)
    ((c : Thread Cert.Kernel30Ideal.nD Cert.Kernel30Ideal.τ).loc Cert.Kernel30Ideal.main_arg1) x1)
    ((c : Thread Cert.Kernel30Ideal.nD Cert.Kernel30Ideal.τ).loc Cert.Kernel30Ideal.main_arg0) x0, Function.update_self .., ?_⟩
  refine (Function.update_of_ne (fun h => ?_) ..).trans (Function.update_self ..)
  exact absurd (congrArg Prod.snd h) (by clear h; revert c; decide)

/-- The array the reference leaves, of the kernel's arguments. -/
abbrev G (c : Dev nD) : Buf (Elt Ideal) ((c : Thread nD τ).loc main_v0) :=
  Cert.Reference40Ideal.Read.val_main_v24 (F := Ideal) (m ((c : Thread nD τ).loc main_arg0)) (m ((c : Thread nD τ).loc main_arg1))

theorem flushed2_eq (c : Dev nD) (t : Fin cfg0.N) :
    (dats m 0 c).flushed 2 t = ((cfg0.win 2).blk t).view.read (Elt Ideal) (G m c) := by
  obtain ⟨m', e0, e1⟩ := exists_mem c (m ((c : Thread nD τ).loc main_arg0)) (m ((c : Thread nD τ).loc main_arg1))
  have h := Cert.MemFwd.flushed2_eq m' c t
  rw [Cert.Kernel30Ideal.Value.flushed2] at h
  have b0 : iblk m c 0 t = Cert.Kernel30Ideal.Gen.iblk m' c 0 t :=
    funext fun y => (congrFun e0 (((Cert.Kernel30Ideal.win0_0).rect t).emb y)).symm
  have b1 : iblk m c 1 t = Cert.Kernel30Ideal.Gen.iblk m' c 1 t :=
    funext fun y => (congrFun e1 (((Cert.Kernel30Ideal.win0_1).rect t).emb y)).symm
  rw [Value.flushed2]
  funext y
  have hy := congrFun h y
  change Cert.Kernel30Ideal.Gen.out0_2 (Cert.Kernel30Ideal.Gen.iblk m' c 0 t) (Cert.Kernel30Ideal.Gen.iblk m' c 1 t) y
    = Cert.Reference30Ideal.Read.val_main_v25 (F := Ideal) (Cert.MemFwd.a0 m' c) (Cert.MemFwd.a1 m' c) ((win0_2.rect t).emb y) at hy
  show out0_2 (iblk m c 0 t) (iblk m c 1 t) y = G m c ((win0_2.rect t).emb y)
  rw [e0, e1, ← b0, ← b1] at hy
  exact hy

/-- From equal arguments the kernel and the reference end with equal arrays. -/
theorem algebraic : Cert.algebraic_Kernel40Ideal_Reference40Ideal
    (hKernel40Ideal := Cert.Kernel40Ideal.Gen.facts) (hReference40Ideal := Cert.Reference40Ideal.Gen.facts) := by
  intro m g m' g' _ hargs
  refine ⟨fun c => G m c, ?_, ?_⟩
  · refine (θ_run (Cert.Kernel40Ideal.defs (F := Ideal)) _ _).mono (fun r h c => ?_) (Value.run_blocks m g)
    obtain ⟨a, h⟩ := h c
    exact ⟨a.trans ((dats m 0 c).arrAt_eq_of_cover 2 (G m c) (fun t _ => flushed2_eq m c t) Cert.MemFwd.cover2), h⟩
  · refine (θ_run (Cert.Reference40Ideal.defs (F := Ideal)) _ _).mono (fun r h c => ?_)
      (Cert.Reference40Ideal.Value.run (F := Ideal) m' g')
    obtain ⟨a, h⟩ := h c
    obtain ⟨e0, e1⟩ := hargs c
    refine ⟨(a.trans (Cert.Reference40Ideal.Read.val_main_v24_eq _ _)).trans ?_, h⟩
    · rw [e0, e1]

end Cert.MemFwdA

end
-- ==== Proof.Val41.lean ====
/- The value of the gradient of the first layer's memory attention. It differs from the second layer's (`Val1`) in the type
   of its projection alone, which over the reals is no difference: every block and both references are the same. -/
module

public import proofs.«01_k».proof.Proof.Val1
public import proofs.«01_k».proof.Proof.Val40
public import proofs.«01_k».proof.Proof.Gen.Kernel41Ideal.Value
public import proofs.«01_k».proof.Proof.Gen.Reference41Ideal.Run
public import proofs.«01_k».proof.Proof.Gen.Reference41Ideal.Read

@[expose] public section

noncomputable section

namespace Cert.MemBwdA

open Cert.Kernel41Ideal Cert.Kernel41Ideal.Gen Idealize.ShloMosaic Idealize.ShloMosaic.TcCoe Idealize.SL.Sem
open Idealize.ShloMosaic.Pipeline (Dat Window)

variable (m : (ℓ : Loc nD τ sig) → Buf (Elt Ideal) ℓ)

/-- The memory of the second layer's kernel. -/
abbrev Mem' := (ℓ : Loc Cert.KernelIdeal.nD Cert.KernelIdeal.τ Cert.KernelIdeal.sig) → Buf (Elt Ideal) ℓ

/-- The two references compute the same arrays. -/
theorem ref_eq0 (x0 : (⟨S4096x1024, .f32⟩ : BufTy).Contents (Elt Ideal)) (x1 : (⟨S256x512, .bf16⟩ : BufTy).Contents (Elt Ideal))
    (x2 : (⟨S4096x1024, .bf16⟩ : BufTy).Contents (Elt Ideal)) :
    Cert.Reference41Ideal.Read.val_main_v69 (F := Ideal) x0 x1 x2 = Cert.ReferenceIdeal.Read.val_main_v70 (F := Ideal) x0 x1 x2 := rfl

theorem ref_eq1 (x0 : (⟨S4096x1024, .f32⟩ : BufTy).Contents (Elt Ideal)) (x1 : (⟨S256x512, .bf16⟩ : BufTy).Contents (Elt Ideal))
    (x2 : (⟨S4096x1024, .bf16⟩ : BufTy).Contents (Elt Ideal)) :
    Cert.Reference41Ideal.Read.val_main_v70 (F := Ideal) x0 x1 x2 = Cert.ReferenceIdeal.Read.val_main_v71 (F := Ideal) x0 x1 x2 := rfl

/-- A memory of the second layer's kernel that holds given arguments. -/
theorem exists_mem (c : Dev Cert.KernelIdeal.nD) (x0 x2 : Cert.MemBwd.Arr Cert.KernelIdeal.S4096x1024)
    (x1 : Cert.MemBwd.Arr Cert.KernelIdeal.S256x512) :
    ∃ m : Mem', Cert.MemBwd.a0 m c = x0 ∧ Cert.MemBwd.a1 m c = x1 ∧ Cert.MemBwd.a2 m c = x2 := by
  let l (r : Ref Cert.KernelIdeal.sig .tc) := (c : Thread Cert.KernelIdeal.nD Cert.KernelIdeal.τ).loc r
  refine ⟨Function.update (Function.update (Function.update (fun ℓ _ => (Cert.MemFwdA.nonempty_elt _).some)
    (l Cert.KernelIdeal.main_arg2) x2) (l Cert.KernelIdeal.main_arg1) x1) (l Cert.KernelIdeal.main_arg0) x0,
    Function.update_self .., ?_, ?_⟩
  · refine (Function.update_of_ne (fun h => ?_) ..).trans (Function.update_self ..)
    exact absurd (congrArg Prod.snd h) (by clear h; revert c; decide)
  · refine (Function.update_of_ne (fun h => ?_) ..).trans ((Function.update_of_ne (fun h => ?_) ..).trans (Function.update_self ..))
    · exact absurd (congrArg Prod.snd h) (by clear h; revert c; decide)
    · exact absurd (congrArg Prod.snd h) (by clear h; revert c; decide)

section Blocks
variable (c : Dev nD) (m' : Mem') (e0 : Cert.MemBwd.a0 m' c = m ((c : Thread nD τ).loc main_arg0))
  (e1 : Cert.MemBwd.a1 m' c = m ((c : Thread nD τ).loc main_arg1)) (e2 : Cert.MemBwd.a2 m' c = m ((c : Thread nD τ).loc main_arg2))
include e0 e1 e2

theorem blocks (t : Fin cfg0.N) : iblk m c 0 t = Cert.KernelIdeal.Gen.iblk m' c 0 t
    ∧ iblk m c 1 t = Cert.KernelIdeal.Gen.iblk m' c 1 t ∧ iblk m c 2 t = Cert.KernelIdeal.Gen.iblk m' c 2 t :=
  ⟨funext fun y => (congrFun e0 ((Cert.KernelIdeal.win0_0.rect t).emb y)).symm,
    funext fun y => (congrFun e1 ((Cert.KernelIdeal.win0_1.rect t).emb y)).symm,
    funext fun y => (congrFun e2 ((Cert.KernelIdeal.win0_2.rect t).emb y)).symm⟩

/-- What the first point leaves is the same … -/
theorem outs_first (t : Fin cfg0.N) (h0 : t.val % 8 = 0) :
    outsAt0 m c t.val t.isLt = Cert.KernelIdeal.Gen.outsAt0 m' c t.val t.isLt := by
  obtain ⟨b0, b1, b2⟩ := blocks m c m' e0 e1 e2 t
  rw [outsAt0_A m c t h0, Cert.KernelIdeal.Gen.outsAt0_A m' c t h0, ← b0, ← b1, ← b2]
  generalize iblk m c 0 t = x0
  generalize iblk m c 1 t = x1
  generalize iblk m c 2 t = x2
  refine Prod.ext ?_ ?_
  · dsimp only
    unfold out0_A_3 Cert.KernelIdeal.Gen.out0_A_3
    refine (View.read_writes_eq_canon _ _ _ fun y => cover0_A_3 ..).trans
      (Eq.trans ?_ (View.read_writes_eq_canon _ _ _ fun y => Cert.KernelIdeal.Gen.cover0_A_3 ..).symm)
    unfold kernelRun0_A Cert.KernelIdeal.Gen.kernelRun0_A
    dsimp only
    sl_unfold_words
    simp only [View.readAt_eq_ld, (hs0_0 t).read_unread, (hs0_1 t).read_unread, (hs0_2 t).read_unread,
      (Cert.KernelIdeal.Gen.hs0_0 t).read_unread, (Cert.KernelIdeal.Gen.hs0_1 t).read_unread, (Cert.KernelIdeal.Gen.hs0_2 t).read_unread]
    rfl
  · dsimp only
    unfold out0_A_4 Cert.KernelIdeal.Gen.out0_A_4
    refine (View.read_writes_eq_canon _ _ _ fun y => cover0_A_4 ..).trans
      (Eq.trans ?_ (View.read_writes_eq_canon _ _ _ fun y => Cert.KernelIdeal.Gen.cover0_A_4 ..).symm)
    unfold kernelRun0_A Cert.KernelIdeal.Gen.kernelRun0_A
    dsimp only
    sl_unfold_words
    simp only [View.readAt_eq_ld, (hs0_0 t).read_unread, (hs0_1 t).read_unread, (hs0_2 t).read_unread,
      (Cert.KernelIdeal.Gen.hs0_0 t).read_unread, (Cert.KernelIdeal.Gen.hs0_1 t).read_unread, (Cert.KernelIdeal.Gen.hs0_2 t).read_unread]
    simp (disch := decide) only [View.readCov_skip]
    have hz : ∀ a : Fin 2, (![0, 0] : Fin 2 → ℕ) a = 0 := by decide
    iterate 8 rw [View.readCov_fill (s := S256x512) (h := hz)]
    rfl

/-- … and so is what a later point leaves, of the same left before it. -/
theorem outs_next (t : Fin cfg0.N) (h0 : ¬ t.val % 8 = 0)
    (ih : outsAt0 m c (t.val - 1) (Nat.lt_of_le_of_lt (Nat.sub_le _ _) t.isLt)
      = Cert.KernelIdeal.Gen.outsAt0 m' c (t.val - 1) (Nat.lt_of_le_of_lt (Nat.sub_le _ _) t.isLt)) :
    outsAt0 m c t.val t.isLt = Cert.KernelIdeal.Gen.outsAt0 m' c t.val t.isLt := by
  obtain ⟨b0, b1, b2⟩ := blocks m c m' e0 e1 e2 t
  rw [outsAt0_B m c t h0, Cert.KernelIdeal.Gen.outsAt0_B m' c t h0, ← b0, ← b1, ← b2, ← ih]
  generalize iblk m c 0 t = x0
  generalize iblk m c 1 t = x1
  generalize iblk m c 2 t = x2
  generalize (outsAt0 m c (t.val - 1) (Nat.lt_of_le_of_lt (Nat.sub_le _ _) t.isLt)).2 = x4
  refine Prod.ext ?_ ?_
  · dsimp only
    unfold out0_B_3 Cert.KernelIdeal.Gen.out0_B_3
    refine (View.read_writes_eq_canon _ _ _ fun y => cover0_B_3 ..).trans
      (Eq.trans ?_ (View.read_writes_eq_canon _ _ _ fun y => Cert.KernelIdeal.Gen.cover0_B_3 ..).symm)
    unfold kernelRun0_B Cert.KernelIdeal.Gen.kernelRun0_B
    dsimp only
    sl_unfold_words
    simp only [View.readAt_eq_ld, (hs0_0 t).read_unread, (hs0_1 t).read_unread, (hs0_2 t).read_unread, (hs0_4 t).read_unread,
      (Cert.KernelIdeal.Gen.hs0_0 t).read_unread, (Cert.KernelIdeal.Gen.hs0_1 t).read_unread, (Cert.KernelIdeal.Gen.hs0_2 t).read_unread,
      (Cert.KernelIdeal.Gen.hs0_4 t).read_unread]
    rfl
  · dsimp only
    unfold out0_B_4 Cert.KernelIdeal.Gen.out0_B_4
    refine (View.read_writes_eq_canon _ _ _ fun y => cover0_B_4 ..).trans
      (Eq.trans ?_ (View.read_writes_eq_canon _ _ _ fun y => Cert.KernelIdeal.Gen.cover0_B_4 ..).symm)
    unfold kernelRun0_B Cert.KernelIdeal.Gen.kernelRun0_B
    dsimp only
    sl_unfold_words
    simp only [View.readAt_eq_ld, (hs0_0 t).read_unread, (hs0_1 t).read_unread, (hs0_2 t).read_unread, (hs0_4 t).read_unread,
      (Cert.KernelIdeal.Gen.hs0_0 t).read_unread, (Cert.KernelIdeal.Gen.hs0_1 t).read_unread, (Cert.KernelIdeal.Gen.hs0_2 t).read_unread,
      (Cert.KernelIdeal.Gen.hs0_4 t).read_unread]
    rfl

/-- After every point the two kernels hold the same. -/
theorem outs_eq : ∀ (n : ℕ) (hn : n < cfg0.N), outsAt0 m c n hn = Cert.KernelIdeal.Gen.outsAt0 m' c n hn
  | 0, hn => outs_first m c m' e0 e1 e2 ⟨0, hn⟩ rfl
  | n + 1, hn => by
    have hN : cfg0.N = 8 := N_0
    exact outs_next m c m' e0 e1 e2 ⟨n + 1, hn⟩ (by show ¬ (n + 1) % 8 = 0; omega) (outs_eq n (by omega))

end Blocks

/-! ## The claim -/

theorem pre_facts : Cert.Pre_finite_mem_a.Facts := by constructor <;> decide

/-- The arrays the reference leaves, of the kernel's arguments. -/
def G3 (c : Dev nD) : S4096x256.Idx → EReal := Cert.Reference41Ideal.Read.val_main_v69 (F := Ideal)
  (m ((c : Thread nD τ).loc main_arg0)) (m ((c : Thread nD τ).loc main_arg1)) (m ((c : Thread nD τ).loc main_arg2))
def G4 (c : Dev nD) : S256x512.Idx → EReal := Cert.Reference41Ideal.Read.val_main_v70 (F := Ideal)
  (m ((c : Thread nD τ).loc main_arg0)) (m ((c : Thread nD τ).loc main_arg1)) (m ((c : Thread nD τ).loc main_arg2))

theorem finite_of_pre (h : Cert.Pre_Kernel41Ideal_finite_mem_a (hPre_finite_mem_a := pre_facts) m) (c : Dev nD) (m' : Mem')
    (e0 : Cert.MemBwd.a0 m' c = m ((c : Thread nD τ).loc main_arg0))
    (e1 : Cert.MemBwd.a1 m' c = m ((c : Thread nD τ).loc main_arg1)) : Cert.MemBwd.Finite m' c where
  hq R h' e := by
    obtain ⟨x, hx⟩ := Cert.Math.exists_coe_of_cmp (congrFun (h c).1 (ix2 R (Cert.MemBwd.col h' e)))
    refine ⟨x, hx ▸ ?_⟩
    rw [e0]
    exact congrArg (m ((c : Thread nD τ).loc main_arg0)) (Shape.idx_ext₂ (by show R.val = 0 + R.val; omega) rfl)
  hk j h' e := by
    obtain ⟨x, hx⟩ := Cert.Math.exists_coe_of_cmp (congrFun (h c).2 (ix2 j (Cert.MemBwd.col h' e)))
    refine ⟨x, hx ▸ ?_⟩
    rw [e1]
    exact congrArg (m ((c : Thread nD τ).loc main_arg1)) (Shape.idx_ext₂ (by show j.val = 0 + j.val; omega)
      (by show 64 * h'.val + e.val = 0 + (64 * h'.val + e.val); omega))

/-- What the kernel writes back is the reference's. -/
theorem flushed_eq (h : Cert.Pre_Kernel41Ideal_finite_mem_a (hPre_finite_mem_a := pre_facts) m) (c : Dev nD) (t : Fin cfg0.N) :
    (dats m 0 c).flushed 3 t = ((cfg0.win 3).blk t).view.read (Elt Ideal) (G3 m c)
    ∧ ((cfg0.win 4).flush t = true → (dats m 0 c).flushed 4 t = ((cfg0.win 4).blk t).view.read (Elt Ideal) (G4 m c)) := by
  obtain ⟨m', e0, e1, e2⟩ := exists_mem c (m ((c : Thread nD τ).loc main_arg0)) (m ((c : Thread nD τ).loc main_arg2))
    (m ((c : Thread nD τ).loc main_arg1))
  have hf := finite_of_pre m h c m' e0 e1
  have g3 : G3 m c = Cert.MemBwd.G3 m' c := by
    unfold G3 Cert.MemBwd.G3
    rw [e0, e1, e2]
    exact ref_eq0 _ _ _
  have g4 : G4 m c = Cert.MemBwd.G4 m' c := by
    unfold G4 Cert.MemBwd.G4
    rw [e0, e1, e2]
    exact ref_eq1 _ _ _
  have ho := outs_eq m c m' e0 e1 e2 t.val t.isLt
  refine ⟨?_, fun hl => ?_⟩
  · have h3 := Cert.MemBwd.flushed3_eq m' c hf t
    rw [Cert.KernelIdeal.Value.flushed3] at h3
    rw [Value.flushed3, ho, g3]
    exact h3
  · have h4 := Cert.MemBwd.flushed4_eq m' c hf t hl
    rw [Cert.KernelIdeal.Value.flushed4] at h4
    rw [Value.flushed4, ho, g4]
    exact h4

/-- From equal arguments, the queries and keys finite, the kernel and the reference end with equal arrays. -/
theorem algebraic : Cert.algebraic_Kernel41Ideal_Reference41Ideal_pre_finite_mem_a
    (hKernel41Ideal := Cert.Kernel41Ideal.Gen.facts) (hReference41Ideal := Cert.Reference41Ideal.Gen.facts)
    (hPre_finite_mem_a := pre_facts) := by
  intro m g m' g' hpre hargs
  refine ⟨fun c => G3 m c, fun c => G4 m c, ?_, ?_⟩
  · refine (θ_run (Cert.Kernel41Ideal.defs (F := Ideal)) _ _).mono (fun r h c => ?_) (Value.run_blocks m g)
    obtain ⟨a, b, h⟩ := h c
    exact ⟨a.trans ((dats m 0 c).arrAt_eq_of_cover 3 (G3 m c) (fun t _ => (flushed_eq m hpre c t).1) Cert.MemBwd.cover3),
      b.trans ((dats m 0 c).arrAt_eq_of_cover 4 (G4 m c) (fun t hl => (flushed_eq m hpre c t).2 hl) Cert.MemBwd.cover4), h⟩
  · refine (θ_run (Cert.Reference41Ideal.defs (F := Ideal)) _ _).mono (fun r h c => ?_)
      (Cert.Reference41Ideal.Value.run (F := Ideal) m' g')
    obtain ⟨a, b, h⟩ := h c
    obtain ⟨e0, e1, e2⟩ := hargs c
    refine ⟨(a.trans (Cert.Reference41Ideal.Read.val_main_v69_eq _ _)).trans ?_,
      (b.trans (Cert.Reference41Ideal.Read.val_main_v70_eq _ _)).trans ?_, h⟩
    · rw [e0, e1, e2]; rfl
    · rw [e0, e1, e2]; rfl

end Cert.MemBwdA

end
-- ==== Proof.Pair.lean ====
/- What the sums over a pair of cores share, whatever their shapes: a core's place in its pair read off a word, and the sum
   of two blocks read at an index. -/
module

public import Idealize.ShloMosaic.Lib.Pipeline.Value
public import Idealize.ShloMosaic.Lib.ValueIdx
public import Idealize.ShloMosaic.Lib.Pointwise
public import Idealize.ShloMosaic.PureOps.Ideal

@[expose] public section

noncomputable section

namespace Cert.Pair

open Idealize.ShloMosaic

/-- A word that is at least 0 and less than 2 is 0 or 1. -/
theorem word_of_range (x : BitVec 32) (h : IntOp.cmpi .sge x 0#32 &&& IntOp.cmpi .slt x 2#32 = 1#1) : x = 0#32 ∨ x = 1#32 := by
  unfold IntOp.cmpi at h
  dsimp only at h
  have hb : ∀ a b : Bool, BitVec.ofBool a &&& BitVec.ofBool b = 1#1 → a = true ∧ b = true := by decide
  obtain ⟨h0, h1⟩ := hb _ _ h
  rw [BitVec.sle_eq_decide, decide_eq_true_eq] at h0
  rw [BitVec.slt_eq_decide, decide_eq_true_eq] at h1
  rw [BitVec.toInt_zero] at h0
  have h2 : (2#32).toInt = 2 := by decide
  rw [h2] at h1
  have hx := BitVec.toInt_inj (x := x) (y := 0#32)
  have hy := BitVec.toInt_inj (x := x) (y := 1#32)
  have e0 : (0#32).toInt = 0 := by decide
  have e1 : (1#32).toInt = 1 := by decide
  rw [e0] at hx
  rw [e1] at hy
  rcases (by omega : x.toInt = 0 ∨ x.toInt = 1) with e | e
  · exact .inl (hx.1 e)
  · exact .inr (hy.1 e)

/-- The first word of a table of two, as a scalar. -/
theorem elem_apply {α : Type} (x : (⟨1, ![2]⟩ : Shape).Idx → α) (hs : (⟨1, ![2]⟩ : Shape).Slices ![0] ⟨1, ![1]⟩)
    (hc : (⟨1, ![1]⟩ : Shape).ShapeCasts ⟨0, ![]⟩) (j : (⟨0, ![]⟩ : Shape).Idx) :
    shapeCast ⟨0, ![]⟩ (extractStridedSlice ⟨1, ![1]⟩ ![0] x hs) hc j = x (ix1 0) := by
  rw [shapeCast_apply _ hc j (ix1 0) (by rw [Shape.rowMajor_val_one]; exact (Nat.lt_one_iff.1 (Shape.rowMajor _ j).isLt).symm)]
  exact congrArg x (funext fun a => by match a with | ⟨0, _⟩ => rfl)

/-- The place in the pair that a word names. -/
def place (v : BitVec 32) : Fin 2 := if v = 0#32 then 0 else 1

theorem place_val {v : BitVec 32} (hv : v = 0#32 ∨ v = 1#32) : v.toNat = (place v).val := by
  rcases hv with rfl | rfl <;> rfl

/-- One of the two parts of an array, its axis dropped, read at an index. -/
theorem half_apply {α : Type} {b n k o : ℕ} (p : Fin 2) (ho : o = p.val) (x : (⟨4, ![b, 2, n, k]⟩ : Shape).Idx → α)
    (hs : (⟨4, ![b, 2, n, k]⟩ : Shape).Slices ![0, o, 0, 0] ⟨4, ![b, 1, n, k]⟩)
    (hc : (⟨4, ![b, 1, n, k]⟩ : Shape).ShapeCasts ⟨3, ![b, n, k]⟩) (i : (⟨3, ![b, n, k]⟩ : Shape).Idx) :
    shapeCast ⟨3, ![b, n, k]⟩ (extractStridedSlice ⟨4, ![b, 1, n, k]⟩ ![0, o, 0, 0] x hs) hc i = x (ix4 (i 0) p (i 1) (i 2)) := by
  subst ho
  rw [shapeCast_apply _ hc i (ix4 (i 0) 0 (i 1) (i 2)) ?_]
  · refine congrArg x (funext fun a => Fin.ext ?_)
    match a with
    | ⟨0, _⟩ => exact Nat.zero_add _
    | ⟨1, _⟩ => rfl
    | ⟨2, _⟩ => exact Nat.zero_add _
    | ⟨3, _⟩ => exact Nat.zero_add _
  · rw [Shape.rowMajor_val_three, Shape.rowMajor_val_four]
    show (((i 0).val * 1 + 0) * n + (i 1).val) * k + (i 2).val = ((i 0).val * n + (i 1).val) * k + (i 2).val
    rw [Nat.mul_one, Nat.add_zero]

/-- The choice between the two parts by the word. -/
theorem choose_apply {α : Type} {b n k : ℕ} (v : BitVec 32) (hv : v = 0#32 ∨ v = 1#32) (x : (⟨4, ![b, 2, n, k]⟩ : Shape).Idx → α)
    (i : (⟨3, ![b, n, k]⟩ : Shape).Idx) :
    (if IntOp.cmpi .eq v 0#32 = 1#1 then x (ix4 (i 0) 0 (i 1) (i 2)) else x (ix4 (i 0) 1 (i 1) (i 2)))
      = x (ix4 (i 0) (place v) (i 1) (i 2)) := by
  rcases hv with rfl | rfl <;> rfl

/-- The sum of two blocks, taken with the leading axes of extent 1 dropped, read at an index. -/
theorem sum_apply {n k : ℕ} (x : (⟨4, ![1, 1, n, k]⟩ : Shape).Idx → EReal) (y : (⟨3, ![1, n, k]⟩ : Shape).Idx → EReal)
    (h4 : (⟨4, ![1, 1, n, k]⟩ : Shape).ShapeCasts ⟨2, ![n, k]⟩) (h3 : (⟨3, ![1, n, k]⟩ : Shape).ShapeCasts ⟨2, ![n, k]⟩)
    (h2 : (⟨2, ![n, k]⟩ : Shape).ShapeCasts ⟨3, ![1, n, k]⟩) (i : (⟨3, ![1, n, k]⟩ : Shape).Idx) :
    shapeCast ⟨3, ![1, n, k]⟩ (fun j => shapeCast ⟨2, ![n, k]⟩ x h4 j + shapeCast ⟨2, ![n, k]⟩ y h3 j) h2 i
      = x (ix4 0 0 (i 1) (i 2)) + y i := by
  have i0 : (i 0).val = 0 := Nat.lt_one_iff.1 (i 0).isLt
  rw [shapeCast_apply _ h2 i (ix2 (i 1) (i 2)) ?_, shapeCast_apply x h4 _ (ix4 0 0 (i 1) (i 2)) ?_, shapeCast_apply y h3 _ i ?_]
  · rw [Shape.rowMajor_val_three, Shape.rowMajor_val_two]
    show ((i 0).val * n + (i 1).val) * k + (i 2).val = (i 1).val * k + (i 2).val
    rw [i0, Nat.zero_mul, Nat.zero_add]
  · rw [Shape.rowMajor_val_four, Shape.rowMajor_val_two]
    show ((0 * 1 + 0) * n + (i 1).val) * k + (i 2).val = (i 1).val * k + (i 2).val
    simp only [Nat.zero_mul, Nat.zero_add]
  · rw [Shape.rowMajor_val_three, Shape.rowMajor_val_two]
    show (i 1).val * k + (i 2).val = ((i 0).val * n + (i 1).val) * k + (i 2).val
    rw [i0, Nat.zero_mul, Nat.zero_add]

end Cert.Pair

end
-- ==== Proof.Val42.lean ====
/- The value of the sum of a square matrix's gradient over a pair of cores: the half that the core's place in the pair
   chooses, plus the sibling's part of it. -/
module

public import proofs.«01_k».proof.Defs
public import proofs.«01_k».proof.Proof.Pair
public import proofs.«01_k».proof.Proof.Gen.Kernel42.Frame
public import proofs.«01_k».proof.Proof.Gen.Kernel42Ideal.Frame
public import proofs.«01_k».proof.Proof.Gen.Pre_pair_square
public import proofs.«01_k».proof.Proof.Gen.Reference42Ideal.Run
public import proofs.«01_k».proof.Proof.Gen.Reference42Ideal.Read

@[expose] public section

noncomputable section

namespace Cert.PairSquare

open Cert.Kernel42Ideal Cert.Kernel42Ideal.Gen Idealize.ShloMosaic Idealize.ShloMosaic.TcCoe Idealize.SL.Sem
open Idealize.ShloMosaic.Pipeline (Dat Window)

theorem pre_facts : Cert.Pre_pair_square.Facts := Cert.Pre_pair_square.Gen.facts

/-- The precondition says that the first word of the table is 0 or 1. -/
theorem word_of_pre {F : FTy → Type} [FloatOps F] (x0 : IVec S2 32) (x1 : FVec F S4x2x128x1024 .bf16) (x2 : FVec F S4x128x1024 .bf16)
    (h : Cert.Pre_pair_square.fn (F := F) x0 x1 x2 = fun _ => 1#1) : x0 (ix1 0) = 0#32 ∨ x0 (ix1 0) = 1#32 := by
  have e := congrFun h (fun a => a.elim0)
  refine Cert.Pair.word_of_range _ (Eq.trans ?_ e)
  unfold Cert.Pre_pair_square.fn
  show _ = IntOp.cmpi .sge (shapeCast _ (extractStridedSlice _ _ x0 _) _ _) 0#32
    &&& IntOp.cmpi .slt (shapeCast _ (extractStridedSlice _ _ x0 _) _ _) 2#32
  rw [Cert.Pair.elem_apply]

/-- The block of the gradient that a grid point reads, given the word the table holds. -/
def blk (i : grid0.Coords) (v : BitVec 32) : Fin 4 → ℕ :=
  ![(BitVec.ofNat 32 (i 0).val).toNat, v.toNat, (BitVec.ofNat 32 (i 1).val).toNat, 0]

theorem blk_inb : ∀ (i : grid0.Coords) (p : Fin 2) (a : Fin 4),
    (blk i (BitVec.ofNat 32 p.val) a + 1) * S1x1x128x1024.size a ≤ S4x2x128x1024.size a := by decide +kernel

theorem blk_inb' {v : BitVec 32} (hv : v = 0#32 ∨ v = 1#32) (i : grid0.Coords) (a : Fin 4) :
    (blk i v a + 1) * S1x1x128x1024.size a ≤ S4x2x128x1024.size a := by
  rcases hv with rfl | rfl
  · exact blk_inb i 0 a
  · exact blk_inb i 1 a

/-- The word that a grid point reads is the table's first. -/
theorem first_eq (h : ∀ a, (![0] : Fin 1 → ℕ) a + S1.size a ≤ S2.size a) (h1 : 0 < (Rect.unit (s := S2) ![0] S1.size h).shape.numel) :
    (Rect.unit (s := S2) ![0] S1.size h).emb (Shape.Idx.first h1) = ix1 0 :=
  funext fun a => by match a with | ⟨0, _⟩ => rfl

/-- So the call reads inside its argument, at both instances. -/
theorem ok_bits (m : (ℓ : Loc Cert.Kernel42.nD Cert.Kernel42.τ Cert.Kernel42.sig) → Buf (Elt Bits) ℓ)
    (h : Cert.Pre_Kernel42 (hPre_pair_square := pre_facts) m) : Cert.Kernel42.Gen.Ok m := by
  have hw := word_of_pre _ _ _ (h 0)
  intro i
  have hb : Cert.Kernel42.cc0_transform_0 Cert.Kernel42.Gen.inb_S2_S1_0 Cert.Kernel42.Gen.numel1_S1 (Cert.Kernel42.Gen.tbl m) i
      = blk i (m (((0 : Dev Cert.Kernel42.nD) : Thread Cert.Kernel42.nD Cert.Kernel42.τ).loc Cert.Kernel42.main_arg0) (ix1 0)) := by
    rw [← first_eq Cert.Kernel42.Gen.inb_S2_S1_0 (by decide)]; rfl
  exact ⟨by rw [hb]; exact blk_inb' hw i, .inr (Affine.block_words_dvd (of_decide_eq_true rfl) (by decide))⟩

variable (m : (ℓ : Loc nD τ sig) → Buf (Elt Ideal) ℓ)

/-- The table's first word. -/
def word (c : Dev nD) : BitVec 32 := m ((c : Thread nD τ).loc main_arg0) (ix1 0)

theorem index_eq (i : grid0.Coords) : cc0_transform_0 inb_S2_S1_0 numel1_S1 (tbl m) i = blk i (word m 0) := by
  unfold word
  rw [← first_eq inb_S2_S1_0 (by decide)]; rfl

theorem ok_ideal (h : Cert.Pre_Kernel42Ideal (hPre_pair_square := pre_facts) m) : Ok m := by
  have hw := word_of_pre _ _ _ (h 0)
  intro i
  exact ⟨by rw [index_eq]; exact blk_inb' hw i, .inr (Affine.block_words_dvd (of_decide_eq_true rfl) (by decide))⟩

/-- What the kernel leaves at an index: of a gradient `x` the part at place `p`, plus the sibling's part `y`. -/
def sum (p : Fin 2) (x : FVec Ideal S4x2x128x1024 .bf16) (y : FVec Ideal S4x128x1024 .bf16) : FVec Ideal S4x128x1024 .bf16 :=
  fun i => (x (ix4 (i 0) p (i 1) (i 2)) : EReal) + y i

/-- What the kernel computes from its two blocks. -/
theorem out_apply (c : Dev nD) (i : grid0.Coords) (arg3 : Memref sig .tc .vmem S1x1x128x1024 .bf16) (harg3 : arg3.IsWhole)
    (arg4 : Memref sig .tc .vmem S1x128x1024 .bf16) (harg4 : arg4.IsWhole) (arg5 : Memref sig .tc .vmem S1x128x1024 .bf16)
    (harg5 : arg5.IsWhole) (x0 : Vec Ideal S1x1x128x1024 .bf16) (x1 : Vec Ideal S1x128x1024 .bf16)
    (xt0 : TbBuf0 (F := Ideal) c tbM0_0) (y : S1x128x1024.Idx) :
    out0_A_2 c i arg3 harg3 arg4 harg4 arg5 harg5 x0 x1 xt0 y = (x0 (ix4 0 0 (y 1) (y 2)) : EReal) + x1 y := by
  have hz : (![0, 0, 0] : Fin 3 → ℕ) = fun _ => 0 := by decide
  have hz4 : (![0, 0, 0, 0] : Fin 4 → ℕ) = fun _ => 0 := by decide
  unfold out0_A_2
  rw [View.read_writes_eq_canon _ _ _ fun y => cover0_A_2 c i arg3 harg3 arg4 harg4 arg5 harg5 x0 x1 xt0 y]
  unfold kernelRun0_A
  dsimp only
  sl_unfold_words
  simp only [View.readAt_eq_ld, harg3.read_unread, harg4.read_unread]
  rw [View.ld_unit_zero hz4, View.ld_unit_zero hz, View.canon_unit_zero hz]
  unfold k0_pay1
  exact Cert.Pair.sum_apply x0 x1 _ _ _ y

variable (hO : Ok m) (hw : word m 0 = 0#32 ∨ word m 0 = 1#32)

/-- The result of a core. -/
def G (c : Dev nD) : FVec Ideal S4x128x1024 .bf16 :=
  sum (Cert.Pair.place (word m 0)) (m ((c : Thread nD τ).loc main_arg1)) (m ((c : Thread nD τ).loc main_arg2))

include hw in
theorem flushed_eq (c : Dev nD) (t : Fin (cfgM m hO).N) :
    (dats m hO 0 c).flushed 2 t = (((cfgM m hO).win 2).blk t).view.read (Elt Ideal) (G m c) := by
  show ((cfgM m hO).win 2).cut (grid0.coords t) ((dats m hO 0 c).after 2 t) = _
  rw [after0_2]
  refine funext fun (y : S1x128x1024.Idx) => ?_
  show outsAt0 m hO c t y = G m c ((((cfgM m hO).win 2).rect t).emb y)
  unfold outsAt0 G sum
  refine (out_apply c _ _ _ _ _ _ _ _ _ _ y).trans ?_
  set e : S4x128x1024.Idx := (((cfgM m hO).win 2).rect t).emb y
  have y0 : (y 0).val = 0 := Nat.lt_one_iff.1 (y 0).isLt
  have h2 : ∀ a : Fin 3, (e a).val = cc0_transform_2 (grid0.coords t) a * S1x128x1024.size a + (y a).val :=
    fun a => ((cfgM m hO).win 2).rect_emb_val t y a
  have h1 : ∀ a : Fin 4, ((((cfgM m hO).win 0).rect t).emb (ix4 0 0 (y 1) (y 2)) a).val
      = blk (grid0.coords t) (word m 0) a * S1x1x128x1024.size a + (ix4 (n0 := 1) (n1 := 1) (n2 := 128) (n3 := 1024) 0 0 (y 1) (y 2) a).val := by
    intro a
    rw [← index_eq]
    exact ((cfgM m hO).win 0).rect_emb_val t _ a
  have h0 : (((cfgM m hO).win 0).rect t).emb (ix4 0 0 (y 1) (y 2)) = ix4 (e 0) (Cert.Pair.place (word m 0)) (e 1) (e 2) := by
    refine funext fun (a : Fin 4) => Fin.ext ((h1 a).trans ?_)
    match a with
    | ⟨0, _⟩ => exact Eq.trans (by rw [y0]; rfl) (h2 0).symm
    | ⟨1, _⟩ => exact (Nat.mul_one _).trans (Cert.Pair.place_val hw)
    | ⟨2, _⟩ => exact (h2 1).symm
    | ⟨3, _⟩ => exact (h2 2).symm
  exact congrArg₂ (fun a b : EReal => a + b) (congrArg (m ((c : Thread nD τ).loc main_arg1)) h0) rfl

theorem onto : ∀ (a : Fin 4) (b : Fin 1), ∃ t : Fin grid0.N, cc0_transform_2 (grid0.coords t) = ![a.val, b.val, 0] := by decide +kernel

theorem cover (i : S4x128x1024.Idx) : ∃ t : Fin (cfgM m hO).N, ((cfgM m hO).win 2).flush t = true
    ∧ i ∈ (((cfgM m hO).win 2).blk t).view.set := by
  have h0 : (i 0 : Nat) < 4 := (i 0).isLt
  have h1 : (i 1 : Nat) < 128 := (i 1).isLt
  have h2 : (i 2 : Nat) < 1024 := (i 2).isLt
  obtain ⟨t, ht⟩ := onto ⟨(i 0).val, h0⟩ ⟨(i 1).val / 128, by omega⟩
  refine ⟨t, flush0_2 (adm m hO) t, ?_⟩
  refine (congrArg (i ∈ ·) (View.set_slice_whole main_v0 (((cfgM m hO).win 2).rect t))).mpr (Rect.mem_set_unit.mpr ?_)
  have hi : ((cfgM m hO).win 2).index t = ![(i 0).val, (i 1).val / 128, 0] := ht
  intro a
  show ((cfgM m hO).win 2).index t a * S1x128x1024.size a ≤ (i a).val
    ∧ (i a).val < ((cfgM m hO).win 2).index t a * S1x128x1024.size a + S1x128x1024.size a
  rw [hi]
  match a with
  | ⟨0, _⟩ => show (i 0).val * 1 ≤ (i 0).val ∧ (i 0).val < (i 0).val * 1 + 1; omega
  | ⟨1, _⟩ => show (i 1).val / 128 * 128 ≤ (i 1).val ∧ (i 1).val < (i 1).val / 128 * 128 + 128; omega
  | ⟨2, _⟩ => show 0 * 1024 ≤ (i 2).val ∧ (i 2).val < 0 * 1024 + 1024; omega

/-! ## The reference -/

section Ref
open Cert.Reference42Ideal.Read

theorem ref_eq (x0 : IVec S2 32) (x1 : FVec Ideal S4x2x128x1024 .bf16) (x2 : FVec Ideal S4x128x1024 .bf16)
    (h : x0 (ix1 0) = 0#32 ∨ x0 (ix1 0) = 1#32) :
    val_main_v12 (F := Ideal) x0 x1 x2 = sum (Cert.Pair.place (x0 (ix1 0))) x1 x2 := by
  funext i
  have hc : ∀ j, val_main_v2 (F := Ideal) x0 j = IntOp.cmpi .eq (x0 (ix1 0)) 0#32 := fun j =>
    congrArg (IntOp.cmpi .eq · 0#32) (Cert.Pair.elem_apply x0 _ _ j)
  have h4 : val_main_v4 (F := Ideal) x1 i = x1 (ix4 (i 0) 0 (i 1) (i 2)) := Cert.Pair.half_apply 0 rfl x1 _ _ i
  have h7 : val_main_v7 (F := Ideal) x1 i = x1 (ix4 (i 0) 1 (i 1) (i 2)) := Cert.Pair.half_apply 1 rfl x1 _ _ i
  refine Eq.trans ?_ (congrArg (fun z : EReal => z + x2 i) (Cert.Pair.choose_apply _ h x1 i))
  rw [← h4, ← h7, ← hc (fun a => a.elim0)]
  exact congrArg (fun z : EReal => z + x2 i)
    (congrArg (fun w => if w = 1#1 then val_main_v4 (F := Ideal) x1 i else val_main_v7 (F := Ideal) x1 i) ((hc _).trans (hc _).symm))

end Ref

/-- From equal arguments, of a table that names a place in the pair, the kernel and the reference end with equal arrays. -/
theorem algebraic : Cert.algebraic_Kernel42Ideal_Reference42Ideal (hKernel42Ideal := Cert.Kernel42Ideal.Gen.facts)
    (hReference42Ideal := Cert.Reference42Ideal.Gen.facts) (hPre_pair_square := pre_facts) := by
  intro m g m' g' hpre hargs
  have hO := ok_ideal m hpre
  have hw : word m 0 = 0#32 ∨ word m 0 = 1#32 := word_of_pre _ _ _ (hpre 0)
  refine ⟨fun c => G m c, ?_, ?_⟩
  · refine (θ_run (Cert.Kernel42Ideal.defs (F := Ideal)) _ _).mono (fun r h c => ?_) (run_main m g hO)
    refine ⟨((h c).1 2).trans ((dats m hO 0 c).arrAt_eq_of_cover 2 (G m c) (fun t _ => flushed_eq m hO hw c t) (cover m hO)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩
  · refine (θ_run (Cert.Reference42Ideal.defs (F := Ideal)) _ _).mono (fun r h c => ?_)
      (Cert.Reference42Ideal.Value.run (F := Ideal) m' g')
    obtain ⟨a, h⟩ := h c
    obtain ⟨e0, e1, e2⟩ := hargs c
    refine ⟨(a.trans (Cert.Reference42Ideal.Read.val_main_v12_eq _ _ _)).trans ?_, h⟩
    obtain rfl : c = 0 := Subsingleton.elim _ _
    rw [e0, e1, e2]
    exact ref_eq _ _ _ hw

end Cert.PairSquare

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Reference39Ideal
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Reference40Ideal
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Reference41Ideal
public import proofs.«01_k».proof.Proof.Gen.Kernel42.Frame
public import proofs.«01_k».proof.Proof.Gen.Kernel42Ideal.Frame
public import proofs.«01_k».proof.Proof.Gen.Reference42Ideal.Run
public import proofs.«01_k».proof.Proof.Gen.Reference42Ideal.Read
public import proofs.«01_k».proof.Proof.Gen.Pre_pair_square
public import proofs.«01_k».proof.Proof.Gen.Pre_finite_mem
public import proofs.«01_k».proof.Proof.Gen.Pre_finite_dpooled
public import proofs.«01_k».proof.Proof.Gen.Pre_finite_down_dx
public import proofs.«01_k».proof.Proof.Gen.Pre_finite_kv_proj_dx
public import proofs.«01_k».proof.Proof.Gen.Pre_finite_pooled
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39Ideal.Value
public import proofs.«01_k».proof.Proof.Gen.Reference39Ideal.Run
public import proofs.«01_k».proof.Proof.Gen.Reference39Ideal.Read
public import proofs.«01_k».proof.Proof.Val1
public import proofs.«01_k».proof.Proof.Val10
public import proofs.«01_k».proof.Proof.Val11
public import proofs.«01_k».proof.Proof.Val12
public import proofs.«01_k».proof.Proof.Val13
public import proofs.«01_k».proof.Proof.Val14
public import proofs.«01_k».proof.Proof.Val15
public import proofs.«01_k».proof.Proof.Val16
public import proofs.«01_k».proof.Proof.Val17
public import proofs.«01_k».proof.Proof.Val18
public import proofs.«01_k».proof.Proof.Val19
public import proofs.«01_k».proof.Proof.Val2
public import proofs.«01_k».proof.Proof.Val20
public import proofs.«01_k».proof.Proof.Val21
public import proofs.«01_k».proof.Proof.Val22
public import proofs.«01_k».proof.Proof.Val23
public import proofs.«01_k».proof.Proof.Val24
public import proofs.«01_k».proof.Proof.Val25
public import proofs.«01_k».proof.Proof.Val26
public import proofs.«01_k».proof.Proof.Val27
public import proofs.«01_k».proof.Proof.Val28
public import proofs.«01_k».proof.Proof.Val29
public import proofs.«01_k».proof.Proof.Val3
public import proofs.«01_k».proof.Proof.Val30
public import proofs.«01_k».proof.Proof.Val31
public import proofs.«01_k».proof.Proof.Val32
public import proofs.«01_k».proof.Proof.Val33
public import proofs.«01_k».proof.Proof.Val34
public import proofs.«01_k».proof.Proof.Val35
public import proofs.«01_k».proof.Proof.Val36
public import proofs.«01_k».proof.Proof.Val37
public import proofs.«01_k».proof.Proof.Val38
public import proofs.«01_k».proof.Proof.Val39
public import proofs.«01_k».proof.Proof.Val4
public import proofs.«01_k».proof.Proof.Val5
public import proofs.«01_k».proof.Proof.Val6
public import proofs.«01_k».proof.Proof.Val7
public import proofs.«01_k».proof.Proof.Val8
public import proofs.«01_k».proof.Proof.Val9
public import proofs.«01_k».proof.Proof.Gen.Kernel40Ideal.Value
public import proofs.«01_k».proof.Proof.Gen.Reference40Ideal.Run
public import proofs.«01_k».proof.Proof.Gen.Reference40Ideal.Read
public import proofs.«01_k».proof.Proof.Gen.Kernel41Ideal.Value
public import proofs.«01_k».proof.Proof.Gen.Reference41Ideal.Run
public import proofs.«01_k».proof.Proof.Gen.Reference41Ideal.Read
public import proofs.«01_k».proof.Proof.Val40
public import proofs.«01_k».proof.Proof.Val41
public import proofs.«01_k».proof.Proof.Val42
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Kernel39.Gen.facts,
  Cert.Kernel39Ideal.Gen.facts,
  Cert.Reference39Ideal.Gen.facts,
  Cert.Kernel40.Gen.facts,
  Cert.Kernel40Ideal.Gen.facts,
  Cert.Reference40Ideal.Gen.facts,
  Cert.Kernel41.Gen.facts,
  Cert.Kernel41Ideal.Gen.facts,
  Cert.Reference41Ideal.Gen.facts,
  Cert.Kernel42.Gen.facts,
  Cert.Kernel42Ideal.Gen.facts,
  Cert.Reference42Ideal.Gen.facts,
  Cert.MemBwd.pre_facts,
  Cert.PoolBwd.pre_facts,
  Cert.DownDx.pre_facts,
  Cert.KvProjDx.pre_facts,
  Cert.PoolFwd.pre_facts,
  Cert.MemBwdA.pre_facts,
  Cert.PairSquare.pre_facts,
  fun m ρ _ => Cert.Kernel.Gen.frame m ρ,
  fun m ρ _ => Cert.KernelIdeal.Gen.frame m ρ,
  fun m ρ _ => Cert.KernelIdeal.Gen.frame m ρ,
  fun m ρ _ => (θ_run (Cert.ReferenceIdeal.defs (F := Ideal)) _ _).mono (fun r h => ⟨fun c => (h c).2.2, sem_eq_zero_of_no_sems (by decide) r.2⟩) (Cert.ReferenceIdeal.Value.run (F := Ideal) m ρ),
  fun m ρ _ => (θ_run (Cert.ReferenceIdeal.defs (F := Ideal)) _ _).mono (fun r h => ⟨fun c => (h c).2.2, sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run (Cert.Reference2Ideal.defs (F := Ideal)) _ _).mono (fun r h => ⟨fun c => (h c).2, sem_eq_zero_of_no_sems (by decide) r.2⟩) (Cert.Reference2Ideal.Value.run (F := Ideal) m ρ),
  fun m ρ _ => (θ_run (Cert.Reference2Ideal.defs (F := Ideal)) _ _).mono (fun r h => ⟨fun c => (h c).2, sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run (Cert.Reference3Ideal.defs (F := Ideal)) _ _).mono (fun r h => ⟨fun c => (h c).2, sem_eq_zero_of_no_sems (by decide) r.2⟩) (Cert.Reference3Ideal.Value.run (F := Ideal) m ρ),
  fun m ρ _ => (θ_run (Cert.Reference3Ideal.defs (F := Ideal)) _ _).mono (fun r h => ⟨fun c => (h c).2, sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run (Cert.Reference4Ideal.defs (F := Ideal)) _ _).mono (fun r h => ⟨fun c => (h c).2.2.2, sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run (Cert.Reference5Ideal.defs (F := Ideal)) _ _).mono (fun r h => ⟨fun c => (h c).2.2.2, sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => (θ_run (Cert.Reference6Ideal.defs (F := Ideal)) _ _).mono (fun r h => ⟨fun c => (h c).2, sem_eq_zero_of_no_sems (by decide) r.2⟩) (Cert.Reference6Ideal.Value.run (F := Ideal) m ρ),
  fun m ρ _ => Cert.Kernel7.Gen.frame m ρ,
  fun m ρ _ => Cert.Kernel7Ideal.Gen.frame m ρ,
  fun m ρ _ => (θ_run (Cert.Reference7Ideal.defs (F := Ideal)) _ _).mono (fun r h => ⟨fun c => (h c).2, sem_eq_zero_of_no_sems (by decide) r.2⟩) (Cert.Reference7Ideal.Value.run (F := Ideal) m ρ),
  fun m ρ _ => Cert.Kernel8.Gen.frame m ρ,
  fun m ρ _ => Cert.Kernel8Ideal.Gen.frame m ρ,
  fun m ρ _ => (θ_run (Cert.Reference8Ideal.defs (F := Ideal)) _ _).mono (fun r h => ⟨fun c => (h c).2, sem_eq_zero_of_no_sems (by decide) r.2⟩) (Cert.Reference8Ideal.Value.run (F := Ideal) m ρ),
  fun m ρ _ => Cert.Kernel9.Gen.frame m ρ,
  fun m ρ _ => Cert.Kernel9Ideal.Gen.frame m ρ,
  fun m ρ _ => (θ_run (Cert.Reference9Ideal.defs (F := Ideal)) _ _).mono (fun r h => ⟨fun c => (h c).2, sem_eq_zero_of_no_sems (by decide) r.2⟩) (Cert.Reference9Ideal.Value.run (F := Ideal) m ρ),
  fun m ρ _ => Cert.Kernel10.Gen.frame m ρ,
  fun m ρ _ => Cert.Kernel10Ideal.Gen.frame m ρ,
  fun m ρ _ => (θ_run (Cert.Reference10Ideal.defs (F := Ideal)) _ _).mono (fun r h => ⟨fun c => (h c).2, sem_eq_zero_of_no_sems (by decide) r.2⟩) (Cert.Reference10Ideal.Value.run (F := Ideal) m ρ),
  fun m ρ _ => Cert.Kernel11.Gen.frame m ρ,
  fun m ρ _ => Cert.Kernel11Ideal.Gen.frame m ρ,
  fun m ρ _ => (θ_run (Cert.Reference11Ideal.defs (F := Ideal)) _ _).mono (fun r h => ⟨fun c => (h c).2, sem_eq_zero_of_no_sems (by decide) r.2⟩) (Cert.Reference11Ideal.Value.run (F := Ideal) m ρ),
  fun m ρ _ => Cert.Kernel12.Gen.frame m ρ,
  fun m ρ _ => Cert.Kernel12Ideal.Gen.frame m ρ,
  fun m ρ _ => (θ_run (Cert.Reference12Ideal.defs (F := Ideal)) _ _).mono (fun r h => ⟨fun c => (h c).2.2.2, sem_eq_zero_of_no_sems (by decide) r.2⟩) (Cert.Reference12Ideal.Value.run (F := Ideal) m ρ),
  fun m ρ _ => Cert.Kernel13.Gen.frame m ρ,
  fun m ρ _ => Cert.Kernel13Ideal.Gen.frame m ρ,
  fun m ρ _ => (θ_run (Cert.Reference13Ideal.defs (F := Ideal)) _ _).mono (fun r h => ⟨fun c => (h c).2, sem_eq_zero_of_no_sems (by decide) r.2⟩) (Cert.Reference13Ideal.Value.run (F := Ideal) m ρ),
  fun m ρ _ => Cert.Kernel14.Gen.frame m ρ,
  fun m ρ _ => Cert.Kernel14Ideal.Gen.frame m ρ,
  fun m ρ _ => (θ_run (Cert.Reference14Ideal.defs (F := Ideal)) _ _).mono (fun r h => ⟨fun c => (h c).2, sem_eq_zero_of_no_sems (by decide) r.2⟩) (Cert.Reference14Ideal.Value.run (F := Ideal) m ρ),
  fun m ρ _ => Cert.Kernel15.Gen.frame m ρ,
  fun m ρ _ => Cert.Kernel15Ideal.Gen.frame m ρ,
  fun m ρ _ => (θ_run (Cert.Reference15Ideal.defs (F := Ideal)) _ _).mono (fun r h => ⟨fun c => (h c).2, sem_eq_zero_of_no_sems (by decide) r.2⟩) (Cert.Reference15Ideal.Value.run (F := Ideal) m ρ),
  fun m ρ _ => Cert.Kernel16.Gen.frame m ρ,
  fun m ρ _ => Cert.Kernel16Ideal.Gen.frame m ρ,
  fun m ρ _ => (θ_run (Cert.Reference16Ideal.defs (F := Ideal)) _ _).mono (fun r h => ⟨fun c => (h c).2, sem_eq_zero_of_no_sems (by decide) r.2⟩) (Cert.Reference16Ideal.Value.run (F := Ideal) m ρ),
  fun m ρ _ => Cert.Kernel17.Gen.frame m ρ,
  fun m ρ _ => Cert.Kernel17Ideal.Gen.frame m ρ,
  fun m ρ _ => (θ_run (Cert.Reference17Ideal.defs (F := Ideal)) _ _).mono (fun r h => ⟨fun c => (h c).2, sem_eq_zero_of_no_sems (by decide) r.2⟩) (Cert.Reference17Ideal.Value.run (F := Ideal) m ρ),
  fun m ρ _ => Cert.Kernel18.Gen.frame m ρ,
  fun m ρ _ => Cert.Kernel18Ideal.Gen.frame m ρ,
  fun m ρ _ => Cert.Kernel18Ideal.Gen.frame m ρ,
  fun m ρ _ => (θ_run (Cert.Reference18Ideal.defs (F := Ideal)) _ _).mono (fun r h => ⟨fun c => (h c).2.2.2.2, sem_eq_zero_of_no_sems (by decide) r.2⟩) (Cert.Reference18Ideal.Value.run (F := Ideal) m ρ),
  fun m ρ _ => (θ_run (Cert.Reference18Ideal.defs (F := Ideal)) _ _).mono (fun r h => ⟨fun c => (h c).2.2.2.2, sem_eq_zero_of_no_sems (by decide) r.2⟩) (Cert.Reference18Ideal.Value.run (F := Ideal) m ρ),
  fun m ρ _ => Cert.Kernel19.Gen.frame m ρ,
  fun m ρ _ => Cert.Kernel19Ideal.Gen.frame m ρ,
  fun m ρ _ => (θ_run (Cert.Reference19Ideal.defs (F := Ideal)) _ _).mono (fun r h => ⟨fun c => (h c).2.2.2, sem_eq_zero_of_no_sems (by decide) r.2⟩) (Cert.Reference19Ideal.Value.run (F := Ideal) m ρ),
  fun m ρ _ => Cert.Kernel20.Gen.frame m ρ,
  fun m ρ _ => Cert.Kernel20Ideal.Gen.frame m ρ,
  fun m ρ _ => (θ_run (Cert.Reference20Ideal.defs (F := Ideal)) _ _).mono (fun r h => ⟨fun c => (h c).2.2.2, sem_eq_zero_of_no_sems (by decide) r.2⟩) (Cert.Reference20Ideal.Value.run (F := Ideal) m ρ),
  fun m ρ _ => Cert.Kernel21.Gen.frame m ρ,
  fun m ρ _ => Cert.Kernel21Ideal.Gen.frame m ρ,
  fun m ρ _ => (θ_run (Cert.Reference21Ideal.defs (F := Ideal)) _ _).mono (fun r h => ⟨fun c => (h c).2.2.2, sem_eq_zero_of_no_sems (by decide) r.2⟩) (Cert.Reference21Ideal.Value.run (F := Ideal) m ρ),
  fun m ρ _ => Cert.Kernel22.Gen.frame m ρ,
  fun m ρ _ => Cert.Kernel22Ideal.Gen.frame m ρ,
  fun m ρ _ => (θ_run (Cert.Reference22Ideal.defs (F := Ideal)) _ _).mono (fun r h => ⟨fun c => (h c).2.2.2, sem_eq_zero_of_no_sems (by decide) r.2⟩) (Cert.Reference22Ideal.Value.run (F := Ideal) m ρ),
  fun m ρ _ => Cert.Kernel23.Gen.frame m ρ,
  fun m ρ _ => Cert.Kernel23Ideal.Gen.frame m ρ,
  fun m ρ _ => (θ_run (Cert.Reference23Ideal.defs (F := Ideal)) _ _).mono (fun r h => ⟨fun c => (h c).2.2.2, sem_eq_zero_of_no_sems (by decide) r.2⟩) (Cert.Reference23Ideal.Value.run (F := Ideal) m ρ),
  fun m ρ _ => Cert.Kernel24.Gen.frame m ρ,
  fun m ρ _ => Cert.Kernel24Ideal.Gen.frame m ρ,
  fun m ρ _ => (θ_run (Cert.Reference24Ideal.defs (F := Ideal)) _ _).mono (fun r h => ⟨fun c => (h c).2.2.2, sem_eq_zero_of_no_sems (by decide) r.2⟩) (Cert.Reference24Ideal.Value.run (F := Ideal) m ρ),
  fun m ρ _ => Cert.Kernel25.Gen.frame m ρ,
  fun m ρ _ => Cert.Kernel25Ideal.Gen.frame m ρ,
  fun m ρ _ => (θ_run (Cert.Reference25Ideal.defs (F := Ideal)) _ _).mono (fun r h => ⟨fun c => (h c).2, sem_eq_zero_of_no_sems (by decide) r.2⟩) (Cert.Reference25Ideal.Value.run (F := Ideal) m ρ),
  fun m ρ _ => Cert.Kernel26.Gen.frame m ρ,
  fun m ρ _ => Cert.Kernel26Ideal.Gen.frame m ρ,
  fun m ρ _ => (θ_run (Cert.Reference26Ideal.defs (F := Ideal)) _ _).mono (fun r h => ⟨fun c => (h c).2, sem_eq_zero_of_no_sems (by decide) r.2⟩) (Cert.Reference26Ideal.Value.run (F := Ideal) m ρ),
  fun m ρ _ => Cert.Kernel27.Gen.frame m ρ,
  fun m ρ _ => Cert.Kernel27Ideal.Gen.frame m ρ,
  fun m ρ _ => (θ_run (Cert.Reference27Ideal.defs (F := Ideal)) _ _).mono (fun r h => ⟨fun c => (h c).2, sem_eq_zero_of_no_sems (by decide) r.2⟩) (Cert.Reference27Ideal.Value.run (F := Ideal) m ρ),
  fun m ρ _ => Cert.Kernel28.Gen.frame m ρ,
  fun m ρ _ => Cert.Kernel28Ideal.Gen.frame m ρ,
  fun m ρ _ => (θ_run (Cert.Reference28Ideal.defs (F := Ideal)) _ _).mono (fun r h => ⟨fun c => (h c).2, sem_eq_zero_of_no_sems (by decide) r.2⟩) (Cert.Reference28Ideal.Value.run (F := Ideal) m ρ),
  fun m ρ _ => Cert.Kernel29.Gen.frame m ρ,
  fun m ρ _ => Cert.Kernel29Ideal.Gen.frame m ρ,
  fun m ρ _ => (θ_run (Cert.Reference29Ideal.defs (F := Ideal)) _ _).mono (fun r h => ⟨fun c => (h c).2.2, sem_eq_zero_of_no_sems (by decide) r.2⟩) (Cert.Reference29Ideal.Value.run (F := Ideal) m ρ),
  fun m ρ _ => Cert.Kernel30.Gen.frame m ρ,
  fun m ρ _ => Cert.Kernel30Ideal.Gen.frame m ρ,
  fun m ρ _ => (θ_run (Cert.Reference30Ideal.defs (F := Ideal)) _ _).mono (fun r h => ⟨fun c => (h c).2, sem_eq_zero_of_no_sems (by decide) r.2⟩) (Cert.Reference30Ideal.Value.run (F := Ideal) m ρ),
  fun m ρ _ => Cert.Kernel31.Gen.frame m ρ,
  fun m ρ _ => Cert.Kernel31Ideal.Gen.frame m ρ,
  fun m ρ _ => (θ_run (Cert.Reference31Ideal.defs (F := Ideal)) _ _).mono (fun r h => ⟨fun c => (h c).2, sem_eq_zero_of_no_sems (by decide) r.2⟩) (Cert.Reference31Ideal.Value.run (F := Ideal) m ρ),
  fun m ρ _ => Cert.Kernel32.Gen.frame m ρ,
  fun m ρ _ => Cert.Kernel32Ideal.Gen.frame m ρ,
  fun m ρ _ => (θ_run (Cert.Reference32Ideal.defs (F := Ideal)) _ _).mono (fun r h => ⟨fun c => (h c).2, sem_eq_zero_of_no_sems (by decide) r.2⟩) (Cert.Reference32Ideal.Value.run (F := Ideal) m ρ),
  fun m ρ _ => Cert.Kernel33.Gen.frame m ρ,
  fun m ρ _ => Cert.Kernel33Ideal.Gen.frame m ρ,
  fun m ρ _ => (θ_run (Cert.Reference33Ideal.defs (F := Ideal)) _ _).mono (fun r h => ⟨fun c => (h c).2, sem_eq_zero_of_no_sems (by decide) r.2⟩) (Cert.Reference33Ideal.Value.run (F := Ideal) m ρ),
  fun m ρ _ => Cert.Kernel34.Gen.frame m ρ,
  fun m ρ _ => Cert.Kernel34Ideal.Gen.frame m ρ,
  fun m ρ _ => (θ_run (Cert.Reference34Ideal.defs (F := Ideal)) _ _).mono (fun r h => ⟨fun c => (h c).2, sem_eq_zero_of_no_sems (by decide) r.2⟩) (Cert.Reference34Ideal.Value.run (F := Ideal) m ρ),
  fun m ρ _ => Cert.Kernel35.Gen.frame m ρ,
  fun m ρ _ => Cert.Kernel35Ideal.Gen.frame m ρ,
  fun m ρ _ => (θ_run (Cert.Reference35Ideal.defs (F := Ideal)) _ _).mono (fun r h => ⟨fun c => (h c).2, sem_eq_zero_of_no_sems (by decide) r.2⟩) (Cert.Reference35Ideal.Value.run (F := Ideal) m ρ),
  fun m ρ _ => Cert.Kernel36.Gen.frame m ρ,
  fun m ρ _ => Cert.Kernel36Ideal.Gen.frame m ρ,
  fun m ρ _ => (θ_run (Cert.Reference36Ideal.defs (F := Ideal)) _ _).mono (fun r h => ⟨fun c => (h c).2, sem_eq_zero_of_no_sems (by decide) r.2⟩) (Cert.Reference36Ideal.Value.run (F := Ideal) m ρ),
  fun m ρ _ => Cert.Kernel37.Gen.frame m ρ,
  fun m ρ _ => Cert.Kernel37Ideal.Gen.frame m ρ,
  fun m ρ _ => (θ_run (Cert.Reference37Ideal.defs (F := Ideal)) _ _).mono (fun r h => ⟨fun c => (h c).2.2, sem_eq_zero_of_no_sems (by decide) r.2⟩) (Cert.Reference37Ideal.Value.run (F := Ideal) m ρ),
  fun m ρ _ => Cert.Kernel38.Gen.frame m ρ,
  fun m ρ _ => Cert.Kernel38Ideal.Gen.frame m ρ,
  fun m ρ _ => (θ_run (Cert.Reference38Ideal.defs (F := Ideal)) _ _).mono (fun r h => ⟨fun c => (h c).2.2.2.2, sem_eq_zero_of_no_sems (by decide) r.2⟩) (Cert.Reference38Ideal.Value.run (F := Ideal) m ρ),
  fun m ρ _ => Cert.Kernel39.Gen.frame m ρ,
  fun m ρ _ => Cert.Kernel39Ideal.Gen.frame m ρ,
  fun m ρ _ => Cert.Kernel39Ideal.Gen.frame m ρ,
  fun m ρ _ => (θ_run (Cert.Reference39Ideal.defs (F := Ideal)) _ _).mono (fun r h => ⟨fun c => (h c).2, sem_eq_zero_of_no_sems (by decide) r.2⟩) (Cert.Reference39Ideal.Value.run (F := Ideal) m ρ),
  fun m ρ _ => (θ_run (Cert.Reference39Ideal.defs (F := Ideal)) _ _).mono (fun r h => ⟨fun c => (h c).2, sem_eq_zero_of_no_sems (by decide) r.2⟩) (Cert.Reference39Ideal.Value.run (F := Ideal) m ρ),
  fun m ρ _ => Cert.Kernel40.Gen.frame m ρ,
  fun m ρ _ => Cert.Kernel40Ideal.Gen.frame m ρ,
  fun m ρ _ => (θ_run (Cert.Reference40Ideal.defs (F := Ideal)) _ _).mono (fun r h => ⟨fun c => (h c).2, sem_eq_zero_of_no_sems (by decide) r.2⟩) (Cert.Reference40Ideal.Value.run (F := Ideal) m ρ),
  fun m ρ _ => Cert.Kernel41.Gen.frame m ρ,
  fun m ρ _ => Cert.Kernel41Ideal.Gen.frame m ρ,
  fun m ρ _ => Cert.Kernel41Ideal.Gen.frame m ρ,
  fun m ρ _ => (θ_run (Cert.Reference41Ideal.defs (F := Ideal)) _ _).mono (fun r h => ⟨fun c => (h c).2.2, sem_eq_zero_of_no_sems (by decide) r.2⟩) (Cert.Reference41Ideal.Value.run (F := Ideal) m ρ),
  fun m ρ _ => (θ_run (Cert.Reference41Ideal.defs (F := Ideal)) _ _).mono (fun r h => ⟨fun c => (h c).2.2, sem_eq_zero_of_no_sems (by decide) r.2⟩) (Cert.Reference41Ideal.Value.run (F := Ideal) m ρ),
  fun m ρ h => Cert.Kernel42.Gen.frame m ρ (Cert.PairSquare.ok_bits m h),
  fun m ρ h => Cert.Kernel42Ideal.Gen.frame m ρ (Cert.PairSquare.ok_ideal m h),
  fun m ρ _ => (θ_run (Cert.Reference42Ideal.defs (F := Ideal)) _ _).mono (fun r h => ⟨fun c => (h c).2, sem_eq_zero_of_no_sems (by decide) r.2⟩) (Cert.Reference42Ideal.Value.run (F := Ideal) m ρ),
  fun m ρ _ => (θ_run (Cert.Reference42Ideal.defs (F := Ideal)) _ _).mono (fun r h => ⟨fun c => (h c).2, sem_eq_zero_of_no_sems (by decide) r.2⟩) (Cert.Reference42Ideal.Value.run (F := Ideal) m ρ),
  trivial,
  Cert.MemBwd.algebraic,
  trivial,
  Cert.PoolBwd.algebraic,
  trivial,
  Cert.DownDx.algebraic,
  trivial,
  Cert.GuDx.algebraic,
  trivial,
  Cert.InDx.algebraic,
  trivial,
  Cert.DownDw.algebraic,
  trivial,
  Cert.GuDw.algebraic,
  trivial,
  Cert.SquareDw.algebraic,
  trivial,
  Cert.KvDw.algebraic,
  trivial,
  Cert.OutDx.algebraic,
  trivial,
  Cert.QDx.algebraic,
  trivial,
  Cert.GatedUnit.algebraic,
  trivial,
  Cert.Down.algebraic,
  trivial,
  Cert.Out.algebraic,
  trivial,
  Cert.PoolIn.algebraic,
  trivial,
  Cert.Query.algebraic,
  trivial,
  Cert.KeyValue.algebraic,
  trivial,
  Cert.KvProjDx.algebraic,
  trivial,
  Cert.Step19.algebraic,
  trivial,
  Cert.Step20.algebraic,
  trivial,
  Cert.Step21.algebraic,
  trivial,
  Cert.Step22.algebraic,
  trivial,
  Cert.Step23.algebraic,
  trivial,
  Cert.Step24.algebraic,
  trivial,
  Cert.Group.algebraic,
  trivial,
  Cert.GroupDx.algebraic,
  trivial,
  Cert.GroupDw.algebraic,
  trivial,
  Cert.Cat.algebraic,
  trivial,
  Cert.ScaleBwd.algebraic,
  trivial,
  Cert.MemFwd.algebraic,
  trivial,
  Cert.MemKv.algebraic,
  trivial,
  Cert.MemKvDw.algebraic,
  trivial,
  Cert.MemKvDx.algebraic,
  trivial,
  Cert.MemNormBwd.algebraic,
  trivial,
  Cert.Norm.algebraic,
  trivial,
  Cert.MemNorm.algebraic,
  trivial,
  Cert.TwoNorms.algebraic,
  trivial,
  Cert.LossHead.algebraic,
  trivial,
  Cert.PoolFwd.algebraic,
  trivial,
  Cert.MemFwdA.algebraic,
  trivial,
  Cert.MemBwdA.algebraic,
  trivial,
  Cert.PairSquare.algebraic⟩

end Cert.Proof

end
